-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v177) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S4x1024x8192 : Shape := ⟨3, ![4, 1024, 8192]⟩
abbrev S4x8192x1024 : Shape := ⟨3, ![4, 8192, 1024]⟩
abbrev S4x512x8192 : Shape := ⟨3, ![4, 512, 8192]⟩
abbrev S_ : Shape := ⟨0, ![]⟩

class Facts : Prop where
  bitsLt_bf16_f32 : FTy.bits .bf16 < FTy.bits .f32
  bcast_S_S4x1024x8192 : S_.BroadcastsInDim S4x1024x8192 (![] : Fin 0 → Fin S4x1024x8192.rank)
  reducesTo_S4x1024x8192_S_d0_1_2 : S4x1024x8192.ReducesTo [0, 1, 2] S_
  h_S_ : 0 < S_.numel
  bcast_S_S4x8192x1024 : S_.BroadcastsInDim S4x8192x1024 (![] : Fin 0 → Fin S4x8192x1024.rank)
  reducesTo_S4x8192x1024_S_d0_1_2 : S4x8192x1024.ReducesTo [0, 1, 2] S_

variable [Facts]

def fn {F : FTy → Type} [FloatOps F] (main_arg0 : FVec F S4x1024x8192 .bf16) (main_arg1 : FVec F S4x8192x1024 .bf16) (main_arg2 : FVec F S4x512x8192 .bf16) : IVec S_ 1 :=
  let main_v0 : FVec F S4x1024x8192 .f32 := (extf .f32 · bitsLt_bf16_f32) main_arg0
  let main_v1 : FVec F S4x1024x8192 .f32 := Host.absf main_v0
  let main_cst : FVec F S_ .f32 := constant S_ .f32 0x7F800000#32
  let main_v2 : FVec F S4x1024x8192 .f32 := broadcastInDim S4x1024x8192 ![] bcast_S_S4x1024x8192 main_cst
  let main_v3 : IVec S4x1024x8192 1 := cmpf .olt main_v1 main_v2
  let main_c : IVec S_ 1 := constantI S_ 1 1#1
  let main_v4 : IVec S_ 1 := (fun x v => Host.reduce IntOp.andi x v reducesTo_S4x1024x8192_S_d0_1_2 h_S_) main_v3 main_c
  let main_v5 : FVec F S4x8192x1024 .f32 := (extf .f32 · bitsLt_bf16_f32) main_arg1
  let main_v6 : FVec F S4x8192x1024 .f32 := Host.absf main_v5
  let main_cst_0 : FVec F S_ .f32 := constant S_ .f32 0x7F800000#32
  let main_v7 : FVec F S4x8192x1024 .f32 := broadcastInDim S4x8192x1024 ![] bcast_S_S4x8192x1024 main_cst_0
  let main_v8 : IVec S4x8192x1024 1 := cmpf .olt main_v6 main_v7
  let main_c_1 : IVec S_ 1 := constantI S_ 1 1#1
  let main_v9 : IVec S_ 1 := (fun x v => Host.reduce IntOp.andi x v reducesTo_S4x8192x1024_S_d0_1_2 h_S_) main_v8 main_c_1
  let main_v10 : IVec S_ 1 := andi main_v4 main_v9
  main_v10
-- ==== Kernel.lean ====
abbrev S4x1024x8192 : Shape := ⟨3, ![4, 1024, 8192]⟩
abbrev S4x8192x1024 : Shape := ⟨3, ![4, 8192, 1024]⟩
abbrev S4x512x8192 : Shape := ⟨3, ![4, 512, 8192]⟩
abbrev S4x8192x512 : Shape := ⟨3, ![4, 8192, 512]⟩
abbrev S1x256x8192 : Shape := ⟨3, ![1, 256, 8192]⟩
abbrev S1x8192x256 : Shape := ⟨3, ![1, 8192, 256]⟩
abbrev S1x128x8192 : Shape := ⟨3, ![1, 128, 8192]⟩
abbrev S1x8192x128 : Shape := ⟨3, ![1, 8192, 128]⟩
abbrev S2x256x512 : Shape := ⟨3, ![2, 256, 512]⟩
abbrev S16x256 : Shape := ⟨2, ![16, 256]⟩
abbrev S1x256x128 : Shape := ⟨3, ![1, 256, 128]⟩
abbrev S256x128 : Shape := ⟨2, ![256, 128]⟩
abbrev S1x128x512 : Shape := ⟨3, ![1, 128, 512]⟩
abbrev S128x512 : Shape := ⟨2, ![128, 512]⟩
abbrev S256x512 : Shape := ⟨2, ![256, 512]⟩
abbrev S1x256x512 : Shape := ⟨3, ![1, 256, 512]⟩
abbrev S512 : Shape := ⟨1, ![512]⟩
abbrev S1x512 : Shape := ⟨2, ![1, 512]⟩
abbrev S80x512 : Shape := ⟨2, ![80, 512]⟩
abbrev S1x64x256 : Shape := ⟨3, ![1, 64, 256]⟩
abbrev S64x256 : Shape := ⟨2, ![64, 256]⟩
abbrev S80x256 : Shape := ⟨2, ![80, 256]⟩
abbrev S1x128x256 : Shape := ⟨3, ![1, 128, 256]⟩
abbrev S128x256 : Shape := ⟨2, ![128, 256]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S64x512 : Shape := ⟨2, ![64, 512]⟩
abbrev S512x128 : Shape := ⟨2, ![512, 128]⟩
abbrev S1x512x128 : Shape := ⟨3, ![1, 512, 128]⟩

abbrev nBuf : Space → Nat
  | .hbm => 4
  | .vmem => 10
  | .smem => 0
  | _ => 0

abbrev bufTy : (tb : Table) → Fin (tcTables nBuf tb) → BufTy
  | .hbm, ⟨0, _⟩ => ⟨S4x1024x8192, .bf16⟩
  | .hbm, ⟨1, _⟩ => ⟨S4x8192x1024, .bf16⟩
  | .hbm, ⟨2, _⟩ => ⟨S4x512x8192, .bf16⟩
  | .hbm, ⟨3, _⟩ => ⟨S4x8192x512, .bf16⟩
  | .local _ .vmem, ⟨0, _⟩ => ⟨S1x256x8192, .bf16⟩
  | .local _ .vmem, ⟨1, _⟩ => ⟨S1x256x8192, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x128x8192, .bf16⟩
  | .local _ .vmem, ⟨5, _⟩ => ⟨S1x128x8192, .bf16⟩
  | .local _ .vmem, ⟨6, _⟩ => ⟨S1x8192x128, .bf16⟩
  | .local _ .vmem, ⟨7, _⟩ => ⟨S1x8192x128, .bf16⟩
  | .local _ .vmem, ⟨8, _⟩ => ⟨S2x256x512, .f32⟩
  | .local _ .vmem, ⟨9, _⟩ => ⟨S2x256x512, .f32⟩
  | _, _ => ⟨S4x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_mult1 : BitVec 32 :=
  let c0_i32_1 : BitVec 32 := 0#32
  c0_i32_1
@[reducible] def k0_t1_loop : Scf.Loop 32 :=
  let c0_i32_18 : BitVec 32 := 0#32
  let c16_i32 : BitVec 32 := 16#32
  let v30 : BitVec 32 := Scalar.addi c0_i32_18 c16_i32
  let c1_i32 : BitVec 32 := 1#32
  ⟨c0_i32_18, v30, c1_i32⟩
def k0_mult2 (k0_t1 : Fin k0_t1_loop.trips) : BitVec 32 :=
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  v32
def k0_mult3 (k0_t1 : Fin k0_t1_loop.trips) : BitVec 32 :=
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  v36
@[reducible] def k0_t2_loop (k0_t1 : Fin k0_t1_loop.trips) : Scf.Loop 32 :=
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_35 : BitVec 32 := 1#32
  ⟨c0_i32_33, v64, c1_i32_35⟩
def k0_mult4 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c0_i32_55 : BitVec 32 := 0#32
  let v108 : BitVec 32 := Scalar.addi v107 c0_i32_55
  let c1_i32_56 : BitVec 32 := 1#32
  let v109 : BitVec 32 := Scalar.addi v108 c1_i32_56
  let c256_i32 : BitVec 32 := 256#32
  let v110 : BitVec 32 := Scalar.muli v109 c256_i32
  v110
def k0_off1 (k0_t1 : Fin k0_t1_loop.trips) (k0_t2 : Fin (k0_t2_loop k0_t1).trips) (c0_i32_55 : BitVec 32) : Fin 3 → Nat :=
  let c0_57 : Index := 0#32
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let v108 : BitVec 32 := Scalar.addi v107 c0_i32_55
  let c1_i32_56 : BitVec 32 := 1#32
  let v109 : BitVec 32 := Scalar.addi v108 c1_i32_56
  let c256_i32 : BitVec 32 := 256#32
  let v110 : BitVec 32 := Scalar.muli v109 c256_i32
  let v111 : BitVec 32 := v110
  let v112 : Index := Scalar.indexCast v111
  let c0_58 : Index := 0#32
  ![0, v112.toNat, 0]
def k0_off2 (k0_t1 : Fin k0_t1_loop.trips) : Fin 3 → Nat :=
  let c0_60 : Index := 0#32
  let c0_61 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_59 : BitVec 32 := 0#32
  let v115 : BitVec 32 := Scalar.addi v33 c0_i32_59
  let v116 : Index := Scalar.indexCast v115
  ![0, 0, v116.toNat]
def k0_off3 (k0_t1 : Fin k0_t1_loop.trips) (k0_t2 : Fin (k0_t2_loop k0_t1).trips) (c0_i32_55 : BitVec 32) : Fin 3 → Nat :=
  let c0_67 : Index := 0#32
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let v108 : BitVec 32 := Scalar.addi v107 c0_i32_55
  let c1_i32_56 : BitVec 32 := 1#32
  let v109 : BitVec 32 := Scalar.addi v108 c1_i32_56
  let c256_i32 : BitVec 32 := 256#32
  let v110 : BitVec 32 := Scalar.muli v109 c256_i32
  let v111 : BitVec 32 := v110
  let v125 : Index := Scalar.indexCast v111
  let c128_68 : Index := 128#32
  ![0, v125.toNat, 128]
def k0_off4 (k0_t1 : Fin k0_t1_loop.trips) : Fin 3 → Nat :=
  let c0_70 : Index := 0#32
  let c128_71 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_69 : BitVec 32 := 0#32
  let v128 : BitVec 32 := Scalar.addi v33 c0_i32_69
  let v129 : Index := Scalar.indexCast v128
  ![0, 128, v129.toNat]
def k0_mult5 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c0_i32_77 : BitVec 32 := 0#32
  let v138 : BitVec 32 := Scalar.addi v107 c0_i32_77
  let c256_i32_78 : BitVec 32 := 256#32
  let v139 : BitVec 32 := Scalar.muli v138 c256_i32_78
  v139
def k0_off5 (i : grid0.Coords) (c0_i32_79 : BitVec 32) : Fin 3 → Nat :=
  let arg0 : BitVec 32 := BitVec.ofNat 32 (i 0).val
  let c0_i32_0 : BitVec 32 := 0#32
  let v6 : BitVec 32 := Scalar.minsi arg0 c0_i32_0
  let v141 : BitVec 32 := Scalar.addi c0_i32_79 v6
  let v142 : Index := Scalar.indexCast v141
  let c0_80 : Index := 0#32
  let c0_81 : Index := 0#32
  ![v142.toNat, 0, 0]
def k0_off6 (k0_t1 : Fin k0_t1_loop.trips) (k0_t2 : Fin (k0_t2_loop k0_t1).trips) (c0_i32_77 : BitVec 32) : Fin 3 → Nat :=
  let c0_82 : Index := 0#32
  let c0_83 : Index := 0#32
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let v138 : BitVec 32 := Scalar.addi v107 c0_i32_77
  let c256_i32_78 : BitVec 32 := 256#32
  let v139 : BitVec 32 := Scalar.muli v138 c256_i32_78
  let v140 : BitVec 32 := v139
  let v150 : Index := Scalar.indexCast v140
  ![0, 0, v150.toNat]
def k0_off7 (k0_t1 : Fin k0_t1_loop.trips) (k0_t2 : Fin (k0_t2_loop k0_t1).trips) (c0_i32_77 : BitVec 32) : Fin 3 → Nat :=
  let c0_88 : Index := 0#32
  let c64 : Index := 64#32
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let v138 : BitVec 32 := Scalar.addi v107 c0_i32_77
  let c256_i32_78 : BitVec 32 := 256#32
  let v139 : BitVec 32 := Scalar.muli v138 c256_i32_78
  let v140 : BitVec 32 := v139
  let v169 : Index := Scalar.indexCast v140
  ![0, 64, v169.toNat]
def k0_mult6 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c1_i32_90 : BitVec 32 := 1#32
  let v179 : BitVec 32 := Scalar.addi v107 c1_i32_90
  let c1_i32_91 : BitVec 32 := 1#32
  let v180 : BitVec 32 := Scalar.addi v179 c1_i32_91
  let c256_i32_92 : BitVec 32 := 256#32
  let v181 : BitVec 32 := Scalar.muli v180 c256_i32_92
  v181
def k0_mult7 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c1_i32_113 : BitVec 32 := 1#32
  let v209 : BitVec 32 := Scalar.addi v107 c1_i32_113
  let c256_i32_114 : BitVec 32 := 256#32
  let v210 : BitVec 32 := Scalar.muli v209 c256_i32_114
  v210
def k0_mult8 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c2_i32_127 : BitVec 32 := 2#32
  let v250 : BitVec 32 := Scalar.addi v107 c2_i32_127
  let c1_i32_128 : BitVec 32 := 1#32
  let v251 : BitVec 32 := Scalar.addi v250 c1_i32_128
  let c256_i32_129 : BitVec 32 := 256#32
  let v252 : BitVec 32 := Scalar.muli v251 c256_i32_129
  v252
def k0_mult9 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c2_i32_150 : BitVec 32 := 2#32
  let v280 : BitVec 32 := Scalar.addi v107 c2_i32_150
  let c256_i32_151 : BitVec 32 := 256#32
  let v281 : BitVec 32 := Scalar.muli v280 c256_i32_151
  v281
def k0_mult10 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c3_i32 : BitVec 32 := 3#32
  let v321 : BitVec 32 := Scalar.addi v107 c3_i32
  let c1_i32_164 : BitVec 32 := 1#32
  let v322 : BitVec 32 := Scalar.addi v321 c1_i32_164
  let c256_i32_165 : BitVec 32 := 256#32
  let v323 : BitVec 32 := Scalar.muli v322 c256_i32_165
  v323
def k0_mult11 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c3_i32_186 : BitVec 32 := 3#32
  let v351 : BitVec 32 := Scalar.addi v107 c3_i32_186
  let c256_i32_187 : BitVec 32 := 256#32
  let v352 : BitVec 32 := Scalar.muli v351 c256_i32_187
  v352
def k0_mult12 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c4_i32 : BitVec 32 := 4#32
  let v392 : BitVec 32 := Scalar.addi v107 c4_i32
  let c1_i32_200 : BitVec 32 := 1#32
  let v393 : BitVec 32 := Scalar.addi v392 c1_i32_200
  let c256_i32_201 : BitVec 32 := 256#32
  let v394 : BitVec 32 := Scalar.muli v393 c256_i32_201
  v394
def k0_mult13 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c4_i32_222 : BitVec 32 := 4#32
  let v422 : BitVec 32 := Scalar.addi v107 c4_i32_222
  let c256_i32_223 : BitVec 32 := 256#32
  let v423 : BitVec 32 := Scalar.muli v422 c256_i32_223
  v423
def k0_mult14 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c5_i32 : BitVec 32 := 5#32
  let v463 : BitVec 32 := Scalar.addi v107 c5_i32
  let c1_i32_236 : BitVec 32 := 1#32
  let v464 : BitVec 32 := Scalar.addi v463 c1_i32_236
  let c256_i32_237 : BitVec 32 := 256#32
  let v465 : BitVec 32 := Scalar.muli v464 c256_i32_237
  v465
def k0_mult15 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c5_i32_258 : BitVec 32 := 5#32
  let v493 : BitVec 32 := Scalar.addi v107 c5_i32_258
  let c256_i32_259 : BitVec 32 := 256#32
  let v494 : BitVec 32 := Scalar.muli v493 c256_i32_259
  v494
def k0_mult16 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c6_i32 : BitVec 32 := 6#32
  let v534 : BitVec 32 := Scalar.addi v107 c6_i32
  let c1_i32_272 : BitVec 32 := 1#32
  let v535 : BitVec 32 := Scalar.addi v534 c1_i32_272
  let c256_i32_273 : BitVec 32 := 256#32
  let v536 : BitVec 32 := Scalar.muli v535 c256_i32_273
  v536
def k0_mult17 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c6_i32_294 : BitVec 32 := 6#32
  let v564 : BitVec 32 := Scalar.addi v107 c6_i32_294
  let c256_i32_295 : BitVec 32 := 256#32
  let v565 : BitVec 32 := Scalar.muli v564 c256_i32_295
  v565
def k0_mult18 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c7_i32_308 : BitVec 32 := 7#32
  let v605 : BitVec 32 := Scalar.addi v107 c7_i32_308
  let c1_i32_309 : BitVec 32 := 1#32
  let v606 : BitVec 32 := Scalar.addi v605 c1_i32_309
  let c256_i32_310 : BitVec 32 := 256#32
  let v607 : BitVec 32 := Scalar.muli v606 c256_i32_310
  v607
def k0_mult19 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c7_i32_331 : BitVec 32 := 7#32
  let v635 : BitVec 32 := Scalar.addi v107 c7_i32_331
  let c256_i32_332 : BitVec 32 := 256#32
  let v636 : BitVec 32 := Scalar.muli v635 c256_i32_332
  v636
def k0_mult20 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c8_i32 : BitVec 32 := 8#32
  let v676 : BitVec 32 := Scalar.addi v107 c8_i32
  let c1_i32_345 : BitVec 32 := 1#32
  let v677 : BitVec 32 := Scalar.addi v676 c1_i32_345
  let c256_i32_346 : BitVec 32 := 256#32
  let v678 : BitVec 32 := Scalar.muli v677 c256_i32_346
  v678
def k0_mult21 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c8_i32_367 : BitVec 32 := 8#32
  let v706 : BitVec 32 := Scalar.addi v107 c8_i32_367
  let c256_i32_368 : BitVec 32 := 256#32
  let v707 : BitVec 32 := Scalar.muli v706 c256_i32_368
  v707
def k0_mult22 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c9_i32 : BitVec 32 := 9#32
  let v747 : BitVec 32 := Scalar.addi v107 c9_i32
  let c1_i32_381 : BitVec 32 := 1#32
  let v748 : BitVec 32 := Scalar.addi v747 c1_i32_381
  let c256_i32_382 : BitVec 32 := 256#32
  let v749 : BitVec 32 := Scalar.muli v748 c256_i32_382
  v749
def k0_mult23 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c9_i32_403 : BitVec 32 := 9#32
  let v777 : BitVec 32 := Scalar.addi v107 c9_i32_403
  let c256_i32_404 : BitVec 32 := 256#32
  let v778 : BitVec 32 := Scalar.muli v777 c256_i32_404
  v778
def k0_mult24 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c10_i32 : BitVec 32 := 10#32
  let v818 : BitVec 32 := Scalar.addi v107 c10_i32
  let c1_i32_417 : BitVec 32 := 1#32
  let v819 : BitVec 32 := Scalar.addi v818 c1_i32_417
  let c256_i32_418 : BitVec 32 := 256#32
  let v820 : BitVec 32 := Scalar.muli v819 c256_i32_418
  v820
def k0_mult25 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c10_i32_439 : BitVec 32 := 10#32
  let v848 : BitVec 32 := Scalar.addi v107 c10_i32_439
  let c256_i32_440 : BitVec 32 := 256#32
  let v849 : BitVec 32 := Scalar.muli v848 c256_i32_440
  v849
def k0_mult26 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c11_i32 : BitVec 32 := 11#32
  let v889 : BitVec 32 := Scalar.addi v107 c11_i32
  let c1_i32_453 : BitVec 32 := 1#32
  let v890 : BitVec 32 := Scalar.addi v889 c1_i32_453
  let c256_i32_454 : BitVec 32 := 256#32
  let v891 : BitVec 32 := Scalar.muli v890 c256_i32_454
  v891
def k0_mult27 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c11_i32_475 : BitVec 32 := 11#32
  let v919 : BitVec 32 := Scalar.addi v107 c11_i32_475
  let c256_i32_476 : BitVec 32 := 256#32
  let v920 : BitVec 32 := Scalar.muli v919 c256_i32_476
  v920
def k0_mult28 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c12_i32 : BitVec 32 := 12#32
  let v960 : BitVec 32 := Scalar.addi v107 c12_i32
  let c1_i32_489 : BitVec 32 := 1#32
  let v961 : BitVec 32 := Scalar.addi v960 c1_i32_489
  let c256_i32_490 : BitVec 32 := 256#32
  let v962 : BitVec 32 := Scalar.muli v961 c256_i32_490
  v962
def k0_mult29 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c12_i32_511 : BitVec 32 := 12#32
  let v990 : BitVec 32 := Scalar.addi v107 c12_i32_511
  let c256_i32_512 : BitVec 32 := 256#32
  let v991 : BitVec 32 := Scalar.muli v990 c256_i32_512
  v991
def k0_mult30 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c13_i32 : BitVec 32 := 13#32
  let v1031 : BitVec 32 := Scalar.addi v107 c13_i32
  let c1_i32_525 : BitVec 32 := 1#32
  let v1032 : BitVec 32 := Scalar.addi v1031 c1_i32_525
  let c256_i32_526 : BitVec 32 := 256#32
  let v1033 : BitVec 32 := Scalar.muli v1032 c256_i32_526
  v1033
def k0_mult31 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c13_i32_547 : BitVec 32 := 13#32
  let v1061 : BitVec 32 := Scalar.addi v107 c13_i32_547
  let c256_i32_548 : BitVec 32 := 256#32
  let v1062 : BitVec 32 := Scalar.muli v1061 c256_i32_548
  v1062
def k0_mult32 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c14_i32 : BitVec 32 := 14#32
  let v1102 : BitVec 32 := Scalar.addi v107 c14_i32
  let c1_i32_561 : BitVec 32 := 1#32
  let v1103 : BitVec 32 := Scalar.addi v1102 c1_i32_561
  let c256_i32_562 : BitVec 32 := 256#32
  let v1104 : BitVec 32 := Scalar.muli v1103 c256_i32_562
  v1104
def k0_mult33 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c14_i32_583 : BitVec 32 := 14#32
  let v1132 : BitVec 32 := Scalar.addi v107 c14_i32_583
  let c256_i32_584 : BitVec 32 := 256#32
  let v1133 : BitVec 32 := Scalar.muli v1132 c256_i32_584
  v1133
def k0_mult34 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c15_i32_597 : BitVec 32 := 15#32
  let v1173 : BitVec 32 := Scalar.addi v107 c15_i32_597
  let c1_i32_598 : BitVec 32 := 1#32
  let v1174 : BitVec 32 := Scalar.addi v1173 c1_i32_598
  let c256_i32_599 : BitVec 32 := 256#32
  let v1175 : BitVec 32 := Scalar.muli v1174 c256_i32_599
  v1175
def k0_mult35 (k0_t1 : Fin k0_t1_loop.trips) (k0_t2 : Fin (k0_t2_loop k0_t1).trips) : BitVec 32 :=
  let c16_i32_54 : BitVec 32 := 16#32
  let c0_i32_33 : BitVec 32 := 0#32
  let c1_i32_35 : BitVec 32 := 1#32
  let arg11 : BitVec 32 := Scf.iv c0_i32_33 c1_i32_35 k0_t2
  let v107 : BitVec 32 := Scalar.muli c16_i32_54 arg11
  let c15_i32_620 : BitVec 32 := 15#32
  let v1203 : BitVec 32 := Scalar.addi v107 c15_i32_620
  let c256_i32_621 : BitVec 32 := 256#32
  let v1204 : BitVec 32 := Scalar.muli v1203 c256_i32_621
  v1204
@[reducible] def k0_t3_loop (k0_t1 : Fin k0_t1_loop.trips) : Scf.Loop 32 :=
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let v61 : BitVec 32 := Scalar.addi c0_i32_33 v60
  let c1_i32_36 : BitVec 32 := 1#32
  ⟨v64, v61, c1_i32_36⟩
def k0_mult36 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c0_i32_55 : BitVec 32 := 0#32
  let v108 : BitVec 32 := Scalar.addi v107 c0_i32_55
  let c1_i32_56 : BitVec 32 := 1#32
  let v109 : BitVec 32 := Scalar.addi v108 c1_i32_56
  let c256_i32 : BitVec 32 := 256#32
  let v110 : BitVec 32 := Scalar.muli v109 c256_i32
  v110
def k0_off8 (k0_t1 : Fin k0_t1_loop.trips) (k0_t3 : Fin (k0_t3_loop k0_t1).trips) (c0_i32_55 : BitVec 32) : Fin 3 → Nat :=
  let c0_57 : Index := 0#32
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let v108 : BitVec 32 := Scalar.addi v107 c0_i32_55
  let c1_i32_56 : BitVec 32 := 1#32
  let v109 : BitVec 32 := Scalar.addi v108 c1_i32_56
  let c256_i32 : BitVec 32 := 256#32
  let v110 : BitVec 32 := Scalar.muli v109 c256_i32
  let v111 : BitVec 32 := v110
  let v112 : Index := Scalar.indexCast v111
  let c0_58 : Index := 0#32
  ![0, v112.toNat, 0]
def k0_off9 (k0_t1 : Fin k0_t1_loop.trips) : Fin 3 → Nat :=
  let c0_60 : Index := 0#32
  let c0_61 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_59 : BitVec 32 := 0#32
  let v115 : BitVec 32 := Scalar.addi v33 c0_i32_59
  let v116 : Index := Scalar.indexCast v115
  ![0, 0, v116.toNat]
def k0_off10 (k0_t1 : Fin k0_t1_loop.trips) (k0_t3 : Fin (k0_t3_loop k0_t1).trips) (c0_i32_55 : BitVec 32) : Fin 3 → Nat :=
  let c0_67 : Index := 0#32
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let v108 : BitVec 32 := Scalar.addi v107 c0_i32_55
  let c1_i32_56 : BitVec 32 := 1#32
  let v109 : BitVec 32 := Scalar.addi v108 c1_i32_56
  let c256_i32 : BitVec 32 := 256#32
  let v110 : BitVec 32 := Scalar.muli v109 c256_i32
  let v111 : BitVec 32 := v110
  let v125 : Index := Scalar.indexCast v111
  let c128_68 : Index := 128#32
  ![0, v125.toNat, 128]
def k0_off11 (k0_t1 : Fin k0_t1_loop.trips) : Fin 3 → Nat :=
  let c0_70 : Index := 0#32
  let c128_71 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_69 : BitVec 32 := 0#32
  let v128 : BitVec 32 := Scalar.addi v33 c0_i32_69
  let v129 : Index := Scalar.indexCast v128
  ![0, 128, v129.toNat]
def k0_mult37 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c0_i32_77 : BitVec 32 := 0#32
  let v138 : BitVec 32 := Scalar.addi v107 c0_i32_77
  let c256_i32_78 : BitVec 32 := 256#32
  let v139 : BitVec 32 := Scalar.muli v138 c256_i32_78
  v139
def k0_off12 (i : grid0.Coords) (c0_i32_79 : BitVec 32) : Fin 3 → Nat :=
  let arg0 : BitVec 32 := BitVec.ofNat 32 (i 0).val
  let c0_i32_0 : BitVec 32 := 0#32
  let v6 : BitVec 32 := Scalar.minsi arg0 c0_i32_0
  let v141 : BitVec 32 := Scalar.addi c0_i32_79 v6
  let v142 : Index := Scalar.indexCast v141
  let c0_80 : Index := 0#32
  let c0_81 : Index := 0#32
  ![v142.toNat, 0, 0]
def k0_off13 (k0_t1 : Fin k0_t1_loop.trips) (k0_t3 : Fin (k0_t3_loop k0_t1).trips) (c0_i32_77 : BitVec 32) : Fin 3 → Nat :=
  let c0_82 : Index := 0#32
  let c0_83 : Index := 0#32
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let v138 : BitVec 32 := Scalar.addi v107 c0_i32_77
  let c256_i32_78 : BitVec 32 := 256#32
  let v139 : BitVec 32 := Scalar.muli v138 c256_i32_78
  let v140 : BitVec 32 := v139
  let v150 : Index := Scalar.indexCast v140
  ![0, 0, v150.toNat]
def k0_off14 (k0_t1 : Fin k0_t1_loop.trips) (k0_t3 : Fin (k0_t3_loop k0_t1).trips) (c0_i32_77 : BitVec 32) : Fin 3 → Nat :=
  let c0_88 : Index := 0#32
  let c64 : Index := 64#32
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let v138 : BitVec 32 := Scalar.addi v107 c0_i32_77
  let c256_i32_78 : BitVec 32 := 256#32
  let v139 : BitVec 32 := Scalar.muli v138 c256_i32_78
  let v140 : BitVec 32 := v139
  let v169 : Index := Scalar.indexCast v140
  ![0, 64, v169.toNat]
def k0_mult38 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c1_i32_90 : BitVec 32 := 1#32
  let v179 : BitVec 32 := Scalar.addi v107 c1_i32_90
  let c1_i32_91 : BitVec 32 := 1#32
  let v180 : BitVec 32 := Scalar.addi v179 c1_i32_91
  let c256_i32_92 : BitVec 32 := 256#32
  let v181 : BitVec 32 := Scalar.muli v180 c256_i32_92
  v181
def k0_mult39 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c1_i32_113 : BitVec 32 := 1#32
  let v209 : BitVec 32 := Scalar.addi v107 c1_i32_113
  let c256_i32_114 : BitVec 32 := 256#32
  let v210 : BitVec 32 := Scalar.muli v209 c256_i32_114
  v210
def k0_mult40 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c2_i32_127 : BitVec 32 := 2#32
  let v250 : BitVec 32 := Scalar.addi v107 c2_i32_127
  let c1_i32_128 : BitVec 32 := 1#32
  let v251 : BitVec 32 := Scalar.addi v250 c1_i32_128
  let c256_i32_129 : BitVec 32 := 256#32
  let v252 : BitVec 32 := Scalar.muli v251 c256_i32_129
  v252
def k0_mult41 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c2_i32_150 : BitVec 32 := 2#32
  let v280 : BitVec 32 := Scalar.addi v107 c2_i32_150
  let c256_i32_151 : BitVec 32 := 256#32
  let v281 : BitVec 32 := Scalar.muli v280 c256_i32_151
  v281
def k0_mult42 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c3_i32 : BitVec 32 := 3#32
  let v321 : BitVec 32 := Scalar.addi v107 c3_i32
  let c1_i32_164 : BitVec 32 := 1#32
  let v322 : BitVec 32 := Scalar.addi v321 c1_i32_164
  let c256_i32_165 : BitVec 32 := 256#32
  let v323 : BitVec 32 := Scalar.muli v322 c256_i32_165
  v323
def k0_mult43 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c3_i32_186 : BitVec 32 := 3#32
  let v351 : BitVec 32 := Scalar.addi v107 c3_i32_186
  let c256_i32_187 : BitVec 32 := 256#32
  let v352 : BitVec 32 := Scalar.muli v351 c256_i32_187
  v352
def k0_mult44 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c4_i32 : BitVec 32 := 4#32
  let v392 : BitVec 32 := Scalar.addi v107 c4_i32
  let c1_i32_200 : BitVec 32 := 1#32
  let v393 : BitVec 32 := Scalar.addi v392 c1_i32_200
  let c256_i32_201 : BitVec 32 := 256#32
  let v394 : BitVec 32 := Scalar.muli v393 c256_i32_201
  v394
def k0_mult45 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c4_i32_222 : BitVec 32 := 4#32
  let v422 : BitVec 32 := Scalar.addi v107 c4_i32_222
  let c256_i32_223 : BitVec 32 := 256#32
  let v423 : BitVec 32 := Scalar.muli v422 c256_i32_223
  v423
def k0_mult46 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c5_i32 : BitVec 32 := 5#32
  let v463 : BitVec 32 := Scalar.addi v107 c5_i32
  let c1_i32_236 : BitVec 32 := 1#32
  let v464 : BitVec 32 := Scalar.addi v463 c1_i32_236
  let c256_i32_237 : BitVec 32 := 256#32
  let v465 : BitVec 32 := Scalar.muli v464 c256_i32_237
  v465
def k0_mult47 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c5_i32_258 : BitVec 32 := 5#32
  let v493 : BitVec 32 := Scalar.addi v107 c5_i32_258
  let c256_i32_259 : BitVec 32 := 256#32
  let v494 : BitVec 32 := Scalar.muli v493 c256_i32_259
  v494
def k0_mult48 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c6_i32 : BitVec 32 := 6#32
  let v534 : BitVec 32 := Scalar.addi v107 c6_i32
  let c1_i32_272 : BitVec 32 := 1#32
  let v535 : BitVec 32 := Scalar.addi v534 c1_i32_272
  let c256_i32_273 : BitVec 32 := 256#32
  let v536 : BitVec 32 := Scalar.muli v535 c256_i32_273
  v536
def k0_mult49 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c6_i32_294 : BitVec 32 := 6#32
  let v564 : BitVec 32 := Scalar.addi v107 c6_i32_294
  let c256_i32_295 : BitVec 32 := 256#32
  let v565 : BitVec 32 := Scalar.muli v564 c256_i32_295
  v565
def k0_mult50 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c7_i32_308 : BitVec 32 := 7#32
  let v605 : BitVec 32 := Scalar.addi v107 c7_i32_308
  let c1_i32_309 : BitVec 32 := 1#32
  let v606 : BitVec 32 := Scalar.addi v605 c1_i32_309
  let c256_i32_310 : BitVec 32 := 256#32
  let v607 : BitVec 32 := Scalar.muli v606 c256_i32_310
  v607
def k0_mult51 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c7_i32_331 : BitVec 32 := 7#32
  let v635 : BitVec 32 := Scalar.addi v107 c7_i32_331
  let c256_i32_332 : BitVec 32 := 256#32
  let v636 : BitVec 32 := Scalar.muli v635 c256_i32_332
  v636
def k0_mult52 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c8_i32 : BitVec 32 := 8#32
  let v676 : BitVec 32 := Scalar.addi v107 c8_i32
  let c1_i32_345 : BitVec 32 := 1#32
  let v677 : BitVec 32 := Scalar.addi v676 c1_i32_345
  let c256_i32_346 : BitVec 32 := 256#32
  let v678 : BitVec 32 := Scalar.muli v677 c256_i32_346
  v678
def k0_mult53 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c8_i32_367 : BitVec 32 := 8#32
  let v706 : BitVec 32 := Scalar.addi v107 c8_i32_367
  let c256_i32_368 : BitVec 32 := 256#32
  let v707 : BitVec 32 := Scalar.muli v706 c256_i32_368
  v707
def k0_mult54 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c9_i32 : BitVec 32 := 9#32
  let v747 : BitVec 32 := Scalar.addi v107 c9_i32
  let c1_i32_381 : BitVec 32 := 1#32
  let v748 : BitVec 32 := Scalar.addi v747 c1_i32_381
  let c256_i32_382 : BitVec 32 := 256#32
  let v749 : BitVec 32 := Scalar.muli v748 c256_i32_382
  v749
def k0_mult55 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c9_i32_403 : BitVec 32 := 9#32
  let v777 : BitVec 32 := Scalar.addi v107 c9_i32_403
  let c256_i32_404 : BitVec 32 := 256#32
  let v778 : BitVec 32 := Scalar.muli v777 c256_i32_404
  v778
def k0_mult56 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c10_i32 : BitVec 32 := 10#32
  let v818 : BitVec 32 := Scalar.addi v107 c10_i32
  let c1_i32_417 : BitVec 32 := 1#32
  let v819 : BitVec 32 := Scalar.addi v818 c1_i32_417
  let c256_i32_418 : BitVec 32 := 256#32
  let v820 : BitVec 32 := Scalar.muli v819 c256_i32_418
  v820
def k0_mult57 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c10_i32_439 : BitVec 32 := 10#32
  let v848 : BitVec 32 := Scalar.addi v107 c10_i32_439
  let c256_i32_440 : BitVec 32 := 256#32
  let v849 : BitVec 32 := Scalar.muli v848 c256_i32_440
  v849
def k0_mult58 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c11_i32 : BitVec 32 := 11#32
  let v889 : BitVec 32 := Scalar.addi v107 c11_i32
  let c1_i32_453 : BitVec 32 := 1#32
  let v890 : BitVec 32 := Scalar.addi v889 c1_i32_453
  let c256_i32_454 : BitVec 32 := 256#32
  let v891 : BitVec 32 := Scalar.muli v890 c256_i32_454
  v891
def k0_mult59 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c11_i32_475 : BitVec 32 := 11#32
  let v919 : BitVec 32 := Scalar.addi v107 c11_i32_475
  let c256_i32_476 : BitVec 32 := 256#32
  let v920 : BitVec 32 := Scalar.muli v919 c256_i32_476
  v920
def k0_mult60 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c12_i32 : BitVec 32 := 12#32
  let v960 : BitVec 32 := Scalar.addi v107 c12_i32
  let c1_i32_489 : BitVec 32 := 1#32
  let v961 : BitVec 32 := Scalar.addi v960 c1_i32_489
  let c256_i32_490 : BitVec 32 := 256#32
  let v962 : BitVec 32 := Scalar.muli v961 c256_i32_490
  v962
def k0_mult61 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c12_i32_511 : BitVec 32 := 12#32
  let v990 : BitVec 32 := Scalar.addi v107 c12_i32_511
  let c256_i32_512 : BitVec 32 := 256#32
  let v991 : BitVec 32 := Scalar.muli v990 c256_i32_512
  v991
def k0_mult62 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c13_i32 : BitVec 32 := 13#32
  let v1031 : BitVec 32 := Scalar.addi v107 c13_i32
  let c1_i32_525 : BitVec 32 := 1#32
  let v1032 : BitVec 32 := Scalar.addi v1031 c1_i32_525
  let c256_i32_526 : BitVec 32 := 256#32
  let v1033 : BitVec 32 := Scalar.muli v1032 c256_i32_526
  v1033
def k0_mult63 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c13_i32_547 : BitVec 32 := 13#32
  let v1061 : BitVec 32 := Scalar.addi v107 c13_i32_547
  let c256_i32_548 : BitVec 32 := 256#32
  let v1062 : BitVec 32 := Scalar.muli v1061 c256_i32_548
  v1062
def k0_mult64 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c14_i32 : BitVec 32 := 14#32
  let v1102 : BitVec 32 := Scalar.addi v107 c14_i32
  let c1_i32_561 : BitVec 32 := 1#32
  let v1103 : BitVec 32 := Scalar.addi v1102 c1_i32_561
  let c256_i32_562 : BitVec 32 := 256#32
  let v1104 : BitVec 32 := Scalar.muli v1103 c256_i32_562
  v1104
def k0_mult65 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c14_i32_583 : BitVec 32 := 14#32
  let v1132 : BitVec 32 := Scalar.addi v107 c14_i32_583
  let c256_i32_584 : BitVec 32 := 256#32
  let v1133 : BitVec 32 := Scalar.muli v1132 c256_i32_584
  v1133
def k0_mult66 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c15_i32_597 : BitVec 32 := 15#32
  let v1173 : BitVec 32 := Scalar.addi v107 c15_i32_597
  let c1_i32_598 : BitVec 32 := 1#32
  let v1174 : BitVec 32 := Scalar.addi v1173 c1_i32_598
  let c256_i32_599 : BitVec 32 := 256#32
  let v1175 : BitVec 32 := Scalar.muli v1174 c256_i32_599
  v1175
def k0_mult67 (k0_t1 : Fin k0_t1_loop.trips) (k0_t3 : Fin (k0_t3_loop k0_t1).trips) : BitVec 32 :=
  let c16_i32_54 : BitVec 32 := 16#32
  let c0_i32_33 : BitVec 32 := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_27 : BitVec 32 := 0#32
  let v44 : BitVec 1 := Scalar.cmpi .sgt v42 c0_i32_27
  let v45 : BitVec 32 := Scalar.extui v44
  let c0_i32_28 : BitVec 32 := 0#32
  let v46 : BitVec 1 := Scalar.cmpi .slt v42 c0_i32_28
  let v47 : BitVec 32 := Scalar.extui v46
  let v48 : BitVec 32 := Scalar.subi v45 v47
  let c16_i32_26 : BitVec 32 := 16#32
  let c0_i32_29 : BitVec 32 := 0#32
  let v49 : BitVec 1 := Scalar.cmpi .sgt c16_i32_26 c0_i32_29
  let v50 : BitVec 32 := Scalar.extui v49
  let c0_i32_30 : BitVec 32 := 0#32
  let v51 : BitVec 1 := Scalar.cmpi .slt c16_i32_26 c0_i32_30
  let v52 : BitVec 32 := Scalar.extui v51
  let v53 : BitVec 32 := Scalar.subi v50 v52
  let v54 : BitVec 1 := Scalar.cmpi .ne v48 v53
  let v55 : BitVec 32 := Scalar.remsi v42 c16_i32_26
  let c0_i32_31 : BitVec 32 := 0#32
  let v56 : BitVec 1 := Scalar.cmpi .ne v55 c0_i32_31
  let v57 : BitVec 1 := Scalar.andi v54 v56
  let v43 : BitVec 32 := Scalar.divsi v42 c16_i32_26
  let c1_i32_32 : BitVec 32 := 1#32
  let v58 : BitVec 32 := Scalar.subi v43 c1_i32_32
  let v59 : BitVec 32 := Scalar.select v57 v58 v43
  let v60 : BitVec 32 := Scalar.subi v59 c0_i32_33
  let c1_i32_34 : BitVec 32 := 1#32
  let v62 : BitVec 32 := Scalar.divsi v60 c1_i32_34
  let v63 : BitVec 32 := Scalar.muli v62 c1_i32_34
  let v64 : BitVec 32 := Scalar.addi c0_i32_33 v63
  let c1_i32_36 : BitVec 32 := 1#32
  let arg11 : BitVec 32 := Scf.iv v64 c1_i32_36 k0_t3
  let v107 : BitVec 32 := Scalar.muli c16_i32_54 arg11
  let c15_i32_620 : BitVec 32 := 15#32
  let v1203 : BitVec 32 := Scalar.addi v107 c15_i32_620
  let c256_i32_621 : BitVec 32 := 256#32
  let v1204 : BitVec 32 := Scalar.muli v1203 c256_i32_621
  v1204
def k0_cond1 (k0_t1 : Fin k0_t1_loop.trips) : BitVec 1 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v85 : BitVec 32 := Scalar.subi v42 v84
  let c0_i32_46 : BitVec 32 := 0#32
  let v87 : BitVec 1 := Scalar.cmpi .sgt v85 c0_i32_46
  let v88 : BitVec 32 := Scalar.extui v87
  let c0_i32_47 : BitVec 32 := 0#32
  let v89 : BitVec 1 := Scalar.cmpi .slt v85 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v85 c2_i32_45
  let c0_i32_50 : BitVec 32 := 0#32
  let v99 : BitVec 1 := Scalar.cmpi .ne v98 c0_i32_50
  let v100 : BitVec 1 := Scalar.andi v97 v99
  let v86 : BitVec 32 := Scalar.divsi v85 c2_i32_45
  let c1_i32_51 : BitVec 32 := 1#32
  let v101 : BitVec 32 := Scalar.subi v86 c1_i32_51
  let v102 : BitVec 32 := Scalar.select v100 v101 v86
  let c0_i32_52 : BitVec 32 := 0#32
  let v103 : BitVec 32 := Scalar.maxsi v102 c0_i32_52
  let c7_i32 : BitVec 32 := 7#32
  let v104 : BitVec 32 := Scalar.minsi v103 c7_i32
  let c0_i32_53 : BitVec 32 := 0#32
  let v105 : BitVec 1 := Scalar.cmpi .ne v104 c0_i32_53
  v105

def k0_cond2 (k0_t1 : Fin k0_t1_loop.trips) : BitVec 1 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v85 : BitVec 32 := Scalar.subi v42 v84
  let c0_i32_46 : BitVec 32 := 0#32
  let v87 : BitVec 1 := Scalar.cmpi .sgt v85 c0_i32_46
  let v88 : BitVec 32 := Scalar.extui v87
  let c0_i32_47 : BitVec 32 := 0#32
  let v89 : BitVec 1 := Scalar.cmpi .slt v85 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v85 c2_i32_45
  let c0_i32_50 : BitVec 32 := 0#32
  let v99 : BitVec 1 := Scalar.cmpi .ne v98 c0_i32_50
  let v100 : BitVec 1 := Scalar.andi v97 v99
  let v86 : BitVec 32 := Scalar.divsi v85 c2_i32_45
  let c1_i32_51 : BitVec 32 := 1#32
  let v101 : BitVec 32 := Scalar.subi v86 c1_i32_51
  let v102 : BitVec 32 := Scalar.select v100 v101 v86
  let c0_i32_52 : BitVec 32 := 0#32
  let v103 : BitVec 32 := Scalar.maxsi v102 c0_i32_52
  let c7_i32 : BitVec 32 := 7#32
  let v104 : BitVec 32 := Scalar.minsi v103 c7_i32
  let c1_i32_54 : BitVec 32 := 1#32
  let v107 : BitVec 32 := Scalar.subi v104 c1_i32_54
  let c0_i32_55 : BitVec 32 := 0#32
  let v108 : BitVec 1 := Scalar.cmpi .ne v107 c0_i32_55
  v108

def k0_cond3 (k0_t1 : Fin k0_t1_loop.trips) : BitVec 1 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v85 : BitVec 32 := Scalar.subi v42 v84
  let c0_i32_46 : BitVec 32 := 0#32
  let v87 : BitVec 1 := Scalar.cmpi .sgt v85 c0_i32_46
  let v88 : BitVec 32 := Scalar.extui v87
  let c0_i32_47 : BitVec 32 := 0#32
  let v89 : BitVec 1 := Scalar.cmpi .slt v85 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v85 c2_i32_45
  let c0_i32_50 : BitVec 32 := 0#32
  let v99 : BitVec 1 := Scalar.cmpi .ne v98 c0_i32_50
  let v100 : BitVec 1 := Scalar.andi v97 v99
  let v86 : BitVec 32 := Scalar.divsi v85 c2_i32_45
  let c1_i32_51 : BitVec 32 := 1#32
  let v101 : BitVec 32 := Scalar.subi v86 c1_i32_51
  let v102 : BitVec 32 := Scalar.select v100 v101 v86
  let c0_i32_52 : BitVec 32 := 0#32
  let v103 : BitVec 32 := Scalar.maxsi v102 c0_i32_52
  let c7_i32 : BitVec 32 := 7#32
  let v104 : BitVec 32 := Scalar.minsi v103 c7_i32
  let c1_i32_54 : BitVec 32 := 1#32
  let v107 : BitVec 32 := Scalar.subi v104 c1_i32_54
  let c1_i32_56 : BitVec 32 := 1#32
  let v110 : BitVec 32 := Scalar.subi v107 c1_i32_56
  let c0_i32_57 : BitVec 32 := 0#32
  let v111 : BitVec 1 := Scalar.cmpi .ne v110 c0_i32_57
  v111

def k0_cond4 (k0_t1 : Fin k0_t1_loop.trips) : BitVec 1 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v85 : BitVec 32 := Scalar.subi v42 v84
  let c0_i32_46 : BitVec 32 := 0#32
  let v87 : BitVec 1 := Scalar.cmpi .sgt v85 c0_i32_46
  let v88 : BitVec 32 := Scalar.extui v87
  let c0_i32_47 : BitVec 32 := 0#32
  let v89 : BitVec 1 := Scalar.cmpi .slt v85 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v85 c2_i32_45
  let c0_i32_50 : BitVec 32 := 0#32
  let v99 : BitVec 1 := Scalar.cmpi .ne v98 c0_i32_50
  let v100 : BitVec 1 := Scalar.andi v97 v99
  let v86 : BitVec 32 := Scalar.divsi v85 c2_i32_45
  let c1_i32_51 : BitVec 32 := 1#32
  let v101 : BitVec 32 := Scalar.subi v86 c1_i32_51
  let v102 : BitVec 32 := Scalar.select v100 v101 v86
  let c0_i32_52 : BitVec 32 := 0#32
  let v103 : BitVec 32 := Scalar.maxsi v102 c0_i32_52
  let c7_i32 : BitVec 32 := 7#32
  let v104 : BitVec 32 := Scalar.minsi v103 c7_i32
  let c1_i32_54 : BitVec 32 := 1#32
  let v107 : BitVec 32 := Scalar.subi v104 c1_i32_54
  let c1_i32_56 : BitVec 32 := 1#32
  let v110 : BitVec 32 := Scalar.subi v107 c1_i32_56
  let c1_i32_58 : BitVec 32 := 1#32
  let v113 : BitVec 32 := Scalar.subi v110 c1_i32_58
  let c0_i32_59 : BitVec 32 := 0#32
  let v114 : BitVec 1 := Scalar.cmpi .ne v113 c0_i32_59
  v114

def k0_cond5 (k0_t1 : Fin k0_t1_loop.trips) : BitVec 1 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v85 : BitVec 32 := Scalar.subi v42 v84
  let c0_i32_46 : BitVec 32 := 0#32
  let v87 : BitVec 1 := Scalar.cmpi .sgt v85 c0_i32_46
  let v88 : BitVec 32 := Scalar.extui v87
  let c0_i32_47 : BitVec 32 := 0#32
  let v89 : BitVec 1 := Scalar.cmpi .slt v85 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v85 c2_i32_45
  let c0_i32_50 : BitVec 32 := 0#32
  let v99 : BitVec 1 := Scalar.cmpi .ne v98 c0_i32_50
  let v100 : BitVec 1 := Scalar.andi v97 v99
  let v86 : BitVec 32 := Scalar.divsi v85 c2_i32_45
  let c1_i32_51 : BitVec 32 := 1#32
  let v101 : BitVec 32 := Scalar.subi v86 c1_i32_51
  let v102 : BitVec 32 := Scalar.select v100 v101 v86
  let c0_i32_52 : BitVec 32 := 0#32
  let v103 : BitVec 32 := Scalar.maxsi v102 c0_i32_52
  let c7_i32 : BitVec 32 := 7#32
  let v104 : BitVec 32 := Scalar.minsi v103 c7_i32
  let c1_i32_54 : BitVec 32 := 1#32
  let v107 : BitVec 32 := Scalar.subi v104 c1_i32_54
  let c1_i32_56 : BitVec 32 := 1#32
  let v110 : BitVec 32 := Scalar.subi v107 c1_i32_56
  let c1_i32_58 : BitVec 32 := 1#32
  let v113 : BitVec 32 := Scalar.subi v110 c1_i32_58
  let c1_i32_60 : BitVec 32 := 1#32
  let v116 : BitVec 32 := Scalar.subi v113 c1_i32_60
  let c0_i32_61 : BitVec 32 := 0#32
  let v117 : BitVec 1 := Scalar.cmpi .ne v116 c0_i32_61
  v117

def k0_cond6 (k0_t1 : Fin k0_t1_loop.trips) : BitVec 1 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v85 : BitVec 32 := Scalar.subi v42 v84
  let c0_i32_46 : BitVec 32 := 0#32
  let v87 : BitVec 1 := Scalar.cmpi .sgt v85 c0_i32_46
  let v88 : BitVec 32 := Scalar.extui v87
  let c0_i32_47 : BitVec 32 := 0#32
  let v89 : BitVec 1 := Scalar.cmpi .slt v85 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v85 c2_i32_45
  let c0_i32_50 : BitVec 32 := 0#32
  let v99 : BitVec 1 := Scalar.cmpi .ne v98 c0_i32_50
  let v100 : BitVec 1 := Scalar.andi v97 v99
  let v86 : BitVec 32 := Scalar.divsi v85 c2_i32_45
  let c1_i32_51 : BitVec 32 := 1#32
  let v101 : BitVec 32 := Scalar.subi v86 c1_i32_51
  let v102 : BitVec 32 := Scalar.select v100 v101 v86
  let c0_i32_52 : BitVec 32 := 0#32
  let v103 : BitVec 32 := Scalar.maxsi v102 c0_i32_52
  let c7_i32 : BitVec 32 := 7#32
  let v104 : BitVec 32 := Scalar.minsi v103 c7_i32
  let c1_i32_54 : BitVec 32 := 1#32
  let v107 : BitVec 32 := Scalar.subi v104 c1_i32_54
  let c1_i32_56 : BitVec 32 := 1#32
  let v110 : BitVec 32 := Scalar.subi v107 c1_i32_56
  let c1_i32_58 : BitVec 32 := 1#32
  let v113 : BitVec 32 := Scalar.subi v110 c1_i32_58
  let c1_i32_60 : BitVec 32 := 1#32
  let v116 : BitVec 32 := Scalar.subi v113 c1_i32_60
  let c1_i32_62 : BitVec 32 := 1#32
  let v119 : BitVec 32 := Scalar.subi v116 c1_i32_62
  let c0_i32_63 : BitVec 32 := 0#32
  let v120 : BitVec 1 := Scalar.cmpi .ne v119 c0_i32_63
  v120

def k0_cond7 (k0_t1 : Fin k0_t1_loop.trips) : BitVec 1 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v85 : BitVec 32 := Scalar.subi v42 v84
  let c0_i32_46 : BitVec 32 := 0#32
  let v87 : BitVec 1 := Scalar.cmpi .sgt v85 c0_i32_46
  let v88 : BitVec 32 := Scalar.extui v87
  let c0_i32_47 : BitVec 32 := 0#32
  let v89 : BitVec 1 := Scalar.cmpi .slt v85 c0_i32_47
  let v90 : BitVec 32 := Scalar.extui v89
  let v91 : BitVec 32 := Scalar.subi v88 v90
  let c2_i32_45 : BitVec 32 := 2#32
  let c0_i32_48 : BitVec 32 := 0#32
  let v92 : BitVec 1 := Scalar.cmpi .sgt c2_i32_45 c0_i32_48
  let v93 : BitVec 32 := Scalar.extui v92
  let c0_i32_49 : BitVec 32 := 0#32
  let v94 : BitVec 1 := Scalar.cmpi .slt c2_i32_45 c0_i32_49
  let v95 : BitVec 32 := Scalar.extui v94
  let v96 : BitVec 32 := Scalar.subi v93 v95
  let v97 : BitVec 1 := Scalar.cmpi .ne v91 v96
  let v98 : BitVec 32 := Scalar.remsi v85 c2_i32_45
  let c0_i32_50 : BitVec 32 := 0#32
  let v99 : BitVec 1 := Scalar.cmpi .ne v98 c0_i32_50
  let v100 : BitVec 1 := Scalar.andi v97 v99
  let v86 : BitVec 32 := Scalar.divsi v85 c2_i32_45
  let c1_i32_51 : BitVec 32 := 1#32
  let v101 : BitVec 32 := Scalar.subi v86 c1_i32_51
  let v102 : BitVec 32 := Scalar.select v100 v101 v86
  let c0_i32_52 : BitVec 32 := 0#32
  let v103 : BitVec 32 := Scalar.maxsi v102 c0_i32_52
  let c7_i32 : BitVec 32 := 7#32
  let v104 : BitVec 32 := Scalar.minsi v103 c7_i32
  let c1_i32_54 : BitVec 32 := 1#32
  let v107 : BitVec 32 := Scalar.subi v104 c1_i32_54
  let c1_i32_56 : BitVec 32 := 1#32
  let v110 : BitVec 32 := Scalar.subi v107 c1_i32_56
  let c1_i32_58 : BitVec 32 := 1#32
  let v113 : BitVec 32 := Scalar.subi v110 c1_i32_58
  let c1_i32_60 : BitVec 32 := 1#32
  let v116 : BitVec 32 := Scalar.subi v113 c1_i32_60
  let c1_i32_62 : BitVec 32 := 1#32
  let v119 : BitVec 32 := Scalar.subi v116 c1_i32_62
  let c1_i32_64 : BitVec 32 := 1#32
  let v122 : BitVec 32 := Scalar.subi v119 c1_i32_64
  let c0_i32_65 : BitVec 32 := 0#32
  let v123 : BitVec 1 := Scalar.cmpi .ne v122 c0_i32_65
  v123

def k0_mult68 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_66 : BitVec 32 := 0#32
  let v125 : BitVec 32 := Scalar.addi v84 c0_i32_66
  let c1_i32_67 : BitVec 32 := 1#32
  let v126 : BitVec 32 := Scalar.addi v125 c1_i32_67
  let c256_i32 : BitVec 32 := 256#32
  let v127 : BitVec 32 := Scalar.muli v126 c256_i32
  v127
def k0_off15 (k0_t1 : Fin k0_t1_loop.trips) (c0_i32_66 : BitVec 32) : Fin 3 → Nat :=
  let c0_68 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v125 : BitVec 32 := Scalar.addi v84 c0_i32_66
  let c1_i32_67 : BitVec 32 := 1#32
  let v126 : BitVec 32 := Scalar.addi v125 c1_i32_67
  let c256_i32 : BitVec 32 := 256#32
  let v127 : BitVec 32 := Scalar.muli v126 c256_i32
  let v128 : BitVec 32 := v127
  let v129 : Index := Scalar.indexCast v128
  let c0_69 : Index := 0#32
  ![0, v129.toNat, 0]
def k0_off16 (k0_t1 : Fin k0_t1_loop.trips) : Fin 3 → Nat :=
  let c0_71 : Index := 0#32
  let c0_72 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_70 : BitVec 32 := 0#32
  let v132 : BitVec 32 := Scalar.addi v33 c0_i32_70
  let v133 : Index := Scalar.indexCast v132
  ![0, 0, v133.toNat]
def k0_off17 (k0_t1 : Fin k0_t1_loop.trips) (c0_i32_66 : BitVec 32) : Fin 3 → Nat :=
  let c0_78 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v125 : BitVec 32 := Scalar.addi v84 c0_i32_66
  let c1_i32_67 : BitVec 32 := 1#32
  let v126 : BitVec 32 := Scalar.addi v125 c1_i32_67
  let c256_i32 : BitVec 32 := 256#32
  let v127 : BitVec 32 := Scalar.muli v126 c256_i32
  let v128 : BitVec 32 := v127
  let v142 : Index := Scalar.indexCast v128
  let c128_79 : Index := 128#32
  ![0, v142.toNat, 128]
def k0_off18 (k0_t1 : Fin k0_t1_loop.trips) : Fin 3 → Nat :=
  let c0_81 : Index := 0#32
  let c128_82 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_80 : BitVec 32 := 0#32
  let v145 : BitVec 32 := Scalar.addi v33 c0_i32_80
  let v146 : Index := Scalar.indexCast v145
  ![0, 128, v146.toNat]
def k0_mult69 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_88 : BitVec 32 := 0#32
  let v155 : BitVec 32 := Scalar.addi v84 c0_i32_88
  let c256_i32_89 : BitVec 32 := 256#32
  let v156 : BitVec 32 := Scalar.muli v155 c256_i32_89
  v156
def k0_off19 (i : grid0.Coords) (c0_i32_90 : BitVec 32) : Fin 3 → Nat :=
  let arg0 : BitVec 32 := BitVec.ofNat 32 (i 0).val
  let c0_i32_0 : BitVec 32 := 0#32
  let v6 : BitVec 32 := Scalar.minsi arg0 c0_i32_0
  let v158 : BitVec 32 := Scalar.addi c0_i32_90 v6
  let v159 : Index := Scalar.indexCast v158
  let c0_91 : Index := 0#32
  let c0_92 : Index := 0#32
  ![v159.toNat, 0, 0]
def k0_off20 (k0_t1 : Fin k0_t1_loop.trips) (c0_i32_88 : BitVec 32) : Fin 3 → Nat :=
  let c0_93 : Index := 0#32
  let c0_94 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v155 : BitVec 32 := Scalar.addi v84 c0_i32_88
  let c256_i32_89 : BitVec 32 := 256#32
  let v156 : BitVec 32 := Scalar.muli v155 c256_i32_89
  let v157 : BitVec 32 := v156
  let v167 : Index := Scalar.indexCast v157
  ![0, 0, v167.toNat]
def k0_off21 (k0_t1 : Fin k0_t1_loop.trips) (c0_i32_88 : BitVec 32) : Fin 3 → Nat :=
  let c0_99 : Index := 0#32
  let c64 : Index := 64#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v155 : BitVec 32 := Scalar.addi v84 c0_i32_88
  let c256_i32_89 : BitVec 32 := 256#32
  let v156 : BitVec 32 := Scalar.muli v155 c256_i32_89
  let v157 : BitVec 32 := v156
  let v186 : Index := Scalar.indexCast v157
  ![0, 64, v186.toNat]
def k0_mult70 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_101 : BitVec 32 := 1#32
  let v196 : BitVec 32 := Scalar.addi v84 c1_i32_101
  let c1_i32_102 : BitVec 32 := 1#32
  let v197 : BitVec 32 := Scalar.addi v196 c1_i32_102
  let c256_i32_103 : BitVec 32 := 256#32
  let v198 : BitVec 32 := Scalar.muli v197 c256_i32_103
  v198
def k0_mult71 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_124 : BitVec 32 := 1#32
  let v226 : BitVec 32 := Scalar.addi v84 c1_i32_124
  let c256_i32_125 : BitVec 32 := 256#32
  let v227 : BitVec 32 := Scalar.muli v226 c256_i32_125
  v227
def k0_mult72 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c2_i32_138 : BitVec 32 := 2#32
  let v267 : BitVec 32 := Scalar.addi v84 c2_i32_138
  let c1_i32_139 : BitVec 32 := 1#32
  let v268 : BitVec 32 := Scalar.addi v267 c1_i32_139
  let c256_i32_140 : BitVec 32 := 256#32
  let v269 : BitVec 32 := Scalar.muli v268 c256_i32_140
  v269
def k0_mult73 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c2_i32_161 : BitVec 32 := 2#32
  let v297 : BitVec 32 := Scalar.addi v84 c2_i32_161
  let c256_i32_162 : BitVec 32 := 256#32
  let v298 : BitVec 32 := Scalar.muli v297 c256_i32_162
  v298
def k0_mult74 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c3_i32 : BitVec 32 := 3#32
  let v338 : BitVec 32 := Scalar.addi v84 c3_i32
  let c1_i32_175 : BitVec 32 := 1#32
  let v339 : BitVec 32 := Scalar.addi v338 c1_i32_175
  let c256_i32_176 : BitVec 32 := 256#32
  let v340 : BitVec 32 := Scalar.muli v339 c256_i32_176
  v340
def k0_mult75 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c3_i32_197 : BitVec 32 := 3#32
  let v368 : BitVec 32 := Scalar.addi v84 c3_i32_197
  let c256_i32_198 : BitVec 32 := 256#32
  let v369 : BitVec 32 := Scalar.muli v368 c256_i32_198
  v369
def k0_mult76 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c4_i32 : BitVec 32 := 4#32
  let v409 : BitVec 32 := Scalar.addi v84 c4_i32
  let c1_i32_211 : BitVec 32 := 1#32
  let v410 : BitVec 32 := Scalar.addi v409 c1_i32_211
  let c256_i32_212 : BitVec 32 := 256#32
  let v411 : BitVec 32 := Scalar.muli v410 c256_i32_212
  v411
def k0_mult77 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c4_i32_233 : BitVec 32 := 4#32
  let v439 : BitVec 32 := Scalar.addi v84 c4_i32_233
  let c256_i32_234 : BitVec 32 := 256#32
  let v440 : BitVec 32 := Scalar.muli v439 c256_i32_234
  v440
def k0_mult78 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c5_i32 : BitVec 32 := 5#32
  let v480 : BitVec 32 := Scalar.addi v84 c5_i32
  let c1_i32_247 : BitVec 32 := 1#32
  let v481 : BitVec 32 := Scalar.addi v480 c1_i32_247
  let c256_i32_248 : BitVec 32 := 256#32
  let v482 : BitVec 32 := Scalar.muli v481 c256_i32_248
  v482
def k0_mult79 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c5_i32_269 : BitVec 32 := 5#32
  let v510 : BitVec 32 := Scalar.addi v84 c5_i32_269
  let c256_i32_270 : BitVec 32 := 256#32
  let v511 : BitVec 32 := Scalar.muli v510 c256_i32_270
  v511
def k0_mult80 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c6_i32 : BitVec 32 := 6#32
  let v551 : BitVec 32 := Scalar.addi v84 c6_i32
  let c1_i32_283 : BitVec 32 := 1#32
  let v552 : BitVec 32 := Scalar.addi v551 c1_i32_283
  let c256_i32_284 : BitVec 32 := 256#32
  let v553 : BitVec 32 := Scalar.muli v552 c256_i32_284
  v553
def k0_mult81 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c6_i32_305 : BitVec 32 := 6#32
  let v581 : BitVec 32 := Scalar.addi v84 c6_i32_305
  let c256_i32_306 : BitVec 32 := 256#32
  let v582 : BitVec 32 := Scalar.muli v581 c256_i32_306
  v582
def k0_mult82 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c7_i32_319 : BitVec 32 := 7#32
  let v622 : BitVec 32 := Scalar.addi v84 c7_i32_319
  let c1_i32_320 : BitVec 32 := 1#32
  let v623 : BitVec 32 := Scalar.addi v622 c1_i32_320
  let c256_i32_321 : BitVec 32 := 256#32
  let v624 : BitVec 32 := Scalar.muli v623 c256_i32_321
  v624
def k0_mult83 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c7_i32_342 : BitVec 32 := 7#32
  let v652 : BitVec 32 := Scalar.addi v84 c7_i32_342
  let c256_i32_343 : BitVec 32 := 256#32
  let v653 : BitVec 32 := Scalar.muli v652 c256_i32_343
  v653
def k0_mult84 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c8_i32 : BitVec 32 := 8#32
  let v693 : BitVec 32 := Scalar.addi v84 c8_i32
  let c1_i32_356 : BitVec 32 := 1#32
  let v694 : BitVec 32 := Scalar.addi v693 c1_i32_356
  let c256_i32_357 : BitVec 32 := 256#32
  let v695 : BitVec 32 := Scalar.muli v694 c256_i32_357
  v695
def k0_mult85 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c8_i32_378 : BitVec 32 := 8#32
  let v723 : BitVec 32 := Scalar.addi v84 c8_i32_378
  let c256_i32_379 : BitVec 32 := 256#32
  let v724 : BitVec 32 := Scalar.muli v723 c256_i32_379
  v724
def k0_mult86 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c9_i32 : BitVec 32 := 9#32
  let v764 : BitVec 32 := Scalar.addi v84 c9_i32
  let c1_i32_392 : BitVec 32 := 1#32
  let v765 : BitVec 32 := Scalar.addi v764 c1_i32_392
  let c256_i32_393 : BitVec 32 := 256#32
  let v766 : BitVec 32 := Scalar.muli v765 c256_i32_393
  v766
def k0_mult87 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c9_i32_414 : BitVec 32 := 9#32
  let v794 : BitVec 32 := Scalar.addi v84 c9_i32_414
  let c256_i32_415 : BitVec 32 := 256#32
  let v795 : BitVec 32 := Scalar.muli v794 c256_i32_415
  v795
def k0_mult88 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c10_i32 : BitVec 32 := 10#32
  let v835 : BitVec 32 := Scalar.addi v84 c10_i32
  let c1_i32_428 : BitVec 32 := 1#32
  let v836 : BitVec 32 := Scalar.addi v835 c1_i32_428
  let c256_i32_429 : BitVec 32 := 256#32
  let v837 : BitVec 32 := Scalar.muli v836 c256_i32_429
  v837
def k0_mult89 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c10_i32_450 : BitVec 32 := 10#32
  let v865 : BitVec 32 := Scalar.addi v84 c10_i32_450
  let c256_i32_451 : BitVec 32 := 256#32
  let v866 : BitVec 32 := Scalar.muli v865 c256_i32_451
  v866
def k0_mult90 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c11_i32 : BitVec 32 := 11#32
  let v906 : BitVec 32 := Scalar.addi v84 c11_i32
  let c1_i32_464 : BitVec 32 := 1#32
  let v907 : BitVec 32 := Scalar.addi v906 c1_i32_464
  let c256_i32_465 : BitVec 32 := 256#32
  let v908 : BitVec 32 := Scalar.muli v907 c256_i32_465
  v908
def k0_mult91 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c11_i32_486 : BitVec 32 := 11#32
  let v936 : BitVec 32 := Scalar.addi v84 c11_i32_486
  let c256_i32_487 : BitVec 32 := 256#32
  let v937 : BitVec 32 := Scalar.muli v936 c256_i32_487
  v937
def k0_mult92 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c12_i32 : BitVec 32 := 12#32
  let v977 : BitVec 32 := Scalar.addi v84 c12_i32
  let c1_i32_500 : BitVec 32 := 1#32
  let v978 : BitVec 32 := Scalar.addi v977 c1_i32_500
  let c256_i32_501 : BitVec 32 := 256#32
  let v979 : BitVec 32 := Scalar.muli v978 c256_i32_501
  v979
def k0_mult93 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c12_i32_522 : BitVec 32 := 12#32
  let v1007 : BitVec 32 := Scalar.addi v84 c12_i32_522
  let c256_i32_523 : BitVec 32 := 256#32
  let v1008 : BitVec 32 := Scalar.muli v1007 c256_i32_523
  v1008
def k0_mult94 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c13_i32 : BitVec 32 := 13#32
  let v1048 : BitVec 32 := Scalar.addi v84 c13_i32
  let c1_i32_536 : BitVec 32 := 1#32
  let v1049 : BitVec 32 := Scalar.addi v1048 c1_i32_536
  let c256_i32_537 : BitVec 32 := 256#32
  let v1050 : BitVec 32 := Scalar.muli v1049 c256_i32_537
  v1050
def k0_mult95 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c13_i32_556 : BitVec 32 := 13#32
  let v1074 : BitVec 32 := Scalar.addi v84 c13_i32_556
  let c256_i32_557 : BitVec 32 := 256#32
  let v1075 : BitVec 32 := Scalar.muli v1074 c256_i32_557
  v1075
def k0_mult96 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c14_i32 : BitVec 32 := 14#32
  let v1115 : BitVec 32 := Scalar.addi v84 c14_i32
  let c1_i32_570 : BitVec 32 := 1#32
  let v1116 : BitVec 32 := Scalar.addi v1115 c1_i32_570
  let c256_i32_571 : BitVec 32 := 256#32
  let v1117 : BitVec 32 := Scalar.muli v1116 c256_i32_571
  v1117
def k0_off22 (k0_t1 : Fin k0_t1_loop.trips) : Fin 3 → Nat :=
  let c0_575 : Index := 0#32
  let c0_576 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_574 : BitVec 32 := 256#32
  let v1122 : BitVec 32 := Scalar.addi v33 c256_i32_574
  let v1123 : Index := Scalar.indexCast v1122
  ![0, 0, v1123.toNat]
def k0_off23 (k0_t1 : Fin k0_t1_loop.trips) : Fin 3 → Nat :=
  let c0_583 : Index := 0#32
  let c128_584 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_582 : BitVec 32 := 256#32
  let v1133 : BitVec 32 := Scalar.addi v33 c256_i32_582
  let v1134 : Index := Scalar.indexCast v1133
  ![0, 128, v1134.toNat]
def k0_mult97 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c14_i32_589 : BitVec 32 := 14#32
  let v1141 : BitVec 32 := Scalar.addi v84 c14_i32_589
  let c256_i32_590 : BitVec 32 := 256#32
  let v1142 : BitVec 32 := Scalar.muli v1141 c256_i32_590
  v1142
def k0_mult98 : BitVec 32 :=
  let c0_i32_607 : BitVec 32 := 0#32
  c0_i32_607
def k0_off24 (k0_t1 : Fin k0_t1_loop.trips) : Fin 3 → Nat :=
  let c0_611 : Index := 0#32
  let c0_612 : Index := 0#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_610 : BitVec 32 := 0#32
  let v1200 : BitVec 32 := Scalar.addi v37 c0_i32_610
  let v1201 : Index := Scalar.indexCast v1200
  ![0, 0, v1201.toNat]
def k0_off25 (k0_t1 : Fin k0_t1_loop.trips) : Fin 3 → Nat :=
  let c0_621 : Index := 0#32
  let c128_622 : Index := 128#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_620 : BitVec 32 := 0#32
  let v1213 : BitVec 32 := Scalar.addi v37 c0_i32_620
  let v1214 : Index := Scalar.indexCast v1213
  ![0, 128, v1214.toNat]
def k0_mult99 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c15_i32_628 : BitVec 32 := 15#32
  let v1223 : BitVec 32 := Scalar.addi v84 c15_i32_628
  let c256_i32_629 : BitVec 32 := 256#32
  let v1224 : BitVec 32 := Scalar.muli v1223 c256_i32_629
  v1224
def k0_off26 (i : grid0.Coords) (c0_i32_630 : BitVec 32) : Fin 3 → Nat :=
  let arg0 : BitVec 32 := BitVec.ofNat 32 (i 0).val
  let c0_i32_0 : BitVec 32 := 0#32
  let v6 : BitVec 32 := Scalar.minsi arg0 c0_i32_0
  let v1226 : BitVec 32 := Scalar.addi c0_i32_630 v6
  let v1227 : Index := Scalar.indexCast v1226
  let c0_631 : Index := 0#32
  let c256_632 : Index := 256#32
  ![v1227.toNat, 0, 256]
def k0_off27 (k0_t1 : Fin k0_t1_loop.trips) : Fin 3 → Nat :=
  let c0_646 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let v1299 : Index := Scalar.indexCast v33
  let c0_647 : Index := 0#32
  ![0, v1299.toNat, 0]
def k0_mult100 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_66 : BitVec 32 := 0#32
  let v125 : BitVec 32 := Scalar.addi v84 c0_i32_66
  let c1_i32_67 : BitVec 32 := 1#32
  let v126 : BitVec 32 := Scalar.addi v125 c1_i32_67
  let c256_i32 : BitVec 32 := 256#32
  let v127 : BitVec 32 := Scalar.muli v126 c256_i32
  v127
def k0_off28 (k0_t1 : Fin k0_t1_loop.trips) (c0_i32_66 : BitVec 32) : Fin 3 → Nat :=
  let c0_68 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v125 : BitVec 32 := Scalar.addi v84 c0_i32_66
  let c1_i32_67 : BitVec 32 := 1#32
  let v126 : BitVec 32 := Scalar.addi v125 c1_i32_67
  let c256_i32 : BitVec 32 := 256#32
  let v127 : BitVec 32 := Scalar.muli v126 c256_i32
  let v128 : BitVec 32 := v127
  let v129 : Index := Scalar.indexCast v128
  let c0_69 : Index := 0#32
  ![0, v129.toNat, 0]
def k0_off29 (k0_t1 : Fin k0_t1_loop.trips) : Fin 3 → Nat :=
  let c0_71 : Index := 0#32
  let c0_72 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_70 : BitVec 32 := 0#32
  let v132 : BitVec 32 := Scalar.addi v33 c0_i32_70
  let v133 : Index := Scalar.indexCast v132
  ![0, 0, v133.toNat]
def k0_off30 (k0_t1 : Fin k0_t1_loop.trips) (c0_i32_66 : BitVec 32) : Fin 3 → Nat :=
  let c0_78 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v125 : BitVec 32 := Scalar.addi v84 c0_i32_66
  let c1_i32_67 : BitVec 32 := 1#32
  let v126 : BitVec 32 := Scalar.addi v125 c1_i32_67
  let c256_i32 : BitVec 32 := 256#32
  let v127 : BitVec 32 := Scalar.muli v126 c256_i32
  let v128 : BitVec 32 := v127
  let v142 : Index := Scalar.indexCast v128
  let c128_79 : Index := 128#32
  ![0, v142.toNat, 128]
def k0_off31 (k0_t1 : Fin k0_t1_loop.trips) : Fin 3 → Nat :=
  let c0_81 : Index := 0#32
  let c128_82 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_80 : BitVec 32 := 0#32
  let v145 : BitVec 32 := Scalar.addi v33 c0_i32_80
  let v146 : Index := Scalar.indexCast v145
  ![0, 128, v146.toNat]
def k0_mult101 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_88 : BitVec 32 := 0#32
  let v155 : BitVec 32 := Scalar.addi v84 c0_i32_88
  let c256_i32_89 : BitVec 32 := 256#32
  let v156 : BitVec 32 := Scalar.muli v155 c256_i32_89
  v156
def k0_off32 (i : grid0.Coords) (c0_i32_90 : BitVec 32) : Fin 3 → Nat :=
  let arg0 : BitVec 32 := BitVec.ofNat 32 (i 0).val
  let c0_i32_0 : BitVec 32 := 0#32
  let v6 : BitVec 32 := Scalar.minsi arg0 c0_i32_0
  let v158 : BitVec 32 := Scalar.addi c0_i32_90 v6
  let v159 : Index := Scalar.indexCast v158
  let c0_91 : Index := 0#32
  let c0_92 : Index := 0#32
  ![v159.toNat, 0, 0]
def k0_off33 (k0_t1 : Fin k0_t1_loop.trips) (c0_i32_88 : BitVec 32) : Fin 3 → Nat :=
  let c0_93 : Index := 0#32
  let c0_94 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v155 : BitVec 32 := Scalar.addi v84 c0_i32_88
  let c256_i32_89 : BitVec 32 := 256#32
  let v156 : BitVec 32 := Scalar.muli v155 c256_i32_89
  let v157 : BitVec 32 := v156
  let v167 : Index := Scalar.indexCast v157
  ![0, 0, v167.toNat]
def k0_off34 (k0_t1 : Fin k0_t1_loop.trips) (c0_i32_88 : BitVec 32) : Fin 3 → Nat :=
  let c0_99 : Index := 0#32
  let c64 : Index := 64#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v155 : BitVec 32 := Scalar.addi v84 c0_i32_88
  let c256_i32_89 : BitVec 32 := 256#32
  let v156 : BitVec 32 := Scalar.muli v155 c256_i32_89
  let v157 : BitVec 32 := v156
  let v186 : Index := Scalar.indexCast v157
  ![0, 64, v186.toNat]
def k0_mult102 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_101 : BitVec 32 := 1#32
  let v196 : BitVec 32 := Scalar.addi v84 c1_i32_101
  let c1_i32_102 : BitVec 32 := 1#32
  let v197 : BitVec 32 := Scalar.addi v196 c1_i32_102
  let c256_i32_103 : BitVec 32 := 256#32
  let v198 : BitVec 32 := Scalar.muli v197 c256_i32_103
  v198
def k0_mult103 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_124 : BitVec 32 := 1#32
  let v226 : BitVec 32 := Scalar.addi v84 c1_i32_124
  let c256_i32_125 : BitVec 32 := 256#32
  let v227 : BitVec 32 := Scalar.muli v226 c256_i32_125
  v227
def k0_mult104 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c2_i32_138 : BitVec 32 := 2#32
  let v267 : BitVec 32 := Scalar.addi v84 c2_i32_138
  let c1_i32_139 : BitVec 32 := 1#32
  let v268 : BitVec 32 := Scalar.addi v267 c1_i32_139
  let c256_i32_140 : BitVec 32 := 256#32
  let v269 : BitVec 32 := Scalar.muli v268 c256_i32_140
  v269
def k0_mult105 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c2_i32_161 : BitVec 32 := 2#32
  let v297 : BitVec 32 := Scalar.addi v84 c2_i32_161
  let c256_i32_162 : BitVec 32 := 256#32
  let v298 : BitVec 32 := Scalar.muli v297 c256_i32_162
  v298
def k0_mult106 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c3_i32 : BitVec 32 := 3#32
  let v338 : BitVec 32 := Scalar.addi v84 c3_i32
  let c1_i32_175 : BitVec 32 := 1#32
  let v339 : BitVec 32 := Scalar.addi v338 c1_i32_175
  let c256_i32_176 : BitVec 32 := 256#32
  let v340 : BitVec 32 := Scalar.muli v339 c256_i32_176
  v340
def k0_mult107 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c3_i32_197 : BitVec 32 := 3#32
  let v368 : BitVec 32 := Scalar.addi v84 c3_i32_197
  let c256_i32_198 : BitVec 32 := 256#32
  let v369 : BitVec 32 := Scalar.muli v368 c256_i32_198
  v369
def k0_mult108 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c4_i32 : BitVec 32 := 4#32
  let v409 : BitVec 32 := Scalar.addi v84 c4_i32
  let c1_i32_211 : BitVec 32 := 1#32
  let v410 : BitVec 32 := Scalar.addi v409 c1_i32_211
  let c256_i32_212 : BitVec 32 := 256#32
  let v411 : BitVec 32 := Scalar.muli v410 c256_i32_212
  v411
def k0_mult109 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c4_i32_233 : BitVec 32 := 4#32
  let v439 : BitVec 32 := Scalar.addi v84 c4_i32_233
  let c256_i32_234 : BitVec 32 := 256#32
  let v440 : BitVec 32 := Scalar.muli v439 c256_i32_234
  v440
def k0_mult110 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c5_i32 : BitVec 32 := 5#32
  let v480 : BitVec 32 := Scalar.addi v84 c5_i32
  let c1_i32_247 : BitVec 32 := 1#32
  let v481 : BitVec 32 := Scalar.addi v480 c1_i32_247
  let c256_i32_248 : BitVec 32 := 256#32
  let v482 : BitVec 32 := Scalar.muli v481 c256_i32_248
  v482
def k0_mult111 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c5_i32_269 : BitVec 32 := 5#32
  let v510 : BitVec 32 := Scalar.addi v84 c5_i32_269
  let c256_i32_270 : BitVec 32 := 256#32
  let v511 : BitVec 32 := Scalar.muli v510 c256_i32_270
  v511
def k0_mult112 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c6_i32 : BitVec 32 := 6#32
  let v551 : BitVec 32 := Scalar.addi v84 c6_i32
  let c1_i32_283 : BitVec 32 := 1#32
  let v552 : BitVec 32 := Scalar.addi v551 c1_i32_283
  let c256_i32_284 : BitVec 32 := 256#32
  let v553 : BitVec 32 := Scalar.muli v552 c256_i32_284
  v553
def k0_mult113 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c6_i32_305 : BitVec 32 := 6#32
  let v581 : BitVec 32 := Scalar.addi v84 c6_i32_305
  let c256_i32_306 : BitVec 32 := 256#32
  let v582 : BitVec 32 := Scalar.muli v581 c256_i32_306
  v582
def k0_mult114 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c7_i32_319 : BitVec 32 := 7#32
  let v622 : BitVec 32 := Scalar.addi v84 c7_i32_319
  let c1_i32_320 : BitVec 32 := 1#32
  let v623 : BitVec 32 := Scalar.addi v622 c1_i32_320
  let c256_i32_321 : BitVec 32 := 256#32
  let v624 : BitVec 32 := Scalar.muli v623 c256_i32_321
  v624
def k0_mult115 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c7_i32_342 : BitVec 32 := 7#32
  let v652 : BitVec 32 := Scalar.addi v84 c7_i32_342
  let c256_i32_343 : BitVec 32 := 256#32
  let v653 : BitVec 32 := Scalar.muli v652 c256_i32_343
  v653
def k0_mult116 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c8_i32 : BitVec 32 := 8#32
  let v693 : BitVec 32 := Scalar.addi v84 c8_i32
  let c1_i32_356 : BitVec 32 := 1#32
  let v694 : BitVec 32 := Scalar.addi v693 c1_i32_356
  let c256_i32_357 : BitVec 32 := 256#32
  let v695 : BitVec 32 := Scalar.muli v694 c256_i32_357
  v695
def k0_mult117 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c8_i32_378 : BitVec 32 := 8#32
  let v723 : BitVec 32 := Scalar.addi v84 c8_i32_378
  let c256_i32_379 : BitVec 32 := 256#32
  let v724 : BitVec 32 := Scalar.muli v723 c256_i32_379
  v724
def k0_mult118 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c9_i32 : BitVec 32 := 9#32
  let v764 : BitVec 32 := Scalar.addi v84 c9_i32
  let c1_i32_392 : BitVec 32 := 1#32
  let v765 : BitVec 32 := Scalar.addi v764 c1_i32_392
  let c256_i32_393 : BitVec 32 := 256#32
  let v766 : BitVec 32 := Scalar.muli v765 c256_i32_393
  v766
def k0_mult119 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c9_i32_414 : BitVec 32 := 9#32
  let v794 : BitVec 32 := Scalar.addi v84 c9_i32_414
  let c256_i32_415 : BitVec 32 := 256#32
  let v795 : BitVec 32 := Scalar.muli v794 c256_i32_415
  v795
def k0_mult120 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c10_i32 : BitVec 32 := 10#32
  let v835 : BitVec 32 := Scalar.addi v84 c10_i32
  let c1_i32_428 : BitVec 32 := 1#32
  let v836 : BitVec 32 := Scalar.addi v835 c1_i32_428
  let c256_i32_429 : BitVec 32 := 256#32
  let v837 : BitVec 32 := Scalar.muli v836 c256_i32_429
  v837
def k0_mult121 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c10_i32_450 : BitVec 32 := 10#32
  let v865 : BitVec 32 := Scalar.addi v84 c10_i32_450
  let c256_i32_451 : BitVec 32 := 256#32
  let v866 : BitVec 32 := Scalar.muli v865 c256_i32_451
  v866
def k0_mult122 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c11_i32 : BitVec 32 := 11#32
  let v906 : BitVec 32 := Scalar.addi v84 c11_i32
  let c1_i32_464 : BitVec 32 := 1#32
  let v907 : BitVec 32 := Scalar.addi v906 c1_i32_464
  let c256_i32_465 : BitVec 32 := 256#32
  let v908 : BitVec 32 := Scalar.muli v907 c256_i32_465
  v908
def k0_mult123 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c11_i32_484 : BitVec 32 := 11#32
  let v932 : BitVec 32 := Scalar.addi v84 c11_i32_484
  let c256_i32_485 : BitVec 32 := 256#32
  let v933 : BitVec 32 := Scalar.muli v932 c256_i32_485
  v933
def k0_mult124 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c12_i32 : BitVec 32 := 12#32
  let v973 : BitVec 32 := Scalar.addi v84 c12_i32
  let c1_i32_498 : BitVec 32 := 1#32
  let v974 : BitVec 32 := Scalar.addi v973 c1_i32_498
  let c256_i32_499 : BitVec 32 := 256#32
  let v975 : BitVec 32 := Scalar.muli v974 c256_i32_499
  v975
def k0_off35 (k0_t1 : Fin k0_t1_loop.trips) : Fin 3 → Nat :=
  let c0_503 : Index := 0#32
  let c0_504 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_502 : BitVec 32 := 256#32
  let v980 : BitVec 32 := Scalar.addi v33 c256_i32_502
  let v981 : Index := Scalar.indexCast v980
  ![0, 0, v981.toNat]
def k0_off36 (k0_t1 : Fin k0_t1_loop.trips) : Fin 3 → Nat :=
  let c0_511 : Index := 0#32
  let c128_512 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_510 : BitVec 32 := 256#32
  let v991 : BitVec 32 := Scalar.addi v33 c256_i32_510
  let v992 : Index := Scalar.indexCast v991
  ![0, 128, v992.toNat]
def k0_mult125 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c12_i32_517 : BitVec 32 := 12#32
  let v999 : BitVec 32 := Scalar.addi v84 c12_i32_517
  let c256_i32_518 : BitVec 32 := 256#32
  let v1000 : BitVec 32 := Scalar.muli v999 c256_i32_518
  v1000
def k0_mult126 : BitVec 32 :=
  let c0_i32_535 : BitVec 32 := 0#32
  c0_i32_535
def k0_off37 (k0_t1 : Fin k0_t1_loop.trips) : Fin 3 → Nat :=
  let c0_539 : Index := 0#32
  let c0_540 : Index := 0#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_538 : BitVec 32 := 0#32
  let v1058 : BitVec 32 := Scalar.addi v37 c0_i32_538
  let v1059 : Index := Scalar.indexCast v1058
  ![0, 0, v1059.toNat]
def k0_off38 (k0_t1 : Fin k0_t1_loop.trips) : Fin 3 → Nat :=
  let c0_549 : Index := 0#32
  let c128_550 : Index := 128#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_548 : BitVec 32 := 0#32
  let v1071 : BitVec 32 := Scalar.addi v37 c0_i32_548
  let v1072 : Index := Scalar.indexCast v1071
  ![0, 128, v1072.toNat]
def k0_mult127 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c13_i32 : BitVec 32 := 13#32
  let v1081 : BitVec 32 := Scalar.addi v84 c13_i32
  let c256_i32_556 : BitVec 32 := 256#32
  let v1082 : BitVec 32 := Scalar.muli v1081 c256_i32_556
  v1082
def k0_off39 (i : grid0.Coords) (c0_i32_557 : BitVec 32) : Fin 3 → Nat :=
  let arg0 : BitVec 32 := BitVec.ofNat 32 (i 0).val
  let c0_i32_0 : BitVec 32 := 0#32
  let v6 : BitVec 32 := Scalar.minsi arg0 c0_i32_0
  let v1084 : BitVec 32 := Scalar.addi c0_i32_557 v6
  let v1085 : Index := Scalar.indexCast v1084
  let c0_558 : Index := 0#32
  let c256_559 : Index := 256#32
  ![v1085.toNat, 0, 256]
def k0_off40 (k0_t1 : Fin k0_t1_loop.trips) : Fin 3 → Nat :=
  let c0_573 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let v1157 : Index := Scalar.indexCast v33
  let c0_574 : Index := 0#32
  ![0, v1157.toNat, 0]
def k0_mult128 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_64 : BitVec 32 := 0#32
  let v122 : BitVec 32 := Scalar.addi v84 c0_i32_64
  let c1_i32_65 : BitVec 32 := 1#32
  let v123 : BitVec 32 := Scalar.addi v122 c1_i32_65
  let c256_i32 : BitVec 32 := 256#32
  let v124 : BitVec 32 := Scalar.muli v123 c256_i32
  v124
def k0_off41 (k0_t1 : Fin k0_t1_loop.trips) (c0_i32_64 : BitVec 32) : Fin 3 → Nat :=
  let c0_66 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v122 : BitVec 32 := Scalar.addi v84 c0_i32_64
  let c1_i32_65 : BitVec 32 := 1#32
  let v123 : BitVec 32 := Scalar.addi v122 c1_i32_65
  let c256_i32 : BitVec 32 := 256#32
  let v124 : BitVec 32 := Scalar.muli v123 c256_i32
  let v125 : BitVec 32 := v124
  let v126 : Index := Scalar.indexCast v125
  let c0_67 : Index := 0#32
  ![0, v126.toNat, 0]
def k0_off42 (k0_t1 : Fin k0_t1_loop.trips) : Fin 3 → Nat :=
  let c0_69 : Index := 0#32
  let c0_70 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_68 : BitVec 32 := 0#32
  let v129 : BitVec 32 := Scalar.addi v33 c0_i32_68
  let v130 : Index := Scalar.indexCast v129
  ![0, 0, v130.toNat]
def k0_off43 (k0_t1 : Fin k0_t1_loop.trips) (c0_i32_64 : BitVec 32) : Fin 3 → Nat :=
  let c0_76 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v122 : BitVec 32 := Scalar.addi v84 c0_i32_64
  let c1_i32_65 : BitVec 32 := 1#32
  let v123 : BitVec 32 := Scalar.addi v122 c1_i32_65
  let c256_i32 : BitVec 32 := 256#32
  let v124 : BitVec 32 := Scalar.muli v123 c256_i32
  let v125 : BitVec 32 := v124
  let v139 : Index := Scalar.indexCast v125
  let c128_77 : Index := 128#32
  ![0, v139.toNat, 128]
def k0_off44 (k0_t1 : Fin k0_t1_loop.trips) : Fin 3 → Nat :=
  let c0_79 : Index := 0#32
  let c128_80 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_78 : BitVec 32 := 0#32
  let v142 : BitVec 32 := Scalar.addi v33 c0_i32_78
  let v143 : Index := Scalar.indexCast v142
  ![0, 128, v143.toNat]
def k0_mult129 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_86 : BitVec 32 := 0#32
  let v152 : BitVec 32 := Scalar.addi v84 c0_i32_86
  let c256_i32_87 : BitVec 32 := 256#32
  let v153 : BitVec 32 := Scalar.muli v152 c256_i32_87
  v153
def k0_off45 (i : grid0.Coords) (c0_i32_88 : BitVec 32) : Fin 3 → Nat :=
  let arg0 : BitVec 32 := BitVec.ofNat 32 (i 0).val
  let c0_i32_0 : BitVec 32 := 0#32
  let v6 : BitVec 32 := Scalar.minsi arg0 c0_i32_0
  let v155 : BitVec 32 := Scalar.addi c0_i32_88 v6
  let v156 : Index := Scalar.indexCast v155
  let c0_89 : Index := 0#32
  let c0_90 : Index := 0#32
  ![v156.toNat, 0, 0]
def k0_off46 (k0_t1 : Fin k0_t1_loop.trips) (c0_i32_86 : BitVec 32) : Fin 3 → Nat :=
  let c0_91 : Index := 0#32
  let c0_92 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v152 : BitVec 32 := Scalar.addi v84 c0_i32_86
  let c256_i32_87 : BitVec 32 := 256#32
  let v153 : BitVec 32 := Scalar.muli v152 c256_i32_87
  let v154 : BitVec 32 := v153
  let v164 : Index := Scalar.indexCast v154
  ![0, 0, v164.toNat]
def k0_off47 (k0_t1 : Fin k0_t1_loop.trips) (c0_i32_86 : BitVec 32) : Fin 3 → Nat :=
  let c0_97 : Index := 0#32
  let c64 : Index := 64#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v152 : BitVec 32 := Scalar.addi v84 c0_i32_86
  let c256_i32_87 : BitVec 32 := 256#32
  let v153 : BitVec 32 := Scalar.muli v152 c256_i32_87
  let v154 : BitVec 32 := v153
  let v183 : Index := Scalar.indexCast v154
  ![0, 64, v183.toNat]
def k0_mult130 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_99 : BitVec 32 := 1#32
  let v193 : BitVec 32 := Scalar.addi v84 c1_i32_99
  let c1_i32_100 : BitVec 32 := 1#32
  let v194 : BitVec 32 := Scalar.addi v193 c1_i32_100
  let c256_i32_101 : BitVec 32 := 256#32
  let v195 : BitVec 32 := Scalar.muli v194 c256_i32_101
  v195
def k0_mult131 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_122 : BitVec 32 := 1#32
  let v223 : BitVec 32 := Scalar.addi v84 c1_i32_122
  let c256_i32_123 : BitVec 32 := 256#32
  let v224 : BitVec 32 := Scalar.muli v223 c256_i32_123
  v224
def k0_mult132 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c2_i32_136 : BitVec 32 := 2#32
  let v264 : BitVec 32 := Scalar.addi v84 c2_i32_136
  let c1_i32_137 : BitVec 32 := 1#32
  let v265 : BitVec 32 := Scalar.addi v264 c1_i32_137
  let c256_i32_138 : BitVec 32 := 256#32
  let v266 : BitVec 32 := Scalar.muli v265 c256_i32_138
  v266
def k0_mult133 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c2_i32_159 : BitVec 32 := 2#32
  let v294 : BitVec 32 := Scalar.addi v84 c2_i32_159
  let c256_i32_160 : BitVec 32 := 256#32
  let v295 : BitVec 32 := Scalar.muli v294 c256_i32_160
  v295
def k0_mult134 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c3_i32 : BitVec 32 := 3#32
  let v335 : BitVec 32 := Scalar.addi v84 c3_i32
  let c1_i32_173 : BitVec 32 := 1#32
  let v336 : BitVec 32 := Scalar.addi v335 c1_i32_173
  let c256_i32_174 : BitVec 32 := 256#32
  let v337 : BitVec 32 := Scalar.muli v336 c256_i32_174
  v337
def k0_mult135 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c3_i32_195 : BitVec 32 := 3#32
  let v365 : BitVec 32 := Scalar.addi v84 c3_i32_195
  let c256_i32_196 : BitVec 32 := 256#32
  let v366 : BitVec 32 := Scalar.muli v365 c256_i32_196
  v366
def k0_mult136 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c4_i32 : BitVec 32 := 4#32
  let v406 : BitVec 32 := Scalar.addi v84 c4_i32
  let c1_i32_209 : BitVec 32 := 1#32
  let v407 : BitVec 32 := Scalar.addi v406 c1_i32_209
  let c256_i32_210 : BitVec 32 := 256#32
  let v408 : BitVec 32 := Scalar.muli v407 c256_i32_210
  v408
def k0_mult137 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c4_i32_231 : BitVec 32 := 4#32
  let v436 : BitVec 32 := Scalar.addi v84 c4_i32_231
  let c256_i32_232 : BitVec 32 := 256#32
  let v437 : BitVec 32 := Scalar.muli v436 c256_i32_232
  v437
def k0_mult138 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c5_i32 : BitVec 32 := 5#32
  let v477 : BitVec 32 := Scalar.addi v84 c5_i32
  let c1_i32_245 : BitVec 32 := 1#32
  let v478 : BitVec 32 := Scalar.addi v477 c1_i32_245
  let c256_i32_246 : BitVec 32 := 256#32
  let v479 : BitVec 32 := Scalar.muli v478 c256_i32_246
  v479
def k0_mult139 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c5_i32_267 : BitVec 32 := 5#32
  let v507 : BitVec 32 := Scalar.addi v84 c5_i32_267
  let c256_i32_268 : BitVec 32 := 256#32
  let v508 : BitVec 32 := Scalar.muli v507 c256_i32_268
  v508
def k0_mult140 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c6_i32 : BitVec 32 := 6#32
  let v548 : BitVec 32 := Scalar.addi v84 c6_i32
  let c1_i32_281 : BitVec 32 := 1#32
  let v549 : BitVec 32 := Scalar.addi v548 c1_i32_281
  let c256_i32_282 : BitVec 32 := 256#32
  let v550 : BitVec 32 := Scalar.muli v549 c256_i32_282
  v550
def k0_mult141 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c6_i32_303 : BitVec 32 := 6#32
  let v578 : BitVec 32 := Scalar.addi v84 c6_i32_303
  let c256_i32_304 : BitVec 32 := 256#32
  let v579 : BitVec 32 := Scalar.muli v578 c256_i32_304
  v579
def k0_mult142 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c7_i32_317 : BitVec 32 := 7#32
  let v619 : BitVec 32 := Scalar.addi v84 c7_i32_317
  let c1_i32_318 : BitVec 32 := 1#32
  let v620 : BitVec 32 := Scalar.addi v619 c1_i32_318
  let c256_i32_319 : BitVec 32 := 256#32
  let v621 : BitVec 32 := Scalar.muli v620 c256_i32_319
  v621
def k0_mult143 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c7_i32_340 : BitVec 32 := 7#32
  let v649 : BitVec 32 := Scalar.addi v84 c7_i32_340
  let c256_i32_341 : BitVec 32 := 256#32
  let v650 : BitVec 32 := Scalar.muli v649 c256_i32_341
  v650
def k0_mult144 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c8_i32 : BitVec 32 := 8#32
  let v690 : BitVec 32 := Scalar.addi v84 c8_i32
  let c1_i32_354 : BitVec 32 := 1#32
  let v691 : BitVec 32 := Scalar.addi v690 c1_i32_354
  let c256_i32_355 : BitVec 32 := 256#32
  let v692 : BitVec 32 := Scalar.muli v691 c256_i32_355
  v692
def k0_mult145 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c8_i32_376 : BitVec 32 := 8#32
  let v720 : BitVec 32 := Scalar.addi v84 c8_i32_376
  let c256_i32_377 : BitVec 32 := 256#32
  let v721 : BitVec 32 := Scalar.muli v720 c256_i32_377
  v721
def k0_mult146 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c9_i32 : BitVec 32 := 9#32
  let v761 : BitVec 32 := Scalar.addi v84 c9_i32
  let c1_i32_390 : BitVec 32 := 1#32
  let v762 : BitVec 32 := Scalar.addi v761 c1_i32_390
  let c256_i32_391 : BitVec 32 := 256#32
  let v763 : BitVec 32 := Scalar.muli v762 c256_i32_391
  v763
def k0_mult147 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c9_i32_410 : BitVec 32 := 9#32
  let v787 : BitVec 32 := Scalar.addi v84 c9_i32_410
  let c256_i32_411 : BitVec 32 := 256#32
  let v788 : BitVec 32 := Scalar.muli v787 c256_i32_411
  v788
def k0_mult148 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c10_i32 : BitVec 32 := 10#32
  let v828 : BitVec 32 := Scalar.addi v84 c10_i32
  let c1_i32_424 : BitVec 32 := 1#32
  let v829 : BitVec 32 := Scalar.addi v828 c1_i32_424
  let c256_i32_425 : BitVec 32 := 256#32
  let v830 : BitVec 32 := Scalar.muli v829 c256_i32_425
  v830
def k0_off48 (k0_t1 : Fin k0_t1_loop.trips) : Fin 3 → Nat :=
  let c0_429 : Index := 0#32
  let c0_430 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_428 : BitVec 32 := 256#32
  let v835 : BitVec 32 := Scalar.addi v33 c256_i32_428
  let v836 : Index := Scalar.indexCast v835
  ![0, 0, v836.toNat]
def k0_off49 (k0_t1 : Fin k0_t1_loop.trips) : Fin 3 → Nat :=
  let c0_437 : Index := 0#32
  let c128_438 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_436 : BitVec 32 := 256#32
  let v846 : BitVec 32 := Scalar.addi v33 c256_i32_436
  let v847 : Index := Scalar.indexCast v846
  ![0, 128, v847.toNat]
def k0_mult149 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c10_i32_443 : BitVec 32 := 10#32
  let v854 : BitVec 32 := Scalar.addi v84 c10_i32_443
  let c256_i32_444 : BitVec 32 := 256#32
  let v855 : BitVec 32 := Scalar.muli v854 c256_i32_444
  v855
def k0_mult150 : BitVec 32 :=
  let c0_i32_461 : BitVec 32 := 0#32
  c0_i32_461
def k0_off50 (k0_t1 : Fin k0_t1_loop.trips) : Fin 3 → Nat :=
  let c0_465 : Index := 0#32
  let c0_466 : Index := 0#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_464 : BitVec 32 := 0#32
  let v913 : BitVec 32 := Scalar.addi v37 c0_i32_464
  let v914 : Index := Scalar.indexCast v913
  ![0, 0, v914.toNat]
def k0_off51 (k0_t1 : Fin k0_t1_loop.trips) : Fin 3 → Nat :=
  let c0_475 : Index := 0#32
  let c128_476 : Index := 128#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_474 : BitVec 32 := 0#32
  let v926 : BitVec 32 := Scalar.addi v37 c0_i32_474
  let v927 : Index := Scalar.indexCast v926
  ![0, 128, v927.toNat]
def k0_mult151 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c11_i32 : BitVec 32 := 11#32
  let v936 : BitVec 32 := Scalar.addi v84 c11_i32
  let c256_i32_482 : BitVec 32 := 256#32
  let v937 : BitVec 32 := Scalar.muli v936 c256_i32_482
  v937
def k0_off52 (i : grid0.Coords) (c0_i32_483 : BitVec 32) : Fin 3 → Nat :=
  let arg0 : BitVec 32 := BitVec.ofNat 32 (i 0).val
  let c0_i32_0 : BitVec 32 := 0#32
  let v6 : BitVec 32 := Scalar.minsi arg0 c0_i32_0
  let v939 : BitVec 32 := Scalar.addi c0_i32_483 v6
  let v940 : Index := Scalar.indexCast v939
  let c0_484 : Index := 0#32
  let c256_485 : Index := 256#32
  ![v940.toNat, 0, 256]
def k0_off53 (k0_t1 : Fin k0_t1_loop.trips) : Fin 3 → Nat :=
  let c0_499 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let v1012 : Index := Scalar.indexCast v33
  let c0_500 : Index := 0#32
  ![0, v1012.toNat, 0]
def k0_mult152 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_62 : BitVec 32 := 0#32
  let v119 : BitVec 32 := Scalar.addi v84 c0_i32_62
  let c1_i32_63 : BitVec 32 := 1#32
  let v120 : BitVec 32 := Scalar.addi v119 c1_i32_63
  let c256_i32 : BitVec 32 := 256#32
  let v121 : BitVec 32 := Scalar.muli v120 c256_i32
  v121
def k0_off54 (k0_t1 : Fin k0_t1_loop.trips) (c0_i32_62 : BitVec 32) : Fin 3 → Nat :=
  let c0_64 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v119 : BitVec 32 := Scalar.addi v84 c0_i32_62
  let c1_i32_63 : BitVec 32 := 1#32
  let v120 : BitVec 32 := Scalar.addi v119 c1_i32_63
  let c256_i32 : BitVec 32 := 256#32
  let v121 : BitVec 32 := Scalar.muli v120 c256_i32
  let v122 : BitVec 32 := v121
  let v123 : Index := Scalar.indexCast v122
  let c0_65 : Index := 0#32
  ![0, v123.toNat, 0]
def k0_off55 (k0_t1 : Fin k0_t1_loop.trips) : Fin 3 → Nat :=
  let c0_67 : Index := 0#32
  let c0_68 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_66 : BitVec 32 := 0#32
  let v126 : BitVec 32 := Scalar.addi v33 c0_i32_66
  let v127 : Index := Scalar.indexCast v126
  ![0, 0, v127.toNat]
def k0_off56 (k0_t1 : Fin k0_t1_loop.trips) (c0_i32_62 : BitVec 32) : Fin 3 → Nat :=
  let c0_74 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v119 : BitVec 32 := Scalar.addi v84 c0_i32_62
  let c1_i32_63 : BitVec 32 := 1#32
  let v120 : BitVec 32 := Scalar.addi v119 c1_i32_63
  let c256_i32 : BitVec 32 := 256#32
  let v121 : BitVec 32 := Scalar.muli v120 c256_i32
  let v122 : BitVec 32 := v121
  let v136 : Index := Scalar.indexCast v122
  let c128_75 : Index := 128#32
  ![0, v136.toNat, 128]
def k0_off57 (k0_t1 : Fin k0_t1_loop.trips) : Fin 3 → Nat :=
  let c0_77 : Index := 0#32
  let c128_78 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_76 : BitVec 32 := 0#32
  let v139 : BitVec 32 := Scalar.addi v33 c0_i32_76
  let v140 : Index := Scalar.indexCast v139
  ![0, 128, v140.toNat]
def k0_mult153 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_84 : BitVec 32 := 0#32
  let v149 : BitVec 32 := Scalar.addi v84 c0_i32_84
  let c256_i32_85 : BitVec 32 := 256#32
  let v150 : BitVec 32 := Scalar.muli v149 c256_i32_85
  v150
def k0_off58 (i : grid0.Coords) (c0_i32_86 : BitVec 32) : Fin 3 → Nat :=
  let arg0 : BitVec 32 := BitVec.ofNat 32 (i 0).val
  let c0_i32_0 : BitVec 32 := 0#32
  let v6 : BitVec 32 := Scalar.minsi arg0 c0_i32_0
  let v152 : BitVec 32 := Scalar.addi c0_i32_86 v6
  let v153 : Index := Scalar.indexCast v152
  let c0_87 : Index := 0#32
  let c0_88 : Index := 0#32
  ![v153.toNat, 0, 0]
def k0_off59 (k0_t1 : Fin k0_t1_loop.trips) (c0_i32_84 : BitVec 32) : Fin 3 → Nat :=
  let c0_89 : Index := 0#32
  let c0_90 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v149 : BitVec 32 := Scalar.addi v84 c0_i32_84
  let c256_i32_85 : BitVec 32 := 256#32
  let v150 : BitVec 32 := Scalar.muli v149 c256_i32_85
  let v151 : BitVec 32 := v150
  let v161 : Index := Scalar.indexCast v151
  ![0, 0, v161.toNat]
def k0_off60 (k0_t1 : Fin k0_t1_loop.trips) (c0_i32_84 : BitVec 32) : Fin 3 → Nat :=
  let c0_95 : Index := 0#32
  let c64 : Index := 64#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v149 : BitVec 32 := Scalar.addi v84 c0_i32_84
  let c256_i32_85 : BitVec 32 := 256#32
  let v150 : BitVec 32 := Scalar.muli v149 c256_i32_85
  let v151 : BitVec 32 := v150
  let v180 : Index := Scalar.indexCast v151
  ![0, 64, v180.toNat]
def k0_mult154 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_97 : BitVec 32 := 1#32
  let v190 : BitVec 32 := Scalar.addi v84 c1_i32_97
  let c1_i32_98 : BitVec 32 := 1#32
  let v191 : BitVec 32 := Scalar.addi v190 c1_i32_98
  let c256_i32_99 : BitVec 32 := 256#32
  let v192 : BitVec 32 := Scalar.muli v191 c256_i32_99
  v192
def k0_mult155 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_120 : BitVec 32 := 1#32
  let v220 : BitVec 32 := Scalar.addi v84 c1_i32_120
  let c256_i32_121 : BitVec 32 := 256#32
  let v221 : BitVec 32 := Scalar.muli v220 c256_i32_121
  v221
def k0_mult156 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c2_i32_134 : BitVec 32 := 2#32
  let v261 : BitVec 32 := Scalar.addi v84 c2_i32_134
  let c1_i32_135 : BitVec 32 := 1#32
  let v262 : BitVec 32 := Scalar.addi v261 c1_i32_135
  let c256_i32_136 : BitVec 32 := 256#32
  let v263 : BitVec 32 := Scalar.muli v262 c256_i32_136
  v263
def k0_mult157 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c2_i32_157 : BitVec 32 := 2#32
  let v291 : BitVec 32 := Scalar.addi v84 c2_i32_157
  let c256_i32_158 : BitVec 32 := 256#32
  let v292 : BitVec 32 := Scalar.muli v291 c256_i32_158
  v292
def k0_mult158 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c3_i32 : BitVec 32 := 3#32
  let v332 : BitVec 32 := Scalar.addi v84 c3_i32
  let c1_i32_171 : BitVec 32 := 1#32
  let v333 : BitVec 32 := Scalar.addi v332 c1_i32_171
  let c256_i32_172 : BitVec 32 := 256#32
  let v334 : BitVec 32 := Scalar.muli v333 c256_i32_172
  v334
def k0_mult159 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c3_i32_193 : BitVec 32 := 3#32
  let v362 : BitVec 32 := Scalar.addi v84 c3_i32_193
  let c256_i32_194 : BitVec 32 := 256#32
  let v363 : BitVec 32 := Scalar.muli v362 c256_i32_194
  v363
def k0_mult160 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c4_i32 : BitVec 32 := 4#32
  let v403 : BitVec 32 := Scalar.addi v84 c4_i32
  let c1_i32_207 : BitVec 32 := 1#32
  let v404 : BitVec 32 := Scalar.addi v403 c1_i32_207
  let c256_i32_208 : BitVec 32 := 256#32
  let v405 : BitVec 32 := Scalar.muli v404 c256_i32_208
  v405
def k0_mult161 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c4_i32_229 : BitVec 32 := 4#32
  let v433 : BitVec 32 := Scalar.addi v84 c4_i32_229
  let c256_i32_230 : BitVec 32 := 256#32
  let v434 : BitVec 32 := Scalar.muli v433 c256_i32_230
  v434
def k0_mult162 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c5_i32 : BitVec 32 := 5#32
  let v474 : BitVec 32 := Scalar.addi v84 c5_i32
  let c1_i32_243 : BitVec 32 := 1#32
  let v475 : BitVec 32 := Scalar.addi v474 c1_i32_243
  let c256_i32_244 : BitVec 32 := 256#32
  let v476 : BitVec 32 := Scalar.muli v475 c256_i32_244
  v476
def k0_mult163 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c5_i32_265 : BitVec 32 := 5#32
  let v504 : BitVec 32 := Scalar.addi v84 c5_i32_265
  let c256_i32_266 : BitVec 32 := 256#32
  let v505 : BitVec 32 := Scalar.muli v504 c256_i32_266
  v505
def k0_mult164 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c6_i32 : BitVec 32 := 6#32
  let v545 : BitVec 32 := Scalar.addi v84 c6_i32
  let c1_i32_279 : BitVec 32 := 1#32
  let v546 : BitVec 32 := Scalar.addi v545 c1_i32_279
  let c256_i32_280 : BitVec 32 := 256#32
  let v547 : BitVec 32 := Scalar.muli v546 c256_i32_280
  v547
def k0_mult165 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c6_i32_301 : BitVec 32 := 6#32
  let v575 : BitVec 32 := Scalar.addi v84 c6_i32_301
  let c256_i32_302 : BitVec 32 := 256#32
  let v576 : BitVec 32 := Scalar.muli v575 c256_i32_302
  v576
def k0_mult166 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c7_i32_315 : BitVec 32 := 7#32
  let v616 : BitVec 32 := Scalar.addi v84 c7_i32_315
  let c1_i32_316 : BitVec 32 := 1#32
  let v617 : BitVec 32 := Scalar.addi v616 c1_i32_316
  let c256_i32_317 : BitVec 32 := 256#32
  let v618 : BitVec 32 := Scalar.muli v617 c256_i32_317
  v618
def k0_mult167 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c7_i32_336 : BitVec 32 := 7#32
  let v642 : BitVec 32 := Scalar.addi v84 c7_i32_336
  let c256_i32_337 : BitVec 32 := 256#32
  let v643 : BitVec 32 := Scalar.muli v642 c256_i32_337
  v643
def k0_mult168 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c8_i32 : BitVec 32 := 8#32
  let v683 : BitVec 32 := Scalar.addi v84 c8_i32
  let c1_i32_350 : BitVec 32 := 1#32
  let v684 : BitVec 32 := Scalar.addi v683 c1_i32_350
  let c256_i32_351 : BitVec 32 := 256#32
  let v685 : BitVec 32 := Scalar.muli v684 c256_i32_351
  v685
def k0_off61 (k0_t1 : Fin k0_t1_loop.trips) : Fin 3 → Nat :=
  let c0_355 : Index := 0#32
  let c0_356 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_354 : BitVec 32 := 256#32
  let v690 : BitVec 32 := Scalar.addi v33 c256_i32_354
  let v691 : Index := Scalar.indexCast v690
  ![0, 0, v691.toNat]
def k0_off62 (k0_t1 : Fin k0_t1_loop.trips) : Fin 3 → Nat :=
  let c0_363 : Index := 0#32
  let c128_364 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_362 : BitVec 32 := 256#32
  let v701 : BitVec 32 := Scalar.addi v33 c256_i32_362
  let v702 : Index := Scalar.indexCast v701
  ![0, 128, v702.toNat]
def k0_mult169 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c8_i32_369 : BitVec 32 := 8#32
  let v709 : BitVec 32 := Scalar.addi v84 c8_i32_369
  let c256_i32_370 : BitVec 32 := 256#32
  let v710 : BitVec 32 := Scalar.muli v709 c256_i32_370
  v710
def k0_mult170 : BitVec 32 :=
  let c0_i32_387 : BitVec 32 := 0#32
  c0_i32_387
def k0_off63 (k0_t1 : Fin k0_t1_loop.trips) : Fin 3 → Nat :=
  let c0_391 : Index := 0#32
  let c0_392 : Index := 0#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_390 : BitVec 32 := 0#32
  let v768 : BitVec 32 := Scalar.addi v37 c0_i32_390
  let v769 : Index := Scalar.indexCast v768
  ![0, 0, v769.toNat]
def k0_off64 (k0_t1 : Fin k0_t1_loop.trips) : Fin 3 → Nat :=
  let c0_401 : Index := 0#32
  let c128_402 : Index := 128#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_400 : BitVec 32 := 0#32
  let v781 : BitVec 32 := Scalar.addi v37 c0_i32_400
  let v782 : Index := Scalar.indexCast v781
  ![0, 128, v782.toNat]
def k0_mult171 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c9_i32 : BitVec 32 := 9#32
  let v791 : BitVec 32 := Scalar.addi v84 c9_i32
  let c256_i32_408 : BitVec 32 := 256#32
  let v792 : BitVec 32 := Scalar.muli v791 c256_i32_408
  v792
def k0_off65 (i : grid0.Coords) (c0_i32_409 : BitVec 32) : Fin 3 → Nat :=
  let arg0 : BitVec 32 := BitVec.ofNat 32 (i 0).val
  let c0_i32_0 : BitVec 32 := 0#32
  let v6 : BitVec 32 := Scalar.minsi arg0 c0_i32_0
  let v794 : BitVec 32 := Scalar.addi c0_i32_409 v6
  let v795 : Index := Scalar.indexCast v794
  let c0_410 : Index := 0#32
  let c256_411 : Index := 256#32
  ![v795.toNat, 0, 256]
def k0_off66 (k0_t1 : Fin k0_t1_loop.trips) : Fin 3 → Nat :=
  let c0_425 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let v867 : Index := Scalar.indexCast v33
  let c0_426 : Index := 0#32
  ![0, v867.toNat, 0]
def k0_mult172 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_60 : BitVec 32 := 0#32
  let v116 : BitVec 32 := Scalar.addi v84 c0_i32_60
  let c1_i32_61 : BitVec 32 := 1#32
  let v117 : BitVec 32 := Scalar.addi v116 c1_i32_61
  let c256_i32 : BitVec 32 := 256#32
  let v118 : BitVec 32 := Scalar.muli v117 c256_i32
  v118
def k0_off67 (k0_t1 : Fin k0_t1_loop.trips) (c0_i32_60 : BitVec 32) : Fin 3 → Nat :=
  let c0_62 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v116 : BitVec 32 := Scalar.addi v84 c0_i32_60
  let c1_i32_61 : BitVec 32 := 1#32
  let v117 : BitVec 32 := Scalar.addi v116 c1_i32_61
  let c256_i32 : BitVec 32 := 256#32
  let v118 : BitVec 32 := Scalar.muli v117 c256_i32
  let v119 : BitVec 32 := v118
  let v120 : Index := Scalar.indexCast v119
  let c0_63 : Index := 0#32
  ![0, v120.toNat, 0]
def k0_off68 (k0_t1 : Fin k0_t1_loop.trips) : Fin 3 → Nat :=
  let c0_65 : Index := 0#32
  let c0_66 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_64 : BitVec 32 := 0#32
  let v123 : BitVec 32 := Scalar.addi v33 c0_i32_64
  let v124 : Index := Scalar.indexCast v123
  ![0, 0, v124.toNat]
def k0_off69 (k0_t1 : Fin k0_t1_loop.trips) (c0_i32_60 : BitVec 32) : Fin 3 → Nat :=
  let c0_72 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v116 : BitVec 32 := Scalar.addi v84 c0_i32_60
  let c1_i32_61 : BitVec 32 := 1#32
  let v117 : BitVec 32 := Scalar.addi v116 c1_i32_61
  let c256_i32 : BitVec 32 := 256#32
  let v118 : BitVec 32 := Scalar.muli v117 c256_i32
  let v119 : BitVec 32 := v118
  let v133 : Index := Scalar.indexCast v119
  let c128_73 : Index := 128#32
  ![0, v133.toNat, 128]
def k0_off70 (k0_t1 : Fin k0_t1_loop.trips) : Fin 3 → Nat :=
  let c0_75 : Index := 0#32
  let c128_76 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_74 : BitVec 32 := 0#32
  let v136 : BitVec 32 := Scalar.addi v33 c0_i32_74
  let v137 : Index := Scalar.indexCast v136
  ![0, 128, v137.toNat]
def k0_mult173 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_82 : BitVec 32 := 0#32
  let v146 : BitVec 32 := Scalar.addi v84 c0_i32_82
  let c256_i32_83 : BitVec 32 := 256#32
  let v147 : BitVec 32 := Scalar.muli v146 c256_i32_83
  v147
def k0_off71 (i : grid0.Coords) (c0_i32_84 : BitVec 32) : Fin 3 → Nat :=
  let arg0 : BitVec 32 := BitVec.ofNat 32 (i 0).val
  let c0_i32_0 : BitVec 32 := 0#32
  let v6 : BitVec 32 := Scalar.minsi arg0 c0_i32_0
  let v149 : BitVec 32 := Scalar.addi c0_i32_84 v6
  let v150 : Index := Scalar.indexCast v149
  let c0_85 : Index := 0#32
  let c0_86 : Index := 0#32
  ![v150.toNat, 0, 0]
def k0_off72 (k0_t1 : Fin k0_t1_loop.trips) (c0_i32_82 : BitVec 32) : Fin 3 → Nat :=
  let c0_87 : Index := 0#32
  let c0_88 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v146 : BitVec 32 := Scalar.addi v84 c0_i32_82
  let c256_i32_83 : BitVec 32 := 256#32
  let v147 : BitVec 32 := Scalar.muli v146 c256_i32_83
  let v148 : BitVec 32 := v147
  let v158 : Index := Scalar.indexCast v148
  ![0, 0, v158.toNat]
def k0_off73 (k0_t1 : Fin k0_t1_loop.trips) (c0_i32_82 : BitVec 32) : Fin 3 → Nat :=
  let c0_93 : Index := 0#32
  let c64 : Index := 64#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v146 : BitVec 32 := Scalar.addi v84 c0_i32_82
  let c256_i32_83 : BitVec 32 := 256#32
  let v147 : BitVec 32 := Scalar.muli v146 c256_i32_83
  let v148 : BitVec 32 := v147
  let v177 : Index := Scalar.indexCast v148
  ![0, 64, v177.toNat]
def k0_mult174 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_95 : BitVec 32 := 1#32
  let v187 : BitVec 32 := Scalar.addi v84 c1_i32_95
  let c1_i32_96 : BitVec 32 := 1#32
  let v188 : BitVec 32 := Scalar.addi v187 c1_i32_96
  let c256_i32_97 : BitVec 32 := 256#32
  let v189 : BitVec 32 := Scalar.muli v188 c256_i32_97
  v189
def k0_mult175 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_118 : BitVec 32 := 1#32
  let v217 : BitVec 32 := Scalar.addi v84 c1_i32_118
  let c256_i32_119 : BitVec 32 := 256#32
  let v218 : BitVec 32 := Scalar.muli v217 c256_i32_119
  v218
def k0_mult176 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c2_i32_132 : BitVec 32 := 2#32
  let v258 : BitVec 32 := Scalar.addi v84 c2_i32_132
  let c1_i32_133 : BitVec 32 := 1#32
  let v259 : BitVec 32 := Scalar.addi v258 c1_i32_133
  let c256_i32_134 : BitVec 32 := 256#32
  let v260 : BitVec 32 := Scalar.muli v259 c256_i32_134
  v260
def k0_mult177 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c2_i32_155 : BitVec 32 := 2#32
  let v288 : BitVec 32 := Scalar.addi v84 c2_i32_155
  let c256_i32_156 : BitVec 32 := 256#32
  let v289 : BitVec 32 := Scalar.muli v288 c256_i32_156
  v289
def k0_mult178 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c3_i32 : BitVec 32 := 3#32
  let v329 : BitVec 32 := Scalar.addi v84 c3_i32
  let c1_i32_169 : BitVec 32 := 1#32
  let v330 : BitVec 32 := Scalar.addi v329 c1_i32_169
  let c256_i32_170 : BitVec 32 := 256#32
  let v331 : BitVec 32 := Scalar.muli v330 c256_i32_170
  v331
def k0_mult179 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c3_i32_191 : BitVec 32 := 3#32
  let v359 : BitVec 32 := Scalar.addi v84 c3_i32_191
  let c256_i32_192 : BitVec 32 := 256#32
  let v360 : BitVec 32 := Scalar.muli v359 c256_i32_192
  v360
def k0_mult180 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c4_i32 : BitVec 32 := 4#32
  let v400 : BitVec 32 := Scalar.addi v84 c4_i32
  let c1_i32_205 : BitVec 32 := 1#32
  let v401 : BitVec 32 := Scalar.addi v400 c1_i32_205
  let c256_i32_206 : BitVec 32 := 256#32
  let v402 : BitVec 32 := Scalar.muli v401 c256_i32_206
  v402
def k0_mult181 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c4_i32_227 : BitVec 32 := 4#32
  let v430 : BitVec 32 := Scalar.addi v84 c4_i32_227
  let c256_i32_228 : BitVec 32 := 256#32
  let v431 : BitVec 32 := Scalar.muli v430 c256_i32_228
  v431
def k0_mult182 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c5_i32 : BitVec 32 := 5#32
  let v471 : BitVec 32 := Scalar.addi v84 c5_i32
  let c1_i32_241 : BitVec 32 := 1#32
  let v472 : BitVec 32 := Scalar.addi v471 c1_i32_241
  let c256_i32_242 : BitVec 32 := 256#32
  let v473 : BitVec 32 := Scalar.muli v472 c256_i32_242
  v473
def k0_mult183 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c5_i32_261 : BitVec 32 := 5#32
  let v497 : BitVec 32 := Scalar.addi v84 c5_i32_261
  let c256_i32_262 : BitVec 32 := 256#32
  let v498 : BitVec 32 := Scalar.muli v497 c256_i32_262
  v498
def k0_mult184 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c6_i32 : BitVec 32 := 6#32
  let v538 : BitVec 32 := Scalar.addi v84 c6_i32
  let c1_i32_275 : BitVec 32 := 1#32
  let v539 : BitVec 32 := Scalar.addi v538 c1_i32_275
  let c256_i32_276 : BitVec 32 := 256#32
  let v540 : BitVec 32 := Scalar.muli v539 c256_i32_276
  v540
def k0_off74 (k0_t1 : Fin k0_t1_loop.trips) : Fin 3 → Nat :=
  let c0_280 : Index := 0#32
  let c0_281 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_279 : BitVec 32 := 256#32
  let v545 : BitVec 32 := Scalar.addi v33 c256_i32_279
  let v546 : Index := Scalar.indexCast v545
  ![0, 0, v546.toNat]
def k0_off75 (k0_t1 : Fin k0_t1_loop.trips) : Fin 3 → Nat :=
  let c0_288 : Index := 0#32
  let c128_289 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_287 : BitVec 32 := 256#32
  let v556 : BitVec 32 := Scalar.addi v33 c256_i32_287
  let v557 : Index := Scalar.indexCast v556
  ![0, 128, v557.toNat]
def k0_mult185 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c6_i32_294 : BitVec 32 := 6#32
  let v564 : BitVec 32 := Scalar.addi v84 c6_i32_294
  let c256_i32_295 : BitVec 32 := 256#32
  let v565 : BitVec 32 := Scalar.muli v564 c256_i32_295
  v565
def k0_mult186 : BitVec 32 :=
  let c0_i32_312 : BitVec 32 := 0#32
  c0_i32_312
def k0_off76 (k0_t1 : Fin k0_t1_loop.trips) : Fin 3 → Nat :=
  let c0_316 : Index := 0#32
  let c0_317 : Index := 0#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_315 : BitVec 32 := 0#32
  let v623 : BitVec 32 := Scalar.addi v37 c0_i32_315
  let v624 : Index := Scalar.indexCast v623
  ![0, 0, v624.toNat]
def k0_off77 (k0_t1 : Fin k0_t1_loop.trips) : Fin 3 → Nat :=
  let c0_326 : Index := 0#32
  let c128_327 : Index := 128#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_325 : BitVec 32 := 0#32
  let v636 : BitVec 32 := Scalar.addi v37 c0_i32_325
  let v637 : Index := Scalar.indexCast v636
  ![0, 128, v637.toNat]
def k0_mult187 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c7_i32_333 : BitVec 32 := 7#32
  let v646 : BitVec 32 := Scalar.addi v84 c7_i32_333
  let c256_i32_334 : BitVec 32 := 256#32
  let v647 : BitVec 32 := Scalar.muli v646 c256_i32_334
  v647
def k0_off78 (i : grid0.Coords) (c0_i32_335 : BitVec 32) : Fin 3 → Nat :=
  let arg0 : BitVec 32 := BitVec.ofNat 32 (i 0).val
  let c0_i32_0 : BitVec 32 := 0#32
  let v6 : BitVec 32 := Scalar.minsi arg0 c0_i32_0
  let v649 : BitVec 32 := Scalar.addi c0_i32_335 v6
  let v650 : Index := Scalar.indexCast v649
  let c0_336 : Index := 0#32
  let c256_337 : Index := 256#32
  ![v650.toNat, 0, 256]
def k0_off79 (k0_t1 : Fin k0_t1_loop.trips) : Fin 3 → Nat :=
  let c0_351 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let v722 : Index := Scalar.indexCast v33
  let c0_352 : Index := 0#32
  ![0, v722.toNat, 0]
def k0_mult188 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_58 : BitVec 32 := 0#32
  let v113 : BitVec 32 := Scalar.addi v84 c0_i32_58
  let c1_i32_59 : BitVec 32 := 1#32
  let v114 : BitVec 32 := Scalar.addi v113 c1_i32_59
  let c256_i32 : BitVec 32 := 256#32
  let v115 : BitVec 32 := Scalar.muli v114 c256_i32
  v115
def k0_off80 (k0_t1 : Fin k0_t1_loop.trips) (c0_i32_58 : BitVec 32) : Fin 3 → Nat :=
  let c0_60 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v113 : BitVec 32 := Scalar.addi v84 c0_i32_58
  let c1_i32_59 : BitVec 32 := 1#32
  let v114 : BitVec 32 := Scalar.addi v113 c1_i32_59
  let c256_i32 : BitVec 32 := 256#32
  let v115 : BitVec 32 := Scalar.muli v114 c256_i32
  let v116 : BitVec 32 := v115
  let v117 : Index := Scalar.indexCast v116
  let c0_61 : Index := 0#32
  ![0, v117.toNat, 0]
def k0_off81 (k0_t1 : Fin k0_t1_loop.trips) : Fin 3 → Nat :=
  let c0_63 : Index := 0#32
  let c0_64 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_62 : BitVec 32 := 0#32
  let v120 : BitVec 32 := Scalar.addi v33 c0_i32_62
  let v121 : Index := Scalar.indexCast v120
  ![0, 0, v121.toNat]
def k0_off82 (k0_t1 : Fin k0_t1_loop.trips) (c0_i32_58 : BitVec 32) : Fin 3 → Nat :=
  let c0_70 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v113 : BitVec 32 := Scalar.addi v84 c0_i32_58
  let c1_i32_59 : BitVec 32 := 1#32
  let v114 : BitVec 32 := Scalar.addi v113 c1_i32_59
  let c256_i32 : BitVec 32 := 256#32
  let v115 : BitVec 32 := Scalar.muli v114 c256_i32
  let v116 : BitVec 32 := v115
  let v130 : Index := Scalar.indexCast v116
  let c128_71 : Index := 128#32
  ![0, v130.toNat, 128]
def k0_off83 (k0_t1 : Fin k0_t1_loop.trips) : Fin 3 → Nat :=
  let c0_73 : Index := 0#32
  let c128_74 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_72 : BitVec 32 := 0#32
  let v133 : BitVec 32 := Scalar.addi v33 c0_i32_72
  let v134 : Index := Scalar.indexCast v133
  ![0, 128, v134.toNat]
def k0_mult189 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_80 : BitVec 32 := 0#32
  let v143 : BitVec 32 := Scalar.addi v84 c0_i32_80
  let c256_i32_81 : BitVec 32 := 256#32
  let v144 : BitVec 32 := Scalar.muli v143 c256_i32_81
  v144
def k0_off84 (i : grid0.Coords) (c0_i32_82 : BitVec 32) : Fin 3 → Nat :=
  let arg0 : BitVec 32 := BitVec.ofNat 32 (i 0).val
  let c0_i32_0 : BitVec 32 := 0#32
  let v6 : BitVec 32 := Scalar.minsi arg0 c0_i32_0
  let v146 : BitVec 32 := Scalar.addi c0_i32_82 v6
  let v147 : Index := Scalar.indexCast v146
  let c0_83 : Index := 0#32
  let c0_84 : Index := 0#32
  ![v147.toNat, 0, 0]
def k0_off85 (k0_t1 : Fin k0_t1_loop.trips) (c0_i32_80 : BitVec 32) : Fin 3 → Nat :=
  let c0_85 : Index := 0#32
  let c0_86 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v143 : BitVec 32 := Scalar.addi v84 c0_i32_80
  let c256_i32_81 : BitVec 32 := 256#32
  let v144 : BitVec 32 := Scalar.muli v143 c256_i32_81
  let v145 : BitVec 32 := v144
  let v155 : Index := Scalar.indexCast v145
  ![0, 0, v155.toNat]
def k0_off86 (k0_t1 : Fin k0_t1_loop.trips) (c0_i32_80 : BitVec 32) : Fin 3 → Nat :=
  let c0_91 : Index := 0#32
  let c64 : Index := 64#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v143 : BitVec 32 := Scalar.addi v84 c0_i32_80
  let c256_i32_81 : BitVec 32 := 256#32
  let v144 : BitVec 32 := Scalar.muli v143 c256_i32_81
  let v145 : BitVec 32 := v144
  let v174 : Index := Scalar.indexCast v145
  ![0, 64, v174.toNat]
def k0_mult190 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_93 : BitVec 32 := 1#32
  let v184 : BitVec 32 := Scalar.addi v84 c1_i32_93
  let c1_i32_94 : BitVec 32 := 1#32
  let v185 : BitVec 32 := Scalar.addi v184 c1_i32_94
  let c256_i32_95 : BitVec 32 := 256#32
  let v186 : BitVec 32 := Scalar.muli v185 c256_i32_95
  v186
def k0_mult191 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_116 : BitVec 32 := 1#32
  let v214 : BitVec 32 := Scalar.addi v84 c1_i32_116
  let c256_i32_117 : BitVec 32 := 256#32
  let v215 : BitVec 32 := Scalar.muli v214 c256_i32_117
  v215
def k0_mult192 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c2_i32_130 : BitVec 32 := 2#32
  let v255 : BitVec 32 := Scalar.addi v84 c2_i32_130
  let c1_i32_131 : BitVec 32 := 1#32
  let v256 : BitVec 32 := Scalar.addi v255 c1_i32_131
  let c256_i32_132 : BitVec 32 := 256#32
  let v257 : BitVec 32 := Scalar.muli v256 c256_i32_132
  v257
def k0_mult193 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c2_i32_153 : BitVec 32 := 2#32
  let v285 : BitVec 32 := Scalar.addi v84 c2_i32_153
  let c256_i32_154 : BitVec 32 := 256#32
  let v286 : BitVec 32 := Scalar.muli v285 c256_i32_154
  v286
def k0_mult194 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c3_i32 : BitVec 32 := 3#32
  let v326 : BitVec 32 := Scalar.addi v84 c3_i32
  let c1_i32_167 : BitVec 32 := 1#32
  let v327 : BitVec 32 := Scalar.addi v326 c1_i32_167
  let c256_i32_168 : BitVec 32 := 256#32
  let v328 : BitVec 32 := Scalar.muli v327 c256_i32_168
  v328
def k0_mult195 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c3_i32_187 : BitVec 32 := 3#32
  let v352 : BitVec 32 := Scalar.addi v84 c3_i32_187
  let c256_i32_188 : BitVec 32 := 256#32
  let v353 : BitVec 32 := Scalar.muli v352 c256_i32_188
  v353
def k0_mult196 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c4_i32 : BitVec 32 := 4#32
  let v393 : BitVec 32 := Scalar.addi v84 c4_i32
  let c1_i32_201 : BitVec 32 := 1#32
  let v394 : BitVec 32 := Scalar.addi v393 c1_i32_201
  let c256_i32_202 : BitVec 32 := 256#32
  let v395 : BitVec 32 := Scalar.muli v394 c256_i32_202
  v395
def k0_off87 (k0_t1 : Fin k0_t1_loop.trips) : Fin 3 → Nat :=
  let c0_206 : Index := 0#32
  let c0_207 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_205 : BitVec 32 := 256#32
  let v400 : BitVec 32 := Scalar.addi v33 c256_i32_205
  let v401 : Index := Scalar.indexCast v400
  ![0, 0, v401.toNat]
def k0_off88 (k0_t1 : Fin k0_t1_loop.trips) : Fin 3 → Nat :=
  let c0_214 : Index := 0#32
  let c128_215 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_213 : BitVec 32 := 256#32
  let v411 : BitVec 32 := Scalar.addi v33 c256_i32_213
  let v412 : Index := Scalar.indexCast v411
  ![0, 128, v412.toNat]
def k0_mult197 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c4_i32_220 : BitVec 32 := 4#32
  let v419 : BitVec 32 := Scalar.addi v84 c4_i32_220
  let c256_i32_221 : BitVec 32 := 256#32
  let v420 : BitVec 32 := Scalar.muli v419 c256_i32_221
  v420
def k0_mult198 : BitVec 32 :=
  let c0_i32_238 : BitVec 32 := 0#32
  c0_i32_238
def k0_off89 (k0_t1 : Fin k0_t1_loop.trips) : Fin 3 → Nat :=
  let c0_242 : Index := 0#32
  let c0_243 : Index := 0#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_241 : BitVec 32 := 0#32
  let v478 : BitVec 32 := Scalar.addi v37 c0_i32_241
  let v479 : Index := Scalar.indexCast v478
  ![0, 0, v479.toNat]
def k0_off90 (k0_t1 : Fin k0_t1_loop.trips) : Fin 3 → Nat :=
  let c0_252 : Index := 0#32
  let c128_253 : Index := 128#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_251 : BitVec 32 := 0#32
  let v491 : BitVec 32 := Scalar.addi v37 c0_i32_251
  let v492 : Index := Scalar.indexCast v491
  ![0, 128, v492.toNat]
def k0_mult199 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c5_i32 : BitVec 32 := 5#32
  let v501 : BitVec 32 := Scalar.addi v84 c5_i32
  let c256_i32_259 : BitVec 32 := 256#32
  let v502 : BitVec 32 := Scalar.muli v501 c256_i32_259
  v502
def k0_off91 (i : grid0.Coords) (c0_i32_260 : BitVec 32) : Fin 3 → Nat :=
  let arg0 : BitVec 32 := BitVec.ofNat 32 (i 0).val
  let c0_i32_0 : BitVec 32 := 0#32
  let v6 : BitVec 32 := Scalar.minsi arg0 c0_i32_0
  let v504 : BitVec 32 := Scalar.addi c0_i32_260 v6
  let v505 : Index := Scalar.indexCast v504
  let c0_261 : Index := 0#32
  let c256_262 : Index := 256#32
  ![v505.toNat, 0, 256]
def k0_off92 (k0_t1 : Fin k0_t1_loop.trips) : Fin 3 → Nat :=
  let c0_276 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let v577 : Index := Scalar.indexCast v33
  let c0_277 : Index := 0#32
  ![0, v577.toNat, 0]
def k0_mult200 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_56 : BitVec 32 := 0#32
  let v110 : BitVec 32 := Scalar.addi v84 c0_i32_56
  let c1_i32_57 : BitVec 32 := 1#32
  let v111 : BitVec 32 := Scalar.addi v110 c1_i32_57
  let c256_i32 : BitVec 32 := 256#32
  let v112 : BitVec 32 := Scalar.muli v111 c256_i32
  v112
def k0_off93 (k0_t1 : Fin k0_t1_loop.trips) (c0_i32_56 : BitVec 32) : Fin 3 → Nat :=
  let c0_58 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v110 : BitVec 32 := Scalar.addi v84 c0_i32_56
  let c1_i32_57 : BitVec 32 := 1#32
  let v111 : BitVec 32 := Scalar.addi v110 c1_i32_57
  let c256_i32 : BitVec 32 := 256#32
  let v112 : BitVec 32 := Scalar.muli v111 c256_i32
  let v113 : BitVec 32 := v112
  let v114 : Index := Scalar.indexCast v113
  let c0_59 : Index := 0#32
  ![0, v114.toNat, 0]
def k0_off94 (k0_t1 : Fin k0_t1_loop.trips) : Fin 3 → Nat :=
  let c0_61 : Index := 0#32
  let c0_62 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_60 : BitVec 32 := 0#32
  let v117 : BitVec 32 := Scalar.addi v33 c0_i32_60
  let v118 : Index := Scalar.indexCast v117
  ![0, 0, v118.toNat]
def k0_off95 (k0_t1 : Fin k0_t1_loop.trips) (c0_i32_56 : BitVec 32) : Fin 3 → Nat :=
  let c0_68 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v110 : BitVec 32 := Scalar.addi v84 c0_i32_56
  let c1_i32_57 : BitVec 32 := 1#32
  let v111 : BitVec 32 := Scalar.addi v110 c1_i32_57
  let c256_i32 : BitVec 32 := 256#32
  let v112 : BitVec 32 := Scalar.muli v111 c256_i32
  let v113 : BitVec 32 := v112
  let v127 : Index := Scalar.indexCast v113
  let c128_69 : Index := 128#32
  ![0, v127.toNat, 128]
def k0_off96 (k0_t1 : Fin k0_t1_loop.trips) : Fin 3 → Nat :=
  let c0_71 : Index := 0#32
  let c128_72 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c0_i32_70 : BitVec 32 := 0#32
  let v130 : BitVec 32 := Scalar.addi v33 c0_i32_70
  let v131 : Index := Scalar.indexCast v130
  ![0, 128, v131.toNat]
def k0_mult201 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_78 : BitVec 32 := 0#32
  let v140 : BitVec 32 := Scalar.addi v84 c0_i32_78
  let c256_i32_79 : BitVec 32 := 256#32
  let v141 : BitVec 32 := Scalar.muli v140 c256_i32_79
  v141
def k0_off97 (i : grid0.Coords) (c0_i32_80 : BitVec 32) : Fin 3 → Nat :=
  let arg0 : BitVec 32 := BitVec.ofNat 32 (i 0).val
  let c0_i32_0 : BitVec 32 := 0#32
  let v6 : BitVec 32 := Scalar.minsi arg0 c0_i32_0
  let v143 : BitVec 32 := Scalar.addi c0_i32_80 v6
  let v144 : Index := Scalar.indexCast v143
  let c0_81 : Index := 0#32
  let c0_82 : Index := 0#32
  ![v144.toNat, 0, 0]
def k0_off98 (k0_t1 : Fin k0_t1_loop.trips) (c0_i32_78 : BitVec 32) : Fin 3 → Nat :=
  let c0_83 : Index := 0#32
  let c0_84 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v140 : BitVec 32 := Scalar.addi v84 c0_i32_78
  let c256_i32_79 : BitVec 32 := 256#32
  let v141 : BitVec 32 := Scalar.muli v140 c256_i32_79
  let v142 : BitVec 32 := v141
  let v152 : Index := Scalar.indexCast v142
  ![0, 0, v152.toNat]
def k0_off99 (k0_t1 : Fin k0_t1_loop.trips) (c0_i32_78 : BitVec 32) : Fin 3 → Nat :=
  let c0_89 : Index := 0#32
  let c64 : Index := 64#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v140 : BitVec 32 := Scalar.addi v84 c0_i32_78
  let c256_i32_79 : BitVec 32 := 256#32
  let v141 : BitVec 32 := Scalar.muli v140 c256_i32_79
  let v142 : BitVec 32 := v141
  let v171 : Index := Scalar.indexCast v142
  ![0, 64, v171.toNat]
def k0_mult202 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_91 : BitVec 32 := 1#32
  let v181 : BitVec 32 := Scalar.addi v84 c1_i32_91
  let c1_i32_92 : BitVec 32 := 1#32
  let v182 : BitVec 32 := Scalar.addi v181 c1_i32_92
  let c256_i32_93 : BitVec 32 := 256#32
  let v183 : BitVec 32 := Scalar.muli v182 c256_i32_93
  v183
def k0_mult203 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_112 : BitVec 32 := 1#32
  let v207 : BitVec 32 := Scalar.addi v84 c1_i32_112
  let c256_i32_113 : BitVec 32 := 256#32
  let v208 : BitVec 32 := Scalar.muli v207 c256_i32_113
  v208
def k0_mult204 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c2_i32_126 : BitVec 32 := 2#32
  let v248 : BitVec 32 := Scalar.addi v84 c2_i32_126
  let c1_i32_127 : BitVec 32 := 1#32
  let v249 : BitVec 32 := Scalar.addi v248 c1_i32_127
  let c256_i32_128 : BitVec 32 := 256#32
  let v250 : BitVec 32 := Scalar.muli v249 c256_i32_128
  v250
def k0_off100 (k0_t1 : Fin k0_t1_loop.trips) : Fin 3 → Nat :=
  let c0_132 : Index := 0#32
  let c0_133 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_131 : BitVec 32 := 256#32
  let v255 : BitVec 32 := Scalar.addi v33 c256_i32_131
  let v256 : Index := Scalar.indexCast v255
  ![0, 0, v256.toNat]
def k0_off101 (k0_t1 : Fin k0_t1_loop.trips) : Fin 3 → Nat :=
  let c0_140 : Index := 0#32
  let c128_141 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_139 : BitVec 32 := 256#32
  let v266 : BitVec 32 := Scalar.addi v33 c256_i32_139
  let v267 : Index := Scalar.indexCast v266
  ![0, 128, v267.toNat]
def k0_mult205 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c2_i32_146 : BitVec 32 := 2#32
  let v274 : BitVec 32 := Scalar.addi v84 c2_i32_146
  let c256_i32_147 : BitVec 32 := 256#32
  let v275 : BitVec 32 := Scalar.muli v274 c256_i32_147
  v275
def k0_mult206 : BitVec 32 :=
  let c0_i32_164 : BitVec 32 := 0#32
  c0_i32_164
def k0_off102 (k0_t1 : Fin k0_t1_loop.trips) : Fin 3 → Nat :=
  let c0_168 : Index := 0#32
  let c0_169 : Index := 0#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_167 : BitVec 32 := 0#32
  let v333 : BitVec 32 := Scalar.addi v37 c0_i32_167
  let v334 : Index := Scalar.indexCast v333
  ![0, 0, v334.toNat]
def k0_off103 (k0_t1 : Fin k0_t1_loop.trips) : Fin 3 → Nat :=
  let c0_178 : Index := 0#32
  let c128_179 : Index := 128#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_177 : BitVec 32 := 0#32
  let v346 : BitVec 32 := Scalar.addi v37 c0_i32_177
  let v347 : Index := Scalar.indexCast v346
  ![0, 128, v347.toNat]
def k0_mult207 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c3_i32 : BitVec 32 := 3#32
  let v356 : BitVec 32 := Scalar.addi v84 c3_i32
  let c256_i32_185 : BitVec 32 := 256#32
  let v357 : BitVec 32 := Scalar.muli v356 c256_i32_185
  v357
def k0_off104 (i : grid0.Coords) (c0_i32_186 : BitVec 32) : Fin 3 → Nat :=
  let arg0 : BitVec 32 := BitVec.ofNat 32 (i 0).val
  let c0_i32_0 : BitVec 32 := 0#32
  let v6 : BitVec 32 := Scalar.minsi arg0 c0_i32_0
  let v359 : BitVec 32 := Scalar.addi c0_i32_186 v6
  let v360 : Index := Scalar.indexCast v359
  let c0_187 : Index := 0#32
  let c256_188 : Index := 256#32
  ![v360.toNat, 0, 256]
def k0_off105 (k0_t1 : Fin k0_t1_loop.trips) : Fin 3 → Nat :=
  let c0_202 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let v432 : Index := Scalar.indexCast v33
  let c0_203 : Index := 0#32
  ![0, v432.toNat, 0]
def k0_mult208 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_54 : BitVec 32 := 0#32
  let v107 : BitVec 32 := Scalar.addi v84 c0_i32_54
  let c1_i32_55 : BitVec 32 := 1#32
  let v108 : BitVec 32 := Scalar.addi v107 c1_i32_55
  let c256_i32 : BitVec 32 := 256#32
  let v109 : BitVec 32 := Scalar.muli v108 c256_i32
  v109
def k0_off106 (k0_t1 : Fin k0_t1_loop.trips) : Fin 3 → Nat :=
  let c0_56 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_54 : BitVec 32 := 0#32
  let v107 : BitVec 32 := Scalar.addi v84 c0_i32_54
  let c1_i32_55 : BitVec 32 := 1#32
  let v108 : BitVec 32 := Scalar.addi v107 c1_i32_55
  let c256_i32 : BitVec 32 := 256#32
  let v109 : BitVec 32 := Scalar.muli v108 c256_i32
  let v110 : BitVec 32 := v109
  let v111 : Index := Scalar.indexCast v110
  let c0_57 : Index := 0#32
  ![0, v111.toNat, 0]
def k0_off107 (k0_t1 : Fin k0_t1_loop.trips) : Fin 3 → Nat :=
  let c0_59 : Index := 0#32
  let c0_60 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_58 : BitVec 32 := 256#32
  let v114 : BitVec 32 := Scalar.addi v33 c256_i32_58
  let v115 : Index := Scalar.indexCast v114
  ![0, 0, v115.toNat]
def k0_off108 (k0_t1 : Fin k0_t1_loop.trips) : Fin 3 → Nat :=
  let c0_64 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_54 : BitVec 32 := 0#32
  let v107 : BitVec 32 := Scalar.addi v84 c0_i32_54
  let c1_i32_55 : BitVec 32 := 1#32
  let v108 : BitVec 32 := Scalar.addi v107 c1_i32_55
  let c256_i32 : BitVec 32 := 256#32
  let v109 : BitVec 32 := Scalar.muli v108 c256_i32
  let v110 : BitVec 32 := v109
  let v122 : Index := Scalar.indexCast v110
  let c128_65 : Index := 128#32
  ![0, v122.toNat, 128]
def k0_off109 (k0_t1 : Fin k0_t1_loop.trips) : Fin 3 → Nat :=
  let c0_67 : Index := 0#32
  let c128_68 : Index := 128#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let c256_i32_66 : BitVec 32 := 256#32
  let v125 : BitVec 32 := Scalar.addi v33 c256_i32_66
  let v126 : Index := Scalar.indexCast v125
  ![0, 128, v126.toNat]
def k0_mult209 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c0_i32_73 : BitVec 32 := 0#32
  let v133 : BitVec 32 := Scalar.addi v84 c0_i32_73
  let c256_i32_74 : BitVec 32 := 256#32
  let v134 : BitVec 32 := Scalar.muli v133 c256_i32_74
  v134
def k0_off110 (i : grid0.Coords) (c0_i32_75 : BitVec 32) : Fin 3 → Nat :=
  let arg0 : BitVec 32 := BitVec.ofNat 32 (i 0).val
  let c0_i32_0 : BitVec 32 := 0#32
  let v6 : BitVec 32 := Scalar.minsi arg0 c0_i32_0
  let v136 : BitVec 32 := Scalar.addi c0_i32_75 v6
  let v137 : Index := Scalar.indexCast v136
  let c0_76 : Index := 0#32
  let c0_77 : Index := 0#32
  ![v137.toNat, 0, 0]
def k0_off111 (k0_t1 : Fin k0_t1_loop.trips) (c0_i32_73 : BitVec 32) : Fin 3 → Nat :=
  let c0_80 : Index := 0#32
  let c0_81 : Index := 0#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v133 : BitVec 32 := Scalar.addi v84 c0_i32_73
  let c256_i32_74 : BitVec 32 := 256#32
  let v134 : BitVec 32 := Scalar.muli v133 c256_i32_74
  let v135 : BitVec 32 := v134
  let v152 : Index := Scalar.indexCast v135
  ![0, 0, v152.toNat]
def k0_off112 (k0_t1 : Fin k0_t1_loop.trips) (c0_i32_73 : BitVec 32) : Fin 3 → Nat :=
  let c0_88 : Index := 0#32
  let c64 : Index := 64#32
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let v133 : BitVec 32 := Scalar.addi v84 c0_i32_73
  let c256_i32_74 : BitVec 32 := 256#32
  let v134 : BitVec 32 := Scalar.muli v133 c256_i32_74
  let v135 : BitVec 32 := v134
  let v178 : Index := Scalar.indexCast v135
  ![0, 64, v178.toNat]
def k0_mult210 : BitVec 32 :=
  let c0_i32_90 : BitVec 32 := 0#32
  c0_i32_90
def k0_off113 (k0_t1 : Fin k0_t1_loop.trips) : Fin 3 → Nat :=
  let c0_94 : Index := 0#32
  let c0_95 : Index := 0#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_93 : BitVec 32 := 0#32
  let v192 : BitVec 32 := Scalar.addi v37 c0_i32_93
  let v193 : Index := Scalar.indexCast v192
  ![0, 0, v193.toNat]
def k0_off114 (k0_t1 : Fin k0_t1_loop.trips) : Fin 3 → Nat :=
  let c0_104 : Index := 0#32
  let c128_105 : Index := 128#32
  let c0_i32_18 : BitVec 32 := 0#32
  let c1_i32 : BitVec 32 := 1#32
  let arg8 : BitVec 32 := Scf.iv c0_i32_18 c1_i32 k0_t1
  let c1_i32_20 : BitVec 32 := 1#32
  let v34 : BitVec 32 := Scalar.addi arg8 c1_i32_20
  let c15_i32 : BitVec 32 := 15#32
  let v35 : BitVec 32 := Scalar.minsi v34 c15_i32
  let c512_i32_21 : BitVec 32 := 512#32
  let v36 : BitVec 32 := Scalar.muli v35 c512_i32_21
  let v37 : BitVec 32 := v36
  let c0_i32_103 : BitVec 32 := 0#32
  let v205 : BitVec 32 := Scalar.addi v37 c0_i32_103
  let v206 : Index := Scalar.indexCast v205
  ![0, 128, v206.toNat]
def k0_mult211 (k0_t1 : Fin k0_t1_loop.trips) : BitVec 32 :=
  let c2_i32 : BitVec 32 := 2#32
  let c0_i32_18 : BitVec 32 := 0#32
  let c1_i32 : BitVec 32 := 1#32
  let arg8 : BitVec 32 := Scf.iv c0_i32_18 c1_i32 k0_t1
  let v42 : BitVec 32 := Scalar.muli c2_i32 arg8
  let c0_i32_38 : BitVec 32 := 0#32
  let v68 : BitVec 1 := Scalar.cmpi .sgt v42 c0_i32_38
  let v69 : BitVec 32 := Scalar.extui v68
  let c0_i32_39 : BitVec 32 := 0#32
  let v70 : BitVec 1 := Scalar.cmpi .slt v42 c0_i32_39
  let v71 : BitVec 32 := Scalar.extui v70
  let v72 : BitVec 32 := Scalar.subi v69 v71
  let c16_i32_37 : BitVec 32 := 16#32
  let c0_i32_40 : BitVec 32 := 0#32
  let v73 : BitVec 1 := Scalar.cmpi .sgt c16_i32_37 c0_i32_40
  let v74 : BitVec 32 := Scalar.extui v73
  let c0_i32_41 : BitVec 32 := 0#32
  let v75 : BitVec 1 := Scalar.cmpi .slt c16_i32_37 c0_i32_41
  let v76 : BitVec 32 := Scalar.extui v75
  let v77 : BitVec 32 := Scalar.subi v74 v76
  let v78 : BitVec 1 := Scalar.cmpi .ne v72 v77
  let v79 : BitVec 32 := Scalar.remsi v42 c16_i32_37
  let c0_i32_42 : BitVec 32 := 0#32
  let v80 : BitVec 1 := Scalar.cmpi .ne v79 c0_i32_42
  let v81 : BitVec 1 := Scalar.andi v78 v80
  let v67 : BitVec 32 := Scalar.divsi v42 c16_i32_37
  let c1_i32_43 : BitVec 32 := 1#32
  let v82 : BitVec 32 := Scalar.subi v67 c1_i32_43
  let v83 : BitVec 32 := Scalar.select v81 v82 v67
  let c16_i32_44 : BitVec 32 := 16#32
  let v84 : BitVec 32 := Scalar.muli v83 c16_i32_44
  let c1_i32_111 : BitVec 32 := 1#32
  let v215 : BitVec 32 := Scalar.addi v84 c1_i32_111
  let c256_i32_112 : BitVec 32 := 256#32
  let v216 : BitVec 32 := Scalar.muli v215 c256_i32_112
  v216
def k0_off115 (i : grid0.Coords) (c0_i32_113 : BitVec 32) : Fin 3 → Nat :=
  let arg0 : BitVec 32 := BitVec.ofNat 32 (i 0).val
  let c0_i32_0 : BitVec 32 := 0#32
  let v6 : BitVec 32 := Scalar.minsi arg0 c0_i32_0
  let v218 : BitVec 32 := Scalar.addi c0_i32_113 v6
  let v219 : Index := Scalar.indexCast v218
  let c0_114 : Index := 0#32
  let c256_115 : Index := 256#32
  ![v219.toNat, 0, 256]
def k0_off116 (k0_t1 : Fin k0_t1_loop.trips) : Fin 3 → Nat :=
  let c0_129 : Index := 0#32
  let c0_i32_18 : BitVec 32 := 0#32
  let c1_i32 : BitVec 32 := 1#32
  let arg8 : BitVec 32 := Scf.iv c0_i32_18 c1_i32 k0_t1
  let c512_i32 : BitVec 32 := 512#32
  let v32 : BitVec 32 := Scalar.muli arg8 c512_i32
  let v33 : BitVec 32 := v32
  let v291 : Index := Scalar.indexCast v33
  let c0_130 : Index := 0#32
  ![0, v291.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x1024x8192 : Shape := ⟨3, ![4, 1024, 8192]⟩
abbrev S4x8192x1024 : Shape := ⟨3, ![4, 8192, 1024]⟩
abbrev S4x512x8192 : Shape := ⟨3, ![4, 512, 8192]⟩
abbrev S4x8x128x8192 : Shape := ⟨4, ![4, 8, 128, 8192]⟩
abbrev S4x8192x8x128 : Shape := ⟨4, ![4, 8192, 8, 128]⟩
abbrev S4x8x64x8192 : Shape := ⟨4, ![4, 8, 64, 8192]⟩
abbrev S4x8x8192x8192 : Shape := ⟨4, ![4, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x8192x8x64 : Shape := ⟨4, ![4, 8192, 8, 64]⟩
abbrev S4x8192x512 : Shape := ⟨3, ![4, 8192, 512]⟩

abbrev nBuf : Space → Nat
  | .hbm => 43
  | .vmem => 0
  | .smem => 0
  | _ => 0

abbrev bufTy : (tb : Table) → Fin (tcTables nBuf tb) → BufTy
  | .hbm, ⟨0, _⟩ => ⟨S4x1024x8192, .bf16⟩
  | .hbm, ⟨1, _⟩ => ⟨S4x8192x1024, .bf16⟩
  | .hbm, ⟨2, _⟩ => ⟨S4x512x8192, .bf16⟩
  | .hbm, ⟨3, _⟩ => ⟨S4x1024x8192, .f32⟩
  | .hbm, ⟨4, _⟩ => ⟨S4x8x128x8192, .f32⟩
  | .hbm, ⟨5, _⟩ => ⟨S4x8192x1024, .f32⟩
  | .hbm, ⟨6, _⟩ => ⟨S4x8192x8x128, .f32⟩
  | .hbm, ⟨7, _⟩ => ⟨S4x512x8192, .f32⟩
  | .hbm, ⟨8, _⟩ => ⟨S4x8x64x8192, .f32⟩
  | .hbm, ⟨9, _⟩ => ⟨S4x8x8192x8192, .f32⟩
  | .hbm, ⟨10, _⟩ => ⟨S_, .f32⟩
  | .hbm, ⟨11, _⟩ => ⟨S_, .f32⟩
  | .hbm, ⟨12, _⟩ => ⟨S4x8x8192x8192, .f32⟩
  | .hbm, ⟨13, _⟩ => ⟨S4x8x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S4x8x8192x8192, .i1⟩
  | .hbm, ⟨23, _⟩ => ⟨S4x8x8192x8192, .f32⟩
  | .hbm, ⟨24, _⟩ => ⟨S4x8x8192x8192, .f32⟩
  | .hbm, ⟨25, _⟩ => ⟨S_, .f32⟩
  | .hbm, ⟨26, _⟩ => ⟨S4x8x8192, .f32⟩
  | .hbm, ⟨27, _⟩ => ⟨S_, .f32⟩
  | .hbm, ⟨28, _⟩ => ⟨S4x8x8192, .f32⟩
  | .hbm, ⟨29, _⟩ => ⟨S4x8x8192, .f32⟩
  | .hbm, ⟨30, _⟩ => ⟨S4x8x8192x1, .f32⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S_, .f32⟩
  | .hbm, ⟨35, _⟩ => ⟨S4x8x8192, .f32⟩
  | .hbm, ⟨36, _⟩ => ⟨S4x8x8192x1, .f32⟩
  | .hbm, ⟨37, _⟩ => ⟨S4x8x8192x8192, .f32⟩
  | .hbm, ⟨38, _⟩ => ⟨S4x8x8192x8192, .f32⟩
  | .hbm, ⟨39, _⟩ => ⟨S4x8x64x8192, .f32⟩
  | .hbm, ⟨40, _⟩ => ⟨S4x8192x8x64, .f32⟩
  | .hbm, ⟨41, _⟩ => ⟨S4x8192x512, .f32⟩
  | .hbm, ⟨42, _⟩ => ⟨S4x8192x512, .bf16⟩
  | _, _ => ⟨S4x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S1x1024 : Shape := ⟨2, ![1, 1024]⟩
abbrev S1x512x1024 : Shape := ⟨3, ![1, 512, 1024]⟩
abbrev S1x512x512 : Shape := ⟨3, ![1, 512, 512]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 14
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S512x1024, .f32⟩
  | .hbm, ⟨8, _⟩ => ⟨S512x1024, .bf16⟩
  | .hbm, ⟨9, _⟩ => ⟨S512x1024, .f32⟩
  | .hbm, ⟨10, _⟩ => ⟨S512x1024, .bf16⟩
  | .hbm, ⟨11, _⟩ => ⟨S1x1024, .f32⟩
  | .hbm, ⟨12, _⟩ => ⟨S4096x1024, .bf16⟩
  | .hbm, ⟨13, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x4096, .f32⟩
  | .local _ .vmem, ⟨10, _⟩ => ⟨S4096x1024, .bf16⟩
  | .local _ .vmem, ⟨11, _⟩ => ⟨S1x512x1024, .f32⟩
  | .local _ .vmem, ⟨12, _⟩ => ⟨S1x512x1024, .f32⟩
  | .local _ .vmem, ⟨13, _⟩ => ⟨S512x4096, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S4x8192x512, .f32⟩
  | .hbm, ⟨8, _⟩ => ⟨S4x8192x512, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S4x8192x4096, .f32⟩
  | .hbm, ⟨29, _⟩ => ⟨S_, .f32⟩
  | .hbm, ⟨30, _⟩ => ⟨S4x8192x4096, .f32⟩
  | .hbm, ⟨31, _⟩ => ⟨S4x8192x4096, .f32⟩
  | .hbm, ⟨32, _⟩ => ⟨S4x8192x4096, .f32⟩
  | .hbm, ⟨33, _⟩ => ⟨S4x8192x1024, .f32⟩
  | .hbm, ⟨34, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S4x256x256 : Shape := ⟨3, ![4, 256, 256]⟩
abbrev S1024x4096 : Shape := ⟨2, ![1024, 4096]⟩
abbrev S4096x1024 : Shape := ⟨2, ![4096, 1024]⟩
abbrev S4x128x256 : Shape := ⟨3, ![4, 128, 256]⟩
abbrev S1x1024 : Shape := ⟨2, ![1, 1024]⟩
abbrev S1x512x1024 : Shape := ⟨3, ![1, 512, 1024]⟩
abbrev S512x4096 : Shape := ⟨2, ![512, 4096]⟩
abbrev S640x1024 : Shape := ⟨2, ![640, 1024]⟩
abbrev S128x1024 : Shape := ⟨2, ![128, 1024]⟩
abbrev S512x1024 : Shape := ⟨2, ![512, 1024]⟩
abbrev S512 : Shape := ⟨1, ![512]⟩
abbrev S512x1 : Shape := ⟨2, ![512, 1]⟩
abbrev S1x128x256 : Shape := ⟨3, ![1, 128, 256]⟩
abbrev S128x256 : Shape := ⟨2, ![128, 256]⟩
abbrev S256x256 : Shape := ⟨2, ![256, 256]⟩
abbrev S512x256 : Shape := ⟨2, ![512, 256]⟩
abbrev S1x256x256 : Shape := ⟨3, ![1, 256, 256]⟩
abbrev S1024x512 : Shape := ⟨2, ![1024, 512]⟩
abbrev S512x512 : Shape := ⟨2, ![512, 512]⟩

abbrev nBuf : Space → Nat
  | .hbm => 16
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S4x128x256, .bf16⟩
  | .hbm, ⟨9, _⟩ => ⟨S1x1024, .f32⟩
  | .hbm, ⟨10, _⟩ => ⟨S4x256x256, .bf16⟩
  | .hbm, ⟨11, _⟩ => ⟨S1x1024, .f32⟩
  | .hbm, ⟨12, _⟩ => ⟨S1x1024, .f32⟩
  | .hbm, ⟨13, _⟩ => ⟨S4096x1024, .bf16⟩
  | .hbm, ⟨14, _⟩ => ⟨S1x1024, .f32⟩
  | .hbm, ⟨15, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S4x128x256, .bf16⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S1024x4096, .f32⟩
  | .local _ .vmem, ⟨8, _⟩ => ⟨S4096x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S512x4096, .bf16⟩
  | .local _ .vmem, ⟨13, _⟩ => ⟨S640x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S4x8192x1024 : Shape := ⟨3, ![4, 8192, 1024]⟩
abbrev S1024 : Shape := ⟨1, ![1024]⟩
abbrev S4x256x256 : Shape := ⟨3, ![4, 256, 256]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x256 : Shape := ⟨3, ![4, 8192, 256]⟩
abbrev S4x8193x256 : Shape := ⟨3, ![4, 8193, 256]⟩
abbrev S8192 : Shape := ⟨1, ![8192]⟩
abbrev S1x8192x1 : Shape := ⟨3, ![1, 8192, 1]⟩
abbrev S4x8194x256 : Shape := ⟨3, ![4, 8194, 256]⟩
abbrev S4x8195x256 : Shape := ⟨3, ![4, 8195, 256]⟩
abbrev S4x8196x256 : Shape := ⟨3, ![4, 8196, 256]⟩
abbrev S4x8197x256 : Shape := ⟨3, ![4, 8197, 256]⟩
abbrev S4x8198x256 : Shape := ⟨3, ![4, 8198, 256]⟩
abbrev S4x8199x256 : Shape := ⟨3, ![4, 8199, 256]⟩
abbrev S4x8200x256 : Shape := ⟨3, ![4, 8200, 256]⟩
abbrev S4x8201x256 : Shape := ⟨3, ![4, 8201, 256]⟩
abbrev S4x8202x256 : Shape := ⟨3, ![4, 8202, 256]⟩
abbrev S4x8203x256 : Shape := ⟨3, ![4, 8203, 256]⟩
abbrev S4x8204x256 : Shape := ⟨3, ![4, 8204, 256]⟩
abbrev S4x8205x256 : Shape := ⟨3, ![4, 8205, 256]⟩
abbrev S4x8206x256 : Shape := ⟨3, ![4, 8206, 256]⟩
abbrev S4x8207x256 : Shape := ⟨3, ![4, 8207, 256]⟩
abbrev S4x8192x1x256 : Shape := ⟨4, ![4, 8192, 1, 256]⟩
abbrev S4x8192x4x256 : Shape := ⟨4, ![4, 8192, 4, 256]⟩
abbrev S4x256x4x8192 : Shape := ⟨4, ![4, 256, 4, 8192]⟩
abbrev S4x8192x4096 : Shape := ⟨3, ![4, 8192, 4096]⟩

abbrev nBuf : Space → Nat
  | .hbm => 257
  | .vmem => 0
  | .smem => 0
  | _ => 0

abbrev hbmTy0_0 (i : Nat) : BufTy := match i % 128 with
  | 0 => ⟨S4x8192x1024, .f32⟩
  | 1 => ⟨S1024, .f32⟩
  | 2 => ⟨S4x256x256, .f32⟩
  | 3 => ⟨S1024, .f32⟩
  | 4 => ⟨S1024, .f32⟩
  | 5 => ⟨S1024x4096, .f32⟩
  | 6 => ⟨S4096x1024, .f32⟩
  | 7 => ⟨S1024, .f32⟩
  | 8 => ⟨S4x8192x1024, .f32⟩
  | 9 => ⟨S_, .f32⟩
  | 10 => ⟨S4x8192, .f32⟩
  | 11 => ⟨S4x8192x1, .f32⟩
  | 12 => ⟨S_, .f32⟩
  | 13 => ⟨S4x8192x1, .f32⟩
  | 14 => ⟨S4x8192x1, .f32⟩
  | 15 => ⟨S_, .f32⟩
  | 16 => ⟨S4x8192x1, .f32⟩
  | 17 => ⟨S4x8192x1, .f32⟩
  | 18 => ⟨S4x8192x1, .f32⟩
  | 19 => ⟨S4x8192x1024, .f32⟩
  | 20 => ⟨S4x8192x1024, .f32⟩
  | 21 => ⟨S1x1x1024, .f32⟩
  | 22 => ⟨S4x8192x1024, .f32⟩
  | 23 => ⟨S4x8192x1024, .f32⟩
  | 24 => ⟨S4x8192x256, .f32⟩
  | 25 => ⟨S4x8192x256, .f32⟩
  | 26 => ⟨S4x8192x256, .f32⟩
  | 27 => ⟨S4x8192x256, .f32⟩
  | 28 => ⟨S_, .i32⟩
  | 29 => ⟨S_, .f32⟩
  | 30 => ⟨S4x8193x256, .f32⟩
  | 31 => ⟨S4x8192x256, .f32⟩
  | 32 => ⟨S4x8192x256, .f32⟩
  | 33 => ⟨S8192, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S8192, .f32⟩
  | 41 => ⟨S1x8192x1, .f32⟩
  | 42 => ⟨S4x8192x256, .f32⟩
  | 43 => ⟨S4x8192x256, .f32⟩
  | 44 => ⟨S4x8192x256, .f32⟩
  | 45 => ⟨S_, .i32⟩
  | 46 => ⟨S_, .f32⟩
  | 47 => ⟨S4x8193x256, .f32⟩
  | 48 => ⟨S4x8192x256, .f32⟩
  | 49 => ⟨S4x8192x256, .f32⟩
  | 50 => ⟨S_, .i32⟩
  | 51 => ⟨S_, .f32⟩
  | 52 => ⟨S4x8194x256, .f32⟩
  | 53 => ⟨S4x8192x256, .f32⟩
  | 54 => ⟨S4x8192x256, .f32⟩
  | 55 => ⟨S_, .i32⟩
  | 56 => ⟨S_, .f32⟩
  | 57 => ⟨S4x8195x256, .f32⟩
  | 58 => ⟨S4x8192x256, .f32⟩
  | 59 => ⟨S4x8192x256, .f32⟩
  | 60 => ⟨S8192, .i32⟩
  | 61 => ⟨S_, .i32⟩
  | 62 => ⟨S8192, .i32⟩
  | 63 => ⟨S8192, .i32⟩
  | 64 => ⟨S_, .i32⟩
  | 65 => ⟨S8192, .i32⟩
  | 66 => ⟨S8192, .i32⟩
  | 67 => ⟨S8192, .f32⟩
  | 68 => ⟨S1x8192x1, .f32⟩
  | 69 => ⟨S4x8192x256, .f32⟩
  | 70 => ⟨S4x8192x256, .f32⟩
  | 71 => ⟨S4x8192x256, .f32⟩
  | 72 => ⟨S_, .i32⟩
  | 73 => ⟨S_, .f32⟩
  | 74 => ⟨S4x8193x256, .f32⟩
  | 75 => ⟨S4x8192x256, .f32⟩
  | 76 => ⟨S4x8192x256, .f32⟩
  | 77 => ⟨S_, .i32⟩
  | 78 => ⟨S_, .f32⟩
  | 79 => ⟨S4x8194x256, .f32⟩
  | 80 => ⟨S4x8192x256, .f32⟩
  | 81 => ⟨S4x8192x256, .f32⟩
  | 82 => ⟨S_, .i32⟩
  | 83 => ⟨S_, .f32⟩
  | 84 => ⟨S4x8195x256, .f32⟩
  | 85 => ⟨S4x8192x256, .f32⟩
  | 86 => ⟨S4x8192x256, .f32⟩
  | 87 => ⟨S_, .i32⟩
  | 88 => ⟨S_, .f32⟩
  | 89 => ⟨S4x8196x256, .f32⟩
  | 90 => ⟨S4x8192x256, .f32⟩
  | 91 => ⟨S4x8192x256, .f32⟩
  | 92 => ⟨S_, .i32⟩
  | 93 => ⟨S_, .f32⟩
  | 94 => ⟨S4x8197x256, .f32⟩
  | 95 => ⟨S4x8192x256, .f32⟩
  | 96 => ⟨S4x8192x256, .f32⟩
  | 97 => ⟨S_, .i32⟩
  | 98 => ⟨S_, .f32⟩
  | 99 => ⟨S4x8198x256, .f32⟩
  | 100 => ⟨S4x8192x256, .f32⟩
  | 101 => ⟨S4x8192x256, .f32⟩
  | 102 => ⟨S_, .i32⟩
  | 103 => ⟨S_, .f32⟩
  | 104 => ⟨S4x8199x256, .f32⟩
  | 105 => ⟨S4x8192x256, .f32⟩
  | 106 => ⟨S4x8192x256, .f32⟩
  | 107 => ⟨S8192, .i32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S8192, .f32⟩
  | 115 => ⟨S1x8192x1, .f32⟩
  | 116 => ⟨S4x8192x256, .f32⟩
  | 117 => ⟨S4x8192x256, .f32⟩
  | 118 => ⟨S4x8192x256, .f32⟩
  | 119 => ⟨S_, .i32⟩
  | 120 => ⟨S_, .f32⟩
  | 121 => ⟨S4x8193x256, .f32⟩
  | 122 => ⟨S4x8192x256, .f32⟩
  | 123 => ⟨S4x8192x256, .f32⟩
  | 124 => ⟨S_, .i32⟩
  | 125 => ⟨S_, .f32⟩
  | 126 => ⟨S4x8194x256, .f32⟩
  | 127 => ⟨S4x8192x256, .f32⟩
  | _ => ⟨S4x8192x1024, .f32⟩

abbrev hbmTy0_1 (i : Nat) : BufTy := match i % 128 with
  | 0 => ⟨S4x8192x256, .f32⟩
  | 1 => ⟨S_, .i32⟩
  | 2 => ⟨S_, .f32⟩
  | 3 => ⟨S4x8195x256, .f32⟩
  | 4 => ⟨S4x8192x256, .f32⟩
  | 5 => ⟨S4x8192x256, .f32⟩
  | 6 => ⟨S_, .i32⟩
  | 7 => ⟨S_, .f32⟩
  | 8 => ⟨S4x8196x256, .f32⟩
  | 9 => ⟨S4x8192x256, .f32⟩
  | 10 => ⟨S4x8192x256, .f32⟩
  | 11 => ⟨S_, .i32⟩
  | 12 => ⟨S_, .f32⟩
  | 13 => ⟨S4x8197x256, .f32⟩
  | 14 => ⟨S4x8192x256, .f32⟩
  | 15 => ⟨S4x8192x256, .f32⟩
  | 16 => ⟨S_, .i32⟩
  | 17 => ⟨S_, .f32⟩
  | 18 => ⟨S4x8198x256, .f32⟩
  | 19 => ⟨S4x8192x256, .f32⟩
  | 20 => ⟨S4x8192x256, .f32⟩
  | 21 => ⟨S_, .i32⟩
  | 22 => ⟨S_, .f32⟩
  | 23 => ⟨S4x8199x256, .f32⟩
  | 24 => ⟨S4x8192x256, .f32⟩
  | 25 => ⟨S4x8192x256, .f32⟩
  | 26 => ⟨S_, .i32⟩
  | 27 => ⟨S_, .f32⟩
  | 28 => ⟨S4x8200x256, .f32⟩
  | 29 => ⟨S4x8192x256, .f32⟩
  | 30 => ⟨S4x8192x256, .f32⟩
  | 31 => ⟨S_, .i32⟩
  | 32 => ⟨S_, .f32⟩
  | 33 => ⟨S4x8201x256, .f32⟩
  | 34 => ⟨S4x8192x256, .f32⟩
  | 35 => ⟨S4x8192x256, .f32⟩
  | 36 => ⟨S_, .i32⟩
  | 37 => ⟨S_, .f32⟩
  | 38 => ⟨S4x8202x256, .f32⟩
  | 39 => ⟨S4x8192x256, .f32⟩
  | 40 => ⟨S4x8192x256, .f32⟩
  | 41 => ⟨S_, .i32⟩
  | 42 => ⟨S_, .f32⟩
  | 43 => ⟨S4x8203x256, .f32⟩
  | 44 => ⟨S4x8192x256, .f32⟩
  | 45 => ⟨S4x8192x256, .f32⟩
  | 46 => ⟨S_, .i32⟩
  | 47 => ⟨S_, .f32⟩
  | 48 => ⟨S4x8204x256, .f32⟩
  | 49 => ⟨S4x8192x256, .f32⟩
  | 50 => ⟨S4x8192x256, .f32⟩
  | 51 => ⟨S_, .i32⟩
  | 52 => ⟨S_, .f32⟩
  | 53 => ⟨S4x8205x256, .f32⟩
  | 54 => ⟨S4x8192x256, .f32⟩
  | 55 => ⟨S4x8192x256, .f32⟩
  | 56 => ⟨S_, .i32⟩
  | 57 => ⟨S_, .f32⟩
  | 58 => ⟨S4x8206x256, .f32⟩
  | 59 => ⟨S4x8192x256, .f32⟩
  | 60 => ⟨S4x8192x256, .f32⟩
  | 61 => ⟨S_, .i32⟩
  | 62 => ⟨S_, .f32⟩
  | 63 => ⟨S4x8207x256, .f32⟩
  | 64 => ⟨S4x8192x256, .f32⟩
  | 65 => ⟨S4x8192x256, .f32⟩
  | 66 => ⟨S8192, .i32⟩
  | 67 => ⟨S_, .i32⟩
  | 68 => ⟨S8192, .i32⟩
  | 69 => ⟨S8192, .i32⟩
  | 70 => ⟨S_, .i32⟩
  | 71 => ⟨S8192, .i32⟩
  | 72 => ⟨S8192, .i32⟩
  | 73 => ⟨S8192, .f32⟩
  | 74 => ⟨S1x8192x1, .f32⟩
  | 75 => ⟨S4x8192x256, .f32⟩
  | 76 => ⟨S4x8192x256, .f32⟩
  | 77 => ⟨S4x8192x256, .f32⟩
  | 78 => ⟨S4x8192x1x256, .f32⟩
  | 79 => ⟨S4x8192x1x256, .f32⟩
  | 80 => ⟨S4x8192x1x256, .f32⟩
  | 81 => ⟨S4x8192x1x256, .f32⟩
  | 82 => ⟨S4x8192x4x256, .f32⟩
  | 83 => ⟨S4x256x4x8192, .f32⟩
  | 84 => ⟨S4x8192x4x256, .f32⟩
  | 85 => ⟨S4x8192x1024, .f32⟩
  | 86 => ⟨S1x1x1024, .f32⟩
  | 87 => ⟨S4x8192x1024, .f32⟩
  | 88 => ⟨S4x8192x1024, .f32⟩
  | 89 => ⟨S4x8192x1024, .f32⟩
  | 90 => ⟨S4x8192x1024, .f32⟩
  | 91 => ⟨S_, .f32⟩
  | 92 => ⟨S4x8192, .f32⟩
  | 93 => ⟨S4x8192x1, .f32⟩
  | 94 => ⟨S_, .f32⟩
  | 95 => ⟨S4x8192x1, .f32⟩
  | 96 => ⟨S4x8192x1, .f32⟩
  | 97 => ⟨S_, .f32⟩
  | 98 => ⟨S4x8192x1, .f32⟩
  | 99 => ⟨S4x8192x1, .f32⟩
  | 100 => ⟨S4x8192x1, .f32⟩
  | 101 => ⟨S4x8192x1024, .f32⟩
  | 102 => ⟨S4x8192x1024, .f32⟩
  | 103 => ⟨S1x1x1024, .f32⟩
  | 104 => ⟨S4x8192x1024, .f32⟩
  | 105 => ⟨S4x8192x1024, .f32⟩
  | 106 => ⟨S4x8192x4096, .f32⟩
  | 107 => ⟨S_, .f32⟩
  | 108 => ⟨S4x8192x4096, .f32⟩
  | 109 => ⟨S4x8192x4096, .f32⟩
  | 110 => ⟨S4x8192x4096, .f32⟩
  | 111 => ⟨S4x8192x1024, .f32⟩
  | 112 => ⟨S4x8192x1024, .f32⟩
  | 113 => ⟨S4x8192x1024, .f32⟩
  | 114 => ⟨S_, .f32⟩
  | 115 => ⟨S4x8192, .f32⟩
  | 116 => ⟨S4x8192x1, .f32⟩
  | 117 => ⟨S_, .f32⟩
  | 118 => ⟨S4x8192x1, .f32⟩
  | 119 => ⟨S4x8192x1, .f32⟩
  | 120 => ⟨S_, .f32⟩
  | 121 => ⟨S4x8192x1, .f32⟩
  | 122 => ⟨S4x8192x1, .f32⟩
  | 123 => ⟨S4x8192x1, .f32⟩
  | 124 => ⟨S4x8192x1024, .f32⟩
  | 125 => ⟨S4x8192x1024, .f32⟩
  | 126 => ⟨S1x1x1024, .f32⟩
  | 127 => ⟨S4x8192x1024, .f32⟩
  | _ => ⟨S4x8192x1024, .f32⟩

abbrev hbmTy0_2 (i : Nat) : BufTy := match i % 128 with
  | 0 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_call2_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_call3_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_call4_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_call5_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_call6_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_call7_v0 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_13 : Ref sig .tc := ⟨.hbm, 92, rfl⟩
abbrev main_call8_v0 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_14 : Ref sig .tc := ⟨.hbm, 97, rfl⟩
abbrev main_call9_v0 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_call10_v0 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_16 : Ref sig .tc := ⟨.hbm, 108, rfl⟩
abbrev main_v71 : Ref sig .tc := ⟨.hbm, 109, rfl⟩
abbrev main_v72 : Ref sig .tc := ⟨.hbm, 110, rfl⟩
abbrev main_c_17 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_18 : Ref sig .tc := ⟨.hbm, 119, rfl⟩
abbrev main_call11_v0 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_19 : Ref sig .tc := ⟨.hbm, 124, rfl⟩
abbrev main_call12_v0 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_20 : Ref sig .tc := ⟨.hbm, 129, rfl⟩
abbrev main_call13_v0 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_21 : Ref sig .tc := ⟨.hbm, 134, rfl⟩
abbrev main_call14_v0 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_c_22 : Ref sig .tc := ⟨.hbm, 139, rfl⟩
abbrev main_call15_v0 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_23 : Ref sig .tc := ⟨.hbm, 144, rfl⟩
abbrev main_call16_v0 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_c_24 : Ref sig .tc := ⟨.hbm, 149, rfl⟩
abbrev main_call17_v0 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_c_25 : Ref sig .tc := ⟨.hbm, 154, rfl⟩
abbrev main_call18_v0 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_c_26 : Ref sig .tc := ⟨.hbm, 159, rfl⟩
abbrev main_call19_v0 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_27 : Ref sig .tc := ⟨.hbm, 164, rfl⟩
abbrev main_call20_v0 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_c_28 : Ref sig .tc := ⟨.hbm, 169, rfl⟩
abbrev main_call21_v0 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_c_29 : Ref sig .tc := ⟨.hbm, 174, rfl⟩
abbrev main_call22_v0 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_c_30 : Ref sig .tc := ⟨.hbm, 179, rfl⟩
abbrev main_call23_v0 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_c_31 : Ref sig .tc := ⟨.hbm, 184, rfl⟩
abbrev main_call24_v0 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_c_32 : Ref sig .tc := ⟨.hbm, 189, rfl⟩
abbrev main_call25_v0 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_c_33 : Ref sig .tc := ⟨.hbm, 195, rfl⟩
abbrev main_v126 : Ref sig .tc := ⟨.hbm, 196, rfl⟩
abbrev main_v127 : Ref sig .tc := ⟨.hbm, 197, rfl⟩
abbrev main_c_34 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_cst_35 : Ref sig .tc := ⟨.hbm, 219, rfl⟩
abbrev main_v148 : Ref sig .tc := ⟨.hbm, 220, rfl⟩
abbrev main_v149 : Ref sig .tc := ⟨.hbm, 221, rfl⟩
abbrev main_cst_36 : Ref sig .tc := ⟨.hbm, 222, rfl⟩
abbrev main_v150 : Ref sig .tc := ⟨.hbm, 223, rfl⟩
abbrev main_v151 : Ref sig .tc := ⟨.hbm, 224, rfl⟩
abbrev main_cst_37 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_call26_cst : Ref sig .tc := ⟨.hbm, 235, rfl⟩
abbrev main_call26_v0 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_cst_38 : Ref sig .tc := ⟨.hbm, 242, rfl⟩
abbrev main_v166 : Ref sig .tc := ⟨.hbm, 243, rfl⟩
abbrev main_v167 : Ref sig .tc := ⟨.hbm, 244, rfl⟩
abbrev main_cst_39 : Ref sig .tc := ⟨.hbm, 245, rfl⟩
abbrev main_v168 : Ref sig .tc := ⟨.hbm, 246, rfl⟩
abbrev main_v169 : Ref sig .tc := ⟨.hbm, 247, rfl⟩
abbrev main_cst_40 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩

abbrev nD : Nat := 1
abbrev τ : Topo := Topo.v7x

variable {F : FTy → Type} [FloatOps F]
-- ==== Proof.Flash.Clean.lean ====
/- The attention body written once as a loop over key blocks: its pure functions, the three kinds of step
   (a full block, the first and the second diagonal block), the pairs of full steps, the tail of a query tile and the
   final division, each over the rectangles it touches. -/
module

public import proofs.«01_k».proof.KernelIdeal

@[expose] public section

set_option maxRecDepth 16384

noncomputable section

namespace Cert.KernelIdeal.Flash

open Idealize.ShloMosaic Idealize.SL.Sem
open Cert.KernelIdeal

variable {F : FTy → Type} [FloatOps F] [Named F]
variable [Facts]
open Facts₀ Facts

/-! ## Pure functions -/

/-- The scores of a key block against a query tile: keys down, queries across. -/
def stF (k : Vec F S1x256x128 .bf16) (q : Vec F S1x128x512 .bf16) : FVec F S256x512 .f32 :=
  matmul dot_S256x128_S128x512_S256x512_1_0_0_1_n_n none (shapeCast S256x128 k shapeCasts_S1x256x128_S256x128) (shapeCast S128x512 q shapeCasts_S1x128x512_S128x512) (constant S256x512 .f32 0x00000000#32)

/-- The same against the right half of a tile. -/
def stH (k : Vec F S1x256x128 .bf16) (q : Vec F S1x128x256 .bf16) : FVec F S256x256 .f32 :=
  matmul dot_S256x128_S128x256_S256x256_1_0_0_1_n_n none (shapeCast S256x128 k shapeCasts_S1x256x128_S256x128) (shapeCast S128x256 q shapeCasts_S1x128x256_S128x256) (constant S256x256 .f32 0x00000000#32)

/-- Column maxima. -/
def cmF (s : FVec F S256x512 .f32) : FVec F S1x512 .f32 :=
  shapeCast S1x512 (multiReduction .maximumf [0] S512 s 0xFF800000#32 reduces_S256x512_S512 (.inl rfl) rfl) shapeCasts_S512_S1x512

def cmH (s : FVec F S256x256 .f32) : FVec F S1x256 .f32 :=
  shapeCast S1x256 (multiReduction .maximumf [0] S256 s 0xFF800000#32 reduces_S256x256_S256 (.inl rfl) rfl) shapeCasts_S256_S1x256

/-- The causal mask inside a diagonal block. -/
def maskF (s : FVec F S256x512 .f32) : FVec F S256x512 .f32 :=
  select (cmpi .sle (iota .tc S256x512 32 [0] iota_S256x512_d0_w32) (iota .tc S256x512 32 [1] iota_S256x512_d1_w32)) s (broadcast S256x512 (Named.named κ "mask" 0xF149F2CA#32))

def maskH (s : FVec F S256x256 .f32) : FVec F S256x256 .f32 :=
  select (cmpi .sle (iota .tc S256x256 32 [0] iota_S256x256_d0_w32) (iota .tc S256x256 32 [1] iota_S256x256_d1_w32)) s (broadcast S256x256 (Named.named κ "mask" 0xF149F2CA#32))

/-- Values over the row of ones. -/
def v1F (v : Vec F S1x64x256 .bf16) (v5 : FVec F S16x256 .bf16) : FVec F S80x256 .bf16 :=
  concatenate S80x256 0 [⟨S64x256, shapeCast S64x256 v shapeCasts_S1x64x256_S64x256⟩, ⟨S16x256, v5⟩] concatenates_S64x256_S16x256_S80x256_d0

/-- One update of the accumulator at scores `s`, new maximum `m'`. -/
def accF (s : FVec F S256x512 .f32) (v1 : FVec F S80x256 .bf16) (m m' : FVec F S1x512 .f32) (a : FVec F S80x512 .f32) : FVec F S80x512 .f32 :=
  addf (mulf (broadcastTo S80x512 (exp2 (subf m m')) broadcasts_S1x512_S80x512) a)
    (matmul dot_S80x256_S256x512_S80x512_1_0_0_1_n_n none v1 (truncf .bf16 (exp2 (subf s (broadcastTo S256x512 m' broadcasts_S1x512_S256x512))) bitsLt_bf16_f32) (constant S80x512 .f32 0x00000000#32))

def mHalf (m : FVec F S1x512 .f32) : FVec F S1x256 .f32 :=
  extractStridedSlice S1x256 ![0, 256] m slices_S1x512_o0_256_S1x256

def accH (s : FVec F S256x256 .f32) (v1 : FVec F S80x256 .bf16) (m m' : FVec F S1x256 .f32) (a : FVec F S80x512 .f32) : FVec F S80x512 .f32 :=
  concatenate S80x512 1 [⟨S80x256, extractStridedSlice S80x256 ![0, 0] a slices_S80x512_o0_0_S80x256⟩, ⟨S80x256,
    addf (mulf (broadcastTo S80x256 (exp2 (subf m m')) broadcasts_S1x256_S80x256) (extractStridedSlice S80x256 ![0, 256] a slices_S80x512_o0_256_S80x256))
      (matmul dot_S80x256_S256x256_S80x256_1_0_0_1_n_n none v1 (truncf .bf16 (exp2 (subf s (broadcastTo S256x256 m' broadcasts_S1x256_S256x256))) bitsLt_bf16_f32) (constant S80x256 .f32 0x00000000#32))⟩]
    concatenates_S80x256_S80x256_S80x512_d1

/-- The division by the accumulated row sum. -/
def divF (a : FVec F S80x512 .f32) : FVec F S64x512 .f32 :=
  divf (extractStridedSlice S64x512 ![0, 0] a slices_S80x512_o0_0_S64x512) (broadcastTo S64x512 (extractStridedSlice S1x512 ![64, 0] a slices_S80x512_o64_0_S1x512) broadcasts_S1x512_S64x512)

def outF (a0 a1 : FVec F S80x512 .f32) : FVec F S1x512x128 .bf16 :=
  shapeCast S1x512x128 (truncf .bf16 (transpose S512x128 [1, 0] (concatenate S128x512 0 [⟨S64x512, divF a0⟩, ⟨S64x512, divF a1⟩] concatenates_S64x512_S64x512_S128x512_d0) transposes_S128x512_p1_0_S512x128) bitsLt_bf16_f32) shapeCasts_S512x128_S1x512x128

/-- The row of ones under fifteen rows of zeros. -/
def ones (F : FTy → Type) [FloatOps F] : FVec F S16x256 .bf16 :=
  truncf .bf16 (sitofp .f32 (extui 32 (cmpi .eq (iota .tc S16x256 32 [0] iota_S16x256_d0_w32) (broadcast S16x256 (0#32 : BitVec 32))) natLt_1_32)) bitsLt_bf16_f32

/-! ## Rectangles -/

abbrev KOff := {off : Fin 3 → Nat // ∀ a, off a + S1x256x128.size a ≤ S1x8192x256.size a}
abbrev QOff := {off : Fin 3 → Nat // ∀ a, off a + S1x128x512.size a ≤ S1x256x8192.size a}
abbrev HOff := {off : Fin 3 → Nat // ∀ a, off a + S1x128x256.size a ≤ S1x256x8192.size a}
abbrev SOff := {off : Fin 3 → Nat // ∀ a, off a + S1x256x512.size a ≤ S2x256x512.size a}
abbrev TOff := {off : Fin 3 → Nat // ∀ a, off a + S1x256x256.size a ≤ S2x256x512.size a}
abbrev VOff := {off : Fin 3 → Nat // ∀ a, off a + S1x64x256.size a ≤ S1x128x8192.size a}
abbrev OOff := {off : Fin 3 → Nat // ∃ h : (∀ a, off a + S1x512x128.size a ≤ S1x8192x128.size a), (Rect.unit (s := S1x8192x128) off S1x512x128.size h).PackedRows (EltTy.packing .bf16)}

/-- The rectangles of a tile's full blocks. `0` and `1` are the two heads. -/
structure Offs where
  k0 : Nat → KOff
  k1 : Nat → KOff
  q0 : QOff
  q1 : QOff
  r0 : SOff
  r1 : SOff
  v0 : Nat → VOff
  v1 : Nat → VOff

/-- The further rectangles of its diagonal: the right half of the tile, the next tile, the right half of the scores, the output rows. -/
structure DOffs where
  h0 : HOff
  h1 : HOff
  n0 : QOff
  n1 : QOff
  t0 : TOff
  t1 : TOff
  oo : OOff

abbrev P (F : FTy → Type) [FloatOps F] [Named F] := Prog (TpuEff nD τ sig (Elt F) Λ₀ .tc)

abbrev kz0 : KOff := ⟨![0, 0, 0], inb_S1x8192x256_S1x256x128_0_0_0⟩
abbrev kz1 : KOff := ⟨![0, 0, 128], inb_S1x8192x256_S1x256x128_0_0_128⟩
abbrev sz0 : SOff := ⟨![0, 0, 0], inb_S2x256x512_S1x256x512_0_0_0⟩
abbrev sz1 : SOff := ⟨![1, 0, 0], inb_S2x256x512_S1x256x512_1_0_0⟩
abbrev tz0 : TOff := ⟨![0, 0, 256], inb_S2x256x512_S1x256x256_0_0_256⟩
abbrev tz1 : TOff := ⟨![1, 0, 256], inb_S2x256x512_S1x256x256_1_0_256⟩

/-! ## Programs -/

section
variable (arg2 : Memref sig .tc .vmem S1x256x8192 .bf16) (arg3 : Memref sig .tc .vmem S1x8192x256 .bf16) (arg4 : Memref sig .tc .vmem S1x128x8192 .bf16) (arg5 : Memref sig .tc .vmem S1x8192x128 .bf16) (harg5 : arg5.IsWhole) (arg6 arg7 : Memref sig .tc .vmem S2x256x512 .f32)

/-- The scores of one head and their column maxima: stored whole. -/
def scoresF (ko : KOff) (qo : QOff) (b : Memref sig .tc .vmem S2x256x512 .f32) (so : SOff) : P F (FVec F S1x512 .f32) := do
  let k : Vec F S1x256x128 .bf16 ← Prog.lift (.load arg3 (Rect.unit (s := S1x8192x256) ko.1 S1x256x128.size ko.2).toLoadRect (View.loadsAt_vmem h_S1x256x128))
  let q : Vec F S1x128x512 .bf16 ← Prog.lift (.load arg2 (Rect.unit (s := S1x256x8192) qo.1 S1x128x512.size qo.2).toLoadRect (View.loadsAt_vmem h_S1x128x512))
  let _x : Vec F S1x256x512 .f32 ← Prog.lift (.load b (Rect.unit (s := S2x256x512) so.1 S1x256x512.size so.2).toLoadRect (View.loadsAt_vmem h_S1x256x512))
  Prog.lift (.store b (Rect.unit (s := S2x256x512) so.1 S1x256x512.size so.2) (shapeCast S1x256x512 (stF k q) shapeCasts_S256x512_S1x256x512) Finset.univ (View.stores_vmem_bits_univ h_S1x256x512 rfl) (.inl rfl))
  pure (cmF (stF k q))

/-- The scores of the second diagonal block: only the right half of the tile. -/
def scoresH (ko : KOff) (qo : HOff) (b : Memref sig .tc .vmem S2x256x512 .f32) (so : TOff) : P F PUnit := do
  let k : Vec F S1x256x128 .bf16 ← Prog.lift (.load arg3 (Rect.unit (s := S1x8192x256) ko.1 S1x256x128.size ko.2).toLoadRect (View.loadsAt_vmem h_S1x256x128))
  let q : Vec F S1x128x256 .bf16 ← Prog.lift (.load arg2 (Rect.unit (s := S1x256x8192) qo.1 S1x128x256.size qo.2).toLoadRect (View.loadsAt_vmem h_S1x128x256))
  let _x : Vec F S1x256x256 .f32 ← Prog.lift (.load b (Rect.unit (s := S2x256x512) so.1 S1x256x256.size so.2).toLoadRect (View.loadsAt_vmem h_S1x256x256))
  Prog.lift (.store b (Rect.unit (s := S2x256x512) so.1 S1x256x256.size so.2) (shapeCast S1x256x256 (stH k q) shapeCasts_S256x256_S1x256x256) Finset.univ (View.stores_vmem_bits_univ h_S1x256x256 rfl) (.inl rfl))

/-- One head's update at a full block. -/
def updF (b : Memref sig .tc .vmem S2x256x512 .f32) (so : SOff) (vo : VOff) (v5 : FVec F S16x256 .bf16) (cm m : FVec F S1x512 .f32) (a : FVec F S80x512 .f32) : P F (FVec F S1x512 .f32 × FVec F S80x512 .f32) := do
  let x : Vec F S1x256x512 .f32 ← Prog.lift (.load b (Rect.unit (s := S2x256x512) so.1 S1x256x512.size so.2).toLoadRect (View.loadsAt_vmem h_S1x256x512))
  let v : Vec F S1x64x256 .bf16 ← Prog.lift (.load arg4 (Rect.unit (s := S1x128x8192) vo.1 S1x64x256.size vo.2).toLoadRect (View.loadsAt_vmem h_S1x64x256))
  pure (maximumf m cm, accF (shapeCast S256x512 x shapeCasts_S1x256x512_S256x512) (v1F v v5) m (maximumf m cm) a)

/-- One head's update at the first diagonal block. -/
def updD (b : Memref sig .tc .vmem S2x256x512 .f32) (so : SOff) (vo : VOff) (v5 : FVec F S16x256 .bf16) (m : FVec F S1x512 .f32) (a : FVec F S80x512 .f32) : P F (FVec F S1x512 .f32 × FVec F S80x512 .f32) := do
  let x : Vec F S1x256x512 .f32 ← Prog.lift (.load b (Rect.unit (s := S2x256x512) so.1 S1x256x512.size so.2).toLoadRect (View.loadsAt_vmem h_S1x256x512))
  let v : Vec F S1x64x256 .bf16 ← Prog.lift (.load arg4 (Rect.unit (s := S1x128x8192) vo.1 S1x64x256.size vo.2).toLoadRect (View.loadsAt_vmem h_S1x64x256))
  pure (maximumf m (cmF (maskF (shapeCast S256x512 x shapeCasts_S1x256x512_S256x512))),
    accF (maskF (shapeCast S256x512 x shapeCasts_S1x256x512_S256x512)) (v1F v v5) m (maximumf m (cmF (maskF (shapeCast S256x512 x shapeCasts_S1x256x512_S256x512)))) a)

/-- One head's update at the second diagonal block. -/
def updH (b : Memref sig .tc .vmem S2x256x512 .f32) (so : TOff) (vo : VOff) (v5 : FVec F S16x256 .bf16) (m : FVec F S1x512 .f32) (a : FVec F S80x512 .f32) : P F (FVec F S80x512 .f32) := do
  let x : Vec F S1x256x256 .f32 ← Prog.lift (.load b (Rect.unit (s := S2x256x512) so.1 S1x256x256.size so.2).toLoadRect (View.loadsAt_vmem h_S1x256x256))
  let v : Vec F S1x64x256 .bf16 ← Prog.lift (.load arg4 (Rect.unit (s := S1x128x8192) vo.1 S1x64x256.size vo.2).toLoadRect (View.loadsAt_vmem h_S1x64x256))
  pure (accH (maskH (shapeCast S256x256 x shapeCasts_S1x256x256_S256x256)) (v1F v v5) (mHalf m) (maximumf (mHalf m) (cmH (maskH (shapeCast S256x256 x shapeCasts_S1x256x256_S256x256)))) a)

/-- The carried values: the next block's column maxima, then each head's maximum and accumulator. -/
abbrev St (F : FTy → Type) := FVec F S1x512 .f32 × FVec F S1x512 .f32 × FVec F S1x512 .f32 × FVec F S80x512 .f32 × FVec F S1x512 .f32 × FVec F S80x512 .f32

/-- A full block `j`, read from `b`, with the scores of block `j + 1` written to `b'`. -/
def stepF (O : Offs) (v5 : FVec F S16x256 .bf16) (b b' : Memref sig .tc .vmem S2x256x512 .f32) (j : Nat) : St F → P F (St F) := fun (cm0, cm1, m0, a0, m1, a1) => do
  let c0 ← scoresF arg2 arg3 (O.k0 (j + 1)) O.q0 b' sz0
  let c1 ← scoresF arg2 arg3 (O.k1 (j + 1)) O.q1 b' sz1
  let (m0', a0') ← updF arg4 b O.r0 (O.v0 j) v5 cm0 m0 a0
  let (m1', a1') ← updF arg4 b O.r1 (O.v1 j) v5 cm1 m1 a1
  pure (c0, c1, m0', a0', m1', a1')

/-- `n` pairs of full blocks from block `j` on. -/
def pairs (O : Offs) (v5 : FVec F S16x256 .bf16) : Nat → Nat → St F → P F (St F)
  | 0, _, s => pure s
  | n + 1, j, s => do
    let s ← stepF arg2 arg3 arg4 O v5 arg6 arg7 j s
    let s ← stepF arg2 arg3 arg4 O v5 arg7 arg6 (j + 1) s
    pairs O v5 n (j + 2) s

/-- The two diagonal blocks, the next tile's first scores, and the division. -/
def diag (O : Offs) (D : DOffs) (v5 : FVec F S16x256 .bf16) (j : Nat) : St F → P F (FVec F S1x512 .f32 × FVec F S1x512 .f32) := fun (_, _, m0, a0, m1, a1) => do
  scoresH arg2 arg3 (O.k0 (j + 1)) D.h0 arg7 tz0
  scoresH arg2 arg3 (O.k1 (j + 1)) D.h1 arg7 tz1
  let (m0', a0') ← updD arg4 arg6 O.r0 (O.v0 j) v5 m0 a0
  let (m1', a1') ← updD arg4 arg6 O.r1 (O.v1 j) v5 m1 a1
  let c0 ← scoresF arg2 arg3 kz0 D.n0 arg6 sz0
  let c1 ← scoresF arg2 arg3 kz1 D.n1 arg6 sz1
  let a0 ← updH arg4 arg7 D.t0 (O.v0 (j + 1)) v5 m0' a0'
  let a1 ← updH arg4 arg7 D.t1 (O.v1 (j + 1)) v5 m1' a1'
  let _x : Vec F S1x512x128 .bf16 ← Prog.lift (.load arg5 (Rect.unit (s := S1x8192x128) D.oo.1 S1x512x128.size D.oo.2.1).toLoadRect (View.loadsAt_vmem h_S1x512x128))
  Prog.lift (.store arg5 (Rect.unit (s := S1x8192x128) D.oo.1 S1x512x128.size D.oo.2.1) (outF a0 a1) Finset.univ (View.stores_vmem h_S1x512x128 (harg5.storeExact_slice rfl _ D.oo.2.2) (fun _ => rfl)) (.inl rfl))
  pure (c0, c1)

/-- The tail of a tile: `n` pairs of full blocks, then the diagonal. -/
def tail (O : Offs) (D : DOffs) (v5 : FVec F S16x256 .bf16) (n : Nat) (j : Nat) (s : St F) : P F (FVec F S1x512 .f32 × FVec F S1x512 .f32) := do
  let s ← pairs arg2 arg3 arg4 arg6 arg7 O v5 n j s
  diag arg2 arg3 arg4 arg5 harg5 arg6 arg7 O D v5 (j + 2 * n) s

/-- The first scores of the first tile. -/
def start (qz0 qz1 : QOff) : P F (FVec F S1x512 .f32 × FVec F S1x512 .f32) := do
  let c0 ← scoresF arg2 arg3 kz0 qz0 arg6 sz0
  let c1 ← scoresF arg2 arg3 kz1 qz1 arg6 sz1
  pure (c0, c1)

end

end Cert.KernelIdeal.Flash

end
-- ==== Proof.Flash.Body.lean ====
/- The printed body is the clean one at its own rectangles. -/
module

public import proofs.«01_k».proof.Proof.Flash.Clean

@[expose] public section

set_option maxRecDepth 65536
set_option maxHeartbeats 4000000

noncomputable section

namespace Cert.KernelIdeal.Flash

open Idealize.ShloMosaic Idealize.SL.Sem
open Cert.KernelIdeal

variable {F : FTy → Type} [FloatOps F] [Named F]
variable [Facts]
open Facts₀ Facts

/-- The rectangles of a group of sixteen blocks. -/
def offsG (i : grid0.Coords) (k0_t1 : Fin k0_t1_loop.trips) (k0_t2 : Fin (k0_t2_loop k0_t1).trips) : Offs where
  k0 j := ⟨k0_off1 k0_t1 k0_t2 (BitVec.ofNat 32 (Fin.ofNat 16 (j - 1)).val), k0_off1_inb k0_t1 k0_t2 (Fin.ofNat 16 (j - 1))⟩
  k1 j := ⟨k0_off3 k0_t1 k0_t2 (BitVec.ofNat 32 (Fin.ofNat 16 (j - 1)).val), k0_off3_inb k0_t1 k0_t2 (Fin.ofNat 16 (j - 1))⟩
  q0 := ⟨k0_off2 k0_t1, k0_off2_inb k0_t1⟩
  q1 := ⟨k0_off4 k0_t1, k0_off4_inb k0_t1⟩
  r0 := ⟨k0_off5 i (BitVec.ofNat 32 (0 : Fin 2).val), k0_off5_inb i 0⟩
  r1 := ⟨k0_off5 i (BitVec.ofNat 32 (1 : Fin 2).val), k0_off5_inb i 1⟩
  v0 j := ⟨k0_off6 k0_t1 k0_t2 (BitVec.ofNat 32 (Fin.ofNat 16 j).val), k0_off6_inb k0_t1 k0_t2 (Fin.ofNat 16 j)⟩
  v1 j := ⟨k0_off7 k0_t1 k0_t2 (BitVec.ofNat 32 (Fin.ofNat 16 j).val), k0_off7_inb k0_t1 k0_t2 (Fin.ofNat 16 j)⟩

/-- The rectangles of a group of sixteen blocks. -/
def offsR (i : grid0.Coords) (k0_t1 : Fin k0_t1_loop.trips) (k0_t3 : Fin (k0_t3_loop k0_t1).trips) : Offs where
  k0 j := ⟨k0_off8 k0_t1 k0_t3 (BitVec.ofNat 32 (Fin.ofNat 16 (j - 1)).val), k0_off8_inb k0_t1 k0_t3 (Fin.ofNat 16 (j - 1))⟩
  k1 j := ⟨k0_off10 k0_t1 k0_t3 (BitVec.ofNat 32 (Fin.ofNat 16 (j - 1)).val), k0_off10_inb k0_t1 k0_t3 (Fin.ofNat 16 (j - 1))⟩
  q0 := ⟨k0_off9 k0_t1, k0_off9_inb k0_t1⟩
  q1 := ⟨k0_off11 k0_t1, k0_off11_inb k0_t1⟩
  r0 := ⟨k0_off12 i (BitVec.ofNat 32 (0 : Fin 2).val), k0_off12_inb i 0⟩
  r1 := ⟨k0_off12 i (BitVec.ofNat 32 (1 : Fin 2).val), k0_off12_inb i 1⟩
  v0 j := ⟨k0_off13 k0_t1 k0_t3 (BitVec.ofNat 32 (Fin.ofNat 16 j).val), k0_off13_inb k0_t1 k0_t3 (Fin.ofNat 16 j)⟩
  v1 j := ⟨k0_off14 k0_t1 k0_t3 (BitVec.ofNat 32 (Fin.ofNat 16 j).val), k0_off14_inb k0_t1 k0_t3 (Fin.ofNat 16 j)⟩

/-- The rectangles of the branch with 14 further full blocks. -/
def offs7 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : k0_cond5 k0_t1 = 1#1) (k0_h6 : k0_cond6 k0_t1 = 1#1) (k0_h7 : k0_cond7 k0_t1 = 1#1) : Offs where
  k0 j := ⟨k0_off15 k0_t1 (BitVec.ofNat 32 (Fin.ofNat 15 (j - 1)).val), k0_off15_inb k0_t1 k0_h1 k0_h2 k0_h3 k0_h4 k0_h5 k0_h6 k0_h7 (Fin.ofNat 15 (j - 1))⟩
  k1 j := ⟨k0_off17 k0_t1 (BitVec.ofNat 32 (Fin.ofNat 15 (j - 1)).val), k0_off17_inb k0_t1 k0_h1 k0_h2 k0_h3 k0_h4 k0_h5 k0_h6 k0_h7 (Fin.ofNat 15 (j - 1))⟩
  q0 := ⟨k0_off16 k0_t1, k0_off16_inb k0_t1 k0_h1 k0_h2 k0_h3 k0_h4 k0_h5 k0_h6 k0_h7⟩
  q1 := ⟨k0_off18 k0_t1, k0_off18_inb k0_t1 k0_h1 k0_h2 k0_h3 k0_h4 k0_h5 k0_h6 k0_h7⟩
  r0 := ⟨k0_off19 i (BitVec.ofNat 32 (0 : Fin 2).val), k0_off19_inb i k0_t1 k0_h1 k0_h2 k0_h3 k0_h4 k0_h5 k0_h6 k0_h7 0⟩
  r1 := ⟨k0_off19 i (BitVec.ofNat 32 (1 : Fin 2).val), k0_off19_inb i k0_t1 k0_h1 k0_h2 k0_h3 k0_h4 k0_h5 k0_h6 k0_h7 1⟩
  v0 j := ⟨k0_off20 k0_t1 (BitVec.ofNat 32 (Fin.ofNat 16 j).val), k0_off20_inb k0_t1 k0_h1 k0_h2 k0_h3 k0_h4 k0_h5 k0_h6 k0_h7 (Fin.ofNat 16 j)⟩
  v1 j := ⟨k0_off21 k0_t1 (BitVec.ofNat 32 (Fin.ofNat 16 j).val), k0_off21_inb k0_t1 k0_h1 k0_h2 k0_h3 k0_h4 k0_h5 k0_h6 k0_h7 (Fin.ofNat 16 j)⟩

def doffs7 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : k0_cond5 k0_t1 = 1#1) (k0_h6 : k0_cond6 k0_t1 = 1#1) (k0_h7 : k0_cond7 k0_t1 = 1#1) : DOffs where
  h0 := ⟨k0_off22 k0_t1, k0_off22_inb k0_t1 k0_h1 k0_h2 k0_h3 k0_h4 k0_h5 k0_h6 k0_h7⟩
  h1 := ⟨k0_off23 k0_t1, k0_off23_inb k0_t1 k0_h1 k0_h2 k0_h3 k0_h4 k0_h5 k0_h6 k0_h7⟩
  n0 := ⟨k0_off24 k0_t1, k0_off24_inb k0_t1 k0_h1 k0_h2 k0_h3 k0_h4 k0_h5 k0_h6 k0_h7⟩
  n1 := ⟨k0_off25 k0_t1, k0_off25_inb k0_t1 k0_h1 k0_h2 k0_h3 k0_h4 k0_h5 k0_h6 k0_h7⟩
  t0 := ⟨k0_off26 i (BitVec.ofNat 32 (0 : Fin 2).val), k0_off26_inb i k0_t1 k0_h1 k0_h2 k0_h3 k0_h4 k0_h5 k0_h6 k0_h7 0⟩
  t1 := ⟨k0_off26 i (BitVec.ofNat 32 (1 : Fin 2).val), k0_off26_inb i k0_t1 k0_h1 k0_h2 k0_h3 k0_h4 k0_h5 k0_h6 k0_h7 1⟩
  oo := ⟨k0_off27 k0_t1, k0_off27_inb k0_t1 k0_h1 k0_h2 k0_h3 k0_h4 k0_h5 k0_h6 k0_h7, k0_off27_packedbf16 k0_t1 k0_h1 k0_h2 k0_h3 k0_h4 k0_h5 k0_h6 k0_h7⟩

/-- The rectangles of the branch with 12 further full blocks. -/
def offs6 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : k0_cond5 k0_t1 = 1#1) (k0_h6 : k0_cond6 k0_t1 = 1#1) (k0_h7 : ¬(k0_cond7 k0_t1 = 1#1)) : Offs where
  k0 j := ⟨k0_off28 k0_t1 (BitVec.ofNat 32 (Fin.ofNat 13 (j - 1)).val), k0_off28_inb k0_t1 k0_h1 k0_h2 k0_h3 k0_h4 k0_h5 k0_h6 k0_h7 (Fin.ofNat 13 (j - 1))⟩
  k1 j := ⟨k0_off30 k0_t1 (BitVec.ofNat 32 (Fin.ofNat 13 (j - 1)).val), k0_off30_inb k0_t1 k0_h1 k0_h2 k0_h3 k0_h4 k0_h5 k0_h6 k0_h7 (Fin.ofNat 13 (j - 1))⟩
  q0 := ⟨k0_off29 k0_t1, k0_off29_inb k0_t1 k0_h1 k0_h2 k0_h3 k0_h4 k0_h5 k0_h6 k0_h7⟩
  q1 := ⟨k0_off31 k0_t1, k0_off31_inb k0_t1 k0_h1 k0_h2 k0_h3 k0_h4 k0_h5 k0_h6 k0_h7⟩
  r0 := ⟨k0_off32 i (BitVec.ofNat 32 (0 : Fin 2).val), k0_off32_inb i k0_t1 k0_h1 k0_h2 k0_h3 k0_h4 k0_h5 k0_h6 k0_h7 0⟩
  r1 := ⟨k0_off32 i (BitVec.ofNat 32 (1 : Fin 2).val), k0_off32_inb i k0_t1 k0_h1 k0_h2 k0_h3 k0_h4 k0_h5 k0_h6 k0_h7 1⟩
  v0 j := ⟨k0_off33 k0_t1 (BitVec.ofNat 32 (Fin.ofNat 14 j).val), k0_off33_inb k0_t1 k0_h1 k0_h2 k0_h3 k0_h4 k0_h5 k0_h6 k0_h7 (Fin.ofNat 14 j)⟩
  v1 j := ⟨k0_off34 k0_t1 (BitVec.ofNat 32 (Fin.ofNat 14 j).val), k0_off34_inb k0_t1 k0_h1 k0_h2 k0_h3 k0_h4 k0_h5 k0_h6 k0_h7 (Fin.ofNat 14 j)⟩

def doffs6 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : k0_cond5 k0_t1 = 1#1) (k0_h6 : k0_cond6 k0_t1 = 1#1) (k0_h7 : ¬(k0_cond7 k0_t1 = 1#1)) : DOffs where
  h0 := ⟨k0_off35 k0_t1, k0_off35_inb k0_t1 k0_h1 k0_h2 k0_h3 k0_h4 k0_h5 k0_h6 k0_h7⟩
  h1 := ⟨k0_off36 k0_t1, k0_off36_inb k0_t1 k0_h1 k0_h2 k0_h3 k0_h4 k0_h5 k0_h6 k0_h7⟩
  n0 := ⟨k0_off37 k0_t1, k0_off37_inb k0_t1 k0_h1 k0_h2 k0_h3 k0_h4 k0_h5 k0_h6 k0_h7⟩
  n1 := ⟨k0_off38 k0_t1, k0_off38_inb k0_t1 k0_h1 k0_h2 k0_h3 k0_h4 k0_h5 k0_h6 k0_h7⟩
  t0 := ⟨k0_off39 i (BitVec.ofNat 32 (0 : Fin 2).val), k0_off39_inb i k0_t1 k0_h1 k0_h2 k0_h3 k0_h4 k0_h5 k0_h6 k0_h7 0⟩
  t1 := ⟨k0_off39 i (BitVec.ofNat 32 (1 : Fin 2).val), k0_off39_inb i k0_t1 k0_h1 k0_h2 k0_h3 k0_h4 k0_h5 k0_h6 k0_h7 1⟩
  oo := ⟨k0_off40 k0_t1, k0_off40_inb k0_t1 k0_h1 k0_h2 k0_h3 k0_h4 k0_h5 k0_h6 k0_h7, k0_off40_packedbf16 k0_t1 k0_h1 k0_h2 k0_h3 k0_h4 k0_h5 k0_h6 k0_h7⟩

/-- The rectangles of the branch with 10 further full blocks. -/
def offs5 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : k0_cond5 k0_t1 = 1#1) (k0_h6 : ¬(k0_cond6 k0_t1 = 1#1)) : Offs where
  k0 j := ⟨k0_off41 k0_t1 (BitVec.ofNat 32 (Fin.ofNat 11 (j - 1)).val), k0_off41_inb k0_t1 k0_h1 k0_h2 k0_h3 k0_h4 k0_h5 k0_h6 (Fin.ofNat 11 (j - 1))⟩
  k1 j := ⟨k0_off43 k0_t1 (BitVec.ofNat 32 (Fin.ofNat 11 (j - 1)).val), k0_off43_inb k0_t1 k0_h1 k0_h2 k0_h3 k0_h4 k0_h5 k0_h6 (Fin.ofNat 11 (j - 1))⟩
  q0 := ⟨k0_off42 k0_t1, k0_off42_inb k0_t1 k0_h1 k0_h2 k0_h3 k0_h4 k0_h5 k0_h6⟩
  q1 := ⟨k0_off44 k0_t1, k0_off44_inb k0_t1 k0_h1 k0_h2 k0_h3 k0_h4 k0_h5 k0_h6⟩
  r0 := ⟨k0_off45 i (BitVec.ofNat 32 (0 : Fin 2).val), k0_off45_inb i k0_t1 k0_h1 k0_h2 k0_h3 k0_h4 k0_h5 k0_h6 0⟩
  r1 := ⟨k0_off45 i (BitVec.ofNat 32 (1 : Fin 2).val), k0_off45_inb i k0_t1 k0_h1 k0_h2 k0_h3 k0_h4 k0_h5 k0_h6 1⟩
  v0 j := ⟨k0_off46 k0_t1 (BitVec.ofNat 32 (Fin.ofNat 12 j).val), k0_off46_inb k0_t1 k0_h1 k0_h2 k0_h3 k0_h4 k0_h5 k0_h6 (Fin.ofNat 12 j)⟩
  v1 j := ⟨k0_off47 k0_t1 (BitVec.ofNat 32 (Fin.ofNat 12 j).val), k0_off47_inb k0_t1 k0_h1 k0_h2 k0_h3 k0_h4 k0_h5 k0_h6 (Fin.ofNat 12 j)⟩

def doffs5 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : k0_cond5 k0_t1 = 1#1) (k0_h6 : ¬(k0_cond6 k0_t1 = 1#1)) : DOffs where
  h0 := ⟨k0_off48 k0_t1, k0_off48_inb k0_t1 k0_h1 k0_h2 k0_h3 k0_h4 k0_h5 k0_h6⟩
  h1 := ⟨k0_off49 k0_t1, k0_off49_inb k0_t1 k0_h1 k0_h2 k0_h3 k0_h4 k0_h5 k0_h6⟩
  n0 := ⟨k0_off50 k0_t1, k0_off50_inb k0_t1 k0_h1 k0_h2 k0_h3 k0_h4 k0_h5 k0_h6⟩
  n1 := ⟨k0_off51 k0_t1, k0_off51_inb k0_t1 k0_h1 k0_h2 k0_h3 k0_h4 k0_h5 k0_h6⟩
  t0 := ⟨k0_off52 i (BitVec.ofNat 32 (0 : Fin 2).val), k0_off52_inb i k0_t1 k0_h1 k0_h2 k0_h3 k0_h4 k0_h5 k0_h6 0⟩
  t1 := ⟨k0_off52 i (BitVec.ofNat 32 (1 : Fin 2).val), k0_off52_inb i k0_t1 k0_h1 k0_h2 k0_h3 k0_h4 k0_h5 k0_h6 1⟩
  oo := ⟨k0_off53 k0_t1, k0_off53_inb k0_t1 k0_h1 k0_h2 k0_h3 k0_h4 k0_h5 k0_h6, k0_off53_packedbf16 k0_t1 k0_h1 k0_h2 k0_h3 k0_h4 k0_h5 k0_h6⟩

/-- The rectangles of the branch with 8 further full blocks. -/
def offs4 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : ¬(k0_cond5 k0_t1 = 1#1)) : Offs where
  k0 j := ⟨k0_off54 k0_t1 (BitVec.ofNat 32 (Fin.ofNat 9 (j - 1)).val), k0_off54_inb k0_t1 k0_h1 k0_h2 k0_h3 k0_h4 k0_h5 (Fin.ofNat 9 (j - 1))⟩
  k1 j := ⟨k0_off56 k0_t1 (BitVec.ofNat 32 (Fin.ofNat 9 (j - 1)).val), k0_off56_inb k0_t1 k0_h1 k0_h2 k0_h3 k0_h4 k0_h5 (Fin.ofNat 9 (j - 1))⟩
  q0 := ⟨k0_off55 k0_t1, k0_off55_inb k0_t1 k0_h1 k0_h2 k0_h3 k0_h4 k0_h5⟩
  q1 := ⟨k0_off57 k0_t1, k0_off57_inb k0_t1 k0_h1 k0_h2 k0_h3 k0_h4 k0_h5⟩
  r0 := ⟨k0_off58 i (BitVec.ofNat 32 (0 : Fin 2).val), k0_off58_inb i k0_t1 k0_h1 k0_h2 k0_h3 k0_h4 k0_h5 0⟩
  r1 := ⟨k0_off58 i (BitVec.ofNat 32 (1 : Fin 2).val), k0_off58_inb i k0_t1 k0_h1 k0_h2 k0_h3 k0_h4 k0_h5 1⟩
  v0 j := ⟨k0_off59 k0_t1 (BitVec.ofNat 32 (Fin.ofNat 10 j).val), k0_off59_inb k0_t1 k0_h1 k0_h2 k0_h3 k0_h4 k0_h5 (Fin.ofNat 10 j)⟩
  v1 j := ⟨k0_off60 k0_t1 (BitVec.ofNat 32 (Fin.ofNat 10 j).val), k0_off60_inb k0_t1 k0_h1 k0_h2 k0_h3 k0_h4 k0_h5 (Fin.ofNat 10 j)⟩

def doffs4 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : ¬(k0_cond5 k0_t1 = 1#1)) : DOffs where
  h0 := ⟨k0_off61 k0_t1, k0_off61_inb k0_t1 k0_h1 k0_h2 k0_h3 k0_h4 k0_h5⟩
  h1 := ⟨k0_off62 k0_t1, k0_off62_inb k0_t1 k0_h1 k0_h2 k0_h3 k0_h4 k0_h5⟩
  n0 := ⟨k0_off63 k0_t1, k0_off63_inb k0_t1 k0_h1 k0_h2 k0_h3 k0_h4 k0_h5⟩
  n1 := ⟨k0_off64 k0_t1, k0_off64_inb k0_t1 k0_h1 k0_h2 k0_h3 k0_h4 k0_h5⟩
  t0 := ⟨k0_off65 i (BitVec.ofNat 32 (0 : Fin 2).val), k0_off65_inb i k0_t1 k0_h1 k0_h2 k0_h3 k0_h4 k0_h5 0⟩
  t1 := ⟨k0_off65 i (BitVec.ofNat 32 (1 : Fin 2).val), k0_off65_inb i k0_t1 k0_h1 k0_h2 k0_h3 k0_h4 k0_h5 1⟩
  oo := ⟨k0_off66 k0_t1, k0_off66_inb k0_t1 k0_h1 k0_h2 k0_h3 k0_h4 k0_h5, k0_off66_packedbf16 k0_t1 k0_h1 k0_h2 k0_h3 k0_h4 k0_h5⟩

/-- The rectangles of the branch with 6 further full blocks. -/
def offs3 (i : grid0.Coords) (k0_t1 : Fin k0_t1_loop.trips) (k0_h1 : k0_cond1 k0_t1 = 1#1) (k0_h2 : k0_cond2 k0_t1 = 1#1) (k0_h3 : k0_cond3 k0_t1 = 1#1) (k0_h4 : ¬(k0_cond4 k0_t1 = 1#1)) : Offs where
  k0 j := ⟨k0_off67 k0_t1 (BitVec.ofNat 32 (Fin.ofNat 7 (j - 1)).val), k0_off67_inb k0_t1 k0_h1 k0_h2 k0_h3 k0_h4 (Fin.ofNat 7 (j - 1))⟩
  k1 j := ⟨k0_off69 k0_t1 (BitVec.ofNat 32 (Fin.ofNat 7 (j - 1)).val), k0_off69_inb k0_t1 k0_h1 k0_h2 k0_h3 k0_h4 (Fin.ofNat 7 (j - 1))⟩
  q0 := ⟨k0_off68 k0_t1, k0_off68_inb k0_t1 k0_h1 k0_h2 k0_h3 k0_h4⟩
  q1 := ⟨k0_off70 k0_t1, k0_off70_inb k0_t1 k0_h1 k0_h2 k0_h3 k0_h4⟩
  r0 := ⟨k0_off71 i (BitVec.ofNat 32 (0 : Fin 2).val), k0_off71_inb i k0_t1 k0_h1 k0_h2 k0_h3 k0_h4 0⟩
  r1 := ⟨k0_off71 i (BitVec.ofNat 32 (1 : Fin 2).val), k0_off71_inb i k0_t1 k0_h1 k0_h2 k0_h3 k0_h4 1⟩
  v0 j := ⟨k0_off72 k0_t1 (BitVec.ofNat 32 (Fin.ofNat 8 j).val), k0_off72_inb k0_t1 k0_h1 k0_h2 k0_h3 k0_h4 (Fin.ofNat 8 j)⟩
  v1 j := ⟨k0_off73 k0_t1 (BitVec.ofNat 32 (Fin.ofNat 8 j).val), k0_off73_inb k0_t1 k0_h1 k0_h2 k0_h3 k0_h4 (Fin.ofNat 8 j)⟩

def doffs3 (i : grid0.Coords) (k0_t1 : Fin k0_t1_loop.trips) (k0_h1 : k0_cond1 k0_t1 = 1#1) (k0_h2 : k0_cond2 k0_t1 = 1#1) (k0_h3 : k0_cond3 k0_t1 = 1#1) (k0_h4 : ¬(k0_cond4 k0_t1 = 1#1)) : DOffs where
  h0 := ⟨k0_off74 k0_t1, k0_off74_inb k0_t1 k0_h1 k0_h2 k0_h3 k0_h4⟩
  h1 := ⟨k0_off75 k0_t1, k0_off75_inb k0_t1 k0_h1 k0_h2 k0_h3 k0_h4⟩
  n0 := ⟨k0_off76 k0_t1, k0_off76_inb k0_t1 k0_h1 k0_h2 k0_h3 k0_h4⟩
  n1 := ⟨k0_off77 k0_t1, k0_off77_inb k0_t1 k0_h1 k0_h2 k0_h3 k0_h4⟩
  t0 := ⟨k0_off78 i (BitVec.ofNat 32 (0 : Fin 2).val), k0_off78_inb i k0_t1 k0_h1 k0_h2 k0_h3 k0_h4 0⟩
  t1 := ⟨k0_off78 i (BitVec.ofNat 32 (1 : Fin 2).val), k0_off78_inb i k0_t1 k0_h1 k0_h2 k0_h3 k0_h4 1⟩
  oo := ⟨k0_off79 k0_t1, k0_off79_inb k0_t1 k0_h1 k0_h2 k0_h3 k0_h4, k0_off79_packedbf16 k0_t1 k0_h1 k0_h2 k0_h3 k0_h4⟩

/-- The rectangles of the branch with 4 further full blocks. -/
def offs2 (i : grid0.Coords) (k0_t1 : Fin k0_t1_loop.trips) (k0_h1 : k0_cond1 k0_t1 = 1#1) (k0_h2 : k0_cond2 k0_t1 = 1#1) (k0_h3 : ¬(k0_cond3 k0_t1 = 1#1)) : Offs where
  k0 j := ⟨k0_off80 k0_t1 (BitVec.ofNat 32 (Fin.ofNat 5 (j - 1)).val), k0_off80_inb k0_t1 k0_h1 k0_h2 k0_h3 (Fin.ofNat 5 (j - 1))⟩
  k1 j := ⟨k0_off82 k0_t1 (BitVec.ofNat 32 (Fin.ofNat 5 (j - 1)).val), k0_off82_inb k0_t1 k0_h1 k0_h2 k0_h3 (Fin.ofNat 5 (j - 1))⟩
  q0 := ⟨k0_off81 k0_t1, k0_off81_inb k0_t1 k0_h1 k0_h2 k0_h3⟩
  q1 := ⟨k0_off83 k0_t1, k0_off83_inb k0_t1 k0_h1 k0_h2 k0_h3⟩
  r0 := ⟨k0_off84 i (BitVec.ofNat 32 (0 : Fin 2).val), k0_off84_inb i k0_t1 k0_h1 k0_h2 k0_h3 0⟩
  r1 := ⟨k0_off84 i (BitVec.ofNat 32 (1 : Fin 2).val), k0_off84_inb i k0_t1 k0_h1 k0_h2 k0_h3 1⟩
  v0 j := ⟨k0_off85 k0_t1 (BitVec.ofNat 32 (Fin.ofNat 6 j).val), k0_off85_inb k0_t1 k0_h1 k0_h2 k0_h3 (Fin.ofNat 6 j)⟩
  v1 j := ⟨k0_off86 k0_t1 (BitVec.ofNat 32 (Fin.ofNat 6 j).val), k0_off86_inb k0_t1 k0_h1 k0_h2 k0_h3 (Fin.ofNat 6 j)⟩

def doffs2 (i : grid0.Coords) (k0_t1 : Fin k0_t1_loop.trips) (k0_h1 : k0_cond1 k0_t1 = 1#1) (k0_h2 : k0_cond2 k0_t1 = 1#1) (k0_h3 : ¬(k0_cond3 k0_t1 = 1#1)) : DOffs where
  h0 := ⟨k0_off87 k0_t1, k0_off87_inb k0_t1 k0_h1 k0_h2 k0_h3⟩
  h1 := ⟨k0_off88 k0_t1, k0_off88_inb k0_t1 k0_h1 k0_h2 k0_h3⟩
  n0 := ⟨k0_off89 k0_t1, k0_off89_inb k0_t1 k0_h1 k0_h2 k0_h3⟩
  n1 := ⟨k0_off90 k0_t1, k0_off90_inb k0_t1 k0_h1 k0_h2 k0_h3⟩
  t0 := ⟨k0_off91 i (BitVec.ofNat 32 (0 : Fin 2).val), k0_off91_inb i k0_t1 k0_h1 k0_h2 k0_h3 0⟩
  t1 := ⟨k0_off91 i (BitVec.ofNat 32 (1 : Fin 2).val), k0_off91_inb i k0_t1 k0_h1 k0_h2 k0_h3 1⟩
  oo := ⟨k0_off92 k0_t1, k0_off92_inb k0_t1 k0_h1 k0_h2 k0_h3, k0_off92_packedbf16 k0_t1 k0_h1 k0_h2 k0_h3⟩

/-- The rectangles of the branch with 2 further full blocks. -/
def offs1 (i : grid0.Coords) (k0_t1 : Fin k0_t1_loop.trips) (k0_h1 : k0_cond1 k0_t1 = 1#1) (k0_h2 : ¬(k0_cond2 k0_t1 = 1#1)) : Offs where
  k0 j := ⟨k0_off93 k0_t1 (BitVec.ofNat 32 (Fin.ofNat 3 (j - 1)).val), k0_off93_inb k0_t1 k0_h1 k0_h2 (Fin.ofNat 3 (j - 1))⟩
  k1 j := ⟨k0_off95 k0_t1 (BitVec.ofNat 32 (Fin.ofNat 3 (j - 1)).val), k0_off95_inb k0_t1 k0_h1 k0_h2 (Fin.ofNat 3 (j - 1))⟩
  q0 := ⟨k0_off94 k0_t1, k0_off94_inb k0_t1 k0_h1 k0_h2⟩
  q1 := ⟨k0_off96 k0_t1, k0_off96_inb k0_t1 k0_h1 k0_h2⟩
  r0 := ⟨k0_off97 i (BitVec.ofNat 32 (0 : Fin 2).val), k0_off97_inb i k0_t1 k0_h1 k0_h2 0⟩
  r1 := ⟨k0_off97 i (BitVec.ofNat 32 (1 : Fin 2).val), k0_off97_inb i k0_t1 k0_h1 k0_h2 1⟩
  v0 j := ⟨k0_off98 k0_t1 (BitVec.ofNat 32 (Fin.ofNat 4 j).val), k0_off98_inb k0_t1 k0_h1 k0_h2 (Fin.ofNat 4 j)⟩
  v1 j := ⟨k0_off99 k0_t1 (BitVec.ofNat 32 (Fin.ofNat 4 j).val), k0_off99_inb k0_t1 k0_h1 k0_h2 (Fin.ofNat 4 j)⟩

def doffs1 (i : grid0.Coords) (k0_t1 : Fin k0_t1_loop.trips) (k0_h1 : k0_cond1 k0_t1 = 1#1) (k0_h2 : ¬(k0_cond2 k0_t1 = 1#1)) : DOffs where
  h0 := ⟨k0_off100 k0_t1, k0_off100_inb k0_t1 k0_h1 k0_h2⟩
  h1 := ⟨k0_off101 k0_t1, k0_off101_inb k0_t1 k0_h1 k0_h2⟩
  n0 := ⟨k0_off102 k0_t1, k0_off102_inb k0_t1 k0_h1 k0_h2⟩
  n1 := ⟨k0_off103 k0_t1, k0_off103_inb k0_t1 k0_h1 k0_h2⟩
  t0 := ⟨k0_off104 i (BitVec.ofNat 32 (0 : Fin 2).val), k0_off104_inb i k0_t1 k0_h1 k0_h2 0⟩
  t1 := ⟨k0_off104 i (BitVec.ofNat 32 (1 : Fin 2).val), k0_off104_inb i k0_t1 k0_h1 k0_h2 1⟩
  oo := ⟨k0_off105 k0_t1, k0_off105_inb k0_t1 k0_h1 k0_h2, k0_off105_packedbf16 k0_t1 k0_h1 k0_h2⟩

/-- The rectangles of the branch with 0 further full blocks. -/
def offs0 (i : grid0.Coords) (k0_t1 : Fin k0_t1_loop.trips) (k0_h1 : ¬(k0_cond1 k0_t1 = 1#1)) : Offs where
  k0 j := ⟨k0_off106 k0_t1, k0_off106_inb k0_t1 k0_h1⟩
  k1 j := ⟨k0_off108 k0_t1, k0_off108_inb k0_t1 k0_h1⟩
  q0 := ⟨k0_off2 k0_t1, k0_off2_inb k0_t1⟩
  q1 := ⟨k0_off4 k0_t1, k0_off4_inb k0_t1⟩
  r0 := ⟨k0_off110 i (BitVec.ofNat 32 (0 : Fin 2).val), k0_off110_inb i k0_t1 k0_h1 0⟩
  r1 := ⟨k0_off110 i (BitVec.ofNat 32 (1 : Fin 2).val), k0_off110_inb i k0_t1 k0_h1 1⟩
  v0 j := ⟨k0_off111 k0_t1 (BitVec.ofNat 32 (Fin.ofNat 2 j).val), k0_off111_inb k0_t1 k0_h1 (Fin.ofNat 2 j)⟩
  v1 j := ⟨k0_off112 k0_t1 (BitVec.ofNat 32 (Fin.ofNat 2 j).val), k0_off112_inb k0_t1 k0_h1 (Fin.ofNat 2 j)⟩

def doffs0 (i : grid0.Coords) (k0_t1 : Fin k0_t1_loop.trips) (k0_h1 : ¬(k0_cond1 k0_t1 = 1#1)) : DOffs where
  h0 := ⟨k0_off107 k0_t1, k0_off107_inb k0_t1 k0_h1⟩
  h1 := ⟨k0_off109 k0_t1, k0_off109_inb k0_t1 k0_h1⟩
  n0 := ⟨k0_off113 k0_t1, k0_off113_inb k0_t1 k0_h1⟩
  n1 := ⟨k0_off114 k0_t1, k0_off114_inb k0_t1 k0_h1⟩
  t0 := ⟨k0_off115 i (BitVec.ofNat 32 (0 : Fin 2).val), k0_off115_inb i k0_t1 k0_h1 0⟩
  t1 := ⟨k0_off115 i (BitVec.ofNat 32 (1 : Fin 2).val), k0_off115_inb i k0_t1 k0_h1 1⟩
  oo := ⟨k0_off116 k0_t1, k0_off116_inb k0_t1 k0_h1, k0_off116_packedbf16 k0_t1 k0_h1⟩

section
variable (i : grid0.Coords) (arg2 : Memref sig .tc .vmem S1x256x8192 .bf16) (harg2 : arg2.IsWhole) (arg3 : Memref sig .tc .vmem S1x8192x256 .bf16) (harg3 : arg3.IsWhole) (arg4 : Memref sig .tc .vmem S1x128x8192 .bf16) (harg4 : arg4.IsWhole) (arg5 : Memref sig .tc .vmem S1x8192x128 .bf16) (harg5 : arg5.IsWhole) (arg6 : Memref sig .tc .vmem S2x256x512 .f32) (harg6 : arg6.IsWhole) (arg7 : Memref sig .tc .vmem S2x256x512 .f32) (harg7 : arg7.IsWhole)

/-- The run-time choice of the branch. -/
def pick (v5 : FVec F S16x256 .bf16) (k0_t1 : Fin k0_t1_loop.trips) (s : St F) : P F (FVec F S1x512 .f32 × FVec F S1x512 .f32) :=
  if k0_h1 : k0_cond1 k0_t1 = 1#1 then
      if k0_h2 : k0_cond2 k0_t1 = 1#1 then
          if k0_h3 : k0_cond3 k0_t1 = 1#1 then
              if k0_h4 : k0_cond4 k0_t1 = 1#1 then
                  if k0_h5 : k0_cond5 k0_t1 = 1#1 then
                      if k0_h6 : k0_cond6 k0_t1 = 1#1 then
                          if k0_h7 : k0_cond7 k0_t1 = 1#1 then
                              tail arg2 arg3 arg4 arg5 harg5 arg6 arg7 (offs7 i k0_t1 k0_h1 k0_h2 k0_h3 k0_h4 k0_h5 k0_h6 k0_h7) (doffs7 i k0_t1 k0_h1 k0_h2 k0_h3 k0_h4 k0_h5 k0_h6 k0_h7) v5 7 0 s
                            else
                              tail arg2 arg3 arg4 arg5 harg5 arg6 arg7 (offs6 i k0_t1 k0_h1 k0_h2 k0_h3 k0_h4 k0_h5 k0_h6 k0_h7) (doffs6 i k0_t1 k0_h1 k0_h2 k0_h3 k0_h4 k0_h5 k0_h6 k0_h7) v5 6 0 s
                        else
                          tail arg2 arg3 arg4 arg5 harg5 arg6 arg7 (offs5 i k0_t1 k0_h1 k0_h2 k0_h3 k0_h4 k0_h5 k0_h6) (doffs5 i k0_t1 k0_h1 k0_h2 k0_h3 k0_h4 k0_h5 k0_h6) v5 5 0 s
                    else
                      tail arg2 arg3 arg4 arg5 harg5 arg6 arg7 (offs4 i k0_t1 k0_h1 k0_h2 k0_h3 k0_h4 k0_h5) (doffs4 i k0_t1 k0_h1 k0_h2 k0_h3 k0_h4 k0_h5) v5 4 0 s
                else
                  tail arg2 arg3 arg4 arg5 harg5 arg6 arg7 (offs3 i k0_t1 k0_h1 k0_h2 k0_h3 k0_h4) (doffs3 i k0_t1 k0_h1 k0_h2 k0_h3 k0_h4) v5 3 0 s
            else
              tail arg2 arg3 arg4 arg5 harg5 arg6 arg7 (offs2 i k0_t1 k0_h1 k0_h2 k0_h3) (doffs2 i k0_t1 k0_h1 k0_h2 k0_h3) v5 2 0 s
        else
          tail arg2 arg3 arg4 arg5 harg5 arg6 arg7 (offs1 i k0_t1 k0_h1 k0_h2) (doffs1 i k0_t1 k0_h1 k0_h2) v5 1 0 s
    else
      tail arg2 arg3 arg4 arg5 harg5 arg6 arg7 (offs0 i k0_t1 k0_h1) (doffs0 i k0_t1 k0_h1) v5 0 0 s

/-- One query tile. -/
def tile (v5 : FVec F S16x256 .bf16) (k0_t1 : Fin k0_t1_loop.trips) (c0 c1 : FVec F S1x512 .f32) : P F (FVec F S1x512 .f32 × FVec F S1x512 .f32) := do
  let (c0, c1, m0, a0, m1, a1) ← Scf.Loop.for (k0_t2_loop k0_t1) (k0_t2_ok k0_t1) ((c0, c1, broadcast S1x512 (Named.named κ "mask" 0xF149F2CA#32), broadcast S80x512 (Scalar.ofBits .f32 0x00000000#32), broadcast S1x512 (Named.named κ "mask" 0xF149F2CA#32), broadcast S80x512 (Scalar.ofBits .f32 0x00000000#32)) : St F) fun k0_t2 (c0, c1, m0, a0, m1, a1) => pairs arg2 arg3 arg4 arg6 arg7 (offsG i k0_t1 k0_t2) v5 8 0 (c0, c1, m0, a0, m1, a1)
  let (c0, c1, m0, a0, m1, a1) ← Scf.Loop.for (k0_t3_loop k0_t1) (k0_t3_ok k0_t1) ((c0, c1, m0, a0, m1, a1) : St F) fun k0_t3 (c0, c1, m0, a0, m1, a1) => pairs arg2 arg3 arg4 arg6 arg7 (offsR i k0_t1 k0_t3) v5 8 0 (c0, c1, m0, a0, m1, a1)
  pick i arg2 arg3 arg4 arg5 harg5 arg6 arg7 v5 k0_t1 (c0, c1, m0, a0, m1, a1)

abbrev qz0 : QOff := ⟨![0, 0, 0], inb_S1x256x8192_S1x128x512_0_0_0⟩
abbrev qz1 : QOff := ⟨![0, 128, 0], inb_S1x256x8192_S1x128x512_0_128_0⟩

/-- The whole body. -/
def body : P F PUnit := do
  let (c0, c1) ← start arg2 arg3 arg6 qz0 qz1
  let (_, _) ← Scf.Loop.for k0_t1_loop k0_t1_ok (c0, c1) fun k0_t1 (c0, c1) => tile i arg2 arg3 arg4 arg5 harg5 arg6 arg7 (ones F) k0_t1 c0 c1
  pure ⟨⟩

theorem bindc {E : Type → Type} {α β : Type} {x x' : Prog E α} {f f' : α → Prog E β} (h : x = x') (hf : ∀ a, f a = f' a) : x >>= f = x' >>= f' := by
  subst h; exact congrArg _ (funext hf)

theorem t196 : k0_part196 (F := F) i arg2 harg2 arg3 harg3 arg4 harg4 arg5 harg5 arg6 harg6 arg7 harg7 = (do
  let (c0, c1) ← start arg2 arg3 arg6 qz0 qz1
  pure ⟨ones F, Scalar.minsi (BitVec.ofNat 32 (i 0).val) 0#32, c0, c1, 0#32⟩) := rfl

set_option maxHeartbeats 40000000 in
theorem body_eq : cc0_fox_attn (F := F) i arg2 harg2 arg3 harg3 arg4 harg4 arg5 harg5 arg6 harg6 arg7 harg7 = body i arg2 arg3 arg4 arg5 harg5 arg6 arg7 := by
  unfold cc0_fox_attn body
  rw [t196]
  rw [bind_assoc]
  refine bindc rfl ?_
  rintro ⟨c0, c1⟩
  show (Scf.Loop.for k0_t1_loop k0_t1_ok _ _ >>= _) = (Scf.Loop.for k0_t1_loop k0_t1_ok _ _ >>= _)
  refine bindc ?_ fun _ => rfl
  refine congrArg _ ?_
  funext k s
  rcases s with ⟨c0, c1⟩
  unfold tile
  show (k0_part195 _ _ _ _ _ _ _ _ _ _ _ _ _ _ _ _ _ _ _ _ >>= _) = _
  unfold k0_part195
  rw [bind_assoc]
  refine bindc ?_ ?_
  · refine congrArg _ ?_
    funext k2 s2
    rcases s2 with ⟨c0, c1, m0, a0, m1, a1⟩
    rfl
  · rintro ⟨c0, c1, m0, a0, m1, a1⟩
    show ((Scf.Loop.for (k0_t3_loop k) (k0_t3_ok k) _ _ >>= _) >>= _) = (Scf.Loop.for (k0_t3_loop k) (k0_t3_ok k) _ _ >>= _)
    rw [bind_assoc]
    refine bindc ?_ ?_
    · refine congrArg _ ?_
      funext k2 s2
      rcases s2 with ⟨c0, c1, m0, a0, m1, a1⟩
      rfl
    · rintro ⟨c0, c1, m0, a0, m1, a1⟩
      unfold pick
      show dite (k0_cond1 k = 1#1) _ _ = dite (k0_cond1 k = 1#1) _ _
      refine dite_congr rfl (fun h1 => ?_) (fun h1 => rfl)
      show dite (k0_cond2 k = 1#1) _ _ = dite (k0_cond2 k = 1#1) _ _
      refine dite_congr rfl (fun h2 => ?_) (fun h2 => rfl)
      show dite (k0_cond3 k = 1#1) _ _ = dite (k0_cond3 k = 1#1) _ _
      refine dite_congr rfl (fun h3 => ?_) (fun h3 => rfl)
      show dite (k0_cond4 k = 1#1) _ _ = dite (k0_cond4 k = 1#1) _ _
      refine dite_congr rfl (fun h4 => ?_) (fun h4 => rfl)
      show dite (k0_cond5 k = 1#1) _ _ = dite (k0_cond5 k = 1#1) _ _
      refine dite_congr rfl (fun h5 => ?_) (fun h5 => rfl)
      show dite (k0_cond6 k = 1#1) _ _ = dite (k0_cond6 k = 1#1) _ _
      refine dite_congr rfl (fun h6 => ?_) (fun h6 => rfl)
      show dite (k0_cond7 k = 1#1) _ _ = dite (k0_cond7 k = 1#1) _ _
      refine dite_congr rfl (fun h7 => ?_) (fun h7 => rfl)
      rfl

end

end Cert.KernelIdeal.Flash

end
-- ==== Proof.Flash.Uni.lean ====
/- The rectangles in closed form: block `j` of the keys starts at row `256 j`, tile `t` at column `512 t`. -/
module

public import proofs.«01_k».proof.Proof.Flash.Body

@[expose] public section

set_option maxRecDepth 16384
set_option maxHeartbeats 4000000

noncomputable section

namespace Cert.KernelIdeal.Flash

open Idealize.ShloMosaic Idealize.SL.Sem
open Cert.KernelIdeal

variable {F : FTy → Type} [FloatOps F] [Named F]

theorem off1 : ∀ (k0_t1 : Fin k0_t1_loop.trips) (k0_t2 : Fin (k0_t2_loop k0_t1).trips) (r : Fin 16), k0_off1 k0_t1 k0_t2 (BitVec.ofNat 32 r.val) = ![0, 256 * ((r.val + 1) % 32), 128 * 0] := by decide +kernel
theorem off3 : ∀ (k0_t1 : Fin k0_t1_loop.trips) (k0_t2 : Fin (k0_t2_loop k0_t1).trips) (r : Fin 16), k0_off3 k0_t1 k0_t2 (BitVec.ofNat 32 r.val) = ![0, 256 * ((r.val + 1) % 32), 128 * 1] := by decide +kernel
theorem off2 : ∀ (k0_t1 : Fin k0_t1_loop.trips), k0_off2 k0_t1 = ![0, 128 * 0, 512 * (k0_t1.val % 16)] := by decide +kernel
theorem off4 : ∀ (k0_t1 : Fin k0_t1_loop.trips), k0_off4 k0_t1 = ![0, 128 * 1, 512 * (k0_t1.val % 16)] := by decide +kernel
theorem off5 : ∀ (i : grid0.Coords) (r : Fin 2), k0_off5 i (BitVec.ofNat 32 r.val) = ![r.val, 0, 0] := by decide +kernel
theorem off6 : ∀ (k0_t1 : Fin k0_t1_loop.trips) (k0_t2 : Fin (k0_t2_loop k0_t1).trips) (r : Fin 16), k0_off6 k0_t1 k0_t2 (BitVec.ofNat 32 r.val) = ![0, 64 * 0, 256 * (r.val % 32)] := by decide +kernel
theorem off7 : ∀ (k0_t1 : Fin k0_t1_loop.trips) (k0_t2 : Fin (k0_t2_loop k0_t1).trips) (r : Fin 16), k0_off7 k0_t1 k0_t2 (BitVec.ofNat 32 r.val) = ![0, 64 * 1, 256 * (r.val % 32)] := by decide +kernel
theorem off15 : ∀ (k0_t1 : Fin k0_t1_loop.trips) (r : Fin 15), k0_off15 k0_t1 (BitVec.ofNat 32 r.val) = ![0, 256 * ((16 * (k0_t1.val / 8) + r.val + 1) % 32), 128 * 0] := by decide +kernel
theorem off17 : ∀ (k0_t1 : Fin k0_t1_loop.trips) (r : Fin 15), k0_off17 k0_t1 (BitVec.ofNat 32 r.val) = ![0, 256 * ((16 * (k0_t1.val / 8) + r.val + 1) % 32), 128 * 1] := by decide +kernel
theorem off16 : ∀ (k0_t1 : Fin k0_t1_loop.trips), k0_off16 k0_t1 = ![0, 128 * 0, 512 * (k0_t1.val % 16)] := by decide +kernel
theorem off18 : ∀ (k0_t1 : Fin k0_t1_loop.trips), k0_off18 k0_t1 = ![0, 128 * 1, 512 * (k0_t1.val % 16)] := by decide +kernel
theorem off19 : ∀ (i : grid0.Coords) (r : Fin 2), k0_off19 i (BitVec.ofNat 32 r.val) = ![r.val, 0, 0] := by decide +kernel
theorem off26 : ∀ (i : grid0.Coords) (r : Fin 2), k0_off26 i (BitVec.ofNat 32 r.val) = ![r.val, 0, 256] := by decide +kernel
theorem off20 : ∀ (k0_t1 : Fin k0_t1_loop.trips) (r : Fin 16), k0_off20 k0_t1 (BitVec.ofNat 32 r.val) = ![0, 64 * 0, 256 * ((16 * (k0_t1.val / 8) + r.val) % 32)] := by decide +kernel
theorem off21 : ∀ (k0_t1 : Fin k0_t1_loop.trips) (r : Fin 16), k0_off21 k0_t1 (BitVec.ofNat 32 r.val) = ![0, 64 * 1, 256 * ((16 * (k0_t1.val / 8) + r.val) % 32)] := by decide +kernel
theorem off22 : ∀ (k0_t1 : Fin k0_t1_loop.trips), k0_off22 k0_t1 = ![0, 128 * 0, 512 * (k0_t1.val % 16) + 256] := by decide +kernel
theorem off23 : ∀ (k0_t1 : Fin k0_t1_loop.trips), k0_off23 k0_t1 = ![0, 128 * 1, 512 * (k0_t1.val % 16) + 256] := by decide +kernel
theorem off24 : ∀ (k0_t1 : Fin k0_t1_loop.trips), k0_off24 k0_t1 = ![0, 128 * 0, 512 * (min (k0_t1.val + 1) 15 % 16)] := by decide +kernel
theorem off25 : ∀ (k0_t1 : Fin k0_t1_loop.trips), k0_off25 k0_t1 = ![0, 128 * 1, 512 * (min (k0_t1.val + 1) 15 % 16)] := by decide +kernel
theorem off27 : ∀ (k0_t1 : Fin k0_t1_loop.trips), k0_off27 k0_t1 = ![0, 512 * (k0_t1.val % 16), 0] := by decide +kernel
theorem mod7 : ∀ (k0_t1 : Fin k0_t1_loop.trips) (_ : k0_cond1 k0_t1 = 1#1) (_ : k0_cond2 k0_t1 = 1#1) (_ : k0_cond3 k0_t1 = 1#1) (_ : k0_cond4 k0_t1 = 1#1) (_ : k0_cond5 k0_t1 = 1#1) (_ : k0_cond6 k0_t1 = 1#1) (_ : k0_cond7 k0_t1 = 1#1), k0_t1.val % 8 = 7 := by decide +kernel
theorem off28 : ∀ (k0_t1 : Fin k0_t1_loop.trips) (r : Fin 13), k0_off28 k0_t1 (BitVec.ofNat 32 r.val) = ![0, 256 * ((16 * (k0_t1.val / 8) + r.val + 1) % 32), 128 * 0] := by decide +kernel
theorem off30 : ∀ (k0_t1 : Fin k0_t1_loop.trips) (r : Fin 13), k0_off30 k0_t1 (BitVec.ofNat 32 r.val) = ![0, 256 * ((16 * (k0_t1.val / 8) + r.val + 1) % 32), 128 * 1] := by decide +kernel
theorem off29 : ∀ (k0_t1 : Fin k0_t1_loop.trips), k0_off29 k0_t1 = ![0, 128 * 0, 512 * (k0_t1.val % 16)] := by decide +kernel
theorem off31 : ∀ (k0_t1 : Fin k0_t1_loop.trips), k0_off31 k0_t1 = ![0, 128 * 1, 512 * (k0_t1.val % 16)] := by decide +kernel
theorem off32 : ∀ (i : grid0.Coords) (r : Fin 2), k0_off32 i (BitVec.ofNat 32 r.val) = ![r.val, 0, 0] := by decide +kernel
theorem off39 : ∀ (i : grid0.Coords) (r : Fin 2), k0_off39 i (BitVec.ofNat 32 r.val) = ![r.val, 0, 256] := by decide +kernel
theorem off33 : ∀ (k0_t1 : Fin k0_t1_loop.trips) (r : Fin 14), k0_off33 k0_t1 (BitVec.ofNat 32 r.val) = ![0, 64 * 0, 256 * ((16 * (k0_t1.val / 8) + r.val) % 32)] := by decide +kernel
theorem off34 : ∀ (k0_t1 : Fin k0_t1_loop.trips) (r : Fin 14), k0_off34 k0_t1 (BitVec.ofNat 32 r.val) = ![0, 64 * 1, 256 * ((16 * (k0_t1.val / 8) + r.val) % 32)] := by decide +kernel
theorem off35 : ∀ (k0_t1 : Fin k0_t1_loop.trips), k0_off35 k0_t1 = ![0, 128 * 0, 512 * (k0_t1.val % 16) + 256] := by decide +kernel
theorem off36 : ∀ (k0_t1 : Fin k0_t1_loop.trips), k0_off36 k0_t1 = ![0, 128 * 1, 512 * (k0_t1.val % 16) + 256] := by decide +kernel
theorem off37 : ∀ (k0_t1 : Fin k0_t1_loop.trips), k0_off37 k0_t1 = ![0, 128 * 0, 512 * (min (k0_t1.val + 1) 15 % 16)] := by decide +kernel
theorem off38 : ∀ (k0_t1 : Fin k0_t1_loop.trips), k0_off38 k0_t1 = ![0, 128 * 1, 512 * (min (k0_t1.val + 1) 15 % 16)] := by decide +kernel
theorem off40 : ∀ (k0_t1 : Fin k0_t1_loop.trips), k0_off40 k0_t1 = ![0, 512 * (k0_t1.val % 16), 0] := by decide +kernel
theorem mod6 : ∀ (k0_t1 : Fin k0_t1_loop.trips) (_ : k0_cond1 k0_t1 = 1#1) (_ : k0_cond2 k0_t1 = 1#1) (_ : k0_cond3 k0_t1 = 1#1) (_ : k0_cond4 k0_t1 = 1#1) (_ : k0_cond5 k0_t1 = 1#1) (_ : k0_cond6 k0_t1 = 1#1) (_ : ¬(k0_cond7 k0_t1 = 1#1)), k0_t1.val % 8 = 6 := by decide +kernel
theorem off41 : ∀ (k0_t1 : Fin k0_t1_loop.trips) (r : Fin 11), k0_off41 k0_t1 (BitVec.ofNat 32 r.val) = ![0, 256 * ((16 * (k0_t1.val / 8) + r.val + 1) % 32), 128 * 0] := by decide +kernel
theorem off43 : ∀ (k0_t1 : Fin k0_t1_loop.trips) (r : Fin 11), k0_off43 k0_t1 (BitVec.ofNat 32 r.val) = ![0, 256 * ((16 * (k0_t1.val / 8) + r.val + 1) % 32), 128 * 1] := by decide +kernel
theorem off42 : ∀ (k0_t1 : Fin k0_t1_loop.trips), k0_off42 k0_t1 = ![0, 128 * 0, 512 * (k0_t1.val % 16)] := by decide +kernel
theorem off44 : ∀ (k0_t1 : Fin k0_t1_loop.trips), k0_off44 k0_t1 = ![0, 128 * 1, 512 * (k0_t1.val % 16)] := by decide +kernel
theorem off45 : ∀ (i : grid0.Coords) (r : Fin 2), k0_off45 i (BitVec.ofNat 32 r.val) = ![r.val, 0, 0] := by decide +kernel
theorem off52 : ∀ (i : grid0.Coords) (r : Fin 2), k0_off52 i (BitVec.ofNat 32 r.val) = ![r.val, 0, 256] := by decide +kernel
theorem off46 : ∀ (k0_t1 : Fin k0_t1_loop.trips) (r : Fin 12), k0_off46 k0_t1 (BitVec.ofNat 32 r.val) = ![0, 64 * 0, 256 * ((16 * (k0_t1.val / 8) + r.val) % 32)] := by decide +kernel
theorem off47 : ∀ (k0_t1 : Fin k0_t1_loop.trips) (r : Fin 12), k0_off47 k0_t1 (BitVec.ofNat 32 r.val) = ![0, 64 * 1, 256 * ((16 * (k0_t1.val / 8) + r.val) % 32)] := by decide +kernel
theorem off48 : ∀ (k0_t1 : Fin k0_t1_loop.trips), k0_off48 k0_t1 = ![0, 128 * 0, 512 * (k0_t1.val % 16) + 256] := by decide +kernel
theorem off49 : ∀ (k0_t1 : Fin k0_t1_loop.trips), k0_off49 k0_t1 = ![0, 128 * 1, 512 * (k0_t1.val % 16) + 256] := by decide +kernel
theorem off50 : ∀ (k0_t1 : Fin k0_t1_loop.trips), k0_off50 k0_t1 = ![0, 128 * 0, 512 * (min (k0_t1.val + 1) 15 % 16)] := by decide +kernel
theorem off51 : ∀ (k0_t1 : Fin k0_t1_loop.trips), k0_off51 k0_t1 = ![0, 128 * 1, 512 * (min (k0_t1.val + 1) 15 % 16)] := by decide +kernel
theorem off53 : ∀ (k0_t1 : Fin k0_t1_loop.trips), k0_off53 k0_t1 = ![0, 512 * (k0_t1.val % 16), 0] := by decide +kernel
theorem mod5 : ∀ (k0_t1 : Fin k0_t1_loop.trips) (_ : k0_cond1 k0_t1 = 1#1) (_ : k0_cond2 k0_t1 = 1#1) (_ : k0_cond3 k0_t1 = 1#1) (_ : k0_cond4 k0_t1 = 1#1) (_ : k0_cond5 k0_t1 = 1#1) (_ : ¬(k0_cond6 k0_t1 = 1#1)), k0_t1.val % 8 = 5 := by decide +kernel
theorem off54 : ∀ (k0_t1 : Fin k0_t1_loop.trips) (r : Fin 9), k0_off54 k0_t1 (BitVec.ofNat 32 r.val) = ![0, 256 * ((16 * (k0_t1.val / 8) + r.val + 1) % 32), 128 * 0] := by decide +kernel
theorem off56 : ∀ (k0_t1 : Fin k0_t1_loop.trips) (r : Fin 9), k0_off56 k0_t1 (BitVec.ofNat 32 r.val) = ![0, 256 * ((16 * (k0_t1.val / 8) + r.val + 1) % 32), 128 * 1] := by decide +kernel
theorem off55 : ∀ (k0_t1 : Fin k0_t1_loop.trips), k0_off55 k0_t1 = ![0, 128 * 0, 512 * (k0_t1.val % 16)] := by decide +kernel
theorem off57 : ∀ (k0_t1 : Fin k0_t1_loop.trips), k0_off57 k0_t1 = ![0, 128 * 1, 512 * (k0_t1.val % 16)] := by decide +kernel
theorem off58 : ∀ (i : grid0.Coords) (r : Fin 2), k0_off58 i (BitVec.ofNat 32 r.val) = ![r.val, 0, 0] := by decide +kernel
theorem off65 : ∀ (i : grid0.Coords) (r : Fin 2), k0_off65 i (BitVec.ofNat 32 r.val) = ![r.val, 0, 256] := by decide +kernel
theorem off59 : ∀ (k0_t1 : Fin k0_t1_loop.trips) (r : Fin 10), k0_off59 k0_t1 (BitVec.ofNat 32 r.val) = ![0, 64 * 0, 256 * ((16 * (k0_t1.val / 8) + r.val) % 32)] := by decide +kernel
theorem off60 : ∀ (k0_t1 : Fin k0_t1_loop.trips) (r : Fin 10), k0_off60 k0_t1 (BitVec.ofNat 32 r.val) = ![0, 64 * 1, 256 * ((16 * (k0_t1.val / 8) + r.val) % 32)] := by decide +kernel
theorem off61 : ∀ (k0_t1 : Fin k0_t1_loop.trips), k0_off61 k0_t1 = ![0, 128 * 0, 512 * (k0_t1.val % 16) + 256] := by decide +kernel
theorem off62 : ∀ (k0_t1 : Fin k0_t1_loop.trips), k0_off62 k0_t1 = ![0, 128 * 1, 512 * (k0_t1.val % 16) + 256] := by decide +kernel
theorem off63 : ∀ (k0_t1 : Fin k0_t1_loop.trips), k0_off63 k0_t1 = ![0, 128 * 0, 512 * (min (k0_t1.val + 1) 15 % 16)] := by decide +kernel
theorem off64 : ∀ (k0_t1 : Fin k0_t1_loop.trips), k0_off64 k0_t1 = ![0, 128 * 1, 512 * (min (k0_t1.val + 1) 15 % 16)] := by decide +kernel
theorem off66 : ∀ (k0_t1 : Fin k0_t1_loop.trips), k0_off66 k0_t1 = ![0, 512 * (k0_t1.val % 16), 0] := by decide +kernel
theorem mod4 : ∀ (k0_t1 : Fin k0_t1_loop.trips) (_ : k0_cond1 k0_t1 = 1#1) (_ : k0_cond2 k0_t1 = 1#1) (_ : k0_cond3 k0_t1 = 1#1) (_ : k0_cond4 k0_t1 = 1#1) (_ : ¬(k0_cond5 k0_t1 = 1#1)), k0_t1.val % 8 = 4 := by decide +kernel
theorem off67 : ∀ (k0_t1 : Fin k0_t1_loop.trips) (r : Fin 7), k0_off67 k0_t1 (BitVec.ofNat 32 r.val) = ![0, 256 * ((16 * (k0_t1.val / 8) + r.val + 1) % 32), 128 * 0] := by decide +kernel
theorem off69 : ∀ (k0_t1 : Fin k0_t1_loop.trips) (r : Fin 7), k0_off69 k0_t1 (BitVec.ofNat 32 r.val) = ![0, 256 * ((16 * (k0_t1.val / 8) + r.val + 1) % 32), 128 * 1] := by decide +kernel
theorem off68 : ∀ (k0_t1 : Fin k0_t1_loop.trips), k0_off68 k0_t1 = ![0, 128 * 0, 512 * (k0_t1.val % 16)] := by decide +kernel
theorem off70 : ∀ (k0_t1 : Fin k0_t1_loop.trips), k0_off70 k0_t1 = ![0, 128 * 1, 512 * (k0_t1.val % 16)] := by decide +kernel
theorem off71 : ∀ (i : grid0.Coords) (r : Fin 2), k0_off71 i (BitVec.ofNat 32 r.val) = ![r.val, 0, 0] := by decide +kernel
theorem off78 : ∀ (i : grid0.Coords) (r : Fin 2), k0_off78 i (BitVec.ofNat 32 r.val) = ![r.val, 0, 256] := by decide +kernel
theorem off72 : ∀ (k0_t1 : Fin k0_t1_loop.trips) (r : Fin 8), k0_off72 k0_t1 (BitVec.ofNat 32 r.val) = ![0, 64 * 0, 256 * ((16 * (k0_t1.val / 8) + r.val) % 32)] := by decide +kernel
theorem off73 : ∀ (k0_t1 : Fin k0_t1_loop.trips) (r : Fin 8), k0_off73 k0_t1 (BitVec.ofNat 32 r.val) = ![0, 64 * 1, 256 * ((16 * (k0_t1.val / 8) + r.val) % 32)] := by decide +kernel
theorem off74 : ∀ (k0_t1 : Fin k0_t1_loop.trips), k0_off74 k0_t1 = ![0, 128 * 0, 512 * (k0_t1.val % 16) + 256] := by decide +kernel
theorem off75 : ∀ (k0_t1 : Fin k0_t1_loop.trips), k0_off75 k0_t1 = ![0, 128 * 1, 512 * (k0_t1.val % 16) + 256] := by decide +kernel
theorem off76 : ∀ (k0_t1 : Fin k0_t1_loop.trips), k0_off76 k0_t1 = ![0, 128 * 0, 512 * (min (k0_t1.val + 1) 15 % 16)] := by decide +kernel
theorem off77 : ∀ (k0_t1 : Fin k0_t1_loop.trips), k0_off77 k0_t1 = ![0, 128 * 1, 512 * (min (k0_t1.val + 1) 15 % 16)] := by decide +kernel
theorem off79 : ∀ (k0_t1 : Fin k0_t1_loop.trips), k0_off79 k0_t1 = ![0, 512 * (k0_t1.val % 16), 0] := by decide +kernel
theorem mod3 : ∀ (k0_t1 : Fin k0_t1_loop.trips) (_ : k0_cond1 k0_t1 = 1#1) (_ : k0_cond2 k0_t1 = 1#1) (_ : k0_cond3 k0_t1 = 1#1) (_ : ¬(k0_cond4 k0_t1 = 1#1)), k0_t1.val % 8 = 3 := by decide +kernel
theorem off80 : ∀ (k0_t1 : Fin k0_t1_loop.trips) (r : Fin 5), k0_off80 k0_t1 (BitVec.ofNat 32 r.val) = ![0, 256 * ((16 * (k0_t1.val / 8) + r.val + 1) % 32), 128 * 0] := by decide +kernel
theorem off82 : ∀ (k0_t1 : Fin k0_t1_loop.trips) (r : Fin 5), k0_off82 k0_t1 (BitVec.ofNat 32 r.val) = ![0, 256 * ((16 * (k0_t1.val / 8) + r.val + 1) % 32), 128 * 1] := by decide +kernel
theorem off81 : ∀ (k0_t1 : Fin k0_t1_loop.trips), k0_off81 k0_t1 = ![0, 128 * 0, 512 * (k0_t1.val % 16)] := by decide +kernel
theorem off83 : ∀ (k0_t1 : Fin k0_t1_loop.trips), k0_off83 k0_t1 = ![0, 128 * 1, 512 * (k0_t1.val % 16)] := by decide +kernel
theorem off84 : ∀ (i : grid0.Coords) (r : Fin 2), k0_off84 i (BitVec.ofNat 32 r.val) = ![r.val, 0, 0] := by decide +kernel
theorem off91 : ∀ (i : grid0.Coords) (r : Fin 2), k0_off91 i (BitVec.ofNat 32 r.val) = ![r.val, 0, 256] := by decide +kernel
theorem off85 : ∀ (k0_t1 : Fin k0_t1_loop.trips) (r : Fin 6), k0_off85 k0_t1 (BitVec.ofNat 32 r.val) = ![0, 64 * 0, 256 * ((16 * (k0_t1.val / 8) + r.val) % 32)] := by decide +kernel
theorem off86 : ∀ (k0_t1 : Fin k0_t1_loop.trips) (r : Fin 6), k0_off86 k0_t1 (BitVec.ofNat 32 r.val) = ![0, 64 * 1, 256 * ((16 * (k0_t1.val / 8) + r.val) % 32)] := by decide +kernel
theorem off87 : ∀ (k0_t1 : Fin k0_t1_loop.trips), k0_off87 k0_t1 = ![0, 128 * 0, 512 * (k0_t1.val % 16) + 256] := by decide +kernel
theorem off88 : ∀ (k0_t1 : Fin k0_t1_loop.trips), k0_off88 k0_t1 = ![0, 128 * 1, 512 * (k0_t1.val % 16) + 256] := by decide +kernel
theorem off89 : ∀ (k0_t1 : Fin k0_t1_loop.trips), k0_off89 k0_t1 = ![0, 128 * 0, 512 * (min (k0_t1.val + 1) 15 % 16)] := by decide +kernel
theorem off90 : ∀ (k0_t1 : Fin k0_t1_loop.trips), k0_off90 k0_t1 = ![0, 128 * 1, 512 * (min (k0_t1.val + 1) 15 % 16)] := by decide +kernel
theorem off92 : ∀ (k0_t1 : Fin k0_t1_loop.trips), k0_off92 k0_t1 = ![0, 512 * (k0_t1.val % 16), 0] := by decide +kernel
theorem mod2 : ∀ (k0_t1 : Fin k0_t1_loop.trips) (_ : k0_cond1 k0_t1 = 1#1) (_ : k0_cond2 k0_t1 = 1#1) (_ : ¬(k0_cond3 k0_t1 = 1#1)), k0_t1.val % 8 = 2 := by decide +kernel
theorem off93 : ∀ (k0_t1 : Fin k0_t1_loop.trips) (r : Fin 3), k0_off93 k0_t1 (BitVec.ofNat 32 r.val) = ![0, 256 * ((16 * (k0_t1.val / 8) + r.val + 1) % 32), 128 * 0] := by decide +kernel
theorem off95 : ∀ (k0_t1 : Fin k0_t1_loop.trips) (r : Fin 3), k0_off95 k0_t1 (BitVec.ofNat 32 r.val) = ![0, 256 * ((16 * (k0_t1.val / 8) + r.val + 1) % 32), 128 * 1] := by decide +kernel
theorem off94 : ∀ (k0_t1 : Fin k0_t1_loop.trips), k0_off94 k0_t1 = ![0, 128 * 0, 512 * (k0_t1.val % 16)] := by decide +kernel
theorem off96 : ∀ (k0_t1 : Fin k0_t1_loop.trips), k0_off96 k0_t1 = ![0, 128 * 1, 512 * (k0_t1.val % 16)] := by decide +kernel
theorem off97 : ∀ (i : grid0.Coords) (r : Fin 2), k0_off97 i (BitVec.ofNat 32 r.val) = ![r.val, 0, 0] := by decide +kernel
theorem off104 : ∀ (i : grid0.Coords) (r : Fin 2), k0_off104 i (BitVec.ofNat 32 r.val) = ![r.val, 0, 256] := by decide +kernel
theorem off98 : ∀ (k0_t1 : Fin k0_t1_loop.trips) (r : Fin 4), k0_off98 k0_t1 (BitVec.ofNat 32 r.val) = ![0, 64 * 0, 256 * ((16 * (k0_t1.val / 8) + r.val) % 32)] := by decide +kernel
theorem off99 : ∀ (k0_t1 : Fin k0_t1_loop.trips) (r : Fin 4), k0_off99 k0_t1 (BitVec.ofNat 32 r.val) = ![0, 64 * 1, 256 * ((16 * (k0_t1.val / 8) + r.val) % 32)] := by decide +kernel
theorem off100 : ∀ (k0_t1 : Fin k0_t1_loop.trips), k0_off100 k0_t1 = ![0, 128 * 0, 512 * (k0_t1.val % 16) + 256] := by decide +kernel
theorem off101 : ∀ (k0_t1 : Fin k0_t1_loop.trips), k0_off101 k0_t1 = ![0, 128 * 1, 512 * (k0_t1.val % 16) + 256] := by decide +kernel
theorem off102 : ∀ (k0_t1 : Fin k0_t1_loop.trips), k0_off102 k0_t1 = ![0, 128 * 0, 512 * (min (k0_t1.val + 1) 15 % 16)] := by decide +kernel
theorem off103 : ∀ (k0_t1 : Fin k0_t1_loop.trips), k0_off103 k0_t1 = ![0, 128 * 1, 512 * (min (k0_t1.val + 1) 15 % 16)] := by decide +kernel
theorem off105 : ∀ (k0_t1 : Fin k0_t1_loop.trips), k0_off105 k0_t1 = ![0, 512 * (k0_t1.val % 16), 0] := by decide +kernel
theorem mod1 : ∀ (k0_t1 : Fin k0_t1_loop.trips) (_ : k0_cond1 k0_t1 = 1#1) (_ : ¬(k0_cond2 k0_t1 = 1#1)), k0_t1.val % 8 = 1 := by decide +kernel
theorem off106 : ∀ (k0_t1 : Fin k0_t1_loop.trips), k0_off106 k0_t1 = ![0, 256 * ((16 * (k0_t1.val / 8) + 1) % 32), 128 * 0] := by decide +kernel
theorem off108 : ∀ (k0_t1 : Fin k0_t1_loop.trips), k0_off108 k0_t1 = ![0, 256 * ((16 * (k0_t1.val / 8) + 1) % 32), 128 * 1] := by decide +kernel
theorem off110 : ∀ (i : grid0.Coords) (r : Fin 2), k0_off110 i (BitVec.ofNat 32 r.val) = ![r.val, 0, 0] := by decide +kernel
theorem off115 : ∀ (i : grid0.Coords) (r : Fin 2), k0_off115 i (BitVec.ofNat 32 r.val) = ![r.val, 0, 256] := by decide +kernel
theorem off111 : ∀ (k0_t1 : Fin k0_t1_loop.trips) (r : Fin 2), k0_off111 k0_t1 (BitVec.ofNat 32 r.val) = ![0, 64 * 0, 256 * ((16 * (k0_t1.val / 8) + r.val) % 32)] := by decide +kernel
theorem off112 : ∀ (k0_t1 : Fin k0_t1_loop.trips) (r : Fin 2), k0_off112 k0_t1 (BitVec.ofNat 32 r.val) = ![0, 64 * 1, 256 * ((16 * (k0_t1.val / 8) + r.val) % 32)] := by decide +kernel
theorem off107 : ∀ (k0_t1 : Fin k0_t1_loop.trips), k0_off107 k0_t1 = ![0, 128 * 0, 512 * (k0_t1.val % 16) + 256] := by decide +kernel
theorem off109 : ∀ (k0_t1 : Fin k0_t1_loop.trips), k0_off109 k0_t1 = ![0, 128 * 1, 512 * (k0_t1.val % 16) + 256] := by decide +kernel
theorem off113 : ∀ (k0_t1 : Fin k0_t1_loop.trips), k0_off113 k0_t1 = ![0, 128 * 0, 512 * (min (k0_t1.val + 1) 15 % 16)] := by decide +kernel
theorem off114 : ∀ (k0_t1 : Fin k0_t1_loop.trips), k0_off114 k0_t1 = ![0, 128 * 1, 512 * (min (k0_t1.val + 1) 15 % 16)] := by decide +kernel
theorem off116 : ∀ (k0_t1 : Fin k0_t1_loop.trips), k0_off116 k0_t1 = ![0, 512 * (k0_t1.val % 16), 0] := by decide +kernel
theorem mod0 : ∀ (k0_t1 : Fin k0_t1_loop.trips) (_ : ¬(k0_cond1 k0_t1 = 1#1)), k0_t1.val % 8 = 0 := by decide +kernel

theorem trips2 : ∀ k0_t1 : Fin k0_t1_loop.trips, (k0_t2_loop k0_t1).trips = k0_t1.val / 8 := by decide +kernel
theorem trips3 : ∀ k0_t1 : Fin k0_t1_loop.trips, (k0_t3_loop k0_t1).trips = 0 := by decide +kernel
theorem trips1 : k0_t1_loop.trips = 16 := by decide +kernel

theorem kU_inb (h : Fin 2) (j : Fin 32) : ∀ a, (![0, 256 * j.val, 128 * h.val] : Fin 3 → Nat) a + S1x256x128.size a ≤ S1x8192x256.size a := by
  revert h j; decide +kernel
theorem vU_inb (h : Fin 2) (j : Fin 32) : ∀ a, (![0, 64 * h.val, 256 * j.val] : Fin 3 → Nat) a + S1x64x256.size a ≤ S1x128x8192.size a := by
  revert h j; decide +kernel
theorem qU_inb (h : Fin 2) (t : Fin 16) : ∀ a, (![0, 128 * h.val, 512 * t.val] : Fin 3 → Nat) a + S1x128x512.size a ≤ S1x256x8192.size a := by
  revert h t; decide +kernel
theorem hU_inb (h : Fin 2) (t : Fin 16) : ∀ a, (![0, 128 * h.val, 512 * t.val + 256] : Fin 3 → Nat) a + S1x128x256.size a ≤ S1x256x8192.size a := by
  revert h t; decide +kernel
theorem oU_inb (t : Fin 16) : ∀ a, (![0, 512 * t.val, 0] : Fin 3 → Nat) a + S1x512x128.size a ≤ S1x8192x128.size a := by
  revert t; decide +kernel
theorem oU_packed (t : Fin 16) : (Rect.unit (s := S1x8192x128) ![0, 512 * t.val, 0] S1x512x128.size (oU_inb t)).PackedRows (EltTy.packing .bf16) := by
  revert t; decide +kernel

variable [Facts]
open Facts₀ Facts

def kU (h : Fin 2) (j : Nat) : KOff := ⟨![0, 256 * (Fin.ofNat 32 j).val, 128 * h.val], kU_inb h _⟩
def vU (h : Fin 2) (j : Nat) : VOff := ⟨![0, 64 * h.val, 256 * (Fin.ofNat 32 j).val], vU_inb h _⟩
def qU (h : Fin 2) (t : Nat) : QOff := ⟨![0, 128 * h.val, 512 * (Fin.ofNat 16 t).val], qU_inb h _⟩
def hU (h : Fin 2) (t : Nat) : HOff := ⟨![0, 128 * h.val, 512 * (Fin.ofNat 16 t).val + 256], hU_inb h _⟩
def oU (t : Nat) : OOff := ⟨![0, 512 * (Fin.ofNat 16 t).val, 0], oU_inb _, oU_packed _⟩

/-- The rectangles of tile `t`, blocks counted from the first. -/
def uO (t : Nat) : Offs where
  k0 j := kU 0 j
  k1 j := kU 1 j
  q0 := qU 0 t
  q1 := qU 1 t
  r0 := sz0
  r1 := sz1
  v0 j := vU 0 j
  v1 j := vU 1 j

/-- The tile after tile `t`, the last again after the last. -/
abbrev nx (t : Nat) : Nat := min (t + 1) 15

def uD (t : Nat) : DOffs where
  h0 := hU 0 t
  h1 := hU 1 t
  n0 := qU 0 (nx t)
  n1 := qU 1 (nx t)
  t0 := tz0
  t1 := tz1
  oo := oU t

end Cert.KernelIdeal.Flash

end
-- ==== Proof.Flash.Norm.lean ====
/- Grouping and the run-time choice of a branch leave one loop: tile `t` is `t` pairs of full blocks and its diagonal. -/
module

public import proofs.«01_k».proof.Proof.Flash.Uni

@[expose] public section

set_option maxRecDepth 16384
set_option maxHeartbeats 1000000

noncomputable section

namespace Cert.KernelIdeal.Flash

open Idealize.ShloMosaic Idealize.SL.Sem
open Cert.KernelIdeal

variable {F : FTy → Type} [FloatOps F] [Named F]
variable [Facts]
open Facts₀ Facts

/-- `O` is tile `t`'s rectangles from block `b` on, for `K` key blocks and `V` value blocks. -/
structure Agree (O : Offs) (t b K V : Nat) : Prop where
  k0 : ∀ j, j < K → O.k0 (j + 1) = kU 0 (b + j + 1)
  k1 : ∀ j, j < K → O.k1 (j + 1) = kU 1 (b + j + 1)
  v0 : ∀ j, j < V → O.v0 j = vU 0 (b + j)
  v1 : ∀ j, j < V → O.v1 j = vU 1 (b + j)
  q0 : O.q0 = qU 0 t
  q1 : O.q1 = qU 1 t
  r0 : O.r0 = sz0
  r1 : O.r1 = sz1

theorem k0val {b r j : Nat} (h : r = j) : (![0, 256 * ((b + r + 1) % 32), 128 * 0] : Fin 3 → Nat) = (kU 0 (b + j + 1)).1 := by subst h; rfl
theorem k1val {b r j : Nat} (h : r = j) : (![0, 256 * ((b + r + 1) % 32), 128 * 1] : Fin 3 → Nat) = (kU 1 (b + j + 1)).1 := by subst h; rfl
theorem v0val {b r j : Nat} (h : r = j) : (![0, 64 * 0, 256 * ((b + r) % 32)] : Fin 3 → Nat) = (vU 0 (b + j)).1 := by subst h; rfl
theorem v1val {b r j : Nat} (h : r = j) : (![0, 64 * 1, 256 * ((b + r) % 32)] : Fin 3 → Nat) = (vU 1 (b + j)).1 := by subst h; rfl
theorem k0valz {r j : Nat} (h : r = j) : (![0, 256 * ((r + 1) % 32), 128 * 0] : Fin 3 → Nat) = (kU 0 (0 + j + 1)).1 := by subst h; rw [Nat.zero_add]; rfl
theorem k1valz {r j : Nat} (h : r = j) : (![0, 256 * ((r + 1) % 32), 128 * 1] : Fin 3 → Nat) = (kU 1 (0 + j + 1)).1 := by subst h; rw [Nat.zero_add]; rfl
theorem v0valz {r j : Nat} (h : r = j) : (![0, 64 * 0, 256 * (r % 32)] : Fin 3 → Nat) = (vU 0 (0 + j)).1 := by subst h; rw [Nat.zero_add]; rfl
theorem v1valz {r j : Nat} (h : r = j) : (![0, 64 * 1, 256 * (r % 32)] : Fin 3 → Nat) = (vU 1 (0 + j)).1 := by subst h; rw [Nat.zero_add]; rfl

theorem dext {D D' : DOffs} (e1 : D.h0 = D'.h0) (e2 : D.h1 = D'.h1) (e3 : D.n0 = D'.n0) (e4 : D.n1 = D'.n1) (e5 : D.t0 = D'.t0) (e6 : D.t1 = D'.t1) (e7 : D.oo = D'.oo) : D = D' := by
  cases D; cases D'; simp_all

theorem agreeG (i : grid0.Coords) (k0_t1 : Fin k0_t1_loop.trips) (k0_t2 : Fin (k0_t2_loop k0_t1).trips) : Agree (offsG i k0_t1 k0_t2) k0_t1.val 0 16 16 where
  k0 j h := Subtype.ext ((off1 k0_t1 k0_t2 _).trans (k0valz (Nat.mod_eq_of_lt h)))
  k1 j h := Subtype.ext ((off3 k0_t1 k0_t2 _).trans (k1valz (Nat.mod_eq_of_lt h)))
  v0 j h := Subtype.ext ((off6 k0_t1 k0_t2 _).trans (v0valz (Nat.mod_eq_of_lt h)))
  v1 j h := Subtype.ext ((off7 k0_t1 k0_t2 _).trans (v1valz (Nat.mod_eq_of_lt h)))
  q0 := Subtype.ext (off2 k0_t1)
  q1 := Subtype.ext (off4 k0_t1)
  r0 := Subtype.ext (off5 i 0)
  r1 := Subtype.ext (off5 i 1)

theorem agree7 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : k0_cond5 k0_t1 = 1#1) (k0_h6 : k0_cond6 k0_t1 = 1#1) (k0_h7 : k0_cond7 k0_t1 = 1#1) : Agree (offs7 i k0_t1 k0_h1 k0_h2 k0_h3 k0_h4 k0_h5 k0_h6 k0_h7) k0_t1.val (16 * (k0_t1.val / 8)) 15 16 where
  k0 j h := Subtype.ext ((off15 k0_t1 _).trans (k0val (Nat.mod_eq_of_lt h)))
  k1 j h := Subtype.ext ((off17 k0_t1 _).trans (k1val (Nat.mod_eq_of_lt h)))
  v0 j h := Subtype.ext ((off20 k0_t1 _).trans (v0val (Nat.mod_eq_of_lt h)))
  v1 j h := Subtype.ext ((off21 k0_t1 _).trans (v1val (Nat.mod_eq_of_lt h)))
  q0 := Subtype.ext (off16 k0_t1)
  q1 := Subtype.ext (off18 k0_t1)
  r0 := Subtype.ext (off19 i 0)
  r1 := Subtype.ext (off19 i 1)

theorem dagree7 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : k0_cond5 k0_t1 = 1#1) (k0_h6 : k0_cond6 k0_t1 = 1#1) (k0_h7 : k0_cond7 k0_t1 = 1#1) : doffs7 i k0_t1 k0_h1 k0_h2 k0_h3 k0_h4 k0_h5 k0_h6 k0_h7 = uD k0_t1.val := by
  have e1 : (doffs7 i k0_t1 k0_h1 k0_h2 k0_h3 k0_h4 k0_h5 k0_h6 k0_h7).h0 = hU 0 k0_t1.val := Subtype.ext (off22 k0_t1)
  have e2 : (doffs7 i k0_t1 k0_h1 k0_h2 k0_h3 k0_h4 k0_h5 k0_h6 k0_h7).h1 = hU 1 k0_t1.val := Subtype.ext (off23 k0_t1)
  have e3 : (doffs7 i k0_t1 k0_h1 k0_h2 k0_h3 k0_h4 k0_h5 k0_h6 k0_h7).n0 = qU 0 (nx k0_t1.val) := Subtype.ext (off24 k0_t1)
  have e4 : (doffs7 i k0_t1 k0_h1 k0_h2 k0_h3 k0_h4 k0_h5 k0_h6 k0_h7).n1 = qU 1 (nx k0_t1.val) := Subtype.ext (off25 k0_t1)
  have e5 : (doffs7 i k0_t1 k0_h1 k0_h2 k0_h3 k0_h4 k0_h5 k0_h6 k0_h7).t0 = tz0 := Subtype.ext (off26 i 0)
  have e6 : (doffs7 i k0_t1 k0_h1 k0_h2 k0_h3 k0_h4 k0_h5 k0_h6 k0_h7).t1 = tz1 := Subtype.ext (off26 i 1)
  have e7 : (doffs7 i k0_t1 k0_h1 k0_h2 k0_h3 k0_h4 k0_h5 k0_h6 k0_h7).oo = oU k0_t1.val := Subtype.ext (off27 k0_t1)
  exact dext e1 e2 e3 e4 e5 e6 e7

theorem agree6 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : k0_cond5 k0_t1 = 1#1) (k0_h6 : k0_cond6 k0_t1 = 1#1) (k0_h7 : ¬(k0_cond7 k0_t1 = 1#1)) : Agree (offs6 i k0_t1 k0_h1 k0_h2 k0_h3 k0_h4 k0_h5 k0_h6 k0_h7) k0_t1.val (16 * (k0_t1.val / 8)) 13 14 where
  k0 j h := Subtype.ext ((off28 k0_t1 _).trans (k0val (Nat.mod_eq_of_lt h)))
  k1 j h := Subtype.ext ((off30 k0_t1 _).trans (k1val (Nat.mod_eq_of_lt h)))
  v0 j h := Subtype.ext ((off33 k0_t1 _).trans (v0val (Nat.mod_eq_of_lt h)))
  v1 j h := Subtype.ext ((off34 k0_t1 _).trans (v1val (Nat.mod_eq_of_lt h)))
  q0 := Subtype.ext (off29 k0_t1)
  q1 := Subtype.ext (off31 k0_t1)
  r0 := Subtype.ext (off32 i 0)
  r1 := Subtype.ext (off32 i 1)

theorem dagree6 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : k0_cond5 k0_t1 = 1#1) (k0_h6 : k0_cond6 k0_t1 = 1#1) (k0_h7 : ¬(k0_cond7 k0_t1 = 1#1)) : doffs6 i k0_t1 k0_h1 k0_h2 k0_h3 k0_h4 k0_h5 k0_h6 k0_h7 = uD k0_t1.val := by
  have e1 : (doffs6 i k0_t1 k0_h1 k0_h2 k0_h3 k0_h4 k0_h5 k0_h6 k0_h7).h0 = hU 0 k0_t1.val := Subtype.ext (off35 k0_t1)
  have e2 : (doffs6 i k0_t1 k0_h1 k0_h2 k0_h3 k0_h4 k0_h5 k0_h6 k0_h7).h1 = hU 1 k0_t1.val := Subtype.ext (off36 k0_t1)
  have e3 : (doffs6 i k0_t1 k0_h1 k0_h2 k0_h3 k0_h4 k0_h5 k0_h6 k0_h7).n0 = qU 0 (nx k0_t1.val) := Subtype.ext (off37 k0_t1)
  have e4 : (doffs6 i k0_t1 k0_h1 k0_h2 k0_h3 k0_h4 k0_h5 k0_h6 k0_h7).n1 = qU 1 (nx k0_t1.val) := Subtype.ext (off38 k0_t1)
  have e5 : (doffs6 i k0_t1 k0_h1 k0_h2 k0_h3 k0_h4 k0_h5 k0_h6 k0_h7).t0 = tz0 := Subtype.ext (off39 i 0)
  have e6 : (doffs6 i k0_t1 k0_h1 k0_h2 k0_h3 k0_h4 k0_h5 k0_h6 k0_h7).t1 = tz1 := Subtype.ext (off39 i 1)
  have e7 : (doffs6 i k0_t1 k0_h1 k0_h2 k0_h3 k0_h4 k0_h5 k0_h6 k0_h7).oo = oU k0_t1.val := Subtype.ext (off40 k0_t1)
  exact dext e1 e2 e3 e4 e5 e6 e7

theorem agree5 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : k0_cond5 k0_t1 = 1#1) (k0_h6 : ¬(k0_cond6 k0_t1 = 1#1)) : Agree (offs5 i k0_t1 k0_h1 k0_h2 k0_h3 k0_h4 k0_h5 k0_h6) k0_t1.val (16 * (k0_t1.val / 8)) 11 12 where
  k0 j h := Subtype.ext ((off41 k0_t1 _).trans (k0val (Nat.mod_eq_of_lt h)))
  k1 j h := Subtype.ext ((off43 k0_t1 _).trans (k1val (Nat.mod_eq_of_lt h)))
  v0 j h := Subtype.ext ((off46 k0_t1 _).trans (v0val (Nat.mod_eq_of_lt h)))
  v1 j h := Subtype.ext ((off47 k0_t1 _).trans (v1val (Nat.mod_eq_of_lt h)))
  q0 := Subtype.ext (off42 k0_t1)
  q1 := Subtype.ext (off44 k0_t1)
  r0 := Subtype.ext (off45 i 0)
  r1 := Subtype.ext (off45 i 1)

theorem dagree5 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : k0_cond5 k0_t1 = 1#1) (k0_h6 : ¬(k0_cond6 k0_t1 = 1#1)) : doffs5 i k0_t1 k0_h1 k0_h2 k0_h3 k0_h4 k0_h5 k0_h6 = uD k0_t1.val := by
  have e1 : (doffs5 i k0_t1 k0_h1 k0_h2 k0_h3 k0_h4 k0_h5 k0_h6).h0 = hU 0 k0_t1.val := Subtype.ext (off48 k0_t1)
  have e2 : (doffs5 i k0_t1 k0_h1 k0_h2 k0_h3 k0_h4 k0_h5 k0_h6).h1 = hU 1 k0_t1.val := Subtype.ext (off49 k0_t1)
  have e3 : (doffs5 i k0_t1 k0_h1 k0_h2 k0_h3 k0_h4 k0_h5 k0_h6).n0 = qU 0 (nx k0_t1.val) := Subtype.ext (off50 k0_t1)
  have e4 : (doffs5 i k0_t1 k0_h1 k0_h2 k0_h3 k0_h4 k0_h5 k0_h6).n1 = qU 1 (nx k0_t1.val) := Subtype.ext (off51 k0_t1)
  have e5 : (doffs5 i k0_t1 k0_h1 k0_h2 k0_h3 k0_h4 k0_h5 k0_h6).t0 = tz0 := Subtype.ext (off52 i 0)
  have e6 : (doffs5 i k0_t1 k0_h1 k0_h2 k0_h3 k0_h4 k0_h5 k0_h6).t1 = tz1 := Subtype.ext (off52 i 1)
  have e7 : (doffs5 i k0_t1 k0_h1 k0_h2 k0_h3 k0_h4 k0_h5 k0_h6).oo = oU k0_t1.val := Subtype.ext (off53 k0_t1)
  exact dext e1 e2 e3 e4 e5 e6 e7

theorem agree4 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : ¬(k0_cond5 k0_t1 = 1#1)) : Agree (offs4 i k0_t1 k0_h1 k0_h2 k0_h3 k0_h4 k0_h5) k0_t1.val (16 * (k0_t1.val / 8)) 9 10 where
  k0 j h := Subtype.ext ((off54 k0_t1 _).trans (k0val (Nat.mod_eq_of_lt h)))
  k1 j h := Subtype.ext ((off56 k0_t1 _).trans (k1val (Nat.mod_eq_of_lt h)))
  v0 j h := Subtype.ext ((off59 k0_t1 _).trans (v0val (Nat.mod_eq_of_lt h)))
  v1 j h := Subtype.ext ((off60 k0_t1 _).trans (v1val (Nat.mod_eq_of_lt h)))
  q0 := Subtype.ext (off55 k0_t1)
  q1 := Subtype.ext (off57 k0_t1)
  r0 := Subtype.ext (off58 i 0)
  r1 := Subtype.ext (off58 i 1)

theorem dagree4 (i : grid0.Coords) (k0_t1 : Fin k0_t1_loop.trips) (k0_h1 : k0_cond1 k0_t1 = 1#1) (k0_h2 : k0_cond2 k0_t1 = 1#1) (k0_h3 : k0_cond3 k0_t1 = 1#1) (k0_h4 : k0_cond4 k0_t1 = 1#1) (k0_h5 : ¬(k0_cond5 k0_t1 = 1#1)) : doffs4 i k0_t1 k0_h1 k0_h2 k0_h3 k0_h4 k0_h5 = uD k0_t1.val := by
  have e1 : (doffs4 i k0_t1 k0_h1 k0_h2 k0_h3 k0_h4 k0_h5).h0 = hU 0 k0_t1.val := Subtype.ext (off61 k0_t1)
  have e2 : (doffs4 i k0_t1 k0_h1 k0_h2 k0_h3 k0_h4 k0_h5).h1 = hU 1 k0_t1.val := Subtype.ext (off62 k0_t1)
  have e3 : (doffs4 i k0_t1 k0_h1 k0_h2 k0_h3 k0_h4 k0_h5).n0 = qU 0 (nx k0_t1.val) := Subtype.ext (off63 k0_t1)
  have e4 : (doffs4 i k0_t1 k0_h1 k0_h2 k0_h3 k0_h4 k0_h5).n1 = qU 1 (nx k0_t1.val) := Subtype.ext (off64 k0_t1)
  have e5 : (doffs4 i k0_t1 k0_h1 k0_h2 k0_h3 k0_h4 k0_h5).t0 = tz0 := Subtype.ext (off65 i 0)
  have e6 : (doffs4 i k0_t1 k0_h1 k0_h2 k0_h3 k0_h4 k0_h5).t1 = tz1 := Subtype.ext (off65 i 1)
  have e7 : (doffs4 i k0_t1 k0_h1 k0_h2 k0_h3 k0_h4 k0_h5).oo = oU k0_t1.val := Subtype.ext (off66 k0_t1)
  exact dext e1 e2 e3 e4 e5 e6 e7

theorem agree3 (i : grid0.Coords) (k0_t1 : Fin k0_t1_loop.trips) (k0_h1 : k0_cond1 k0_t1 = 1#1) (k0_h2 : k0_cond2 k0_t1 = 1#1) (k0_h3 : k0_cond3 k0_t1 = 1#1) (k0_h4 : ¬(k0_cond4 k0_t1 = 1#1)) : Agree (offs3 i k0_t1 k0_h1 k0_h2 k0_h3 k0_h4) k0_t1.val (16 * (k0_t1.val / 8)) 7 8 where
  k0 j h := Subtype.ext ((off67 k0_t1 _).trans (k0val (Nat.mod_eq_of_lt h)))
  k1 j h := Subtype.ext ((off69 k0_t1 _).trans (k1val (Nat.mod_eq_of_lt h)))
  v0 j h := Subtype.ext ((off72 k0_t1 _).trans (v0val (Nat.mod_eq_of_lt h)))
  v1 j h := Subtype.ext ((off73 k0_t1 _).trans (v1val (Nat.mod_eq_of_lt h)))
  q0 := Subtype.ext (off68 k0_t1)
  q1 := Subtype.ext (off70 k0_t1)
  r0 := Subtype.ext (off71 i 0)
  r1 := Subtype.ext (off71 i 1)

theorem dagree3 (i : grid0.Coords) (k0_t1 : Fin k0_t1_loop.trips) (k0_h1 : k0_cond1 k0_t1 = 1#1) (k0_h2 : k0_cond2 k0_t1 = 1#1) (k0_h3 : k0_cond3 k0_t1 = 1#1) (k0_h4 : ¬(k0_cond4 k0_t1 = 1#1)) : doffs3 i k0_t1 k0_h1 k0_h2 k0_h3 k0_h4 = uD k0_t1.val := by
  have e1 : (doffs3 i k0_t1 k0_h1 k0_h2 k0_h3 k0_h4).h0 = hU 0 k0_t1.val := Subtype.ext (off74 k0_t1)
  have e2 : (doffs3 i k0_t1 k0_h1 k0_h2 k0_h3 k0_h4).h1 = hU 1 k0_t1.val := Subtype.ext (off75 k0_t1)
  have e3 : (doffs3 i k0_t1 k0_h1 k0_h2 k0_h3 k0_h4).n0 = qU 0 (nx k0_t1.val) := Subtype.ext (off76 k0_t1)
  have e4 : (doffs3 i k0_t1 k0_h1 k0_h2 k0_h3 k0_h4).n1 = qU 1 (nx k0_t1.val) := Subtype.ext (off77 k0_t1)
  have e5 : (doffs3 i k0_t1 k0_h1 k0_h2 k0_h3 k0_h4).t0 = tz0 := Subtype.ext (off78 i 0)
  have e6 : (doffs3 i k0_t1 k0_h1 k0_h2 k0_h3 k0_h4).t1 = tz1 := Subtype.ext (off78 i 1)
  have e7 : (doffs3 i k0_t1 k0_h1 k0_h2 k0_h3 k0_h4).oo = oU k0_t1.val := Subtype.ext (off79 k0_t1)
  exact dext e1 e2 e3 e4 e5 e6 e7

theorem agree2 (i : grid0.Coords) (k0_t1 : Fin k0_t1_loop.trips) (k0_h1 : k0_cond1 k0_t1 = 1#1) (k0_h2 : k0_cond2 k0_t1 = 1#1) (k0_h3 : ¬(k0_cond3 k0_t1 = 1#1)) : Agree (offs2 i k0_t1 k0_h1 k0_h2 k0_h3) k0_t1.val (16 * (k0_t1.val / 8)) 5 6 where
  k0 j h := Subtype.ext ((off80 k0_t1 _).trans (k0val (Nat.mod_eq_of_lt h)))
  k1 j h := Subtype.ext ((off82 k0_t1 _).trans (k1val (Nat.mod_eq_of_lt h)))
  v0 j h := Subtype.ext ((off85 k0_t1 _).trans (v0val (Nat.mod_eq_of_lt h)))
  v1 j h := Subtype.ext ((off86 k0_t1 _).trans (v1val (Nat.mod_eq_of_lt h)))
  q0 := Subtype.ext (off81 k0_t1)
  q1 := Subtype.ext (off83 k0_t1)
  r0 := Subtype.ext (off84 i 0)
  r1 := Subtype.ext (off84 i 1)

theorem dagree2 (i : grid0.Coords) (k0_t1 : Fin k0_t1_loop.trips) (k0_h1 : k0_cond1 k0_t1 = 1#1) (k0_h2 : k0_cond2 k0_t1 = 1#1) (k0_h3 : ¬(k0_cond3 k0_t1 = 1#1)) : doffs2 i k0_t1 k0_h1 k0_h2 k0_h3 = uD k0_t1.val := by
  have e1 : (doffs2 i k0_t1 k0_h1 k0_h2 k0_h3).h0 = hU 0 k0_t1.val := Subtype.ext (off87 k0_t1)
  have e2 : (doffs2 i k0_t1 k0_h1 k0_h2 k0_h3).h1 = hU 1 k0_t1.val := Subtype.ext (off88 k0_t1)
  have e3 : (doffs2 i k0_t1 k0_h1 k0_h2 k0_h3).n0 = qU 0 (nx k0_t1.val) := Subtype.ext (off89 k0_t1)
  have e4 : (doffs2 i k0_t1 k0_h1 k0_h2 k0_h3).n1 = qU 1 (nx k0_t1.val) := Subtype.ext (off90 k0_t1)
  have e5 : (doffs2 i k0_t1 k0_h1 k0_h2 k0_h3).t0 = tz0 := Subtype.ext (off91 i 0)
  have e6 : (doffs2 i k0_t1 k0_h1 k0_h2 k0_h3).t1 = tz1 := Subtype.ext (off91 i 1)
  have e7 : (doffs2 i k0_t1 k0_h1 k0_h2 k0_h3).oo = oU k0_t1.val := Subtype.ext (off92 k0_t1)
  exact dext e1 e2 e3 e4 e5 e6 e7

theorem agree1 (i : grid0.Coords) (k0_t1 : Fin k0_t1_loop.trips) (k0_h1 : k0_cond1 k0_t1 = 1#1) (k0_h2 : ¬(k0_cond2 k0_t1 = 1#1)) : Agree (offs1 i k0_t1 k0_h1 k0_h2) k0_t1.val (16 * (k0_t1.val / 8)) 3 4 where
  k0 j h := Subtype.ext ((off93 k0_t1 _).trans (k0val (Nat.mod_eq_of_lt h)))
  k1 j h := Subtype.ext ((off95 k0_t1 _).trans (k1val (Nat.mod_eq_of_lt h)))
  v0 j h := Subtype.ext ((off98 k0_t1 _).trans (v0val (Nat.mod_eq_of_lt h)))
  v1 j h := Subtype.ext ((off99 k0_t1 _).trans (v1val (Nat.mod_eq_of_lt h)))
  q0 := Subtype.ext (off94 k0_t1)
  q1 := Subtype.ext (off96 k0_t1)
  r0 := Subtype.ext (off97 i 0)
  r1 := Subtype.ext (off97 i 1)

theorem dagree1 (i : grid0.Coords) (k0_t1 : Fin k0_t1_loop.trips) (k0_h1 : k0_cond1 k0_t1 = 1#1) (k0_h2 : ¬(k0_cond2 k0_t1 = 1#1)) : doffs1 i k0_t1 k0_h1 k0_h2 = uD k0_t1.val := by
  have e1 : (doffs1 i k0_t1 k0_h1 k0_h2).h0 = hU 0 k0_t1.val := Subtype.ext (off100 k0_t1)
  have e2 : (doffs1 i k0_t1 k0_h1 k0_h2).h1 = hU 1 k0_t1.val := Subtype.ext (off101 k0_t1)
  have e3 : (doffs1 i k0_t1 k0_h1 k0_h2).n0 = qU 0 (nx k0_t1.val) := Subtype.ext (off102 k0_t1)
  have e4 : (doffs1 i k0_t1 k0_h1 k0_h2).n1 = qU 1 (nx k0_t1.val) := Subtype.ext (off103 k0_t1)
  have e5 : (doffs1 i k0_t1 k0_h1 k0_h2).t0 = tz0 := Subtype.ext (off104 i 0)
  have e6 : (doffs1 i k0_t1 k0_h1 k0_h2).t1 = tz1 := Subtype.ext (off104 i 1)
  have e7 : (doffs1 i k0_t1 k0_h1 k0_h2).oo = oU k0_t1.val := Subtype.ext (off105 k0_t1)
  exact dext e1 e2 e3 e4 e5 e6 e7

theorem agree0 (i : grid0.Coords) (k0_t1 : Fin k0_t1_loop.trips) (k0_h1 : ¬(k0_cond1 k0_t1 = 1#1)) : Agree (offs0 i k0_t1 k0_h1) k0_t1.val (16 * (k0_t1.val / 8)) 1 2 where
  k0 j h := Subtype.ext ((off106 k0_t1).trans (k0val (r := 0) (by omega)))
  k1 j h := Subtype.ext ((off108 k0_t1).trans (k1val (r := 0) (by omega)))
  v0 j h := Subtype.ext ((off111 k0_t1 _).trans (v0val (Nat.mod_eq_of_lt h)))
  v1 j h := Subtype.ext ((off112 k0_t1 _).trans (v1val (Nat.mod_eq_of_lt h)))
  q0 := Subtype.ext (off2 k0_t1)
  q1 := Subtype.ext (off4 k0_t1)
  r0 := Subtype.ext (off110 i 0)
  r1 := Subtype.ext (off110 i 1)

theorem dagree0 (i : grid0.Coords) (k0_t1 : Fin k0_t1_loop.trips) (k0_h1 : ¬(k0_cond1 k0_t1 = 1#1)) : doffs0 i k0_t1 k0_h1 = uD k0_t1.val := by
  have e1 : (doffs0 i k0_t1 k0_h1).h0 = hU 0 k0_t1.val := Subtype.ext (off107 k0_t1)
  have e2 : (doffs0 i k0_t1 k0_h1).h1 = hU 1 k0_t1.val := Subtype.ext (off109 k0_t1)
  have e3 : (doffs0 i k0_t1 k0_h1).n0 = qU 0 (nx k0_t1.val) := Subtype.ext (off113 k0_t1)
  have e4 : (doffs0 i k0_t1 k0_h1).n1 = qU 1 (nx k0_t1.val) := Subtype.ext (off114 k0_t1)
  have e5 : (doffs0 i k0_t1 k0_h1).t0 = tz0 := Subtype.ext (off115 i 0)
  have e6 : (doffs0 i k0_t1 k0_h1).t1 = tz1 := Subtype.ext (off115 i 1)
  have e7 : (doffs0 i k0_t1 k0_h1).oo = oU k0_t1.val := Subtype.ext (off116 k0_t1)
  exact dext e1 e2 e3 e4 e5 e6 e7

theorem for_zero {E : Type → Type} {σ : Type} (l : Scf.Loop 32) (h : l.OK) (init : σ) (b : Fin l.trips → σ → Prog E σ) (h0 : l.trips = 0) : Scf.Loop.for l h init b = Prog.ret init := by
  unfold Scf.Loop.for
  rw [Scf.for_eq]
  have : List.finRange l.trips = [] := List.eq_nil_of_length_eq_zero (by rw [List.length_finRange, h0])
  rw [this]; rfl

theorem for_one {E : Type → Type} {σ : Type} (l : Scf.Loop 32) (h : l.OK) (init : σ) (b : Fin l.trips → σ → Prog E σ) (h0 : l.trips = 1) : Scf.Loop.for l h init b = (b ⟨0, by omega⟩ init) := by
  unfold Scf.Loop.for
  rw [Scf.for_eq]
  have : List.finRange l.trips = [⟨0, by omega⟩] := by
    refine List.ext_getElem (by simp [h0]) fun n h1 h2 => ?_
    simp at h2
    subst h2
    simp
  rw [this]
  exact bind_pure _

section
variable {arg2 : Memref sig .tc .vmem S1x256x8192 .bf16} {arg3 : Memref sig .tc .vmem S1x8192x256 .bf16} {arg4 : Memref sig .tc .vmem S1x128x8192 .bf16} {arg5 : Memref sig .tc .vmem S1x8192x128 .bf16} {harg5 : arg5.IsWhole} {arg6 arg7 : Memref sig .tc .vmem S2x256x512 .f32}

theorem pairs_congr (O : Offs) (t b K V : Nat) (hO : Agree O t b K V) (v5 : FVec F S16x256 .bf16) (n j : Nat) (s : St F)
    (hK : j + 2 * n ≤ K) (hV : j + 2 * n ≤ V) :
    pairs arg2 arg3 arg4 arg6 arg7 O v5 n j s = pairs arg2 arg3 arg4 arg6 arg7 (uO t) v5 n (b + j) s := by
  induction n generalizing j s with
  | zero => rfl
  | succ n ih =>
    have st : ∀ (b1 b2 : Memref sig .tc .vmem S2x256x512 .f32) (j : Nat) (s : St F), j < K → j < V → stepF arg2 arg3 arg4 O v5 b1 b2 j s = stepF arg2 arg3 arg4 (uO t) v5 b1 b2 (b + j) s := by
      intro b1 b2 j s h1 h2
      unfold stepF
      rw [hO.k0 j h1, hO.k1 j h1, hO.v0 j h2, hO.v1 j h2, hO.q0, hO.q1, hO.r0, hO.r1]
      rfl
    unfold pairs
    rw [st _ _ j s (by omega) (by omega)]
    refine congrArg _ (funext fun s' => ?_)
    rw [st _ _ (j + 1) s' (by omega) (by omega)]
    refine congrArg _ (funext fun s'' => ?_)
    rw [ih (j + 2) s'' (by omega) (by omega)]
    rfl

theorem pairs_add (O : Offs) (v5 : FVec F S16x256 .bf16) (a n j : Nat) (s : St F) :
    pairs arg2 arg3 arg4 arg6 arg7 O v5 (a + n) j s = (pairs arg2 arg3 arg4 arg6 arg7 O v5 a j s >>= fun s => pairs arg2 arg3 arg4 arg6 arg7 O v5 n (j + 2 * a) s) := by
  induction a generalizing j s with
  | zero => rw [Nat.zero_add]; rfl
  | succ a ih =>
    rw [Nat.succ_add]
    unfold pairs
    simp only [bind_assoc]
    refine congrArg _ (funext fun s' => ?_)
    refine congrArg _ (funext fun s'' => ?_)
    rw [ih, show j + 2 + 2 * a = j + 2 * (a + 1) by omega]
    cases n <;> rfl

theorem tail_congr (O : Offs) (t b : Nat) (e : Nat) (hO : Agree O t b (2 * e + 1) (2 * e + 2)) (D : DOffs) (hD : D = uD t) (v5 : FVec F S16x256 .bf16) (s : St F) :
    tail arg2 arg3 arg4 arg5 harg5 arg6 arg7 O D v5 e 0 s = tail arg2 arg3 arg4 arg5 harg5 arg6 arg7 (uO t) (uD t) v5 e b s := by
  subst hD
  unfold tail
  rw [pairs_congr O t b _ _ hO v5 e 0 s (by omega) (by omega)]
  refine congrArg _ (funext fun s' => ?_)
  unfold diag
  rw [Nat.zero_add, hO.k0 _ (Nat.lt_succ_self _), hO.k1 _ (Nat.lt_succ_self _), hO.v0 (2 * e) (by omega), hO.v1 (2 * e) (by omega), hO.v0 (2 * e + 1) (by omega), hO.v1 (2 * e + 1) (by omega), hO.r0, hO.r1]
  rfl

/-- The carried values before a tile's first block. -/
def ini (c0 c1 : FVec F S1x512 .f32) : St F := (c0, c1, broadcast S1x512 (Named.named κ "mask" 0xF149F2CA#32), broadcast S80x512 (Scalar.ofBits .f32 0x00000000#32), broadcast S1x512 (Named.named κ "mask" 0xF149F2CA#32), broadcast S80x512 (Scalar.ofBits .f32 0x00000000#32))

variable (arg2 arg3 arg4 arg5 harg5 arg6 arg7) in
/-- Tile `t`: all its blocks one after another. -/
def tileU (v5 : FVec F S16x256 .bf16) (t : Nat) (c0 c1 : FVec F S1x512 .f32) : P F (FVec F S1x512 .f32 × FVec F S1x512 .f32) :=
  tail arg2 arg3 arg4 arg5 harg5 arg6 arg7 (uO t) (uD t) v5 t 0 (ini c0 c1)

theorem pick_eq (i : grid0.Coords) (v5 : FVec F S16x256 .bf16) (k0_t1 : Fin k0_t1_loop.trips) (s : St F) :
    pick i arg2 arg3 arg4 arg5 harg5 arg6 arg7 v5 k0_t1 s = tail arg2 arg3 arg4 arg5 harg5 arg6 arg7 (uO k0_t1.val) (uD k0_t1.val) v5 (k0_t1.val % 8) (16 * (k0_t1.val / 8)) s := by
  unfold pick
  split
  · rename_i k0_h1
    split
    · rename_i k0_h2
      split
      · rename_i k0_h3
        split
        · rename_i k0_h4
          split
          · rename_i k0_h5
            split
            · rename_i k0_h6
              split
              · rename_i k0_h7
                rw [mod7 k0_t1 k0_h1 k0_h2 k0_h3 k0_h4 k0_h5 k0_h6 k0_h7]; exact tail_congr _ _ _ 7 (agree7 i k0_t1 k0_h1 k0_h2 k0_h3 k0_h4 k0_h5 k0_h6 k0_h7) _ (dagree7 i k0_t1 k0_h1 k0_h2 k0_h3 k0_h4 k0_h5 k0_h6 k0_h7) v5 s
              · rename_i k0_h7
                rw [mod6 k0_t1 k0_h1 k0_h2 k0_h3 k0_h4 k0_h5 k0_h6 k0_h7]; exact tail_congr _ _ _ 6 (agree6 i k0_t1 k0_h1 k0_h2 k0_h3 k0_h4 k0_h5 k0_h6 k0_h7) _ (dagree6 i k0_t1 k0_h1 k0_h2 k0_h3 k0_h4 k0_h5 k0_h6 k0_h7) v5 s
            · rename_i k0_h6
              rw [mod5 k0_t1 k0_h1 k0_h2 k0_h3 k0_h4 k0_h5 k0_h6]; exact tail_congr _ _ _ 5 (agree5 i k0_t1 k0_h1 k0_h2 k0_h3 k0_h4 k0_h5 k0_h6) _ (dagree5 i k0_t1 k0_h1 k0_h2 k0_h3 k0_h4 k0_h5 k0_h6) v5 s
          · rename_i k0_h5
            rw [mod4 k0_t1 k0_h1 k0_h2 k0_h3 k0_h4 k0_h5]; exact tail_congr _ _ _ 4 (agree4 i k0_t1 k0_h1 k0_h2 k0_h3 k0_h4 k0_h5) _ (dagree4 i k0_t1 k0_h1 k0_h2 k0_h3 k0_h4 k0_h5) v5 s
        · rename_i k0_h4
          rw [mod3 k0_t1 k0_h1 k0_h2 k0_h3 k0_h4]; exact tail_congr _ _ _ 3 (agree3 i k0_t1 k0_h1 k0_h2 k0_h3 k0_h4) _ (dagree3 i k0_t1 k0_h1 k0_h2 k0_h3 k0_h4) v5 s
      · rename_i k0_h3
        rw [mod2 k0_t1 k0_h1 k0_h2 k0_h3]; exact tail_congr _ _ _ 2 (agree2 i k0_t1 k0_h1 k0_h2 k0_h3) _ (dagree2 i k0_t1 k0_h1 k0_h2 k0_h3) v5 s
    · rename_i k0_h2
      rw [mod1 k0_t1 k0_h1 k0_h2]; exact tail_congr _ _ _ 1 (agree1 i k0_t1 k0_h1 k0_h2) _ (dagree1 i k0_t1 k0_h1 k0_h2) v5 s
  · rename_i k0_h1
    rw [mod0 k0_t1 k0_h1]; exact tail_congr _ _ _ 0 (agree0 i k0_t1 k0_h1) _ (dagree0 i k0_t1 k0_h1) v5 s

theorem tail_pairs (O : Offs) (D : DOffs) (v5 : FVec F S16x256 .bf16) (a n : Nat) (s : St F) :
    (pairs arg2 arg3 arg4 arg6 arg7 O v5 a 0 s >>= fun s => tail arg2 arg3 arg4 arg5 harg5 arg6 arg7 O D v5 n (2 * a) s) = tail arg2 arg3 arg4 arg5 harg5 arg6 arg7 O D v5 (a + n) 0 s := by
  unfold tail
  rw [pairs_add, bind_assoc]
  refine congrArg _ (funext fun s' => ?_)
  rw [Nat.zero_add]
  refine congrArg _ (funext fun s'' => ?_)
  rw [Nat.zero_add, Nat.mul_add]

theorem tile_eq (i : grid0.Coords) (v5 : FVec F S16x256 .bf16) (k0_t1 : Fin k0_t1_loop.trips) (c0 c1 : FVec F S1x512 .f32) :
    tile i arg2 arg3 arg4 arg5 harg5 arg6 arg7 v5 k0_t1 c0 c1 = tileU arg2 arg3 arg4 arg5 harg5 arg6 arg7 v5 k0_t1.val c0 c1 := by
  have ht : k0_t1.val < 16 := Nat.lt_of_lt_of_eq k0_t1.isLt trips1
  unfold tile tileU
  rw [show (∀ (x : P F (St F)) (f g : St F → P F (FVec F S1x512 .f32 × FVec F S1x512 .f32)), (∀ s, f s = g s) → (x >>= f) = (x >>= g)) from fun x f g h => congrArg _ (funext h)]
  rotate_left 2
  · rintro ⟨c0, c1, m0, a0, m1, a1⟩
    show (Scf.Loop.for (k0_t3_loop k0_t1) _ _ _ >>= _ : P F (FVec F S1x512 .f32 × FVec F S1x512 .f32)) = pick i arg2 arg3 arg4 arg5 harg5 arg6 arg7 v5 k0_t1 (c0, c1, m0, a0, m1, a1)
    rw [for_zero _ _ _ _ (trips3 k0_t1)]
    rfl
  have h2 := trips2 k0_t1
  rcases (show k0_t1.val / 8 = 0 ∨ k0_t1.val / 8 = 1 by omega) with h | h
  · rw [for_zero _ _ _ _ (h2.trans h)]
    show pick i arg2 arg3 arg4 arg5 harg5 arg6 arg7 v5 k0_t1 (ini c0 c1) = _
    rw [pick_eq, h, show k0_t1.val % 8 = k0_t1.val by omega]
  · rw [for_one _ _ _ _ (h2.trans h)]
    show (pairs arg2 arg3 arg4 arg6 arg7 _ v5 8 0 (ini c0 c1) >>= _) = _
    rw [pairs_congr _ k0_t1.val 0 16 16 (agreeG i k0_t1 _) v5 8 0 _ (by omega) (by omega)]
    rw [show pick i arg2 arg3 arg4 arg5 harg5 arg6 arg7 v5 k0_t1 = fun s => tail arg2 arg3 arg4 arg5 harg5 arg6 arg7 (uO k0_t1.val) (uD k0_t1.val) v5 (k0_t1.val % 8) (2 * 8) s from
      funext fun s => (pick_eq (harg5 := harg5) i v5 k0_t1 s).trans (by rw [h])]
    exact (tail_pairs (harg5 := harg5) (uO k0_t1.val) (uD k0_t1.val) v5 8 (k0_t1.val % 8) (ini c0 c1)).trans (by rw [show 8 + k0_t1.val % 8 = k0_t1.val by omega])

variable (arg2 arg3 arg4 arg5 harg5 arg6 arg7) in
/-- The whole body over the plain tiles. -/
def bodyU : P F PUnit := do
  let (c0, c1) ← start arg2 arg3 arg6 qz0 qz1
  let (_, _) ← Scf.Loop.for k0_t1_loop k0_t1_ok (c0, c1) fun k0_t1 (c0, c1) => tileU arg2 arg3 arg4 arg5 harg5 arg6 arg7 (ones F) k0_t1.val c0 c1
  pure ⟨⟩

theorem bodyU_eq (i : grid0.Coords) (harg2 : arg2.IsWhole) (harg3 : arg3.IsWhole) (harg4 : arg4.IsWhole) (harg6 : arg6.IsWhole) (harg7 : arg7.IsWhole) :
    cc0_fox_attn (F := F) i arg2 harg2 arg3 harg3 arg4 harg4 arg5 harg5 arg6 harg6 arg7 harg7 = bodyU arg2 arg3 arg4 arg5 harg5 arg6 arg7 := by
  rw [body_eq]
  unfold body bodyU
  simp only [tile_eq]

end

end Cert.KernelIdeal.Flash

end
-- ==== Proof.Flash.Wp.lean ====
/- What a piece of the clean body does to the memory it touches: `Tr p m m' r` says that `p`, started with the
   buffers at `m`, leaves them at `m'` and returns `r`. The rules for a load, a store and a sequence; everything else is
   built from these. -/
module

public import proofs.«01_k».proof.Proof.Flash.Norm
public import proofs.«01_k».proof.Proof.Gen.KernelIdeal.Frame
public import Idealize.ShloMosaic.Lib.VecWindow
public import Idealize.ShloMosaic.Lib.Exec
public import Idealize.ShloMosaic.Lib.Tactic

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F] [Named F]

local notation "𝕄" => MT nD τ sig Unit (Elt F) ℕ (UR sig nD τ) ℕ

/-- A load through a unit rectangle returns the window it names. -/
theorem load_owns (c : Dev nD) {s : Shape} {e : EltTy} (b : Memref sig .tc .vmem s e) (off size : Fin s.rank → ℕ) (inb : ∀ a, off a + size a ≤ s.size a)
    (hl : b.view.LoadsAt (Rect.unit off size inb).toLoadRect) (X : s.Idx → Elt F e) (Q : ((Rect.unit off size inb).shape.Idx → Elt F e) → sProp 𝕄) :
    (owns (c : Thread nD τ) b fullShare X : sProp 𝕄)
      ⊢ iprop((owns (c : Thread nD τ) b fullShare X -∗ Q (VecWindow.window X off size inb)) -∗
          wp frame (wpE (defs₀ (F := F)) Variants.none (c : Thread nD τ) none) Set.univ (Prog.lift (.load b (Rect.unit off size inb).toLoadRect hl)) Q) := by
  unfold owns
  iintro ⟨%f, %hf, H⟩ HK
  iapply (wp_load Variants.none (c : Thread nD τ) none Set.univ (m := b) (S := b.view.set) (b.view.setOn_subset_set _)) $$ H
  iintro H
  rw [View.readAt_unit b.view f inb rfl inb, hf]
  iapply (le_wp_ret frame (wpE (defs₀ (F := F)) Variants.none (c : Thread nD τ) none) Set.univ (VecWindow.window X off size inb) Q)
  iapply HK
  iexists f
  isplitr
  · ipureintro; exact hf
  iexact H

/-- A store of a whole unit rectangle puts the payload there. -/
theorem store_owns (c : Dev nD) {s : Shape} {e : EltTy} (b : Memref sig .tc .vmem s e) (off size : Fin s.rank → ℕ) (inb : ∀ a, off a + size a ≤ s.size a)
    (w : (Rect.unit off size inb).shape.Idx → Elt F e) (hx : (b.access (Rect.unit off size inb)).Stores Finset.univ)
    (hm : (Finset.univ : Finset (Rect.unit off size inb).shape.Idx) = Finset.univ ∨ ∀ a, (Rect.unit off size inb).stride a = 1)
    (X : s.Idx → Elt F e) (Q : PUnit → sProp 𝕄) :
    (owns (c : Thread nD τ) b fullShare X : sProp 𝕄)
      ⊢ iprop((owns (c : Thread nD τ) b fullShare (VecWindow.put X off size w) -∗ Q ⟨⟩) -∗
          wp frame (wpE (defs₀ (F := F)) Variants.none (c : Thread nD τ) none) Set.univ (Prog.lift (.store b (Rect.unit off size inb) w Finset.univ hx hm)) Q) := by
  unfold owns
  iintro ⟨%f, %hf, H⟩ HK
  iapply (wp_store Variants.none (c : Thread nD τ) none Set.univ (m := b) (r := Rect.unit off size inb) (S := b.view.set) (show (b.access (Rect.unit off size inb)).setOn Finset.univ ⊆ b.view.set from View.set_slice_subset _ _)) $$ H
  iintro H
  iapply (le_wp_ret frame (wpE (defs₀ (F := F)) Variants.none (c : Thread nD τ) none) Set.univ ⟨⟩ Q)
  iapply HK
  iexists _
  isplitr
  swap; · iexact H
  ipureintro
  exact (View.read_writes_cons_put b.view f inb w [] rfl).trans (by rw [View.writes_nil, hf])

/-! ## The memory of a grid point -/

/-- What the buffers written hold: the result's block, and the two score buffers (`false` the first). -/
structure Mem (F : FTy → Type) where
  o : Vec F S1x8192x128 .bf16
  s : Bool → Vec F S2x256x512 .f32

section
variable (c : Dev nD)
variable (arg2 : Memref sig .tc .vmem S1x256x8192 .bf16) (arg3 : Memref sig .tc .vmem S1x8192x256 .bf16) (arg4 : Memref sig .tc .vmem S1x128x8192 .bf16) (arg5 : Memref sig .tc .vmem S1x8192x128 .bf16) (harg5 : arg5.IsWhole) (arg6 arg7 : Memref sig .tc .vmem S2x256x512 .f32)
variable (q : Vec F S1x256x8192 .bf16) (k : Vec F S1x8192x256 .bf16) (v : Vec F S1x128x8192 .bf16)

/-- The buffers held: the three operands at their blocks, the rest at `m`. -/
def Held (m : Mem F) : sProp 𝕄 :=
  iprop(owns (c : Thread nD τ) arg2 fullShare q ∗ owns (c : Thread nD τ) arg3 fullShare k ∗ owns (c : Thread nD τ) arg4 fullShare v
    ∗ owns (c : Thread nD τ) arg5 fullShare m.o ∗ owns (c : Thread nD τ) arg6 fullShare (m.s false) ∗ owns (c : Thread nD τ) arg7 fullShare (m.s true))

/-- The score buffer named by a flag. -/
abbrev sb (b : Bool) : Memref sig .tc .vmem S2x256x512 .f32 := match b with
  | false => arg6
  | true => arg7

/-- `p` takes the buffers from `m` to `m'` and returns `r`. -/
def Tr {α : Type} (p : P F α) (m m' : Mem F) (r : α) : Prop :=
  ∀ Q : α → sProp 𝕄, Held c arg2 arg3 arg4 arg5 arg6 arg7 q k v m
    ⊢ iprop((Held c arg2 arg3 arg4 arg5 arg6 arg7 q k v m' -∗ Q r) -∗ wp frame (wpE (defs₀ (F := F)) Variants.none (c : Thread nD τ) none) Set.univ p Q)

variable {c arg2 arg3 arg4 arg5 arg6 arg7 q k v}

theorem Tr.ret {α : Type} (m : Mem F) (r : α) : Tr c arg2 arg3 arg4 arg5 arg6 arg7 q k v (pure r) m m r := fun Q => by
  iintro H HK
  iapply (le_wp_ret frame (wpE (defs₀ (F := F)) Variants.none (c : Thread nD τ) none) Set.univ r Q)
  iapply HK
  iexact H

theorem Tr.bind {α β : Type} {p : P F α} {g : α → P F β} {m m1 m2 : Mem F} {r : α} {r' : β}
    (h : Tr c arg2 arg3 arg4 arg5 arg6 arg7 q k v p m m1 r) (h' : Tr c arg2 arg3 arg4 arg5 arg6 arg7 q k v (g r) m1 m2 r') :
    Tr c arg2 arg3 arg4 arg5 arg6 arg7 q k v (p >>= g) m m2 r' := fun Q => by
  rw [wp_bind]
  iintro H HK
  iapply (h _) $$ H
  iintro H
  iapply (h' Q) $$ H
  iexact HK

theorem Tr.load2 (m : Mem F) (off size : Fin 3 → ℕ) (inb : ∀ a, off a + size a ≤ S1x256x8192.size a) (hl) :
    Tr c arg2 arg3 arg4 arg5 arg6 arg7 q k v (Prog.lift (.load arg2 (Rect.unit (s := S1x256x8192) off size inb).toLoadRect hl)) m m (VecWindow.window q off size inb) := fun Q => by
  unfold Held
  iintro ⟨H2, H3, H4, H5, H6, H7⟩ HK
  iapply (load_owns c arg2 off size inb hl q Q) $$ H2
  iintro H2
  iapply HK
  iframe

theorem Tr.load3 (m : Mem F) (off size : Fin 3 → ℕ) (inb : ∀ a, off a + size a ≤ S1x8192x256.size a) (hl) :
    Tr c arg2 arg3 arg4 arg5 arg6 arg7 q k v (Prog.lift (.load arg3 (Rect.unit (s := S1x8192x256) off size inb).toLoadRect hl)) m m (VecWindow.window k off size inb) := fun Q => by
  unfold Held
  iintro ⟨H2, H3, H4, H5, H6, H7⟩ HK
  iapply (load_owns c arg3 off size inb hl k Q) $$ H3
  iintro H3
  iapply HK
  iframe

theorem Tr.load4 (m : Mem F) (off size : Fin 3 → ℕ) (inb : ∀ a, off a + size a ≤ S1x128x8192.size a) (hl) :
    Tr c arg2 arg3 arg4 arg5 arg6 arg7 q k v (Prog.lift (.load arg4 (Rect.unit (s := S1x128x8192) off size inb).toLoadRect hl)) m m (VecWindow.window v off size inb) := fun Q => by
  unfold Held
  iintro ⟨H2, H3, H4, H5, H6, H7⟩ HK
  iapply (load_owns c arg4 off size inb hl v Q) $$ H4
  iintro H4
  iapply HK
  iframe

theorem Tr.load5 (m : Mem F) (off size : Fin 3 → ℕ) (inb : ∀ a, off a + size a ≤ S1x8192x128.size a) (hl) :
    Tr c arg2 arg3 arg4 arg5 arg6 arg7 q k v (Prog.lift (.load arg5 (Rect.unit (s := S1x8192x128) off size inb).toLoadRect hl)) m m (VecWindow.window m.o off size inb) := fun Q => by
  unfold Held
  iintro ⟨H2, H3, H4, H5, H6, H7⟩ HK
  iapply (load_owns c arg5 off size inb hl m.o Q) $$ H5
  iintro H5
  iapply HK
  iframe

theorem Tr.load (m : Mem F) (b : Bool) (off size : Fin 3 → ℕ) (inb : ∀ a, off a + size a ≤ S2x256x512.size a) (hl) :
    Tr c arg2 arg3 arg4 arg5 arg6 arg7 q k v (Prog.lift (.load (sb arg6 arg7 b) (Rect.unit (s := S2x256x512) off size inb).toLoadRect hl)) m m (VecWindow.window (m.s b) off size inb) := fun Q => by
  unfold Held
  cases b
  · iintro ⟨H2, H3, H4, H5, H6, H7⟩ HK
    iapply (load_owns c arg6 off size inb hl (m.s false) Q) $$ H6
    iintro H6
    iapply HK
    iframe
  · iintro ⟨H2, H3, H4, H5, H6, H7⟩ HK
    iapply (load_owns c arg7 off size inb hl (m.s true) Q) $$ H7
    iintro H7
    iapply HK
    iframe

theorem Tr.store5 (m : Mem F) (off size : Fin 3 → ℕ) (inb : ∀ a, off a + size a ≤ S1x8192x128.size a) (w) (hx) (hm) :
    Tr c arg2 arg3 arg4 arg5 arg6 arg7 q k v (Prog.lift (.store arg5 (Rect.unit (s := S1x8192x128) off size inb) w Finset.univ hx hm)) m ⟨VecWindow.put m.o off size w, m.s⟩ ⟨⟩ := fun Q => by
  unfold Held
  iintro ⟨H2, H3, H4, H5, H6, H7⟩ HK
  iapply (store_owns c arg5 off size inb w hx hm m.o Q) $$ H5
  iintro H5
  iapply HK
  iframe

/-- The memory with one score buffer replaced. -/
def Mem.set (m : Mem F) (b : Bool) (X : Vec F S2x256x512 .f32) : Mem F := ⟨m.o, fun b' => if b' = b then X else m.s b'⟩

theorem Tr.store (m : Mem F) (b : Bool) (off size : Fin 3 → ℕ) (inb : ∀ a, off a + size a ≤ S2x256x512.size a) (w) (hx) (hm) :
    Tr c arg2 arg3 arg4 arg5 arg6 arg7 q k v (Prog.lift (.store (sb arg6 arg7 b) (Rect.unit (s := S2x256x512) off size inb) w Finset.univ hx hm)) m (m.set b (VecWindow.put (m.s b) off size w)) ⟨⟩ := fun Q => by
  unfold Held
  cases b
  · iintro ⟨H2, H3, H4, H5, H6, H7⟩ HK
    iapply (store_owns c arg6 off size inb w hx hm (m.s false) Q) $$ H6
    iintro H6
    iapply HK
    simp only [Mem.set, if_true, Bool.true_eq_false, if_false]
    iframe
  · iintro ⟨H2, H3, H4, H5, H6, H7⟩ HK
    iapply (store_owns c arg7 off size inb w hx hm (m.s true) Q) $$ H7
    iintro H7
    iapply HK
    simp only [Mem.set, if_true, Bool.false_eq_true, if_false]
    iframe

end

end Cert.KernelIdeal.Flash

end
-- ==== Proof.Flash.Run.lean ====
/- The clean body run over the memory of a grid point: what each query tile leaves in the result's block, as pure
   functions of the three operands' blocks. -/
module

public import proofs.«01_k».proof.Proof.Flash.Wp
public import Idealize.ShloMosaic.Lib.Pipeline.Value

@[expose] public section

set_option maxRecDepth 16384

noncomputable section

namespace Cert.KernelIdeal.Flash

open Idealize.ShloMosaic Idealize.ShloMosaic.TcCoe
open Idealize.SL Idealize.SL.Sem
open Cert.KernelIdeal

variable {F : FTy → Type} [FloatOps F] [Named F]
variable [Facts]
open Facts₀ Facts

/-! ## The attention of one head, a query tile at a time -/

section
variable (q : Vec F S1x256x8192 .bf16) (k : Vec F S1x8192x256 .bf16) (v : Vec F S1x128x8192 .bf16)

/-- Head `h`'s keys of block `j`, queries of tile `t`, their right half, and values of block `j`. -/
def ldK (h : Fin 2) (j : Nat) : Vec F S1x256x128 .bf16 := VecWindow.window k (kU h j).1 S1x256x128.size (kU h j).2
def ldQ (h : Fin 2) (t : Nat) : Vec F S1x128x512 .bf16 := VecWindow.window q (qU h t).1 S1x128x512.size (qU h t).2
def ldH (h : Fin 2) (t : Nat) : Vec F S1x128x256 .bf16 := VecWindow.window q (hU h t).1 S1x128x256.size (hU h t).2
def ldV (h : Fin 2) (j : Nat) : Vec F S1x64x256 .bf16 := VecWindow.window v (vU h j).1 S1x64x256.size (vU h j).2

/-- The scores of block `j` against tile `t`, and of the block `2 t + 1` against its right half. -/
def sc (h : Fin 2) (t j : Nat) : FVec F S256x512 .f32 := stF (ldK k h j) (ldQ q h t)
def hsc (h : Fin 2) (t : Nat) : FVec F S256x256 .f32 := stH (ldK k h (2 * t + 1)) (ldH q h t)

/-- The running maximum and accumulator of tile `t` before block `n`, the blocks before it all full. -/
def run (h : Fin 2) (t : Nat) : Nat → FVec F S1x512 .f32 × FVec F S80x512 .f32
  | 0 => (broadcast S1x512 (Named.named κ "mask" 0xF149F2CA#32), broadcast S80x512 (Scalar.ofBits .f32 0x00000000#32))
  | n + 1 => (maximumf (run h t n).1 (cmF (sc q k h t n)),
      accF (sc q k h t n) (v1F (ldV v h n) (ones F)) (run h t n).1 (maximumf (run h t n).1 (cmF (sc q k h t n))) (run h t n).2)

/-- After the first diagonal block. -/
def dgM (h : Fin 2) (t : Nat) : FVec F S1x512 .f32 := maximumf (run q k v h t (2 * t)).1 (cmF (maskF (sc q k h t (2 * t))))
def dgA (h : Fin 2) (t : Nat) : FVec F S80x512 .f32 :=
  accF (maskF (sc q k h t (2 * t))) (v1F (ldV v h (2 * t)) (ones F)) (run q k v h t (2 * t)).1 (dgM q k v h t) (run q k v h t (2 * t)).2

/-- After the second. -/
def fin (h : Fin 2) (t : Nat) : FVec F S80x512 .f32 :=
  accH (maskH (hsc q k h t)) (v1F (ldV v h (2 * t + 1)) (ones F)) (mHalf (dgM q k v h t)) (maximumf (mHalf (dgM q k v h t)) (cmH (maskH (hsc q k h t)))) (dgA q k v h t)

/-- The rows tile `t` writes. -/
def outT (t : Nat) : FVec F S1x512x128 .bf16 := outF (fin q k v 0 t) (fin q k v 1 t)

theorem oU_here (y : S1x8192x128.Idx) : ∀ a, (oU ((y 1).val / 512)).1 a ≤ (y a).val ∧ (y a).val < (oU ((y 1).val / 512)).1 a + S1x512x128.size a := by
  have h0 := (y 0).isLt; have h1 := (y 1).isLt; have h2 := (y 2).isLt
  have e0 : S1x8192x128.size 0 = 1 := rfl
  have e1 : S1x8192x128.size 1 = 8192 := rfl
  have e2 : S1x8192x128.size 2 = 128 := rfl
  intro a
  fin_cases a
  · show 0 ≤ (y 0).val ∧ (y 0).val < 0 + 1
    omega
  · show 512 * ((y 1).val / 512 % 16) ≤ (y 1).val ∧ (y 1).val < 512 * ((y 1).val / 512 % 16) + 512
    omega
  · show 0 ≤ (y 2).val ∧ (y 2).val < 0 + 128
    omega

/-- The whole block. -/
def outAll : Vec F S1x8192x128 .bf16 := fun y => outT q k v ((y 1).val / 512) (Rect.unitLocal (s := S1x8192x128) (off := (oU ((y 1).val / 512)).1) (size := S1x512x128.size) y (oU_here y))

theorem outAll_of (o : Vec F S1x8192x128 .bf16) (h : ∀ t < 16, VecWindow.window o (oU t).1 S1x512x128.size (oU t).2.1 = outT q k v t) : o = outAll q k v := by
  funext y
  have h1 := (y 1).isLt
  have e1 : S1x8192x128.size 1 = 8192 := rfl
  have := congrFun (h ((y 1).val / 512) (by omega)) (Rect.unitLocal (s := S1x8192x128) (off := (oU ((y 1).val / 512)).1) (size := S1x512x128.size) y (oU_here y))
  refine Eq.trans (congrArg o (funext fun a => Fin.ext ?_)) this
  show (y a).val = (oU ((y 1).val / 512)).1 a + 1 * ((y a).val - (oU ((y 1).val / 512)).1 a)
  have := oU_here y a
  omega

/-- The carried values before block `n` of tile `t`. -/
def carry (t n : Nat) : St F := (cmF (sc q k 0 t n), cmF (sc q k 1 t n), (run q k v 0 t n).1, (run q k v 0 t n).2, (run q k v 1 t n).1, (run q k v 1 t n).2)

/-- Score buffer `b` holds both heads' scores of block `j` against tile `t`. -/
def Has (m : Mem F) (b : Bool) (t j : Nat) : Prop :=
  VecWindow.window (m.s b) sz0.1 S1x256x512.size sz0.2 = shapeCast S1x256x512 (sc q k 0 t j) shapeCasts_S256x512_S1x256x512
    ∧ VecWindow.window (m.s b) sz1.1 S1x256x512.size sz1.2 = shapeCast S1x256x512 (sc q k 1 t j) shapeCasts_S256x512_S1x256x512

end

/-! ## The pieces -/

section
variable {c : Dev nD}
variable {arg2 : Memref sig .tc .vmem S1x256x8192 .bf16} {arg3 : Memref sig .tc .vmem S1x8192x256 .bf16} {arg4 : Memref sig .tc .vmem S1x128x8192 .bf16} {arg5 : Memref sig .tc .vmem S1x8192x128 .bf16} {harg5 : arg5.IsWhole} {arg6 arg7 : Memref sig .tc .vmem S2x256x512 .f32}
variable {q : Vec F S1x256x8192 .bf16} {k : Vec F S1x8192x256 .bf16} {v : Vec F S1x128x8192 .bf16}

theorem scoresF_tr (m : Mem F) (ko : KOff) (qo : QOff) (b : Bool) (so : SOff) :
    Tr c arg2 arg3 arg4 arg5 arg6 arg7 q k v (scoresF arg2 arg3 ko qo (sb arg6 arg7 b) so) m
      (m.set b (VecWindow.put (m.s b) so.1 S1x256x512.size (shapeCast S1x256x512 (stF (VecWindow.window k ko.1 S1x256x128.size ko.2) (VecWindow.window q qo.1 S1x128x512.size qo.2)) shapeCasts_S256x512_S1x256x512)))
      (cmF (stF (VecWindow.window k ko.1 S1x256x128.size ko.2) (VecWindow.window q qo.1 S1x128x512.size qo.2))) := by
  unfold scoresF
  exact (Tr.load3 m _ _ _ _).bind ((Tr.load2 m _ _ _ _).bind ((Tr.load m b _ _ _ _).bind ((Tr.store m b _ _ _ _ _ _).bind (Tr.ret _ _))))

theorem scoresH_tr (m : Mem F) (ko : KOff) (qo : HOff) (b : Bool) (so : TOff) :
    Tr c arg2 arg3 arg4 arg5 arg6 arg7 q k v (scoresH arg2 arg3 ko qo (sb arg6 arg7 b) so) m
      (m.set b (VecWindow.put (m.s b) so.1 S1x256x256.size (shapeCast S1x256x256 (stH (VecWindow.window k ko.1 S1x256x128.size ko.2) (VecWindow.window q qo.1 S1x128x256.size qo.2)) shapeCasts_S256x256_S1x256x256)))
      ⟨⟩ := by
  unfold scoresH
  exact (Tr.load3 m _ _ _ _).bind ((Tr.load2 m _ _ _ _).bind ((Tr.load m b _ _ _ _).bind (Tr.store m b _ _ _ _ _ _)))

theorem updF_tr (m : Mem F) (b : Bool) (so : SOff) (vo : VOff) (v5 : FVec F S16x256 .bf16) (cm mx : FVec F S1x512 .f32) (a : FVec F S80x512 .f32)
    (s : FVec F S256x512 .f32) (hs : VecWindow.window (m.s b) so.1 S1x256x512.size so.2 = shapeCast S1x256x512 s shapeCasts_S256x512_S1x256x512) :
    Tr c arg2 arg3 arg4 arg5 arg6 arg7 q k v (updF arg4 (sb arg6 arg7 b) so vo v5 cm mx a) m m
      (maximumf mx cm, accF s (v1F (VecWindow.window v vo.1 S1x64x256.size vo.2) v5) mx (maximumf mx cm) a) := by
  unfold updF
  have h := (Tr.load (c := c) (arg2 := arg2) (arg3 := arg3) (arg4 := arg4) (arg5 := arg5) (arg6 := arg6) (arg7 := arg7) (q := q) (k := k) (v := v) m b so.1 S1x256x512.size so.2 (View.loadsAt_vmem h_S1x256x512))
  rw [hs] at h
  refine h.bind ((Tr.load4 m _ _ _ _).bind ?_)
  rw [shapeCast_shapeCast]
  exact Tr.ret _ _

theorem updD_tr (m : Mem F) (b : Bool) (so : SOff) (vo : VOff) (v5 : FVec F S16x256 .bf16) (mx : FVec F S1x512 .f32) (a : FVec F S80x512 .f32)
    (s : FVec F S256x512 .f32) (hs : VecWindow.window (m.s b) so.1 S1x256x512.size so.2 = shapeCast S1x256x512 s shapeCasts_S256x512_S1x256x512) :
    Tr c arg2 arg3 arg4 arg5 arg6 arg7 q k v (updD arg4 (sb arg6 arg7 b) so vo v5 mx a) m m
      (maximumf mx (cmF (maskF s)), accF (maskF s) (v1F (VecWindow.window v vo.1 S1x64x256.size vo.2) v5) mx (maximumf mx (cmF (maskF s))) a) := by
  unfold updD
  have h := (Tr.load (c := c) (arg2 := arg2) (arg3 := arg3) (arg4 := arg4) (arg5 := arg5) (arg6 := arg6) (arg7 := arg7) (q := q) (k := k) (v := v) m b so.1 S1x256x512.size so.2 (View.loadsAt_vmem h_S1x256x512))
  rw [hs] at h
  refine h.bind ((Tr.load4 m _ _ _ _).bind ?_)
  rw [shapeCast_shapeCast]
  exact Tr.ret _ _

theorem updH_tr (m : Mem F) (b : Bool) (so : TOff) (vo : VOff) (v5 : FVec F S16x256 .bf16) (mx : FVec F S1x512 .f32) (a : FVec F S80x512 .f32)
    (s : FVec F S256x256 .f32) (hs : VecWindow.window (m.s b) so.1 S1x256x256.size so.2 = shapeCast S1x256x256 s shapeCasts_S256x256_S1x256x256) :
    Tr c arg2 arg3 arg4 arg5 arg6 arg7 q k v (updH arg4 (sb arg6 arg7 b) so vo v5 mx a) m m
      (accH (maskH s) (v1F (VecWindow.window v vo.1 S1x64x256.size vo.2) v5) (mHalf mx) (maximumf (mHalf mx) (cmH (maskH s))) a) := by
  unfold updH
  have h := (Tr.load (c := c) (arg2 := arg2) (arg3 := arg3) (arg4 := arg4) (arg5 := arg5) (arg6 := arg6) (arg7 := arg7) (q := q) (k := k) (v := v) m b so.1 S1x256x256.size so.2 (View.loadsAt_vmem h_S1x256x256))
  rw [hs] at h
  refine h.bind ((Tr.load4 m _ _ _ _).bind ?_)
  rw [shapeCast_shapeCast]
  exact Tr.ret _ _

theorem set_same (m : Mem F) (b : Bool) (X : Vec F S2x256x512 .f32) : (m.set b X).s b = X := if_pos rfl
theorem set_other (m : Mem F) (b b' : Bool) (h : b' ≠ b) (X : Vec F S2x256x512 .f32) : (m.set b X).s b' = m.s b' := if_neg h

/-- Both heads' scores of a block into one buffer, the other left. -/
theorem both_tr (m : Mem F) (t j : Nat) (b : Bool) (ko0 ko1 : KOff) (h0 : ko0 = kU 0 j) (h1 : ko1 = kU 1 j) :
    ∃ m1 m2 : Mem F, Tr c arg2 arg3 arg4 arg5 arg6 arg7 q k v (scoresF arg2 arg3 ko0 (qU 0 t) (sb arg6 arg7 b) sz0) m m1 (cmF (sc q k 0 t j))
      ∧ Tr c arg2 arg3 arg4 arg5 arg6 arg7 q k v (scoresF arg2 arg3 ko1 (qU 1 t) (sb arg6 arg7 b) sz1) m1 m2 (cmF (sc q k 1 t j))
      ∧ Has q k m2 b t j ∧ m2.o = m.o ∧ ∀ b', b' ≠ b → m2.s b' = m.s b' := by
  subst h0 h1
  refine ⟨_, _, scoresF_tr m (kU 0 j) (qU 0 t) b sz0, scoresF_tr _ (kU 1 j) (qU 1 t) b sz1, ⟨?_, ?_⟩, rfl, ?_⟩
  · rw [set_same, set_same, VecWindow.window_put_of_disjoint _ _ _ _ _ _ _ (0 : Fin 3) (.inl (Nat.le_refl 1)), VecWindow.window_put_same]
    rfl
  · rw [set_same, VecWindow.window_put_same]
    rfl
  · intro b' hb
    rw [set_other _ _ _ hb, set_other _ _ _ hb]

/-- A full block. -/
theorem step_tr (m : Mem F) (t j : Nat) (b b' : Bool) (hb : b ≠ b') (hm : Has q k m b t j) :
    ∃ m' : Mem F, Tr c arg2 arg3 arg4 arg5 arg6 arg7 q k v (stepF arg2 arg3 arg4 (uO t) (ones F) (sb arg6 arg7 b) (sb arg6 arg7 b') j (carry q k v t j)) m m' (carry q k v t (j + 1))
      ∧ Has q k m' b' t (j + 1) ∧ m'.o = m.o := by
  obtain ⟨m1, m2, t0, t1, hh, ho, hs⟩ := both_tr (c := c) (arg2 := arg2) (arg3 := arg3) (arg4 := arg4) (arg5 := arg5) (arg6 := arg6) (arg7 := arg7) (q := q) (k := k) (v := v) m t (j + 1) b' _ _ rfl rfl
  refine ⟨m2, ?_, hh, ho⟩
  unfold stepF carry
  refine t0.bind (t1.bind ((updF_tr m2 b _ _ _ _ _ _ (sc q k 0 t j) ?_).bind ((updF_tr m2 b _ _ _ _ _ _ (sc q k 1 t j) ?_).bind (Tr.ret _ _))))
  · rw [hs _ hb]; exact hm.1
  · rw [hs _ hb]; exact hm.2

/-- `n` pairs of full blocks. -/
theorem pairs_tr (t n : Nat) : ∀ (m : Mem F) (j : Nat) (hm : Has q k m false t j),
    ∃ m' : Mem F, Tr c arg2 arg3 arg4 arg5 arg6 arg7 q k v (pairs arg2 arg3 arg4 arg6 arg7 (uO t) (ones F) n j (carry q k v t j)) m m' (carry q k v t (j + 2 * n))
      ∧ Has q k m' false t (j + 2 * n) ∧ m'.o = m.o := by
  induction n with
  | zero => exact fun m j hm => ⟨m, Tr.ret _ _, hm, rfl⟩
  | succ n ih =>
    intro m j hm
    obtain ⟨m1, t1, h1, o1⟩ := step_tr (c := c) (arg2 := arg2) (arg3 := arg3) (arg4 := arg4) (arg5 := arg5) (arg6 := arg6) (arg7 := arg7) (v := v) m t j false true (by decide) hm
    obtain ⟨m2, t2, h2, o2⟩ := step_tr (c := c) (arg2 := arg2) (arg3 := arg3) (arg4 := arg4) (arg5 := arg5) (arg6 := arg6) (arg7 := arg7) (v := v) m1 t (j + 1) true false (by decide) h1
    obtain ⟨m3, t3, h3, o3⟩ := ih m2 (j + 2) h2
    rw [show j + 2 + 2 * n = j + 2 * (n + 1) by omega] at t3 h3
    exact ⟨m3, t1.bind (t2.bind t3), h3, o3.trans (o2.trans o1)⟩

theorem kz0_eq : kz0 = kU 0 0 := Subtype.ext rfl
theorem kz1_eq : kz1 = kU 1 0 := Subtype.ext rfl

/-- The diagonal of tile `t`, which writes its rows and leaves the next tile's first scores. -/
theorem diag_tr (t : Nat) (m : Mem F) (hm : Has q k m false t (2 * t)) :
    ∃ m' : Mem F, Tr c arg2 arg3 arg4 arg5 arg6 arg7 q k v (diag arg2 arg3 arg4 arg5 harg5 arg6 arg7 (uO t) (uD t) (ones F) (2 * t) (carry q k v t (2 * t))) m m'
        (cmF (sc q k 0 (nx t) 0), cmF (sc q k 1 (nx t) 0))
      ∧ Has q k m' false (nx t) 0 ∧ m'.o = VecWindow.put m.o (oU t).1 S1x512x128.size (outT q k v t) := by
  obtain ⟨m1, hm1⟩ : ∃ m1, m1 = (m.set true (VecWindow.put (m.s true) tz0.1 S1x256x256.size (shapeCast S1x256x256 (hsc q k 0 t) shapeCasts_S256x256_S1x256x256))) := ⟨_, rfl⟩
  obtain ⟨m2, hm2⟩ : ∃ m2, m2 = (m1.set true (VecWindow.put (m1.s true) tz1.1 S1x256x256.size (shapeCast S1x256x256 (hsc q k 1 t) shapeCasts_S256x256_S1x256x256))) := ⟨_, rfl⟩
  have s0 : Tr c arg2 arg3 arg4 arg5 arg6 arg7 q k v (scoresH arg2 arg3 (kU 0 (2 * t + 1)) (hU 0 t) arg7 tz0) m m1 ⟨⟩ := by rw [hm1]; exact scoresH_tr m _ _ true tz0
  have s1 : Tr c arg2 arg3 arg4 arg5 arg6 arg7 q k v (scoresH arg2 arg3 (kU 1 (2 * t + 1)) (hU 1 t) arg7 tz1) m1 m2 ⟨⟩ := by rw [hm2]; exact scoresH_tr m1 _ _ true tz1
  have e2 : m2.s false = m.s false := by rw [hm2, hm1, set_other _ _ _ (by decide), set_other _ _ _ (by decide)]
  have o2 : m2.o = m.o := by rw [hm2, hm1]; rfl
  have w0 : VecWindow.window (m2.s true) tz0.1 S1x256x256.size tz0.2 = shapeCast S1x256x256 (hsc q k 0 t) shapeCasts_S256x256_S1x256x256 := by
    rw [hm2, hm1, set_same, set_same, VecWindow.window_put_of_disjoint _ _ _ _ _ _ _ (0 : Fin 3) (.inl (Nat.le_refl 1)), VecWindow.window_put_same]
  have w1 : VecWindow.window (m2.s true) tz1.1 S1x256x256.size tz1.2 = shapeCast S1x256x256 (hsc q k 1 t) shapeCasts_S256x256_S1x256x256 := by
    rw [hm2, set_same, VecWindow.window_put_same]
  obtain ⟨m3, m4, t0, t1, hh, ho, hs⟩ := both_tr (c := c) (arg2 := arg2) (arg3 := arg3) (arg4 := arg4) (arg5 := arg5) (arg6 := arg6) (arg7 := arg7) (q := q) (k := k) (v := v) m2 (nx t) 0 false _ _ kz0_eq kz1_eq
  rw [← hs true (by decide)] at w0 w1
  refine ⟨⟨VecWindow.put m4.o (oU t).1 S1x512x128.size (outT q k v t), m4.s⟩, ?_, hh, by rw [ho, o2]⟩
  unfold diag carry
  refine s0.bind (s1.bind ((updD_tr m2 false _ _ _ _ _ (sc q k 0 t (2 * t)) ?_).bind ((updD_tr m2 false _ _ _ _ _ (sc q k 1 t (2 * t)) ?_).bind
    (t0.bind (t1.bind ((updH_tr m4 true _ _ _ _ _ (hsc q k 0 t) w0).bind ((updH_tr m4 true _ _ _ _ _ (hsc q k 1 t) w1).bind
      ((Tr.load5 m4 _ _ _ _).bind ((Tr.store5 m4 _ _ _ _ _ _).bind (Tr.ret _ _))))))))))
  · rw [e2]; exact hm.1
  · rw [e2]; exact hm.2

/-- One query tile. -/
theorem tile_tr (t : Nat) (m : Mem F) (hm : Has q k m false t 0) :
    ∃ m' : Mem F, Tr c arg2 arg3 arg4 arg5 arg6 arg7 q k v (tileU arg2 arg3 arg4 arg5 harg5 arg6 arg7 (ones F) t (cmF (sc q k 0 t 0)) (cmF (sc q k 1 t 0))) m m'
        (cmF (sc q k 0 (nx t) 0), cmF (sc q k 1 (nx t) 0))
      ∧ Has q k m' false (nx t) 0 ∧ m'.o = VecWindow.put m.o (oU t).1 S1x512x128.size (outT q k v t) := by
  obtain ⟨m1, t1, h1, o1⟩ := pairs_tr (c := c) (arg2 := arg2) (arg3 := arg3) (arg4 := arg4) (arg5 := arg5) (arg6 := arg6) (arg7 := arg7) (v := v) t t m 0 hm
  rw [Nat.zero_add] at t1 h1
  obtain ⟨m2, t2, h2, o2⟩ := diag_tr (c := c) (arg2 := arg2) (arg3 := arg3) (arg4 := arg4) (arg5 := arg5) (harg5 := harg5) (arg6 := arg6) (arg7 := arg7) (v := v) t m1 h1
  refine ⟨m2, ?_, h2, by rw [o2, o1]⟩
  unfold tileU tail
  rw [Nat.zero_add]
  exact Tr.bind (p := pairs arg2 arg3 arg4 arg6 arg7 (uO t) (ones F) t 0 (carry q k v t 0)) t1 t2

/-- A counted loop from a condition on the memory and the carried value. -/
theorem for_tr {σ : Type} {w : Nat} (l u s : BitVec w) (hok : Scf.OK l u s) (body : Fin (Scf.trips l u s) → σ → P F σ) (J : Nat → Mem F → σ → Prop)
    (h : ∀ (i : Fin (Scf.trips l u s)) (m : Mem F) (a : σ), J i.val m a → ∃ m' a', Tr c arg2 arg3 arg4 arg5 arg6 arg7 q k v (body i a) m m' a' ∧ J (i.val + 1) m' a')
    (m : Mem F) (a : σ) (h0 : J 0 m a) :
    ∃ m' a', Tr c arg2 arg3 arg4 arg5 arg6 arg7 q k v (Scf.for l u s hok a body) m m' a' ∧ J (Scf.trips l u s) m' a' := by
  rw [Scf.for_eq]
  suffices H : ∀ (n i : Nat) (hi : i + n = Scf.trips l u s) (m : Mem F) (a : σ), J i m a →
      ∃ m' a', Tr c arg2 arg3 arg4 arg5 arg6 arg7 q k v (Scf.forFrom body ((List.finRange (Scf.trips l u s)).drop i) a) m m' a' ∧ J (Scf.trips l u s) m' a' from
    H _ 0 (Nat.zero_add _) m a h0
  intro n
  induction n with
  | zero =>
    intro i hi m a hj
    rw [List.drop_of_length_le (by simp; omega), Scf.forFrom_nil]
    obtain rfl : i = Scf.trips l u s := by omega
    exact ⟨m, a, Tr.ret m a, hj⟩
  | succ n ih =>
    intro i hi m a hj
    have hlt : i < Scf.trips l u s := by omega
    rw [List.drop_eq_getElem_cons (by simpa using hlt), List.getElem_finRange, Fin.cast_mk, Scf.forFrom_cons]
    obtain ⟨m1, a1, t1, j1⟩ := h ⟨i, hlt⟩ m a hj
    obtain ⟨m2, a2, t2, j2⟩ := ih (i + 1) (by omega) m1 a1 j1
    exact ⟨m2, a2, t1.bind t2, j2⟩

/-- The condition before tile `t`: the carried column maxima are tile `min t 15`'s, its first scores are in the first
    buffer, the rows of the tiles before it are written. -/
def Before (q : Vec F S1x256x8192 .bf16) (k : Vec F S1x8192x256 .bf16) (v : Vec F S1x128x8192 .bf16) (t : Nat) (m : Mem F) (a : FVec F S1x512 .f32 × FVec F S1x512 .f32) : Prop :=
  a = (cmF (sc q k 0 (min t 15) 0), cmF (sc q k 1 (min t 15) 0)) ∧ Has q k m false (min t 15) 0
    ∧ ∀ t' < t, VecWindow.window m.o (oU t').1 S1x512x128.size (oU t').2.1 = outT q k v t'

theorem before_step (t : Nat) (ht : t < 16) (m m' : Mem F) (hb : ∀ t' < t, VecWindow.window m.o (oU t').1 S1x512x128.size (oU t').2.1 = outT q k v t')
    (ho : m'.o = VecWindow.put m.o (oU t).1 S1x512x128.size (outT q k v t)) (t' : Nat) (h : t' < t + 1) :
    VecWindow.window m'.o (oU t').1 S1x512x128.size (oU t').2.1 = outT q k v t' := by
  rw [ho]
  by_cases e : t' = t
  · subst e; exact VecWindow.window_put_same _ _ _ _ _
  · rw [VecWindow.window_put_of_disjoint _ _ _ _ _ _ _ (1 : Fin 3), hb t' (by omega)]
    left
    show 512 * (t' % 16) + 512 ≤ 512 * (t % 16)
    omega

/-- The whole body: the result's block holds `outAll`. -/
theorem body_tr (m : Mem F) :
    ∃ m' : Mem F, Tr c arg2 arg3 arg4 arg5 arg6 arg7 q k v (bodyU arg2 arg3 arg4 arg5 harg5 arg6 arg7) m m' ⟨⟩ ∧ m'.o = outAll q k v := by
  obtain ⟨m1, m2, t0, t1, hh, ho, hs⟩ := both_tr (c := c) (arg2 := arg2) (arg3 := arg3) (arg4 := arg4) (arg5 := arg5) (arg6 := arg6) (arg7 := arg7) (q := q) (k := k) (v := v) m 0 0 false _ _ kz0_eq kz1_eq
  have e0 : qz0 = qU 0 0 := Subtype.ext rfl
  have e1 : qz1 = qU 1 0 := Subtype.ext rfl
  obtain ⟨m3, a3, t3, j3⟩ := for_tr (c := c) (arg2 := arg2) (arg3 := arg3) (arg4 := arg4) (arg5 := arg5) (arg6 := arg6) (arg7 := arg7) (q := q) (k := k) (v := v)
    k0_t1_loop.lb k0_t1_loop.ub k0_t1_loop.st k0_t1_ok (fun k0_t1 (c0, c1) => tileU arg2 arg3 arg4 arg5 harg5 arg6 arg7 (ones F) k0_t1.val c0 c1) (Before q k v)
    (fun i m a hj => by
      obtain ⟨rfl, hH, hO⟩ := hj
      have hi : i.val < 16 := lt_of_lt_of_eq i.isLt trips1
      rw [show min i.val 15 = i.val by omega] at hH ⊢
      obtain ⟨m', t', h', o'⟩ := tile_tr (c := c) (arg2 := arg2) (arg3 := arg3) (arg4 := arg4) (arg5 := arg5) (harg5 := harg5) (arg6 := arg6) (arg7 := arg7) (v := v) i.val m hH
      exact ⟨m', _, t', rfl, h', before_step i.val hi m m' hO o'⟩)
    m2 (cmF (sc q k 0 0 0), cmF (sc q k 1 0 0)) ⟨rfl, hh, fun t' h => absurd h (Nat.not_lt_zero _)⟩
  refine ⟨m3, ?_, outAll_of q k v _ fun t ht => j3.2.2 t (lt_of_lt_of_eq ht trips1.symm)⟩
  unfold bodyU
  rw [e0, e1]
  have ts : Tr c arg2 arg3 arg4 arg5 arg6 arg7 q k v (start arg2 arg3 arg6 (qU 0 0) (qU 1 0)) m m2 (cmF (sc q k 0 0 0), cmF (sc q k 1 0 0)) := by
    unfold start
    exact t0.bind (t1.bind (Tr.ret _ _))
  refine Tr.bind ts ?_
  refine Tr.bind t3 ?_
  exact Tr.ret _ _

end

end Cert.KernelIdeal.Flash

end
-- ==== Proof.Flash.Frame.lean ====
/- The launch over the body's run: at every grid point the result's block is left at `outAll` of the operands' blocks, the
   score buffers at anything; hence the run of the whole program, and the frame. -/
module

public import proofs.«01_k».proof.Proof.Flash.Run
public import proofs.«01_k».proof.Proof.Gen.KernelIdeal.Points
public import proofs.«01_k».proof.Proof.Gen.KernelIdeal.Launch
public import Idealize.ShloMosaic.Lib.Pipeline.Frame
public import Idealize.ShloMosaic.Lib.Pipeline.FrameBody

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

local instance : Facts := Cert.KernelIdeal.Gen.facts

variable (m : (ℓ : Loc nD τ sig) → Buf (Elt F) ℓ) (ρ : Dev nD → PrngReg)

/-- The result's block at point `t`. -/
def outAt (c : Dev nD) (t : Fin cfg0.N) : Vec F S1x8192x128 .bf16 := outAll (iblk m c 0 t) (iblk m c 1 t) (iblk m c 2 t)

/-- The proof data: the operands' blocks stay, the result's block ends at `outAt`, the score buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The score buffers as memrefs. -/
theorem ownsS0 (c : Dev nD) (f : Buf (Elt F) ((c : Thread nD τ).loc cc0_scratch0)) :
    (((c : Thread nD τ).loc cc0_scratch0) ↦{fullShare} f : sProp 𝕄) = owns (c : Thread nD τ) (Memref.whole cc0_scratch0) fullShare f :=
  (owns_whole (c : Thread nD τ) cc0_scratch0 fullShare f).symm
theorem ownsS1 (c : Dev nD) (f : Buf (Elt F) ((c : Thread nD τ).loc cc0_scratch1)) :
    (((c : Thread nD τ).loc cc0_scratch1) ↦{fullShare} f : sProp 𝕄) = owns (c : Thread nD τ) (Memref.whole cc0_scratch1) fullShare f :=
  (owns_whole (c : Thread nD τ) cc0_scratch1 fullShare f).symm

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl, after0, after1, after2, after3]
  rw [show (dats m 0 c).Φ t.castSucc = Pipeline.ΦA spec0 c from rfl]
  simp only [before0_0_of m (dats m 0 c) (A_eq m c 0) (after0 m c) t, before0_1_of m (dats m 0 c) (A_eq m c 1) (after1 m c) t, before0_2_of m (dats m 0 c) (A_eq m c 2) (after2 m c) t]
  unfold Dat.owesAt Pipeline.owesWithin Pipeline.ΦA
  rw [show (dats m 0 c).owed t.castSucc = 0 from rfl, show (dats m 0 c).owed t.succ = 0 from rfl]
  rw [scopedRest0_eq, bodyU_eq]
  simp only [ownsS0, ownsS1]
  iintro ⟨⟨⟨⟨%g0, S0⟩, ⟨%g1, S1⟩⟩, Hp⟩, HW, ⟨%d0, H0⟩, ⟨%d1, H1⟩, ⟨%d2, H2⟩, ⟨%d3, H3⟩⟩
  obtain ⟨m', ht, ho⟩ := body_tr (F := F) (c := c) (arg2 := st0_0 t) (arg3 := st0_1 t) (arg4 := st0_2 t) (arg5 := st0_3 t) (harg5 := hstage0_3 ((cfg0.slots t 3).cast nbuf0_3))
    (arg6 := Memref.whole cc0_scratch0) (arg7 := Memref.whole cc0_scratch1)
    (q := iblk m c 0 t) (k := iblk m c 1 t) (v := iblk m c 2 t) ⟨(dats m 0 c).before 3 t d3, fun | false => g0 | true => g1⟩
  iapply (ht _) $$ [S0 S1 H0 H1 H2 H3]
  · unfold Held
    iframe
  unfold Held
  rw [ho]
  iintro ⟨H0, H1, H2, H3, S0, S1⟩
  isplitl [S0 S1 Hp]
  · isplitl [S0 S1]
    · isplitl [S0]
      · iexists _; iexact S0
      · iexists _; iexact S1
    iexact Hp
  isplitl [HW]; · iexact HW
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The run names the result: the array of the result's window overwritten by every point's block; the arguments and the
    counters are left. -/
theorem run_value : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v0) = (dats m 0 c).arrAt 3 cfg0.N)
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      (h.1 c).1 3⟩, h.2⟩) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1, (h.1 c).2.1, (h.1 c).2.2.1⟩, h.2⟩) (run_value m ρ)

end Cert.KernelIdeal.Flash

end
-- ==== Proof.Flash.Word.lean ====
/- The kernel at words: the program is the idealized program with its named constant read as the word it is printed at, so
   one run serves both. -/
module

public import proofs.«01_k».proof.Proof.Gen.Kernel
public import proofs.«01_k».proof.Proof.Flash.Frame

@[expose] public section

set_option maxRecDepth 65536

noncomputable section

namespace Cert.Kernel.Flash

open Idealize.ShloMosaic Idealize.ShloMosaic.TcCoe
open Idealize.SL.Sem
open Cert.Kernel

/-- A named constant read as the word it is printed at. -/
local instance plain (F : FTy → Type) [FloatOps F] : Named F := ⟨fun _ _ φ bits => Scalar.ofBits φ bits⟩

local instance : Facts := Cert.Kernel.Gen.facts

variable {F : FTy → Type} [FloatOps F]

theorem defs₀_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))

theorem defs_same : Cert.Kernel.defs (F := F) = Cert.KernelIdeal.defs (F := F) :=
  congrArg (Pipeline.defs (Cert.Kernel.pcfgs (F := F))) defs₀_same

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same]
  exact Cert.KernelIdeal.Flash.frame (F := F) m ρ

end Cert.Kernel.Flash

end
-- ==== Proof.Flash.At.lean ====
/- The attention body's pure functions read at an index, as extended reals. -/
module

public import proofs.«01_k».proof.Proof.Flash.Clean
public import proofs.«01_k».proof.Proof.Gen.KernelIdeal
public import Idealize.ShloMosaic.Lib.Pointwise
public import Idealize.ShloMosaic.Lib.WordCmp

@[expose] public section

set_option maxRecDepth 16384

noncomputable section

namespace Cert.KernelIdeal.Flash

open Idealize.ShloMosaic
open Cert.KernelIdeal

local instance : Facts := Cert.KernelIdeal.Gen.facts

theorem stF_at (k : Vec Ideal S1x256x128 .bf16) (q : Vec Ideal S1x128x512 .bf16) (i : Fin 256) (j : Fin 512) :
    stF k q (ix2 i j) = ∑ e : Fin 128, k (ix3 0 i e) * q (ix3 0 e j) := by
  unfold stF
  pointwise

theorem stH_at (k : Vec Ideal S1x256x128 .bf16) (q : Vec Ideal S1x128x256 .bf16) (i : Fin 256) (j : Fin 256) :
    stH k q (ix2 i j) = ∑ e : Fin 128, k (ix3 0 i e) * q (ix3 0 e j) := by
  unfold stH
  pointwise

theorem ofBits_bot : Ideal.ofBits .f32 (0xFF800000#32 : BitVec 32) = ⊥ := by
  simp [Ideal.ofBits, Ideal.ieee]

theorem cmF_at (s : FVec Ideal S256x512 .f32) (j : Fin 512) :
    cmF s (ix2 0 j) = Finset.univ.fold max ⊥ (fun i : Fin 256 => s (ix2 i j)) := by
  unfold cmF
  pointwise
  exact congrArg (fun b => Finset.univ.fold max b (fun i : Fin 256 => s (ix2 i j))) ofBits_bot

theorem cmH_at (s : FVec Ideal S256x256 .f32) (j : Fin 256) :
    cmH s (ix2 0 j) = Finset.univ.fold max ⊥ (fun i : Fin 256 => s (ix2 i j)) := by
  unfold cmH
  pointwise
  exact congrArg (fun b => Finset.univ.fold max b (fun i : Fin 256 => s (ix2 i j))) ofBits_bot

theorem sel_le (a b : Nat) (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat (by simpa using ha) (by simpa using hb)]
  by_cases h : a ≤ b <;> simp [h, Scalar.select]

theorem mask_bot : (Named.named κ "mask" 0xF149F2CA#32 : Ideal .f32) = (⊥ : EReal) := by
  rfl

theorem maskF_at (s : FVec Ideal S256x512 .f32) (i : Fin 256) (j : Fin 512) :
    maskF s (ix2 i j) = if i.val ≤ j.val then s (ix2 i j) else (⊥ : EReal) := by
  unfold maskF
  pointwise
  rw [mask_bot]
  exact sel_le _ _ (by omega) (by omega) _ _

theorem maskH_at (s : FVec Ideal S256x256 .f32) (i : Fin 256) (j : Fin 256) :
    maskH s (ix2 i j) = if i.val ≤ j.val then s (ix2 i j) else (⊥ : EReal) := by
  unfold maskH
  pointwise
  rw [mask_bot]
  exact sel_le _ _ (by omega) (by omega) _ _

theorem v1F_at (v : Vec Ideal S1x64x256 .bf16) (r : Fin 80) (i : Fin 256) :
    v1F v (ones Ideal) (ix2 r i) = if h : r.val < 64 then v (ix3 0 ⟨r.val, h⟩ i) else if r.val = 64 then (1 : EReal) else 0 := by
  unfold v1F ones
  pointwise
  split
  · rfl
  · rename_i h
    rw [WordCmp.cmpi_eq_eq_toNat]
    by_cases e : r.val = 64
    · simp [e, FloatOps.sitofp]
    · have : ¬ (r.val - 64) % 4294967296 = 0 := by omega
      simp [e, this, FloatOps.sitofp]

theorem accF_at (s : FVec Ideal S256x512 .f32) (v1 : FVec Ideal S80x256 .bf16) (m m' : FVec Ideal S1x512 .f32) (a : FVec Ideal S80x512 .f32) (r : Fin 80) (j : Fin 512) :
    accF s v1 m m' a (ix2 r j) = Ideal.exp2 (m (ix2 0 j) - m' (ix2 0 j)) * a (ix2 r j) + ∑ i : Fin 256, v1 (ix2 r i) * Ideal.exp2 (s (ix2 i j) - m' (ix2 0 j)) := by
  unfold accF
  pointwise
  rfl

theorem accH_at (s : FVec Ideal S256x256 .f32) (v1 : FVec Ideal S80x256 .bf16) (m m' : FVec Ideal S1x256 .f32) (a : FVec Ideal S80x512 .f32) (r : Fin 80) (j : Fin 512) :
    accH s v1 m m' a (ix2 r j) = if h : j.val < 256 then a (ix2 r j) else Ideal.exp2 (m (ix2 0 ⟨j.val - 256, by omega⟩) - m' (ix2 0 ⟨j.val - 256, by omega⟩)) * a (ix2 r j) + ∑ i : Fin 256, v1 (ix2 r i) * Ideal.exp2 (s (ix2 i ⟨j.val - 256, by omega⟩) - m' (ix2 0 ⟨j.val - 256, by omega⟩)) := by
  unfold accH
  pointwise
  split
  · rfl
  · rename_i h
    have e : (⟨256 + (j.val - 256), by omega⟩ : Fin 512) = j := Fin.ext (by simp only; omega)
    rw [e]
    rfl

theorem mHalf_at (m : FVec Ideal S1x512 .f32) (j : Fin 256) : mHalf m (ix2 0 j) = m (ix2 0 ⟨256 + j.val, by omega⟩) := by
  unfold mHalf
  pointwise

theorem divF_at (a : FVec Ideal S80x512 .f32) (d : Fin 64) (j : Fin 512) :
    divF a (ix2 d j) = Ideal.div (a (ix2 ⟨d.val, by omega⟩ j)) (a (ix2 64 j)) := by
  unfold divF
  pointwise

theorem outF_at (a0 a1 : FVec Ideal S80x512 .f32) (j : Fin 512) (d : Fin 128) :
    outF a0 a1 (ix3 0 j d) = if h : d.val < 64 then divF a0 (ix2 ⟨d.val, h⟩ j) else divF a1 (ix2 ⟨d.val - 64, by omega⟩ j) := by
  unfold outF
  pointwise

end Cert.KernelIdeal.Flash

end
-- ==== Proof.Flash.Math.lean ====
/- Streaming softmax over the extended reals: what a running maximum and a rescaled running sum hold after a number of
   keys, and that the final quotient is the plain softmax's weighted sum. -/
module

public import Idealize.ShloMosaic.PureOps.Ideal

@[expose] public section

noncomputable section

namespace Cert.Stream

open Idealize.ShloMosaic

/-- The maximum of the first `n` scores. -/
def mx (S : ℕ → EReal) (n : ℕ) : EReal := (Finset.range n).sup S

/-- The sum of the first `n` values, each weighted by two to its score less `m`. -/
def ac (S V : ℕ → EReal) (n : ℕ) (m : EReal) : EReal := ∑ x ∈ Finset.range n, V x * Ideal.exp2 (S x - m)

theorem exp2_nonneg (x : EReal) : 0 ≤ Ideal.exp2 x := by
  induction x with
  | bot => simp
  | top => simp
  | coe r => simpa using Real.rpow_nonneg (by norm_num) r

theorem exp2_ne_top (x : EReal) (h : x ≠ ⊤) : Ideal.exp2 x ≠ ⊤ := by
  induction x with
  | bot => simp
  | top => exact absurd rfl h
  | coe r => simpa using EReal.coe_ne_top _

theorem sub_ne_top (a b : EReal) (h : a ≤ b) : a - b ≠ ⊤ := by
  induction a with
  | bot => simp
  | top => obtain rfl := top_le_iff.mp h; decide
  | coe r =>
    induction b with
    | bot => exact absurd (le_bot_iff.mp h) (EReal.coe_ne_bot r)
    | top => simp
    | coe s => exact EReal.coe_ne_top (r - s)

theorem mul_sum' {ι : Type} (s : Finset ι) (c : EReal) (h0 : 0 ≤ c) (ht : c ≠ ⊤) (f : ι → EReal) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- Rescaling a weight from one maximum to a larger one. -/
theorem exp2_shift (s m m' : EReal) (h : s ≤ m) (h' : m ≤ m') (ht : m' ≠ ⊤) : Ideal.exp2 (m - m') * Ideal.exp2 (s - m) = Ideal.exp2 (s - m') := by
  induction s with
  | bot => simp
  | top => exact absurd (top_le_iff.mp (h.trans h')) ht
  | coe s =>
    induction m with
    | bot => exact absurd (le_bot_iff.mp h) (EReal.coe_ne_bot s)
    | top => exact absurd (top_le_iff.mp h') ht
    | coe m =>
      induction m' with
      | bot => exact absurd (le_bot_iff.mp h') (EReal.coe_ne_bot m)
      | top => exact absurd rfl ht
      | coe m' =>
        rw [← EReal.coe_sub, ← EReal.coe_sub, ← EReal.coe_sub, Ideal.exp2_coe, Ideal.exp2_coe, Ideal.exp2_coe, ← EReal.coe_mul]
        congr 1
        show (2 : ℝ) ^ (m - m') * (2 : ℝ) ^ (s - m) = (2 : ℝ) ^ (s - m')
        rw [← Real.rpow_add (by norm_num)]
        congr 1
        ring

section
variable (S V : ℕ → EReal)

theorem le_mx (n x : ℕ) (h : x < n) : S x ≤ mx S n := Finset.le_sup (f := S) (Finset.mem_range.mpr h)

theorem mx_mono (n n' : ℕ) (h : n ≤ n') : mx S n ≤ mx S n' :=
  Finset.sup_mono (Finset.range_mono h)

theorem mx_ne_top (hS : ∀ x, S x ≠ ⊤) (n : ℕ) : mx S n ≠ ⊤ :=
  ((Finset.sup_lt_iff (lt_of_le_of_ne bot_le (by decide))).mpr fun x _ => lt_of_le_of_ne le_top (hS x)).ne

theorem ac_shift (n : ℕ) (m' : EReal) (h' : mx S n ≤ m') (ht : m' ≠ ⊤) : Ideal.exp2 (mx S n - m') * ac S V n (mx S n) = ac S V n m' := by
  unfold ac
  rw [mul_sum' _ _ (exp2_nonneg _) (exp2_ne_top _ (sub_ne_top _ _ h'))]
  refine Finset.sum_congr rfl fun x hx => ?_
  rw [mul_left_comm, exp2_shift _ _ _ (le_mx S n x (Finset.mem_range.mp hx)) h' ht]

theorem mx_step (n b : ℕ) (f : Fin b → EReal) (hf : ∀ i : Fin b, f i = S (n + i.val)) :
    max (mx S n) (Finset.univ.fold max ⊥ f) = mx S (n + b) := by
  show mx S n ⊔ Finset.univ.sup f = mx S (n + b)
  apply le_antisymm
  · refine sup_le (mx_mono S _ _ (Nat.le_add_right _ _)) (Finset.sup_le fun i _ => ?_)
    rw [hf]
    exact le_mx S _ _ (by omega)
  · refine Finset.sup_le fun x hx => ?_
    have hx := Finset.mem_range.mp hx
    by_cases h : x < n
    · exact le_sup_of_le_left (le_mx S n x h)
    · have e := hf ⟨x - n, by omega⟩
      rw [show n + (⟨x - n, by omega⟩ : Fin b).val = x by simp only; omega] at e
      rw [← e]
      exact le_sup_of_le_right (Finset.le_sup (f := f) (Finset.mem_univ _))

theorem ac_step (hS : ∀ x, S x ≠ ⊤) (n b : ℕ) (f w : Fin b → EReal) (hf : ∀ i : Fin b, f i = S (n + i.val)) (hw : ∀ i : Fin b, w i = V (n + i.val)) :
    Ideal.exp2 (mx S n - mx S (n + b)) * ac S V n (mx S n) + ∑ i : Fin b, w i * Ideal.exp2 (f i - mx S (n + b)) = ac S V (n + b) (mx S (n + b)) := by
  rw [ac_shift S V n _ (mx_mono S _ _ (Nat.le_add_right _ _)) (mx_ne_top S hS _)]
  unfold ac
  rw [Finset.sum_range_add]
  congr 1
  rw [Finset.sum_range]
  refine Finset.sum_congr rfl fun i _ => ?_
  rw [hf, hw]

/-- Masked scores change neither. -/
theorem mx_masked (n N : ℕ) (h : n ≤ N) (hb : ∀ x, n ≤ x → x < N → S x = ⊥) : mx S n = mx S N := by
  apply le_antisymm (mx_mono S _ _ h)
  refine Finset.sup_le fun x hx => ?_
  by_cases hn : x < n
  · exact le_mx S n x hn
  · rw [hb x (by omega) (Finset.mem_range.mp hx)]; exact bot_le

theorem ac_masked (n N : ℕ) (h : n ≤ N) (hb : ∀ x, n ≤ x → x < N → S x = ⊥) (m : EReal) : ac S V n m = ac S V N m := by
  obtain ⟨b, rfl⟩ := Nat.exists_eq_add_of_le h
  unfold ac
  rw [Finset.sum_range_add]
  refine (add_zero _).symm.trans (congrArg _ (Finset.sum_eq_zero fun x hx => ?_).symm)
  rw [hb _ (by omega) (by have := Finset.mem_range.mp hx; omega)]
  simp

end

/-- The quotient of the streamed sums is the softmax's weighted sum, its scores scaled from base two. -/
theorem softmax_eq {N : ℕ} (S V : Fin N → EReal) (x₀ : Fin N) (hx₀ : S x₀ ≠ ⊥) (hS : ∀ x, S x ≠ ⊤) (M : EReal)
    (hM : M = Finset.univ.fold max ⊥ fun x => S x * ((Real.log 2 : ℝ) : EReal)) :
    Ideal.div (∑ x, V x * Ideal.exp2 (S x - Finset.univ.sup S)) (∑ x, 1 * Ideal.exp2 (S x - Finset.univ.sup S))
      = ∑ x, V x * Ideal.div (Ideal.exp (S x * ((Real.log 2 : ℝ) : EReal) - M)) (∑ x, Ideal.exp (S x * ((Real.log 2 : ℝ) : EReal) - M)) := by
  have hlog : (0 : ℝ) < Real.log 2 := Real.log_pos (by norm_num)
  obtain ⟨x₁, -, e₁⟩ := Finset.exists_mem_eq_sup Finset.univ ⟨x₀, Finset.mem_univ _⟩ S
  have hle : ∀ x, S x ≤ S x₁ := fun x => e₁ ▸ Finset.le_sup (f := S) (Finset.mem_univ x)
  have hb1 : S x₁ ≠ ⊥ := fun h => hx₀ (le_bot_iff.mp (h ▸ hle x₀))
  obtain ⟨m, hm⟩ : ∃ m : ℝ, S x₁ = m := ⟨(S x₁).toReal, (EReal.coe_toReal (hS _) hb1).symm⟩
  have hM' : M = ((m * Real.log 2 : ℝ) : EReal) := by
    rw [hM, EReal.coe_mul, ← hm]
    show Finset.univ.sup (fun x => S x * ((Real.log 2 : ℝ) : EReal)) = _
    apply le_antisymm
    · exact Finset.sup_le fun x _ => mul_le_mul_of_nonneg_right (hle x) (by exact_mod_cast hlog.le)
    · exact Finset.le_sup (f := fun x => S x * ((Real.log 2 : ℝ) : EReal)) (Finset.mem_univ x₁)
  have key : ∀ x, ∃ r : ℝ, 0 ≤ r ∧ Ideal.exp2 (S x - Finset.univ.sup S) = r ∧ Ideal.exp (S x * ((Real.log 2 : ℝ) : EReal) - M) = r := by
    intro x
    rw [e₁, hm, hM']
    have ht := hS x
    revert ht
    generalize S x = s
    intro ht
    induction s with
    | bot =>
      refine ⟨0, le_rfl, by simp, ?_⟩
      rw [EReal.bot_mul_of_pos (by exact_mod_cast hlog)]
      simp
    | top => exact absurd rfl ht
    | coe s =>
      refine ⟨(2 : ℝ) ^ (s - m), Real.rpow_nonneg (by norm_num) _, ?_, ?_⟩
      · rw [← EReal.coe_sub, Ideal.exp2_coe]; rfl
      · rw [← EReal.coe_mul, ← EReal.coe_sub, Ideal.exp_coe]
        congr 1
        rw [Real.rpow_def_of_pos (by norm_num)]
        congr 1
        ring
  choose e he0 he2 hee using key
  have h1 : e x₁ = 1 := by
    have := he2 x₁
    rw [e₁, hm, ← EReal.coe_sub, sub_self, Ideal.exp2_coe] at this
    have h : Real.rpow 2 0 = 1 := Real.rpow_zero 2
    rw [h] at this
    exact_mod_cast this.symm
  have hL : 0 < ∑ x, e x := lt_of_lt_of_le (by rw [h1]; exact one_pos) (Finset.single_le_sum (fun x _ => he0 x) (Finset.mem_univ x₁))
  have hsum : (∑ x, ((e x : ℝ) : EReal)) = ((∑ x, e x : ℝ) : EReal) := by
    have := map_sum (⟨⟨((↑) : ℝ → EReal), EReal.coe_zero⟩, EReal.coe_add⟩ : ℝ →+ EReal) e Finset.univ
    exact this.symm
  simp only [he2, hee, one_mul, hsum]
  simp only [Ideal.div_coe hL.ne']
  have hq : (0 : ℝ) ≤ 1 / ∑ x, e x := by positivity
  rw [mul_comm, mul_sum' _ _ (by exact_mod_cast hq) (EReal.coe_ne_top _)]
  refine Finset.sum_congr rfl fun x _ => ?_
  rw [mul_left_comm, mul_comm (((1 / ∑ x, e x : ℝ)) : EReal)]

end Cert.Stream

end
-- ==== Proof.Flash.Ker.lean ====
/- What a grid point's body leaves in the result's block, as extended reals: each element is the quotient of the two
   streamed sums over all keys. -/
module

public import proofs.«01_k».proof.Proof.Flash.At
public import proofs.«01_k».proof.Proof.Flash.Math
public import proofs.«01_k».proof.Proof.Flash.Run

@[expose] public section

set_option maxRecDepth 16384

noncomputable section

namespace Cert.KernelIdeal.Flash

open Idealize.ShloMosaic
open Cert.KernelIdeal Cert.Stream

local instance : Facts := Cert.KernelIdeal.Gen.facts

section
variable (q : Vec Ideal S1x256x8192 .bf16) (k : Vec Ideal S1x8192x256 .bf16) (v : Vec Ideal S1x128x8192 .bf16)

/-- The score of key `x` for query `y` of head `h`, minus infinity past the query. -/
def scB (h : Fin 2) (y : Fin 8192) (x : ℕ) : EReal :=
  if hx : x ≤ y.val then ∑ e : Fin 128, (k (ix3 0 ⟨x, by omega⟩ ⟨128 * h.val + e.val, by omega⟩) : EReal) * q (ix3 0 ⟨128 * h.val + e.val, by omega⟩ y) else ⊥

/-- Row `r` of key `x`'s extended values: the values, then a one, then zeros. -/
def vaB (h : Fin 2) (r : Fin 80) (x : ℕ) : EReal :=
  if hx : x < 8192 then (if hr : r.val < 64 then v (ix3 0 ⟨64 * h.val + r.val, by omega⟩ ⟨x, hx⟩) else if r.val = 64 then 1 else 0) else 0

theorem ldK_at (h : Fin 2) (j : ℕ) (hj : j < 32) (i : Fin 256) (e : Fin 128) :
    ldK k h j (ix3 0 i e) = k (ix3 0 ⟨256 * j + i.val, by omega⟩ ⟨128 * h.val + e.val, by omega⟩) := by
  refine congrArg k (funext fun a => Fin.ext ?_)
  fin_cases a
  · rfl
  · show 256 * (j % 32) + 1 * i.val = 256 * j + i.val
    omega
  · show 128 * h.val + 1 * e.val = 128 * h.val + e.val
    omega

theorem ldQ_at (h : Fin 2) (t : ℕ) (ht : t < 16) (e : Fin 128) (p : Fin 512) :
    ldQ q h t (ix3 0 e p) = q (ix3 0 ⟨128 * h.val + e.val, by omega⟩ ⟨512 * t + p.val, by omega⟩) := by
  refine congrArg q (funext fun a => Fin.ext ?_)
  fin_cases a
  · rfl
  · show 128 * h.val + 1 * e.val = 128 * h.val + e.val
    omega
  · show 512 * (t % 16) + 1 * p.val = 512 * t + p.val
    omega

theorem ldH_at (h : Fin 2) (t : ℕ) (ht : t < 16) (e : Fin 128) (p : Fin 256) :
    ldH q h t (ix3 0 e p) = q (ix3 0 ⟨128 * h.val + e.val, by omega⟩ ⟨512 * t + 256 + p.val, by omega⟩) := by
  refine congrArg q (funext fun a => Fin.ext ?_)
  fin_cases a
  · rfl
  · show 128 * h.val + 1 * e.val = 128 * h.val + e.val
    omega
  · show 512 * (t % 16) + 256 + 1 * p.val = 512 * t + 256 + p.val
    omega

theorem ldV_at (h : Fin 2) (j : ℕ) (hj : j < 32) (r : Fin 64) (i : Fin 256) :
    ldV v h j (ix3 0 r i) = v (ix3 0 ⟨64 * h.val + r.val, by omega⟩ ⟨256 * j + i.val, by omega⟩) := by
  refine congrArg v (funext fun a => Fin.ext ?_)
  fin_cases a
  · rfl
  · show 64 * h.val + 1 * r.val = 64 * h.val + r.val
    omega
  · show 256 * (j % 32) + 1 * i.val = 256 * j + i.val
    omega

theorem sc_at (h : Fin 2) (t j : ℕ) (ht : t < 16) (hj : j < 32) (i : Fin 256) (p : Fin 512) (hle : 256 * j + i.val ≤ 512 * t + p.val) :
    sc q k h t j (ix2 i p) = scB q k h ⟨512 * t + p.val, by omega⟩ (256 * j + i.val) := by
  unfold sc scB
  rw [stF_at, dif_pos hle]
  refine Finset.sum_congr rfl fun e _ => ?_
  rw [ldK_at k h j hj, ldQ_at q h t ht]

theorem hsc_at (h : Fin 2) (t : ℕ) (ht : t < 16) (i : Fin 256) (p : Fin 256) (hle : i.val ≤ p.val) :
    hsc q k h t (ix2 i p) = scB q k h ⟨512 * t + 256 + p.val, by omega⟩ (256 * (2 * t + 1) + i.val) := by
  unfold hsc scB
  rw [stH_at, dif_pos (show 256 * (2 * t + 1) + i.val ≤ 512 * t + 256 + p.val by omega)]
  refine Finset.sum_congr rfl fun e _ => ?_
  rw [ldK_at k h (2 * t + 1) (by omega), ldH_at q h t ht]

theorem va_at (h : Fin 2) (j : ℕ) (hj : j < 32) (r : Fin 80) (i : Fin 256) :
    v1F (ldV v h j) (ones Ideal) (ix2 r i) = vaB v h r (256 * j + i.val) := by
  unfold vaB
  rw [v1F_at, dif_pos (show 256 * j + i.val < 8192 by omega)]
  by_cases hr : r.val < 64
  · rw [dif_pos hr, dif_pos hr, ldV_at v h j hj]
  · rw [dif_neg hr, dif_neg hr]

variable (hS : ∀ h y x, scB q k h y x ≠ ⊤)
include hS

theorem step_at (h : Fin 2) (y : Fin 8192) (n : ℕ) (p : Fin 512) (s : FVec Ideal S256x512 .f32) (w : FVec Ideal S80x256 .bf16)
    (m : FVec Ideal S1x512 .f32) (a : FVec Ideal S80x512 .f32)
    (hs : ∀ i : Fin 256, s (ix2 i p) = scB q k h y (256 * n + i.val)) (hw : ∀ (r : Fin 80) (i : Fin 256), w (ix2 r i) = vaB v h r (256 * n + i.val))
    (hm : m (ix2 0 p) = mx (scB q k h y) (256 * n)) (ha : ∀ r : Fin 80, a (ix2 r p) = ac (scB q k h y) (vaB v h r) (256 * n) (mx (scB q k h y) (256 * n))) :
    (maximumf m (cmF s)) (ix2 0 p) = mx (scB q k h y) (256 * (n + 1))
      ∧ ∀ r : Fin 80, accF s w m (maximumf m (cmF s)) a (ix2 r p) = ac (scB q k h y) (vaB v h r) (256 * (n + 1)) (mx (scB q k h y) (256 * (n + 1))) := by
  have e : (maximumf m (cmF s)) (ix2 0 p) = mx (scB q k h y) (256 * (n + 1)) := by
    rw [maximumf_apply, cmF_at, hm, Ideal.maximumf_def]
    exact mx_step (scB q k h y) (256 * n) 256 _ hs
  refine ⟨e, fun r => ?_⟩
  rw [accF_at, e, hm, ha]
  exact ac_step (scB q k h y) (vaB v h r) (hS h y) (256 * n) 256 _ _ hs (hw r)

theorem run_at (h : Fin 2) (t : ℕ) (ht : t < 16) (p : Fin 512) : ∀ n : ℕ, n ≤ 2 * t →
    (run q k v h t n).1 (ix2 0 p) = mx (scB q k h ⟨512 * t + p.val, by omega⟩) (256 * n)
      ∧ ∀ r : Fin 80, (run q k v h t n).2 (ix2 r p) = ac (scB q k h ⟨512 * t + p.val, by omega⟩) (vaB v h r) (256 * n) (mx (scB q k h ⟨512 * t + p.val, by omega⟩) (256 * n)) := by
  intro n
  induction n with
  | zero =>
    intro _
    refine ⟨mask_bot, fun r => ?_⟩
    have e : (run q k v h t 0).2 (ix2 r p) = (0 : EReal) := by
      show Ideal.ofBits .f32 (0x00000000#32 : BitVec 32) = 0
      simp [Ideal.ofBits, Ideal.ieee]
    rw [e]
    simp [ac]
  | succ n ih =>
    intro hn
    obtain ⟨hm, ha⟩ := ih (by omega)
    exact step_at q k v hS h ⟨512 * t + p.val, by omega⟩ n p (sc q k h t n) _ (run q k v h t n).1 (run q k v h t n).2
      (fun i => sc_at q k h t n ht (by omega) i p (by omega)) (fun r i => va_at v h n (by omega) r i) hm ha

theorem dg_at (h : Fin 2) (t : ℕ) (ht : t < 16) (p : Fin 512) :
    dgM q k v h t (ix2 0 p) = mx (scB q k h ⟨512 * t + p.val, by omega⟩) (256 * (2 * t + 1))
      ∧ ∀ r : Fin 80, dgA q k v h t (ix2 r p) = ac (scB q k h ⟨512 * t + p.val, by omega⟩) (vaB v h r) (256 * (2 * t + 1)) (mx (scB q k h ⟨512 * t + p.val, by omega⟩) (256 * (2 * t + 1))) := by
  obtain ⟨hm, ha⟩ := run_at q k v hS h t ht p (2 * t) le_rfl
  refine step_at q k v hS h ⟨512 * t + p.val, by omega⟩ (2 * t) p (maskF (sc q k h t (2 * t))) _ _ _
      (fun i => ?_) (fun r i => va_at v h (2 * t) (by omega) r i) hm ha
  rw [maskF_at]
  split
  · exact sc_at q k h t (2 * t) ht (by omega) i p (by omega)
  · unfold scB
    rw [dif_neg (by simp only; omega)]

theorem fin_at (h : Fin 2) (t : ℕ) (ht : t < 16) (p : Fin 512) (r : Fin 80) :
    fin q k v h t (ix2 r p) = ac (scB q k h ⟨512 * t + p.val, by omega⟩) (vaB v h r) 8192 (mx (scB q k h ⟨512 * t + p.val, by omega⟩) 8192) := by
  have hlate : ∀ n : ℕ, 512 * t + p.val < n → ∀ x, n ≤ x → x < 8192 → scB q k h ⟨512 * t + p.val, by omega⟩ x = ⊥ := by
    intro n hn x hx _
    unfold scB
    rw [dif_neg (by simp only; omega)]
  obtain ⟨hm, ha⟩ := dg_at q k v hS h t ht p
  unfold fin
  rw [accH_at]
  split
  · rename_i hp
    rw [ha, ← mx_masked _ (256 * (2 * t + 1)) 8192 (by omega) (hlate _ (by omega)), ← ac_masked _ _ (256 * (2 * t + 1)) 8192 (by omega) (hlate _ (by omega))]
  · rename_i hp
    have hm' : mHalf (dgM q k v h t) (ix2 0 ⟨p.val - 256, by omega⟩) = mx (scB q k h ⟨512 * t + p.val, by omega⟩) (256 * (2 * t + 1)) := by
      rw [mHalf_at, ← hm]
      exact congrArg (fun z => dgM q k v h t (ix2 0 z)) (Fin.ext (by simp only; omega))
    have hs : ∀ i : Fin 256, maskH (hsc q k h t) (ix2 i ⟨p.val - 256, by omega⟩) = scB q k h ⟨512 * t + p.val, by omega⟩ (256 * (2 * t + 1) + i.val) := by
      intro i
      rw [maskH_at]
      split
      · rename_i hi
        rw [hsc_at q k h t ht i _ hi]
        exact congrArg (fun z => scB q k h z (256 * (2 * t + 1) + i.val)) (Fin.ext (by simp only; omega))
      · rename_i hi
        unfold scB
        rw [dif_neg (by simp only at hi ⊢; omega)]
    have e : (maximumf (mHalf (dgM q k v h t)) (cmH (maskH (hsc q k h t)))) (ix2 0 ⟨p.val - 256, by omega⟩) = mx (scB q k h ⟨512 * t + p.val, by omega⟩) (256 * (2 * t + 1) + 256) := by
      rw [maximumf_apply, cmH_at, hm', Ideal.maximumf_def]
      exact mx_step (scB q k h _) (256 * (2 * t + 1)) 256 _ hs
    rw [e, hm', ha, ac_step (scB q k h _) (vaB v h r) (hS h _) (256 * (2 * t + 1)) 256 _ _ hs (fun i => va_at v h (2 * t + 1) (by omega) r i),
      ← mx_masked _ (256 * (2 * t + 1) + 256) 8192 (by omega) (hlate _ (by omega)), ← ac_masked _ _ (256 * (2 * t + 1) + 256) 8192 (by omega) (hlate _ (by omega))]

theorem outAll_at (y : Fin 8192) (d : Fin 128) :
    outAll q k v (ix3 0 y d) = Ideal.div (ac (scB q k ⟨d.val / 64, by omega⟩ y) (vaB v ⟨d.val / 64, by omega⟩ ⟨d.val % 64, by omega⟩) 8192 (mx (scB q k ⟨d.val / 64, by omega⟩ y) 8192))
      (ac (scB q k ⟨d.val / 64, by omega⟩ y) (vaB v ⟨d.val / 64, by omega⟩ 64) 8192 (mx (scB q k ⟨d.val / 64, by omega⟩ y) 8192)) := by
  have hy : (⟨512 * (y.val / 512) + (⟨y.val % 512, by omega⟩ : Fin 512).val, by simp only; omega⟩ : Fin 8192) = y := Fin.ext (by simp only; omega)
  have e : outAll q k v (ix3 0 y d) = outT q k v (y.val / 512) (ix3 0 ⟨y.val % 512, by omega⟩ d) := by
    refine congrArg (outT q k v (y.val / 512)) (funext fun a => Fin.ext ?_)
    fin_cases a
    · rfl
    · show y.val - 512 * (y.val / 512 % 16) = y.val % 512
      omega
    · rfl
  rw [e]
  unfold outT
  rw [outF_at]
  by_cases hd : d.val < 64
  · have e0 : (⟨d.val / 64, by omega⟩ : Fin 2) = 0 := Fin.ext (by show d.val / 64 = 0; omega)
    rw [dif_pos hd, divF_at, fin_at q k v hS 0 _ (by omega), fin_at q k v hS 0 _ (by omega), hy, e0]
    have e1 : (⟨d.val % 64, by omega⟩ : Fin 80) = ⟨d.val, by omega⟩ := Fin.ext (by simp only; omega)
    rw [e1]
  · have e0 : (⟨d.val / 64, by omega⟩ : Fin 2) = 1 := Fin.ext (by show d.val / 64 = 1; omega)
    rw [dif_neg hd, divF_at, fin_at q k v hS 1 _ (by omega), fin_at q k v hS 1 _ (by omega), hy, e0]
    have e1 : (⟨d.val % 64, by omega⟩ : Fin 80) = ⟨d.val - 64, by omega⟩ := Fin.ext (by simp only; omega)
    rw [e1]

end

end Cert.KernelIdeal.Flash

end
-- ==== Proof.Flash.Win.lean ====
/- The launch's blocks read at an index, and the result's array assembled from the blocks of the sixteen points. -/
module

public import proofs.«01_k».proof.Proof.Flash.Frame
public import proofs.«01_k».proof.Proof.Flash.Ker
public import Idealize.ShloMosaic.Lib.Pipeline.ValueKit

@[expose] public section

set_option maxRecDepth 16384

noncomputable section

namespace Cert.KernelIdeal.Flash

open Idealize.ShloMosaic Idealize.ShloMosaic.TcCoe
open Idealize.ShloMosaic.Pipeline (Dat Cfg Window)
open Cert.KernelIdeal Cert.KernelIdeal.Gen

local instance : Facts := Gen.facts

/-- The batch of a grid point and its pair of heads. -/
def bt (t : Fin cfg0.N) : Fin 4 := grid0.coords t 0
def pr (t : Fin cfg0.N) : Fin 4 := grid0.coords t 1

theorem ind0 : ∀ t : Fin cfg0.N, win0_0.index t = ![(bt t).val, (pr t).val, 0] := by decide +kernel
theorem ind1 : ∀ t : Fin cfg0.N, win0_1.index t = ![(bt t).val, 0, (pr t).val] := by decide +kernel
theorem ind2 : ∀ t : Fin cfg0.N, win0_2.index t = ![(bt t).val, (pr t).val, 0] := by decide +kernel
theorem ind3 : ∀ t : Fin cfg0.N, win0_3.index t = ![(bt t).val, 0, (pr t).val] := by decide +kernel
theorem cov3 : (cfg0.win 3).Covers := by decide +kernel

variable (m : (ℓ : Loc nD τ sig) → Buf (Elt Ideal) ℓ) (c : Dev nD)

/-- The three arguments, as functions of an index. -/
abbrev aQ : S4x1024x8192.Idx → EReal := m ((c.tc : Thread nD τ).loc main_arg0)
abbrev aK : S4x8192x1024.Idx → EReal := m ((c.tc : Thread nD τ).loc main_arg1)
abbrev aV : S4x512x8192.Idx → EReal := m ((c.tc : Thread nD τ).loc main_arg2)

theorem col_lt (t : Fin cfg0.N) (e : Fin 256) : (pr t).val * 256 + e.val < 1024 := by
  have := (pr t).isLt; have := e.isLt; omega
theorem row_lt (t : Fin cfg0.N) (d : Fin 128) : (pr t).val * 128 + d.val < 512 := by
  have := (pr t).isLt; have := d.isLt; omega

theorem blkQ (t : Fin cfg0.N) (e : Fin 256) (y : Fin 8192) :
    iblk m c 0 t (ix3 (0 : Fin 1) e y) = aQ m c (ix3 (bt t) (⟨(pr t).val * 256 + e.val, col_lt t e⟩ : Fin 1024) y) := by
  unfold iblk
  rw [View.read]
  refine congrArg (aQ m c) (funext fun a => Fin.ext ?_)
  fin_cases a <;> (blk_simp [ind0]; simp)

theorem blkK (t : Fin cfg0.N) (x : Fin 8192) (e : Fin 256) :
    iblk m c 1 t (ix3 (0 : Fin 1) x e) = aK m c (ix3 (bt t) x (⟨(pr t).val * 256 + e.val, col_lt t e⟩ : Fin 1024)) := by
  unfold iblk
  rw [View.read]
  refine congrArg (aK m c) (funext fun a => Fin.ext ?_)
  fin_cases a <;> (blk_simp [ind1]; simp)

theorem blkV (t : Fin cfg0.N) (d : Fin 128) (x : Fin 8192) :
    iblk m c 2 t (ix3 (0 : Fin 1) d x) = aV m c (ix3 (bt t) (⟨(pr t).val * 128 + d.val, row_lt t d⟩ : Fin 512) x) := by
  unfold iblk
  rw [View.read]
  refine congrArg (aV m c) (funext fun a => Fin.ext ?_)
  fin_cases a <;> (blk_simp [ind2]; simp)

/-- The result's array, from what every point's block holds. -/
theorem arr3_eq (G : S4x8192x512.Idx → EReal)
    (hG : ∀ (t : Fin cfg0.N) (y : Fin 8192) (d : Fin 128),
      outAt m c t (ix3 (0 : Fin 1) y d) = G (ix3 (bt t) y (⟨(pr t).val * 128 + d.val, row_lt t d⟩ : Fin 512))) :
    (dats m 0 c).arrAt 3 cfg0.N = G := by
  refine (dats m 0 c).arrAt_eq_of_covers 3 _ cov3 fun t hf y => ?_
  blk_simp
  rw [after3]
  have e : (fun a => y a : S1x8192x128.Idx) = ix3 (0 : Fin 1) (y 1) (y 2) := by
    funext a
    fin_cases a
    · exact Subsingleton.elim (α := Fin 1) _ _
    · rfl
    · rfl
  refine (congrArg (outAt m c t) e).trans ((hG t (y 1) (y 2)).trans (congrArg G (funext fun a => Fin.ext ?_)))
  fin_cases a
  · blk_simp [ind3]; have h : (y 0).val < 1 := (y 0).isLt; simpa using h
  · blk_simp [ind3]; simp
  · blk_simp [ind3]; simp

end Cert.KernelIdeal.Flash

end
-- ==== Proof.Flash.RefAt.lean ====
/- The reference's result read at an index. -/
module

public import proofs.«01_k».proof.Proof.Gen.ReferenceIdeal.Run
public import Idealize.ShloMosaic.Lib.Pointwise
public import Idealize.ShloMosaic.Lib.IdealHost
public import Idealize.ShloMosaic.Lib.WordCmp
public import Idealize.ShloMosaic.Lib.Tactic.CleanTypes

@[expose] public section

set_option maxRecDepth 16384

noncomputable section

namespace Cert.ReferenceIdeal.Value

open Idealize.ShloMosaic Idealize.ShloMosaic.TcCoe
open Cert.ReferenceIdeal Cert.ReferenceIdeal.Gen

/-- The base-two score of key `x` for query `y` of head `h`, minus infinity past the query. -/
def sco (Q : S4x1024x8192.Idx → EReal) (K : S4x8192x1024.Idx → EReal) (b : Fin 4) (h : Fin 8) (y : Fin 8192) (x : ℕ) : EReal :=
  if hx : x ≤ y.val then ∑ e : Fin 128, Q (ix3 b ⟨h.val * 128 + e.val, by omega⟩ y) * K (ix3 b ⟨x, by omega⟩ ⟨h.val * 128 + e.val, by omega⟩) else ⊥

theorem log2_pos : (0 : EReal) < ((Real.log 2 : ℝ) : EReal) := by exact_mod_cast Real.log_pos (by norm_num)

theorem log_two : Ideal.log (Ideal.ofBits .f32 (1073741824#32 : BitVec 32)) = ((Real.log 2 : ℝ) : EReal) := by
  have : Ideal.ofBits .f32 (1073741824#32 : BitVec 32) = ((2 : ℝ) : EReal) := by
    simp [Ideal.ofBits, Ideal.ieee, -EReal.coe_mul]; norm_num
  rw [this, Ideal.log_coe, if_neg (by norm_num)]

theorem bits_bot : Ideal.ofBits .f32 (4286578688#32 : BitVec 32) = ⊥ := by
  simp [Ideal.ofBits, Ideal.ieee]

/-- The scaled and masked scores. -/
def lg (Q : FVec Ideal S4x1024x8192 .bf16) (K : FVec Ideal S4x8192x1024 .bf16) : FVec Ideal S4x8x8192x8192 .f32 :=
  select (broadcastInDim S4x8x8192x8192 ![2, 3] bcast_S8192x8192_S4x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (Host.dotGeneral dot_S4x8x128x8192_S4x8192x8x128_S4x8x8192x8192_2_3_3_1_01_02 none (shapeCast _ (extf .f32 Q bitsLt_bf16_f32) shapeCasts_S4x1024x8192_S4x8x128x8192) (shapeCast _ (extf .f32 K bitsLt_bf16_f32) shapeCasts_S4x8192x1024_S4x8192x8x128)) (broadcastInDim S4x8x8192x8192 ![] bcast_S_S4x8x8192x8192 (Host.log (constant S_ .f32 0x40000000#32)))) (broadcastInDim S4x8x8192x8192 ![] bcast_S_S4x8x8192x8192 (id (constant S_ .f32 0xFF800000#32)))

/-- The weights before their division by the row sum. -/
def ex (s : FVec Ideal S4x8x8192x8192 .f32) : FVec Ideal S4x8x8192x8192 .f32 :=
  Host.exp (subf s (broadcastInDim S4x8x8192x8192 ![0, 1, 2, 3] bcast_S4x8x8192x1_S4x8x8192x8192_0_1_2_3 (broadcastInDim S4x8x8192x1 ![0, 1, 2] bcast_S4x8x8192_S4x8x8192x1_0_1_2 (maximumf (broadcastInDim S4x8x8192 ![] bcast_S_S4x8x8192 (constant S_ .f32 0xFF800000#32)) (Host.reduce FloatOps.maximumf s (constant S_ .f32 0xFF800000#32) reducesTo_S4x8x8192x8192_S4x8x8192_d3 h_S_)))))

def sm (e : FVec Ideal S4x8x8192x8192 .f32) : FVec Ideal S4x8x8192x8192 .f32 :=
  Host.divf e (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd e (constant S_ .f32 0x00000000#32) reducesTo_S4x8x8192x8192_S4x8x8192_d3 h_S_)))

def av (V : FVec Ideal S4x512x8192 .bf16) (p : FVec Ideal S4x8x8192x8192 .f32) : FVec Ideal S4x8192x512 .bf16 :=
  truncf .bf16 (shapeCast _ (transpose S4x8192x8x64 [0, 3, 1, 2] (Host.dotGeneral dot_S4x8x64x8192_S4x8x8192x8192_S4x8x64x8192_3_3_2_2_01_01 none (shapeCast _ (extf .f32 V bitsLt_bf16_f32) shapeCasts_S4x512x8192_S4x8x64x8192) p) transposes_S4x8x64x8192_S4x8192x8x64_0_3_1_2) shapeCasts_S4x8192x8x64_S4x8192x512) bitsLt_bf16_f32

theorem lg_raw (Q : FVec Ideal S4x1024x8192 .bf16) (K : FVec Ideal S4x8192x1024 .bf16) (b : Fin 4) (h : Fin 8) (y x : Fin 8192) :
    lg Q K (ix4 b h y x) = Scalar.select (IntOp.cmpi .sle (BitVec.ofNat 32 x.val) (BitVec.ofNat 32 y.val))
        ((∑ e : Fin 128, Q (ix3 b ⟨h.val * 128 + e.val, by omega⟩ y) * K (ix3 b x ⟨h.val * 128 + e.val, by omega⟩)) * Ideal.log (Ideal.ofBits .f32 (1073741824#32 : BitVec 32)))
        (Ideal.ofBits .f32 (4286578688#32 : BitVec 32)) := by
  unfold lg
  pointwise
  rfl

theorem lg_at (Q : FVec Ideal S4x1024x8192 .bf16) (K : FVec Ideal S4x8192x1024 .bf16) (b : Fin 4) (h : Fin 8) (y x : Fin 8192) :
    lg Q K (ix4 b h y x) = sco Q K b h y x * ((Real.log 2 : ℝ) : EReal) := by
  rw [lg_raw, log_two, WordCmp.cmpi_sle_ofNat (by have := x.isLt; omega) (by have := y.isLt; omega)]
  unfold sco
  by_cases h : x.val ≤ y.val
  · simp [h, Scalar.select]
  · simp only [h, decide_false, dite_false]
    rw [EReal.bot_mul_of_pos log2_pos]
    exact bits_bot

/-- The row maximum. -/
def rm (s : FVec Ideal S4x8x8192x8192 .f32) : FVec Ideal S4x8x8192 .f32 :=
  maximumf (broadcastInDim S4x8x8192 ![] bcast_S_S4x8x8192 (constant S_ .f32 0xFF800000#32)) (Host.reduce FloatOps.maximumf s (constant S_ .f32 0xFF800000#32) reducesTo_S4x8x8192x8192_S4x8x8192_d3 h_S_)

theorem mr_at (s : FVec Ideal S4x8x8192x8192 .f32) (b : Fin 4) (h : Fin 8) (y : Fin 8192) :
    Host.reduce FloatOps.maximumf s (constant S_ .f32 0xFF800000#32) reducesTo_S4x8x8192x8192_S4x8x8192_d3 h_S_ (ix3 b h y) = Finset.univ.fold max (Ideal.ofBits .f32 (4286578688#32 : BitVec 32)) fun z : Fin 8192 => s (ix4 b h y z) := by
  pointwise

theorem rm_at (s : FVec Ideal S4x8x8192x8192 .f32) (b : Fin 4) (h : Fin 8) (y : Fin 8192) :
    rm s (ix3 b h y) = Finset.univ.fold max ⊥ fun z : Fin 8192 => s (ix4 b h y z) := by
  unfold rm
  rw [maximumf_apply, mr_at, bits_bot]
  generalize (Finset.univ.fold max ⊥ fun z : Fin 8192 => s (ix4 b h y z)) = f
  have e : broadcastInDim S4x8x8192 ![] bcast_S_S4x8x8192 (constant (F := Ideal) S_ .f32 0xFF800000#32) (ix3 b h y) = (⊥ : EReal) := bits_bot
  rw [e, Ideal.maximumf_def]
  exact max_eq_right bot_le

theorem es_at (s : FVec Ideal S4x8x8192x8192 .f32) (r : FVec Ideal S4x8x8192 .f32) (b : Fin 4) (h : Fin 8) (y x : Fin 8192) :
    Host.exp (subf s (broadcastInDim S4x8x8192x8192 ![0, 1, 2, 3] bcast_S4x8x8192x1_S4x8x8192x8192_0_1_2_3 (broadcastInDim S4x8x8192x1 ![0, 1, 2] bcast_S4x8x8192_S4x8x8192x1_0_1_2 r))) (ix4 b h y x) = Ideal.exp (s (ix4 b h y x) - r (ix3 b h y)) := by
  pointwise

theorem ex_at (s : FVec Ideal S4x8x8192x8192 .f32) (b : Fin 4) (h : Fin 8) (y x : Fin 8192) :
    ex s (ix4 b h y x) = Ideal.exp (s (ix4 b h y x) - Finset.univ.fold max ⊥ fun z : Fin 8192 => s (ix4 b h y z)) := by
  refine (es_at s (rm s) b h y x).trans ?_
  rw [rm_at]

theorem sm_at (e : FVec Ideal S4x8x8192x8192 .f32) (b : Fin 4) (h : Fin 8) (y x : Fin 8192) :
    sm e (ix4 b h y x) = Ideal.div (e (ix4 b h y x)) (∑ z : Fin 8192, e (ix4 b h y z)) := by
  unfold sm
  pointwise

theorem av_at (V : FVec Ideal S4x512x8192 .bf16) (p : FVec Ideal S4x8x8192x8192 .f32) (b : Fin 4) (y : Fin 8192) (d : Fin 512) :
    av V p (ix3 b y d) = ∑ x : Fin 8192, V (ix3 b d x) * p (ix4 b ⟨d.val / 64, by omega⟩ y x) := by
  unfold av
  pointwise

/-- The three arguments and the result, as functions of an index. -/
abbrev argQ (m : (ℓ : Loc nD τ sig) → Buf (Elt Ideal) ℓ) (c : Dev nD) : S4x1024x8192.Idx → EReal := m ((c.tc : Thread nD τ).loc main_arg0)
abbrev argK (m : (ℓ : Loc nD τ sig) → Buf (Elt Ideal) ℓ) (c : Dev nD) : S4x8192x1024.Idx → EReal := m ((c.tc : Thread nD τ).loc main_arg1)
abbrev argV (m : (ℓ : Loc nD τ sig) → Buf (Elt Ideal) ℓ) (c : Dev nD) : S4x512x8192.Idx → EReal := m ((c.tc : Thread nD τ).loc main_arg2)

theorem res_eq (m : (ℓ : Loc nD τ sig) → Buf (Elt Ideal) ℓ) (c : Dev nD) :
    res_main_v31 m c = av (argV m c) (sm (ex (lg (argQ m c) (argK m c)))) := by
  unfold res_main_v31 av sm ex lg
  rfl

theorem res_at (Q : S4x1024x8192.Idx → EReal) (K : S4x8192x1024.Idx → EReal) (V : S4x512x8192.Idx → EReal) (b : Fin 4) (y : Fin 8192) (d : Fin 512) :
    av V (sm (ex (lg Q K))) (ix3 b y d) = ∑ x : Fin 8192, V (ix3 b d x) * Ideal.div
        (Ideal.exp (sco Q K b ⟨d.val / 64, by omega⟩ y x * ((Real.log 2 : ℝ) : EReal) - Finset.univ.fold max ⊥ fun z : Fin 8192 => sco Q K b ⟨d.val / 64, by omega⟩ y z * ((Real.log 2 : ℝ) : EReal)))
        (∑ w : Fin 8192, Ideal.exp (sco Q K b ⟨d.val / 64, by omega⟩ y w * ((Real.log 2 : ℝ) : EReal) - Finset.univ.fold max ⊥ fun z : Fin 8192 => sco Q K b ⟨d.val / 64, by omega⟩ y z * ((Real.log 2 : ℝ) : EReal))) := by
  rw [av_at]
  simp only [sm_at, ex_at, lg_at]

end Cert.ReferenceIdeal.Value

end
-- ==== Proof.Flash.Value.lean ====
/- The two results are one: a grid point's quotient of streamed sums is the reference's softmax-weighted sum of values. -/
module

public import proofs.«01_k».proof.Proof.Flash.Win
public import proofs.«01_k».proof.Proof.Flash.RefAt

@[expose] public section

set_option maxRecDepth 16384

noncomputable section

namespace Cert.KernelIdeal.Flash

open Idealize.ShloMosaic Idealize.ShloMosaic.TcCoe
open Cert.KernelIdeal Cert.KernelIdeal.Gen Cert.Stream
open Cert.ReferenceIdeal.Value (sco res_at av sm ex lg)

local instance : Facts := Gen.facts

theorem mx_fin (S : ℕ → EReal) : mx S 8192 = Finset.univ.sup fun x : Fin 8192 => S x := by
  refine le_antisymm (Finset.sup_le fun x hx => ?_) (Finset.sup_le fun x _ => ?_)
  · exact Finset.le_sup (f := fun x : Fin 8192 => S x) (Finset.mem_univ ⟨x, Finset.mem_range.mp hx⟩)
  · exact Finset.le_sup (f := S) (Finset.mem_range.mpr x.isLt)

theorem ac_fin (S V : ℕ → EReal) (m : EReal) : ac S V 8192 m = ∑ x : Fin 8192, V x * Ideal.exp2 (S x - m) :=
  Finset.sum_range fun x => V x * Ideal.exp2 (S x - m)

theorem real_sum {n : ℕ} (f g : Fin n → EReal) (hf : ∀ e, f e ≠ ⊤ ∧ f e ≠ ⊥) (hg : ∀ e, g e ≠ ⊤ ∧ g e ≠ ⊥) :
    ∃ r : ℝ, ∑ e, f e * g e = r := by
  refine Finset.sum_induction _ (fun x : EReal => ∃ r : ℝ, x = r) ?_ ⟨0, rfl⟩ fun e _ => ?_
  · rintro _ _ ⟨a, rfl⟩ ⟨b, rfl⟩
    exact ⟨a + b, rfl⟩
  · exact ⟨(f e).toReal * (g e).toReal, by rw [EReal.coe_mul, EReal.coe_toReal (hf e).1 (hf e).2, EReal.coe_toReal (hg e).1 (hg e).2]⟩

section
variable (Q : S4x1024x8192.Idx → EReal) (K : S4x8192x1024.Idx → EReal) (V : S4x512x8192.Idx → EReal)
  (hQ : ∀ i, Q i ≠ ⊤ ∧ Q i ≠ ⊥) (hK : ∀ i, K i ≠ ⊤ ∧ K i ≠ ⊥)

include hQ hK

theorem sco_ne_top (b : Fin 4) (h : Fin 8) (y : Fin 8192) (x : ℕ) : sco Q K b h y x ≠ ⊤ := by
  unfold sco
  split
  · obtain ⟨r, hr⟩ := real_sum (n := 128) _ _ (fun e => hQ _) (fun e => hK _)
    rw [hr]
    exact EReal.coe_ne_top r
  · exact bot_ne_top

theorem sco_self (b : Fin 4) (h : Fin 8) (y : Fin 8192) : sco Q K b h y y ≠ ⊥ := by
  unfold sco
  rw [dif_pos le_rfl]
  obtain ⟨r, hr⟩ := real_sum (n := 128) _ _ (fun e => hQ _) (fun e => hK _)
  rw [hr]
  exact EReal.coe_ne_bot r

end

section
variable (m : (ℓ : Loc nD τ sig) → Buf (Elt Ideal) ℓ) (c : Dev nD)

theorem scB_eq (t : Fin cfg0.N) (h : Fin 2) (y : Fin 8192) :
    scB (iblk m c 0 t) (iblk m c 1 t) h y = sco (aQ m c) (aK m c) (bt t) ⟨(pr t).val * 2 + h.val, by have := (pr t).isLt; omega⟩ y := by
  funext x
  unfold scB sco
  refine dite_congr rfl (fun hx => Finset.sum_congr rfl fun e _ => ?_) fun _ => rfl
  rw [blkQ, blkK, mul_comm]
  have e1 : (pr t).val * 256 + (128 * h.val + e.val) = ((pr t).val * 2 + h.val) * 128 + e.val := by ring
  simp only [e1]

theorem outAt_eq (hQ : ∀ i, aQ m c i ≠ ⊤ ∧ aQ m c i ≠ ⊥) (hK : ∀ i, aK m c i ≠ ⊤ ∧ aK m c i ≠ ⊥)
    (t : Fin cfg0.N) (y : Fin 8192) (d : Fin 128) :
    outAt m c t (ix3 (0 : Fin 1) y d)
      = av (aV m c) (sm (ex (lg (aQ m c) (aK m c)))) (ix3 (bt t) y (⟨(pr t).val * 128 + d.val, row_lt t d⟩ : Fin 512)) := by
  have hb : ∀ h y x, scB (iblk m c 0 t) (iblk m c 1 t) h y x ≠ ⊤ := fun h y x => by
    rw [scB_eq]; exact sco_ne_top _ _ hQ hK _ _ _ _
  rw [res_at]
  unfold outAt
  rw [outAll_at _ _ _ hb, scB_eq, ac_fin, ac_fin, mx_fin]
  have eh : (⟨(pr t).val * 2 + (⟨d.val / 64, by omega⟩ : Fin 2).val, by have := (pr t).isLt; simp only; omega⟩ : Fin 8)
      = ⟨((pr t).val * 128 + d.val) / 64, by have := (pr t).isLt; omega⟩ := Fin.ext (by simp only; omega)
  rw [eh]
  simp only
  have ev : ∀ x : Fin 8192, vaB (iblk m c 2 t) ⟨d.val / 64, by omega⟩ ⟨d.val % 64, by omega⟩ x.val
      = aV m c (ix3 (bt t) (⟨(pr t).val * 128 + d.val, row_lt t d⟩ : Fin 512) x) := fun x => by
    unfold vaB
    rw [dif_pos x.isLt, dif_pos (by simp only; omega), blkV]
    have e1 : (pr t).val * 128 + (64 * (d.val / 64) + d.val % 64) = (pr t).val * 128 + d.val := by omega
    simp only [e1]
  have e1 : ∀ x : Fin 8192, vaB (iblk m c 2 t) ⟨d.val / 64, by omega⟩ 64 x.val = 1 := fun x => by
    unfold vaB
    rw [dif_pos x.isLt, dif_neg (by decide), if_pos (by decide)]
  simp only [ev, e1]
  exact softmax_eq (fun x : Fin 8192 => sco (aQ m c) (aK m c) (bt t) _ y x) _ y (sco_self _ _ hQ hK _ _ _) (fun x => sco_ne_top _ _ hQ hK _ _ _ _) _ rfl

/-- The result's array is the reference's term in the same arguments. -/
theorem arr3_ref (hQ : ∀ i, aQ m c i ≠ ⊤ ∧ aQ m c i ≠ ⊥) (hK : ∀ i, aK m c i ≠ ⊤ ∧ aK m c i ≠ ⊥) :
    (dats m 0 c).arrAt 3 cfg0.N = av (aV m c) (sm (ex (lg (aQ m c) (aK m c)))) :=
  arr3_eq m c _ (outAt_eq m c hQ hK)

end

end Cert.KernelIdeal.Flash

end
-- ==== Proof.Flash.Finite.lean ====
/- The precondition read back: every packed query and key is a real number. -/
module

public import proofs.«01_k».proof.Proof.Gen.Pre_finite_scores
public import Idealize.ShloMosaic.Lib.Pointwise
public import Idealize.ShloMosaic.Lib.IdealHost
public import Idealize.ShloMosaic.Lib.ReduceAll

@[expose] public section

set_option maxRecDepth 16384

noncomputable section

namespace Cert.Pre_finite_scores

open Idealize.ShloMosaic
open Facts

theorem top_bits : Ideal.ofBits .f32 (2139095040#32 : BitVec 32) = ⊤ := by
  simp [Ideal.ofBits, Ideal.ieee]

theorem real_of_abs (x : EReal) (h : BitVec.ofBool (decide (max x (-x) < ⊤)) = 1#1) : x ≠ ⊤ ∧ x ≠ ⊥ := by
  constructor <;> rintro rfl <;> simp at h

instance : Subsingleton S_.Idx := ⟨fun _ _ => funext fun a => a.elim0⟩

theorem fn_real (Q : FVec Ideal S4x1024x8192 .bf16) (K : FVec Ideal S4x8192x1024 .bf16) (V : FVec Ideal S4x512x8192 .bf16)
    (h : fn (F := Ideal) Q K V = fun _ => 1#1) :
    (∀ i, (Q i : EReal) ≠ ⊤ ∧ (Q i : EReal) ≠ ⊥) ∧ ∀ i, (K i : EReal) ≠ ⊤ ∧ (K i : EReal) ≠ ⊥ := by
  have h0 := congrFun h (fun a => a.elim0)
  unfold fn at h0
  dsimp only at h0
  obtain ⟨h1, h2⟩ := IntOp.andi_eq_one.mp h0
  refine ⟨fun i => ?_, fun i => ?_⟩
  · have e := Host.reduce_andi_all _ _ _ _ _ h1 i
    pointwise at e
    rw [top_bits, Ideal.absf_def] at e
    exact real_of_abs _ e
  · have e := Host.reduce_andi_all _ _ _ _ _ h2 i
    pointwise at e
    rw [top_bits, Ideal.absf_def] at e
    exact real_of_abs _ e

end Cert.Pre_finite_scores

end
-- ==== Proof.Rows.lean ====
/- The row functions both feed-forward calls and their references compute, over the extended reals. -/
module

public import Idealize.ShloMosaic.PureOps
public import Idealize.ShloMosaic.Lib.Pointwise
public import Idealize.ShloMosaic.Lib.IdealHost
public import Idealize.ShloMosaic.Lib.WordCmp

@[expose] public section

noncomputable section

namespace Cert.Rows

open Idealize.ShloMosaic

/-- The root-mean-square norm of a row, times its gain: the words are 1024 and the norm's epsilon. -/
def nrm (h g : Fin 1024 → EReal) (d : Fin 1024) : EReal :=
  h d * Ideal.rsqrt (Ideal.div (∑ x, h x * h x) (Ideal.ofBits FTy.f32 1149239296#32) + Ideal.ofBits FTy.f32 897988541#32) * g d

/-- The squared rectified projection of a row. -/
def act (n : Fin 1024 → EReal) (up : Fin 1024 → Fin 4096 → EReal) (e : Fin 4096) : EReal :=
  max (∑ x, n x * up x e) 0 * max (∑ x, n x * up x e) 0

/-- The row plus the feed-forward part of its norm. -/
def mlp (h g : Fin 1024 → EReal) (up : Fin 1024 → Fin 4096 → EReal) (dn : Fin 4096 → Fin 1024 → EReal) (d : Fin 1024) : EReal :=
  h d + ∑ e, act (nrm h g) up e * dn e d

/-- The value `l` rows before row `y`, zero before the first row. -/
def lagged (u : Fin 8192 → EReal) (y : Fin 8192) (l : ℕ) : EReal := if h : l ≤ y.val then u ⟨y.val - l, by omega⟩ else 0

/-- The number of rows a trailing window of `w` rows holds at row `y`. -/
def cnt (w : ℕ) (y : Fin 8192) : EReal := FloatOps.sitofp (F := Ideal) .f32 (BitVec.ofNat 32 (min (y.val + 1) w))

/-- The mean of a trailing window of `w` rows less the row itself. -/
def pooled (w : ℕ) (u : Fin 8192 → EReal) (y : Fin 8192) : EReal := Ideal.div (∑ l ∈ Finset.range w, lagged u y l) (cnt w y) - u y

theorem toFloat_zero : FloatOps.sitofp (F := Ideal) .f32 (0#32 : BitVec 32) = (0 : EReal) := by
  show (((0#32 : BitVec 32).toInt : ℝ) : EReal) = 0
  simp

theorem minsi_ofNat (a b : ℕ) (ha : a < 2 ^ 31) (hb : b < 2 ^ 31) : IntOp.minsi (BitVec.ofNat 32 a) (BitVec.ofNat 32 b) = BitVec.ofNat 32 (min a b) := by
  unfold IntOp.minsi BitVec.slt
  rw [WordCmp.toInt_ofNat_of_lt (w := 32) (by simpa using ha), WordCmp.toInt_ofNat_of_lt (w := 32) (by simpa using hb)]
  by_cases h : a < b
  · simp [h, min_eq_left h.le]
  · simp [h, min_eq_right (not_lt.mp h)]

theorem minsi_one (y w : ℕ) (hy : y < 8192) (hw : w < 8192) : IntOp.minsi (IntOp.addi (1#32) (BitVec.ofNat 32 y)) (BitVec.ofNat 32 w) = BitVec.ofNat 32 (min (y + 1) w) := by
  rw [← minsi_ofNat _ _ (by omega) (by omega)]
  refine congrArg₂ _ ?_ rfl
  unfold IntOp.addi
  rw [add_comm, BitVec.ofNat_add]

/-- The four groups' trailing-window means, each through its own square matrix. -/
def mix (N : Fin 8192 → Fin 1024 → EReal) (pw : Fin 4 → Fin 256 → Fin 256 → EReal) (y : Fin 8192) (g : Fin 4) (x : Fin 256) : EReal :=
  ∑ c : Fin 256, pooled (2 ^ (g.val + 1)) (fun y' => N y' (⟨256 * g.val + c.val, by omega⟩ : Fin 1024)) y * pw g c x

/-- A row of zeros and ones, times a column, sums the rows of a trailing window. -/
theorem band_sum (f : ℕ → EReal) (r w : ℕ) (hr : r < 128) (hw : w ≤ 128) :
    ∑ j : Fin 256, (if j.val ≤ 128 + r ∧ 128 + r < j.val + w then (1 : EReal) else 0) * f j.val = ∑ l ∈ Finset.range w, f (128 + r - l) := by
  rw [Fin.sum_univ_eq_sum_range (fun j => (if j ≤ 128 + r ∧ 128 + r < j + w then (1 : EReal) else 0) * f j) 256]
  simp only [ite_mul, one_mul, zero_mul]
  rw [← Finset.sum_filter]
  refine Finset.sum_nbij' (fun j => 128 + r - j) (fun l => 128 + r - l) ?_ ?_ ?_ ?_ ?_
  · intro j hj
    simp only [Finset.mem_filter, Finset.mem_range] at hj ⊢
    omega
  · intro l hl
    simp only [Finset.mem_filter, Finset.mem_range] at hl ⊢
    omega
  · intro j hj
    simp only [Finset.mem_filter, Finset.mem_range] at hj
    show 128 + r - (128 + r - j) = j
    omega
  · intro l hl
    simp only [Finset.mem_range] at hl
    show 128 + r - (128 + r - l) = l
    omega
  · intro j hj
    simp only [Finset.mem_filter, Finset.mem_range] at hj
    exact congrArg f (by show j = 128 + r - (128 + r - j); omega)

/-- The kernel's count of the rows in a trailing window. -/
theorem minsi_row (i y w : ℕ) (hi : i < 16) (hy : y < 512) (hw : w < 8192) :
    IntOp.minsi (IntOp.addi (IntOp.addi (IntOp.muli (BitVec.ofNat 32 i) 512#32) (BitVec.ofNat 32 y)) 1#32) (BitVec.ofNat 32 w) = BitVec.ofNat 32 (min (i * 512 + y + 1) w) := by
  rw [← minsi_ofNat _ _ (by omega) (by omega)]
  refine congrArg₂ _ ?_ rfl
  rw [show (512#32 : BitVec 32) = BitVec.ofNat 32 512 from rfl, show (1#32 : BitVec 32) = BitVec.ofNat 32 1 from rfl, WordCmp.muli_ofNat, WordCmp.addi_ofNat, WordCmp.addi_ofNat]

end Cert.Rows

end
-- ==== Proof.Out.At.lean ====
/- The payloads of the layer's output projection and feed-forward call, read at an index as extended reals. -/
module

public import proofs.«01_k».proof.Proof.Gen.Kernel2Ideal.Skeleton
public import proofs.«01_k».proof.Proof.Rows
public import Idealize.ShloMosaic.Lib.IdealHost
public import Idealize.ShloMosaic.Lib.Tactic.CleanTypes

@[expose] public section

set_option maxRecDepth 16384

noncomputable section

namespace Cert.Kernel2Ideal.Out

open Idealize.ShloMosaic
open Cert.Kernel2Ideal Cert.Kernel2Ideal.Gen

theorem pay3_at (v0 : Vec Ideal S1x512x1024 .f32) (v2 : Vec Ideal S1x512x512 .bf16) (v4 : Vec Ideal S512x1024 .bf16) (v8 : Vec Ideal S1x512x512 .bf16) (v10 : Vec Ideal S512x1024 .bf16)
    (y : Fin 512) (d : Fin 1024) :
    k0_pay3 v0 v2 v4 v8 v10 (ix2 y d) = ((v0 (ix3 0 y d) : EReal) + ∑ e : Fin 512, (v2 (ix3 0 y e) : EReal) * v4 (ix2 e d)) + ∑ e : Fin 512, (v8 (ix3 0 y e) : EReal) * v10 (ix2 e d) := by
  unfold k0_pay3
  pointwise

theorem pay4_at (v0 : Vec Ideal S1x512x1024 .f32) (v2 : Vec Ideal S1x512x512 .bf16) (v4 : Vec Ideal S512x1024 .bf16) (v8 : Vec Ideal S1x512x512 .bf16) (v10 : Vec Ideal S512x1024 .bf16) (v14 : Vec Ideal S1x1024 .f32)
    (y : Fin 512) (d : Fin 1024) :
    k0_pay4 v0 v2 v4 v8 v10 v14 (ix2 y d) = Rows.nrm (fun x => k0_pay3 v0 v2 v4 v8 v10 (ix2 y x)) (fun x => v14 (ix2 0 x)) d := by
  unfold k0_pay4 Rows.nrm
  generalize k0_pay3 v0 v2 v4 v8 v10 = h
  pointwise

/-- The squared rectified product of two blocks. -/
def sq (n : Vec Ideal S512x1024 .bf16) (w : Vec Ideal S1024x512 .f32) (y e : Fin 512) : EReal :=
  max (∑ x : Fin 1024, (n (ix2 y x) : EReal) * w (ix2 x e)) 0 * max (∑ x : Fin 1024, (n (ix2 y x) : EReal) * w (ix2 x e)) 0

theorem pay7_at (n : FVec Ideal S512x1024 .bf16) (w : Vec Ideal S1024x512 .f32) (y e : Fin 512) : k0_pay7 n w (ix2 y e) = sq n w y e := by
  unfold k0_pay7 sq
  pointwise

theorem pay8_at (n : FVec Ideal S512x1024 .bf16) (w : Vec Ideal S1024x512 .f32) (y e : Fin 512) : k0_pay8 n w (ix2 y e) = sq n w y e := by
  unfold k0_pay8 sq
  pointwise

theorem pay9_at (n : FVec Ideal S512x1024 .bf16) (w : Vec Ideal S1024x512 .f32) (y e : Fin 512) : k0_pay9 n w (ix2 y e) = sq n w y e := by
  unfold k0_pay9 sq
  pointwise

theorem pay10_at (n : FVec Ideal S512x1024 .bf16) (w : Vec Ideal S1024x512 .f32) (y e : Fin 512) : k0_pay10 n w (ix2 y e) = sq n w y e := by
  unfold k0_pay10 sq
  pointwise

theorem pay11_at (n : FVec Ideal S512x1024 .bf16) (w : Vec Ideal S1024x512 .f32) (y e : Fin 512) : k0_pay11 n w (ix2 y e) = sq n w y e := by
  unfold k0_pay11 sq
  pointwise

theorem pay12_at (n : FVec Ideal S512x1024 .bf16) (w : Vec Ideal S1024x512 .f32) (y e : Fin 512) : k0_pay12 n w (ix2 y e) = sq n w y e := by
  unfold k0_pay12 sq
  pointwise

theorem pay13_at (n : FVec Ideal S512x1024 .bf16) (w : Vec Ideal S1024x512 .f32) (y e : Fin 512) : k0_pay1 (k0_pay13 n w) (ix2 y e) = sq n w y e := by
  unfold k0_pay1 k0_pay13 sq
  pointwise

theorem pay56_at (v0 : Vec Ideal S1x512x1024 .f32) (v2 : Vec Ideal S1x512x512 .bf16) (v4 : Vec Ideal S512x1024 .bf16) (v8 : Vec Ideal S1x512x512 .bf16) (v10 : Vec Ideal S512x1024 .bf16) (v14 : Vec Ideal S1x1024 .f32)
    (w : Vec Ideal S1024x512 .f32) (y e : Fin 512) : k0_pay6 (k0_pay5 v0 v2 v4 v8 v10 v14 w) (ix2 y e) = sq (k0_pay4 v0 v2 v4 v8 v10 v14) w y e := by
  unfold k0_pay6 k0_pay5 sq
  generalize k0_pay4 v0 v2 v4 v8 v10 v14 = h
  pointwise

theorem pay2_at (v13 : FVec Ideal S512x1024 .f32) (v109 : Vec Ideal S512x4096 .bf16) (v110 : Vec Ideal S4096x1024 .bf16) (y : Fin 512) (d : Fin 1024) :
    k0_pay2 v13 v109 v110 (ix3 0 y d) = (v13 (ix2 y d) : EReal) + ∑ e : Fin 4096, (v109 (ix2 y e) : EReal) * v110 (ix2 e d) := by
  unfold k0_pay2
  pointwise

end Cert.Kernel2Ideal.Out

end
-- ==== Proof.Out.Ker.lean ====
/- What a grid point of the call leaves in the result's block. -/
module

public import proofs.«01_k».proof.Proof.Out.At
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Kernel2Ideal.Out

open Idealize.ShloMosaic Idealize.ShloMosaic.TcCoe Idealize.ShloMosaic.Tactic
open Cert.Kernel2Ideal Cert.Kernel2Ideal.Gen

variable (m : (ℓ : Loc nD τ sig) → Buf (Elt Ideal) ℓ) (c : Dev nD)

/-- The row of the block before the feed-forward part. -/
def hB (t : Fin cfg0.N) (y : Fin 512) (d : Fin 1024) : EReal :=
  k0_pay3 (iblk m c 0 t) (iblk m c 1 t) (iblk m c 3 t) (iblk m c 2 t) (iblk m c 4 t) (ix2 y d)

/-- A stored chunk of the squared rectified product, at the column it fills. -/
theorem sq_chunk (n : Vec Ideal S512x1024 .bf16) (u : Vec Ideal S1024x4096 .f32) (o : ℕ) (hin) (x : S512x512.Idx) (y : Fin 512) (e : Fin 4096)
    (h0 : y.val = (x 0).val) (h1 : e.val = o + (x 1).val) :
    sq n (View.ld u (Rect.unit (s := S1024x4096) ![0, o] ![1024, 512] hin)) (x 0) (x 1) = Rows.act (fun x => n (ix2 y x)) (fun x e => u (ix2 x e)) e := by
  have hy : (x 0 : Fin 512) = y := Fin.ext h0.symm
  have hu : ∀ x' : Fin 1024, View.ld u (Rect.unit (s := S1024x4096) ![0, o] ![1024, 512] hin) (ix2 x' (x 1)) = u (ix2 x' e) := fun x' => by
    rw [View.ld_apply]
    refine congrArg u (funext fun a => Fin.ext ?_)
    fin_cases a
    · simp [Rect.idx_unit_val]
    · simp [Rect.idx_unit_val, h1]
  unfold sq Rows.act
  simp only [hu]
  rw [hy]

theorem out_at (t : Fin cfg0.N) (y : Fin 512) (d : Fin 1024) :
    outsAt0 m c t (ix3 0 y d)
      = Rows.mlp (hB m c t y) (fun x => iblk m c 5 t (ix2 0 x)) (fun x e => iblk m c 6 t (ix2 x e)) (fun e d => iblk m c 7 t (ix2 e d)) d := by
  unfold outsAt0 Rows.mlp
  frame_out
  rw [pay2_at]
  refine congrArg₂ (· + ·) rfl (Finset.sum_congr rfl fun e _ => congrArg₂ (· * ·) ?_ rfl)
  have en : (fun x => k0_pay4 (iblk m c 0 t) (iblk m c 1 t) (iblk m c 3 t) (iblk m c 2 t) (iblk m c 4 t) (iblk m c 5 t) (ix2 y x))
      = Rows.nrm (hB m c t y) (fun x => iblk m c 5 t (ix2 0 x)) := funext fun x => pay4_at _ _ _ _ _ _ y x
  rw [View.readCov_eq_canon', ← en]
  have ei : ∀ x : S512x512.Idx, x = ix2 (x 0) (x 1) := fun x => by funext a; fin_cases a <;> rfl
  canon_tiles x h
  · exact (congrArg _ (ei x)).trans ((pay13_at _ _ (x 0) (x 1)).trans (sq_chunk _ _ _ _ x y e (by simpa [Rect.idx_unit_val] using h0) (by simpa [Rect.idx_unit_val] using h1)))
  · exact (congrArg _ (ei x)).trans ((pay12_at _ _ (x 0) (x 1)).trans (sq_chunk _ _ _ _ x y e (by simpa [Rect.idx_unit_val] using h0) (by simpa [Rect.idx_unit_val] using h1)))
  · exact (congrArg _ (ei x)).trans ((pay11_at _ _ (x 0) (x 1)).trans (sq_chunk _ _ _ _ x y e (by simpa [Rect.idx_unit_val] using h0) (by simpa [Rect.idx_unit_val] using h1)))
  · exact (congrArg _ (ei x)).trans ((pay10_at _ _ (x 0) (x 1)).trans (sq_chunk _ _ _ _ x y e (by simpa [Rect.idx_unit_val] using h0) (by simpa [Rect.idx_unit_val] using h1)))
  · exact (congrArg _ (ei x)).trans ((pay9_at _ _ (x 0) (x 1)).trans (sq_chunk _ _ _ _ x y e (by simpa [Rect.idx_unit_val] using h0) (by simpa [Rect.idx_unit_val] using h1)))
  · exact (congrArg _ (ei x)).trans ((pay8_at _ _ (x 0) (x 1)).trans (sq_chunk _ _ _ _ x y e (by simpa [Rect.idx_unit_val] using h0) (by simpa [Rect.idx_unit_val] using h1)))
  · exact (congrArg _ (ei x)).trans ((pay7_at _ _ (x 0) (x 1)).trans (sq_chunk _ _ _ _ x y e (by simpa [Rect.idx_unit_val] using h0) (by simpa [Rect.idx_unit_val] using h1)))
  · exact (congrArg _ (ei x)).trans ((pay56_at _ _ _ _ _ _ _ (x 0) (x 1)).trans (sq_chunk _ _ _ _ x y e (by simpa [Rect.idx_unit_val] using h0) (by simpa [Rect.idx_unit_val] using h1)))

end Cert.Kernel2Ideal.Out

end
-- ==== Proof.Out.Win.lean ====
/- The call's blocks read at an index, and the result's array assembled from the blocks of its points. -/
module

public import proofs.«01_k».proof.Proof.Out.Ker

@[expose] public section

set_option maxRecDepth 16384

noncomputable section

namespace Cert.Kernel2Ideal.Out

open Idealize.ShloMosaic Idealize.ShloMosaic.TcCoe
open Idealize.ShloMosaic.Pipeline (Dat Cfg Window)
open Cert.Kernel2Ideal Cert.Kernel2Ideal.Gen

local instance : Facts := Gen.facts

/-- The batch of a grid point and its block of rows. -/
def bt (t : Fin cfg0.N) : Fin 4 := grid0.coords t 0
def br (t : Fin cfg0.N) : Fin 16 := grid0.coords t 1

theorem ind0 : ∀ t : Fin cfg0.N, win0_0.index t = ![(bt t).val, (br t).val, 0] := by decide +kernel
theorem ind1 : ∀ t : Fin cfg0.N, win0_1.index t = ![(bt t).val, (br t).val, 0] := by decide +kernel
theorem ind2 : ∀ t : Fin cfg0.N, win0_2.index t = ![(bt t).val, (br t).val, 0] := by decide +kernel
theorem ind3 : ∀ t : Fin cfg0.N, win0_3.index t = ![0, 0] := by decide +kernel
theorem ind4 : ∀ t : Fin cfg0.N, win0_4.index t = ![0, 0] := by decide +kernel
theorem ind5 : ∀ t : Fin cfg0.N, win0_5.index t = ![0, 0] := by decide +kernel
theorem ind6 : ∀ t : Fin cfg0.N, win0_6.index t = ![0, 0] := by decide +kernel
theorem ind7 : ∀ t : Fin cfg0.N, win0_7.index t = ![0, 0] := by decide +kernel
theorem ind8 : ∀ t : Fin cfg0.N, win0_8.index t = ![(bt t).val, (br t).val, 0] := by decide +kernel
theorem cov8 : (cfg0.win 8).Covers := by decide +kernel

variable (m : (ℓ : Loc nD τ sig) → Buf (Elt Ideal) ℓ) (c : Dev nD)

/-- The arguments, as functions of an index. -/
abbrev aX : S4x8192x1024.Idx → EReal := m ((c.tc : Thread nD τ).loc main_arg0)
abbrev aA : S4x8192x512.Idx → EReal := m ((c.tc : Thread nD τ).loc main_arg1)
abbrev aC : S4x8192x512.Idx → EReal := m ((c.tc : Thread nD τ).loc main_arg2)
abbrev aW : S1024x1024.Idx → EReal := m ((c.tc : Thread nD τ).loc main_arg3)
abbrev aG : S1024.Idx → EReal := m ((c.tc : Thread nD τ).loc main_arg4)
abbrev aU : S1024x4096.Idx → EReal := m ((c.tc : Thread nD τ).loc main_arg5)
abbrev aD : S4096x1024.Idx → EReal := m ((c.tc : Thread nD τ).loc main_arg6)

theorem row_lt (t : Fin cfg0.N) (y : Fin 512) : (br t).val * 512 + y.val < 8192 := by
  have := (br t).isLt; have := y.isLt; omega

/-- The row of the whole array a block's row is. -/
def row (t : Fin cfg0.N) (y : Fin 512) : Fin 8192 := ⟨(br t).val * 512 + y.val, row_lt t y⟩

theorem v1_at (e : Fin 512) (d : Fin 1024) : (V m c main_v1 : S512x1024.Idx → EReal) (ix2 e d) = aW m c (ix2 (⟨e.val, by omega⟩ : Fin 1024) d) := by
  have h : (V m c main_v1 : S512x1024.Idx → EReal) = truncf (F := Ideal) .bf16 (extractStridedSlice S512x1024 ![0, 0] (aW m c : FVec Ideal S1024x1024 .f32) slices_S1024x1024_S512x1024_0_0) bitsLt_bf16_f32 := by
    unfold V hostOps0
    after_results
  rw [h]
  generalize aW m c = w
  pointwise

theorem v3_at (e : Fin 512) (d : Fin 1024) : (V m c main_v3 : S512x1024.Idx → EReal) (ix2 e d) = aW m c (ix2 (⟨512 + e.val, by omega⟩ : Fin 1024) d) := by
  have h : (V m c main_v3 : S512x1024.Idx → EReal) = truncf (F := Ideal) .bf16 (extractStridedSlice S512x1024 ![512, 0] (aW m c : FVec Ideal S1024x1024 .f32) slices_S1024x1024_S512x1024_512_0) bitsLt_bf16_f32 := by
    unfold V hostOps0
    after_results
  rw [h]
  generalize aW m c = w
  pointwise

theorem v4_at (d : Fin 1024) : (V m c main_v4 : S1x1024.Idx → EReal) (ix2 0 d) = aG m c (ix1 d) := by
  have h : (V m c main_v4 : S1x1024.Idx → EReal) = shapeCast S1x1024 (aG m c) shapeCasts_S1024_S1x1024 := by
    unfold V hostOps0
    after_results
    rfl
  rw [h]
  generalize aG m c = w
  pointwise

theorem v5_at (e : Fin 4096) (d : Fin 1024) : (V m c main_v5 : S4096x1024.Idx → EReal) (ix2 e d) = aD m c (ix2 e d) := by
  have h : (V m c main_v5 : S4096x1024.Idx → EReal) = truncf (F := Ideal) .bf16 (aD m c : FVec Ideal S4096x1024 .f32) bitsLt_bf16_f32 := by
    unfold V hostOps0
    after_results
  rw [h]
  generalize aD m c = w
  pointwise

theorem blk0 (t : Fin cfg0.N) (y : Fin 512) (d : Fin 1024) : iblk m c 0 t (ix3 (0 : Fin 1) y d) = aX m c (ix3 (bt t) (row t y) d) := by
  unfold iblk
  rw [View.read]
  refine (congrFun (V_main_arg0 m c) _).trans (congrArg (aX m c) (funext fun a => Fin.ext ?_))
  fin_cases a <;> (blk_simp [ind0]; simp [row])

theorem blk1 (t : Fin cfg0.N) (y : Fin 512) (d : Fin 512) : iblk m c 1 t (ix3 (0 : Fin 1) y d) = aA m c (ix3 (bt t) (row t y) d) := by
  unfold iblk
  rw [View.read]
  refine (congrFun (V_main_arg1 m c) _).trans (congrArg (aA m c) (funext fun a => Fin.ext ?_))
  fin_cases a <;> (blk_simp [ind1]; simp [row])

theorem blk2 (t : Fin cfg0.N) (y : Fin 512) (d : Fin 512) : iblk m c 2 t (ix3 (0 : Fin 1) y d) = aC m c (ix3 (bt t) (row t y) d) := by
  unfold iblk
  rw [View.read]
  refine (congrFun (V_main_arg2 m c) _).trans (congrArg (aC m c) (funext fun a => Fin.ext ?_))
  fin_cases a <;> (blk_simp [ind2]; simp [row])

theorem blk3 (t : Fin cfg0.N) (e : Fin 512) (d : Fin 1024) : iblk m c 3 t (ix2 e d) = aW m c (ix2 (⟨e.val, by omega⟩ : Fin 1024) d) := by
  unfold iblk
  rw [View.read]
  refine (congrArg (V m c main_v1 : S512x1024.Idx → EReal) (funext fun a => Fin.ext ?_)).trans (v1_at m c e d)
  fin_cases a <;> blk_simp [ind3]

theorem blk4 (t : Fin cfg0.N) (e : Fin 512) (d : Fin 1024) : iblk m c 4 t (ix2 e d) = aW m c (ix2 (⟨512 + e.val, by omega⟩ : Fin 1024) d) := by
  unfold iblk
  rw [View.read]
  refine (congrArg (V m c main_v3 : S512x1024.Idx → EReal) (funext fun a => Fin.ext ?_)).trans (v3_at m c e d)
  fin_cases a <;> blk_simp [ind4]

theorem blk5 (t : Fin cfg0.N) (d : Fin 1024) : iblk m c 5 t (ix2 (0 : Fin 1) d) = aG m c (ix1 d) := by
  unfold iblk
  rw [View.read]
  refine (congrArg (V m c main_v4 : S1x1024.Idx → EReal) (funext fun a => Fin.ext ?_)).trans (v4_at m c d)
  fin_cases a <;> blk_simp [ind5]

theorem blk6 (t : Fin cfg0.N) (e : Fin 1024) (d : Fin 4096) : iblk m c 6 t (ix2 e d) = aU m c (ix2 e d) := by
  unfold iblk
  rw [View.read]
  refine (congrFun (V_main_arg5 m c) _).trans (congrArg (aU m c) (funext fun a => Fin.ext ?_))
  fin_cases a <;> blk_simp [ind6]

theorem blk7 (t : Fin cfg0.N) (e : Fin 4096) (d : Fin 1024) : iblk m c 7 t (ix2 e d) = aD m c (ix2 e d) := by
  unfold iblk
  rw [View.read]
  refine (congrArg (V m c main_v5 : S4096x1024.Idx → EReal) (funext fun a => Fin.ext ?_)).trans (v5_at m c e d)
  fin_cases a <;> blk_simp [ind7]

/-- The stream after the output projection. -/
def hK (b : Fin 4) (y : Fin 8192) (d : Fin 1024) : EReal :=
  (aX m c (ix3 b y d) + ∑ e : Fin 512, aA m c (ix3 b y e) * aW m c (ix2 (⟨e.val, by omega⟩ : Fin 1024) d)) + ∑ e : Fin 512, aC m c (ix3 b y e) * aW m c (ix2 (⟨512 + e.val, by omega⟩ : Fin 1024) d)

theorem hB_at (t : Fin cfg0.N) (y : Fin 512) : hB m c t y = hK m c (bt t) (row t y) := by
  funext d
  unfold hB hK
  rw [pay3_at]
  simp only [blk0, blk1, blk2, blk3, blk4]

/-- The call's result, index by index. -/
def G : S4x8192x1024.Idx → EReal := fun i =>
  Rows.mlp (hK m c (i 0) (i 1)) (fun x => aG m c (ix1 x)) (fun x e => aU m c (ix2 x e)) (fun e d => aD m c (ix2 e d)) (i 2)

theorem out_eq (t : Fin cfg0.N) (y : Fin 512) (d : Fin 1024) : outsAt0 m c t (ix3 (0 : Fin 1) y d) = G m c (ix3 (bt t) (row t y) d) := by
  rw [out_at, hB_at]
  simp only [blk5, blk6, blk7]
  rfl

theorem arr8_eq : (dats m 0 c).arrAt 8 cfg0.N = G m c := by
  refine (dats m 0 c).arrAt_eq_of_covers 8 _ cov8 fun t hf y => ?_
  blk_simp
  rw [after0_8]
  have e : (fun a => y a : S1x512x1024.Idx) = ix3 (0 : Fin 1) (y 1) (y 2) := by
    funext a
    fin_cases a
    · exact Subsingleton.elim (α := Fin 1) _ _
    · rfl
    · rfl
  refine (congrArg (outsAt0 m c t) e).trans ((out_eq m c t (y 1) (y 2)).trans (congrArg (G m c) (funext fun a => Fin.ext ?_)))
  fin_cases a
  · blk_simp [ind8]; have h : (y 0).val < 1 := (y 0).isLt; simpa using h
  · blk_simp [ind8]; simp [row]
  · blk_simp [ind8]; simp

end Cert.Kernel2Ideal.Out

end
-- ==== Proof.Out.RefAt.lean ====
/- The reference's result of the output projection and the feed-forward part, read at an index. -/
module

public import proofs.«01_k».proof.Proof.Gen.Reference2Ideal.Run
public import proofs.«01_k».proof.Proof.Rows
public import Idealize.ShloMosaic.Lib.Pointwise
public import Idealize.ShloMosaic.Lib.IdealHost
public import Idealize.ShloMosaic.Lib.Tactic.CleanTypes

@[expose] public section

set_option maxRecDepth 16384

noncomputable section

namespace Cert.Reference2Ideal.Value

open Idealize.ShloMosaic Idealize.ShloMosaic.TcCoe
open Cert.Reference2Ideal Cert.Reference2Ideal.Gen

/-- The stream after the output projection. -/
def hR (X : FVec Ideal S4x8192x1024 .f32) (A C : FVec Ideal S4x8192x512 .bf16) (W : FVec Ideal S1024x1024 .f32) : FVec Ideal S4x8192x1024 .f32 :=
  addf X (Host.dotGeneral dot_S4x8192x1024_S1024x1024_S4x8192x1024_2_0_01_1_n_n none (concatenate S4x8192x1024 2 [⟨S4x8192x512, (extf .f32 A bitsLt_bf16_f32)⟩, ⟨S4x8192x512, (extf .f32 C bitsLt_bf16_f32)⟩] concatenates_S4x8192x512_S4x8192x512_S4x8192x1024_d2) W)

/-- Its normalization. -/
def nR (h : FVec Ideal S4x8192x1024 .f32) (g : FVec Ideal S1024 .f32) : FVec Ideal S4x8192x1024 .f32 :=
  mulf (mulf h (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf h h) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

/-- The squared rectified product. -/
def uR (n : FVec Ideal S4x8192x1024 .f32) (u : FVec Ideal S1024x4096 .f32) : FVec Ideal S4x8192x4096 .f32 :=
  mulf (maximumf (Host.dotGeneral dot_S4x8192x1024_S1024x4096_S4x8192x4096_2_0_01_1_n_n none n u) (broadcastInDim S4x8192x4096 ![] bcast_S_S4x8192x4096 (constant S_ .f32 0x00000000#32))) (maximumf (Host.dotGeneral dot_S4x8192x1024_S1024x4096_S4x8192x4096_2_0_01_1_n_n none n u) (broadcastInDim S4x8192x4096 ![] bcast_S_S4x8192x4096 (constant S_ .f32 0x00000000#32)))

def oR (h : FVec Ideal S4x8192x1024 .f32) (q : FVec Ideal S4x8192x4096 .f32) (dn : FVec Ideal S4096x1024 .f32) : FVec Ideal S4x8192x1024 .f32 :=
  addf h (Host.dotGeneral dot_S4x8192x4096_S4096x1024_S4x8192x1024_2_0_01_1_n_n none q dn)

theorem hR_at (X : FVec Ideal S4x8192x1024 .f32) (A C : FVec Ideal S4x8192x512 .bf16) (W : FVec Ideal S1024x1024 .f32) (b : Fin 4) (y : Fin 8192) (d : Fin 1024) :
    hR X A C W (ix3 b y d) = (X (ix3 b y d) : EReal) + ∑ e : Fin 1024, (if h : e.val < 512 then A (ix3 b y ⟨e.val, h⟩) else C (ix3 b y ⟨e.val - 512, by omega⟩) : EReal) * W (ix2 e d) := by
  unfold hR
  pointwise

theorem nR_at (h : FVec Ideal S4x8192x1024 .f32) (g : FVec Ideal S1024 .f32) (b : Fin 4) (y : Fin 8192) (d : Fin 1024) :
    nR h g (ix3 b y d) = Rows.nrm (fun x => h (ix3 b y x)) (fun x => g (ix1 x)) d := by
  unfold nR Rows.nrm
  pointwise

theorem uR_at (n : FVec Ideal S4x8192x1024 .f32) (u : FVec Ideal S1024x4096 .f32) (b : Fin 4) (y : Fin 8192) (e : Fin 4096) :
    uR n u (ix3 b y e) = Rows.act (fun x => n (ix3 b y x)) (fun x e => u (ix2 x e)) e := by
  unfold uR Rows.act
  pointwise

theorem oR_at (h : FVec Ideal S4x8192x1024 .f32) (q : FVec Ideal S4x8192x4096 .f32) (dn : FVec Ideal S4096x1024 .f32) (b : Fin 4) (y : Fin 8192) (d : Fin 1024) :
    oR h q dn (ix3 b y d) = (h (ix3 b y d) : EReal) + ∑ e : Fin 4096, (q (ix3 b y e) : EReal) * dn (ix2 e d) := by
  unfold oR
  pointwise

variable (m : (ℓ : Loc nD τ sig) → Buf (Elt Ideal) ℓ) (c : Dev nD)

theorem res_eq : (res_main_v22 m c : FVec Ideal S4x8192x1024 .f32)
    = oR (hR (m ((c.tc : Thread nD τ).loc main_arg0)) (m ((c.tc : Thread nD τ).loc main_arg1)) (m ((c.tc : Thread nD τ).loc main_arg2)) (m ((c.tc : Thread nD τ).loc main_arg3)))
        (uR (nR (hR (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5)))
        (m ((c.tc : Thread nD τ).loc main_arg6)) := by
  unfold res_main_v22 oR uR nR hR
  rfl

end Cert.Reference2Ideal.Value

end
-- ==== Proof.Out.Eq.lean ====
/- The call's result and the reference's are the same function of the arguments. -/
module

public import proofs.«01_k».proof.Proof.Out.Win
public import proofs.«01_k».proof.Proof.Out.RefAt

@[expose] public section

set_option maxRecDepth 16384

noncomputable section

namespace Cert.Kernel2Ideal.Out

open Idealize.ShloMosaic Idealize.ShloMosaic.TcCoe

/-- A sum over the joined columns is the sum over the first half's and the sum over the second half's. -/
theorem sum_joined (f g : Fin 512 → EReal) (w : Fin 1024 → EReal) :
    (∑ e : Fin 1024, (if h : e.val < 512 then f ⟨e.val, h⟩ else g ⟨e.val - 512, by omega⟩ : EReal) * w e)
      = (∑ e : Fin 512, f e * w (⟨e.val, by omega⟩ : Fin 1024)) + ∑ e : Fin 512, g e * w (⟨512 + e.val, by omega⟩ : Fin 1024) := by
  refine (Fin.sum_univ_add (a := 512) (b := 512) (fun e : Fin 1024 => (if h : e.val < 512 then f ⟨e.val, h⟩ else g ⟨e.val - 512, by omega⟩ : EReal) * w e)).trans ?_
  refine congrArg₂ (· + ·) (Finset.sum_congr rfl fun e _ => ?_) (Finset.sum_congr rfl fun e _ => ?_)
  · have h : (Fin.castAdd 512 e : Fin 1024).val < 512 := e.isLt
    simp only [h, dite_true]
    rfl
  · have h : ¬ (Fin.natAdd 512 e : Fin 1024).val < 512 := by simp [Fin.natAdd]
    simp only [h, dite_false]
    refine congrArg₂ (· * ·) (congrArg g (Fin.ext ?_)) rfl
    simp [Fin.natAdd]

open Cert.Reference2Ideal.Value in
theorem G_ref (m : (ℓ : Loc Cert.Kernel2Ideal.nD Cert.Kernel2Ideal.τ Cert.Kernel2Ideal.sig) → Buf (Elt Ideal) ℓ) (c : Dev Cert.Kernel2Ideal.nD) :
    (oR (hR (aX m c) (aA m c) (aC m c) (aW m c)) (uR (nR (hR (aX m c) (aA m c) (aC m c) (aW m c)) (aG m c)) (aU m c)) (aD m c) : Cert.Reference2Ideal.S4x8192x1024.Idx → EReal) = G m c := by
  funext i
  have ei : i = ix3 (i 0) (i 1) (i 2) := by funext a; fin_cases a <;> rfl
  have hh : (fun x : Fin 1024 => (hR (aX m c) (aA m c) (aC m c) (aW m c) (ix3 (i 0) (i 1) x) : EReal)) = hK m c (i 0) (i 1) := by
    funext x
    refine (hR_at _ _ _ _ (i 0) (i 1) x).trans ?_
    unfold hK
    rw [add_assoc]
    exact congrArg₂ (· + ·) rfl (sum_joined (fun e => aA m c (ix3 (i 0) (i 1) e)) (fun e => aC m c (ix3 (i 0) (i 1) e)) (fun e => aW m c (ix2 e x)))
  refine (congrArg _ ei).trans ((oR_at _ _ _ (i 0) (i 1) (i 2)).trans ?_)
  unfold G Rows.mlp
  refine congrArg₂ (· + ·) (congrFun hh (i 2)) (Finset.sum_congr rfl fun e _ => congrArg₂ (· * ·) ?_ rfl)
  refine (uR_at _ _ (i 0) (i 1) e).trans (congrArg (fun n => Rows.act n _ e) (funext fun x => ?_))
  refine (nR_at _ _ (i 0) (i 1) x).trans ?_
  rw [hh]

end Cert.Kernel2Ideal.Out

end
-- ==== Proof.Out.Value.lean ====
/- The claims of the output projection and feed-forward call. -/
module

public import proofs.«01_k».proof.Defs
public import proofs.«01_k».proof.Proof.Out.Eq
public import Idealize.ShloMosaic.Lib.Quiescent

@[expose] public section

set_option maxRecDepth 16384

noncomputable section

namespace Cert.Kernel2Ideal.Out

open Idealize.ShloMosaic Idealize.ShloMosaic.TcCoe Idealize.SL.Sem

local instance : Cert.Kernel2Ideal.Facts := Cert.Kernel2Ideal.Gen.facts
local instance : Cert.Reference2Ideal.Facts := Cert.Reference2Ideal.Gen.facts

/-- The reference's frame: it has no counters. -/
theorem refFrame : Cert.quiescent_Reference2Ideal := fun m g _ =>
  (θ_run _ _ _).mono (fun r h => ⟨fun c => (h c).2, sem_eq_zero_of_no_sems rfl r.2⟩) (Cert.Reference2Ideal.Value.run (F := Ideal) m g)

theorem value : Cert.algebraic_Kernel2Ideal_Reference2Ideal := by
  intro m g m' g' _ hag
  refine ⟨fun c => (Cert.Kernel2Ideal.Gen.dats m 0 c).arrAt 8 Cert.Kernel2Ideal.cfg0.N,
    Cert.Kernel2Ideal.Value.run_blocks (F := Ideal) m g,
    (θ_run _ _ _).mono (fun r h c => ⟨(h c).1.trans ?_, (h c).2⟩) (Cert.Reference2Ideal.Value.run (F := Ideal) m' g')⟩
  obtain ⟨h0, h1, h2, h3, h4, h5, h6⟩ := hag c
  refine (Cert.Reference2Ideal.Value.res_eq m' c).trans ?_
  rw [h0, h1, h2, h3, h4, h5, h6]
  exact (G_ref m c).trans (arr8_eq m c).symm

end Cert.Kernel2Ideal.Out

end
-- ==== Proof.Pool.Tab.lean ====
/- Tables of words, and the words of the bands. -/
module

public import proofs.«01_k».proof.Kernel3Ideal
public import Idealize.ShloMosaic.Lib.Pointwise

@[expose] public section

set_option maxRecDepth 100000

namespace Cert.Kernel3Ideal.Pool

/-- The word at a position of the four bands: one inside the window that ends at the row, zero outside it. -/
def W (i : Nat) : BitVec 16 := if i % 256 ≤ 128 + i / 256 % 128 ∧ 128 + i / 256 % 128 < i % 256 + 2 ^ (i / 32768 + 1) then 0x3F80#16 else 0x0000#16

/-- A table of 128 words. -/
def tab (a : Nat → BitVec 16) (x : Nat) : BitVec 16 := match x with
  | 0 => a 0
  | 1 => a 1
  | 2 => a 2
  | 3 => a 3
  | 4 => a 4
  | 5 => a 5
  | 6 => a 6
  | 7 => a 7
  | 8 => a 8
  | 9 => a 9
  | 10 => a 10
  | 11 => a 11
  | 12 => a 12
  | 13 => a 13
  | 14 => a 14
  | 15 => a 15
  | 16 => a 16
  | 17 => a 17
  | 18 => a 18
  | 19 => a 19
  | 20 => a 20
  | 21 => a 21
  | 22 => a 22
  | 23 => a 23
  | 24 => a 24
  | 25 => a 25
  | 26 => a 26
  | 27 => a 27
  | 28 => a 28
  | 29 => a 29
  | 30 => a 30
  | 31 => a 31
  | 32 => a 32
  | 33 => a 33
  | 34 => a 34
  | 35 => a 35
  | 36 => a 36
  | 37 => a 37
  | 38 => a 38
  | 39 => a 39
  | 40 => a 40
  | 41 => a 41
  | 42 => a 42
  | 43 => a 43
  | 44 => a 44
  | 45 => a 45
  | 46 => a 46
  | 47 => a 47
  | 48 => a 48
  | 49 => a 49
  | 50 => a 50
  | 51 => a 51
  | 52 => a 52
  | 53 => a 53
  | 54 => a 54
  | 55 => a 55
  | 56 => a 56
  | 57 => a 57
  | 58 => a 58
  | 59 => a 59
  | 60 => a 60
  | 61 => a 61
  | 62 => a 62
  | 63 => a 63
  | 64 => a 64
  | 65 => a 65
  | 66 => a 66
  | 67 => a 67
  | 68 => a 68
  | 69 => a 69
  | 70 => a 70
  | 71 => a 71
  | 72 => a 72
  | 73 => a 73
  | 74 => a 74
  | 75 => a 75
  | 76 => a 76
  | 77 => a 77
  | 78 => a 78
  | 79 => a 79
  | 80 => a 80
  | 81 => a 81
  | 82 => a 82
  | 83 => a 83
  | 84 => a 84
  | 85 => a 85
  | 86 => a 86
  | 87 => a 87
  | 88 => a 88
  | 89 => a 89
  | 90 => a 90
  | 91 => a 91
  | 92 => a 92
  | 93 => a 93
  | 94 => a 94
  | 95 => a 95
  | 96 => a 96
  | 97 => a 97
  | 98 => a 98
  | 99 => a 99
  | 100 => a 100
  | 101 => a 101
  | 102 => a 102
  | 103 => a 103
  | 104 => a 104
  | 105 => a 105
  | 106 => a 106
  | 107 => a 107
  | 108 => a 108
  | 109 => a 109
  | 110 => a 110
  | 111 => a 111
  | 112 => a 112
  | 113 => a 113
  | 114 => a 114
  | 115 => a 115
  | 116 => a 116
  | 117 => a 117
  | 118 => a 118
  | 119 => a 119
  | 120 => a 120
  | 121 => a 121
  | 122 => a 122
  | 123 => a 123
  | 124 => a 124
  | 125 => a 125
  | 126 => a 126
  | 127 => a 127
  | _ => 0#16

theorem tab_eq (a : Nat → BitVec 16) : ∀ x : Fin 128, tab a x.val = a x.val := by
  intro x
  fin_cases x <;> rfl

/-- Two tables deep, the word at a position. -/
theorem tab_tab (p n : Nat) (h : n / 16384 = p) : tab (fun q => tab (fun j => W (16384 * p + 128 * q + j)) (n % 128)) (n / 128 % 128) = W n := by
  refine (tab_eq _ ⟨n / 128 % 128, by omega⟩).trans ((tab_eq _ ⟨n % 128, by omega⟩).trans (congrArg W ?_))
  show 16384 * p + 128 * (n / 128 % 128) + n % 128 = n
  omega

end Cert.Kernel3Ideal.Pool

end
-- ==== Proof.Pool.Lit0.lean ====
/- A quarter of the band constant: its words. -/
module

public import proofs.«01_k».proof.Proof.Pool.Tab

@[expose] public section

set_option maxRecDepth 100000

namespace Cert.Kernel3Ideal.Pool

set_option maxHeartbeats 8000000 in
theorem mid0 (i : Nat) : lit0t1_0 i = tab (fun q => tab (fun j => W (16384 * 0 + 128 * q + j)) (i % 128)) (i / 128 % 128) := rfl

set_option maxHeartbeats 8000000 in
theorem mid1 (i : Nat) : lit0t1_1 i = tab (fun q => tab (fun j => W (16384 * 1 + 128 * q + j)) (i % 128)) (i / 128 % 128) := rfl

end Cert.Kernel3Ideal.Pool

end
-- ==== Proof.Pool.Lit1.lean ====
/- A quarter of the band constant: its words. -/
module

public import proofs.«01_k».proof.Proof.Pool.Tab

@[expose] public section

set_option maxRecDepth 100000

namespace Cert.Kernel3Ideal.Pool

set_option maxHeartbeats 8000000 in
theorem mid2 (i : Nat) : lit0t1_2 i = tab (fun q => tab (fun j => W (16384 * 2 + 128 * q + j)) (i % 128)) (i / 128 % 128) := rfl

set_option maxHeartbeats 8000000 in
theorem mid3 (i : Nat) : lit0t1_3 i = tab (fun q => tab (fun j => W (16384 * 3 + 128 * q + j)) (i % 128)) (i / 128 % 128) := rfl

end Cert.Kernel3Ideal.Pool

end
-- ==== Proof.Pool.Lit2.lean ====
/- A quarter of the band constant: its words. -/
module

public import proofs.«01_k».proof.Proof.Pool.Tab

@[expose] public section

set_option maxRecDepth 100000

namespace Cert.Kernel3Ideal.Pool

set_option maxHeartbeats 8000000 in
theorem mid4 (i : Nat) : lit0t1_4 i = tab (fun q => tab (fun j => W (16384 * 4 + 128 * q + j)) (i % 128)) (i / 128 % 128) := rfl

set_option maxHeartbeats 8000000 in
theorem mid5 (i : Nat) : lit0t1_5 i = tab (fun q => tab (fun j => W (16384 * 5 + 128 * q + j)) (i % 128)) (i / 128 % 128) := rfl

end Cert.Kernel3Ideal.Pool

end
-- ==== Proof.Pool.Lit3.lean ====
/- A quarter of the band constant: its words. -/
module

public import proofs.«01_k».proof.Proof.Pool.Tab

@[expose] public section

set_option maxRecDepth 100000

namespace Cert.Kernel3Ideal.Pool

set_option maxHeartbeats 8000000 in
theorem mid6 (i : Nat) : lit0t1_6 i = tab (fun q => tab (fun j => W (16384 * 6 + 128 * q + j)) (i % 128)) (i / 128 % 128) := rfl

set_option maxHeartbeats 8000000 in
theorem mid7 (i : Nat) : lit0t1_7 i = tab (fun q => tab (fun j => W (16384 * 7 + 128 * q + j)) (i % 128)) (i / 128 % 128) := rfl

end Cert.Kernel3Ideal.Pool

end
-- ==== Proof.Pool.Lit.lean ====
/- The third call's band constant, read at an index. -/
module

public import proofs.«01_k».proof.Proof.Pool.Lit0
public import proofs.«01_k».proof.Proof.Pool.Lit1
public import proofs.«01_k».proof.Proof.Pool.Lit2
public import proofs.«01_k».proof.Proof.Pool.Lit3

@[expose] public section

set_option maxRecDepth 100000

noncomputable section

namespace Cert.Kernel3Ideal.Pool

open Idealize.ShloMosaic

theorem lit0t_eq (n : Nat) (h : n < 131072) : lit0t n = W n := by
  obtain ⟨p, hp⟩ : ∃ p : Fin 8, n / 16384 = p.val := ⟨⟨n / 16384, by omega⟩, rfl⟩
  unfold lit0t
  rw [hp]
  fin_cases p
  · exact (mid0 n).trans (tab_tab 0 n hp)
  · exact (mid1 n).trans (tab_tab 1 n hp)
  · exact (mid2 n).trans (tab_tab 2 n hp)
  · exact (mid3 n).trans (tab_tab 3 n hp)
  · exact (mid4 n).trans (tab_tab 4 n hp)
  · exact (mid5 n).trans (tab_tab 5 n hp)
  · exact (mid6 n).trans (tab_tab 6 n hp)
  · exact (mid7 n).trans (tab_tab 7 n hp)

theorem bits_one : FloatOps.ofBits (F := Ideal) .bf16 (0x3F80#16 : BitVec 16) = (1 : EReal) := by
  show Ideal.ofBits .bf16 0x3F80#16 = 1
  simp [Ideal.ofBits, Ideal.ieee, -EReal.coe_mul]
  norm_num

theorem bits_zero : FloatOps.ofBits (F := Ideal) .bf16 (0x0000#16 : BitVec 16) = (0 : EReal) := by
  show Ideal.ofBits .bf16 0x0000#16 = 0
  simp [Ideal.ofBits, Ideal.ieee]

theorem lit0_eq : ∀ x : Fin 131072, lit0 x = W x.val
  | ⟨n, h⟩ => lit0t_eq n h

theorem W_at (g : Fin 4) (r : Fin 128) (k : Fin 256) (n : Nat) (hn : n = 32768 * g.val + 256 * r.val + k.val) :
    (FloatOps.ofBits (F := Ideal) .bf16 (W n) : EReal) = if k.val ≤ 128 + r.val ∧ 128 + r.val < k.val + 2 ^ (g.val + 1) then (1 : EReal) else 0 := by
  unfold W
  rw [show n % 256 = k.val by omega, show n / 256 % 128 = r.val by omega, show n / 32768 = g.val by omega]
  split
  · exact bits_one
  · exact bits_zero

theorem lit_row (x : Fin 131072) (g : Fin 4) (r : Fin 128) (k : Fin 256) (hx : x.val = 32768 * g.val + 256 * r.val + k.val) :
    (FloatOps.ofBits (F := Ideal) .bf16 (lit0 x) : EReal) = if k.val ≤ 128 + r.val ∧ 128 + r.val < k.val + 2 ^ (g.val + 1) then (1 : EReal) else 0 :=
  (congrArg (FloatOps.ofBits (F := Ideal) .bf16) (lit0_eq x)).trans (W_at g r k x.val hx)

theorem row_val (g : Fin 4) (r : Fin 128) (k : Fin 256) : (S4x128x256.rowMajor (ix3 g r k)).val = 32768 * g.val + 256 * r.val + k.val := by
  refine (Shape.rowMajor_val_three _).trans ?_
  show (g.val * 128 + r.val) * 256 + k.val = _
  omega

theorem lit_at (g : Fin 4) (r : Fin 128) (k : Fin 256) :
    (FloatOps.ofBits (F := Ideal) .bf16 (lit0 (S4x128x256.rowMajor (ix3 g r k))) : EReal) = if k.val ≤ 128 + r.val ∧ 128 + r.val < k.val + 2 ^ (g.val + 1) then (1 : EReal) else 0 :=
  lit_row (S4x128x256.rowMajor (ix3 g r k)) g r k (row_val g r k)

end Cert.Kernel3Ideal.Pool

end

end
-- ==== Proof.Pool.At.lean ====
/- The payloads of the second layer's call, read at an index as extended reals. -/
module

public import proofs.«01_k».proof.Proof.Gen.Kernel3Ideal.Skeleton
public import proofs.«01_k».proof.Proof.Rows
public import Idealize.ShloMosaic.Lib.IdealHost
public import Idealize.ShloMosaic.Lib.Tactic.CleanTypes

@[expose] public section

set_option maxRecDepth 16384

noncomputable section

namespace Cert.Kernel3Ideal.Pool

open Idealize.ShloMosaic
open Cert.Kernel3Ideal Cert.Kernel3Ideal.Gen

theorem pay2_at (y : Fin 128) (d : Fin 1024) : k0_pay2 (F := Ideal) (ix2 y d) = (0 : EReal) := by
  unfold k0_pay2
  pointwise

theorem pay3_at (v3 : Vec Ideal S1x512x1024 .f32) (y : Fin 512) (d : Fin 1024) : k0_pay3 v3 (ix2 y d) = (v3 (ix3 0 y d) : EReal) := by
  unfold k0_pay3
  pointwise

theorem pay4_at (v3 : Vec Ideal S1x512x1024 .f32) (v5 : Vec Ideal S1x1024 .f32) (y : Fin 512) (d : Fin 1024) :
    k0_pay4 v3 v5 (ix2 y d) = Rows.nrm (fun x => v3 (ix3 0 y x)) (fun x => v5 (ix2 0 x)) d := by
  unfold k0_pay4 k0_pay3 Rows.nrm
  pointwise

theorem pay6_at (v3 : Vec Ideal S1x512x1024 .f32) (v5 : Vec Ideal S1x1024 .f32) (y : Fin 512) (d : Fin 1024) :
    k0_pay6 v3 v5 (ix2 y d) = Rows.nrm (fun x => v3 (ix3 0 y x)) (fun x => v5 (ix2 0 x)) d := by
  rw [← pay4_at]
  unfold k0_pay6 k0_pay5
  generalize k0_pay4 v3 v5 = n
  pointwise

theorem pay19_at (v3 : Vec Ideal S1x512x1024 .f32) (v5 : Vec Ideal S1x1024 .f32) (y : Fin 128) (d : Fin 1024) :
    k0_pay19 (k0_pay5 v3 v5) (ix2 y d) = Rows.nrm (fun x => v3 (ix3 0 (⟨384 + y.val, by omega⟩ : Fin 512) x)) (fun x => v5 (ix2 0 x)) d := by
  rw [← pay4_at]
  unfold k0_pay19 k0_pay5
  generalize k0_pay4 v3 v5 = n
  pointwise

/-- Four blocks of rows, one below another. -/
def stack (p0 p1 p2 p3 : FVec Ideal S128x256 .f32) : FVec Ideal S512x256 .f32 :=
  concatenate S512x256 0 [⟨S128x256, p0⟩, ⟨S128x256, p1⟩, ⟨S128x256, p2⟩, ⟨S128x256, p3⟩] concatenates_S128x256_S128x256_S128x256_S128x256_S512x256_d0

theorem stack_at (p0 p1 p2 p3 : FVec Ideal S128x256 .f32) (k : Fin 4) (r : Fin 128) (x : Fin 256) :
    stack p0 p1 p2 p3 (ix2 (⟨128 * k.val + r.val, by omega⟩ : Fin 512) x) = (![p0 (ix2 r x), p1 (ix2 r x), p2 (ix2 r x), p3 (ix2 r x)] : Fin 4 → EReal) k := by
  unfold stack
  pointwise
  obtain ⟨k, hk⟩ := k
  have hx := r.isLt
  interval_cases k
  · rw [dif_pos (by simp only []; omega)]
    refine congrArg _ (congrArg (ix2 · _) (Fin.ext ?_))
    simp only []; omega
  · rw [dif_neg (by simp only []; omega), dif_pos (by simp only []; omega)]
    refine congrArg _ (congrArg (ix2 · _) (Fin.ext ?_))
    simp only []; omega
  · rw [dif_neg (by simp only []; omega), dif_neg (by simp only []; omega), dif_pos (by simp only []; omega)]
    refine congrArg _ (congrArg (ix2 · _) (Fin.ext ?_))
    simp only []; omega
  · rw [dif_neg (by simp only []; omega), dif_neg (by simp only []; omega), dif_neg (by simp only []; omega)]
    refine congrArg _ (congrArg (ix2 · _) (Fin.ext ?_))
    simp only []; omega

/-- One block of window sums. -/
def band (b : Vec Ideal S1x128x256 .bf16) (e : Vec Ideal S256x256 .bf16) : FVec Ideal S128x256 .f32 := k0_pay8 b e

theorem band_at (b : Vec Ideal S1x128x256 .bf16) (e : Vec Ideal S256x256 .bf16) (r : Fin 128) (x : Fin 256) :
    band b e (ix2 r x) = ∑ k : Fin 256, (b (ix3 0 r k) : EReal) * e (ix2 k x) := by
  unfold band k0_pay8
  pointwise

/-- One group's mixed columns. -/
def grp (o w : ℕ) (n : FVec Ideal S512x1024 .f32) (v26 : IVec S512x1 32) (W : FVec Ideal S512x256 .f32) (pw : Vec Ideal S1x256x256 .bf16) (ho : o + 256 ≤ 1024) (y : Fin 512) (x : Fin 256) : EReal :=
  ∑ c : Fin 256, (Ideal.div (W (ix2 y c)) (FloatOps.sitofp (F := Ideal) .f32 (IntOp.minsi (IntOp.addi (v26 (ix2 y 0)) 1#32) (BitVec.ofNat 32 w))) - (n (ix2 y (⟨o + c.val, by omega⟩ : Fin 1024)) : EReal)) * pw (ix3 0 c x)

theorem pay10_at (n : FVec Ideal S512x1024 .f32) (v26 : IVec S512x1 32) (b : Vec Ideal S1x128x256 .bf16) (e0 e1 e2 e3 : Vec Ideal S256x256 .bf16) (pw : Vec Ideal S1x256x256 .bf16) (y : Fin 512) (x : Fin 256) :
    k0_pay10 n v26 (k0_pay8 b e0) (k0_pay9 b) e1 b e2 b e3 pw (ix2 y x) = grp 0 2 n v26 (stack (band b e0) (band b e1) (band b e2) (band b e3)) pw (by norm_num) y x := by
  have e : k0_pay10 n v26 (k0_pay8 b e0) (k0_pay9 b) e1 b e2 b e3 pw
      = matmul (F := Ideal) dot_S512x256_S256x256_S512x256_1_0_0_1_n_n none (truncf .bf16 (subf (divf (stack (band b e0) (band b e1) (band b e2) (band b e3)) (broadcastTo S512x256 (sitofp .f32 (minsi (addi v26 (broadcast S512x1 1#32)) (broadcast S512x1 2#32))) broadcasts_S512x1_S512x256)) (extractStridedSlice S512x256 ![0, 0] n slices_S512x1024_o0_0_S512x256)) bitsLt_bf16_f32)
          (shapeCast S256x256 pw shapeCasts_S1x256x256_S256x256 : FVec Ideal S256x256 .bf16) (constant S512x256 .f32 0x00000000#32) := rfl
  rw [e]
  unfold grp
  generalize stack (band b e0) (band b e1) (band b e2) (band b e3) = W
  pointwise

theorem pay13_at (n : FVec Ideal S512x1024 .f32) (v26 : IVec S512x1 32) (b : Vec Ideal S1x128x256 .bf16) (e0 e1 e2 e3 : Vec Ideal S256x256 .bf16) (pw : Vec Ideal S1x256x256 .bf16) (y : Fin 512) (x : Fin 256) :
    k0_pay13 n v26 (k0_pay11 b e0) (k0_pay12 b) e1 b e2 b e3 pw (ix2 y x) = grp 256 4 n v26 (stack (band b e0) (band b e1) (band b e2) (band b e3)) pw (by norm_num) y x := by
  have e : k0_pay13 n v26 (k0_pay11 b e0) (k0_pay12 b) e1 b e2 b e3 pw
      = matmul (F := Ideal) dot_S512x256_S256x256_S512x256_1_0_0_1_n_n none (truncf .bf16 (subf (divf (stack (band b e0) (band b e1) (band b e2) (band b e3)) (broadcastTo S512x256 (sitofp .f32 (minsi (addi v26 (broadcast S512x1 1#32)) (broadcast S512x1 4#32))) broadcasts_S512x1_S512x256)) (extractStridedSlice S512x256 ![0, 256] n slices_S512x1024_o0_256_S512x256)) bitsLt_bf16_f32)
          (shapeCast S256x256 pw shapeCasts_S1x256x256_S256x256 : FVec Ideal S256x256 .bf16) (constant S512x256 .f32 0x00000000#32) := rfl
  rw [e]
  unfold grp
  generalize stack (band b e0) (band b e1) (band b e2) (band b e3) = W
  pointwise

theorem pay16_at (n : FVec Ideal S512x1024 .f32) (v26 : IVec S512x1 32) (b : Vec Ideal S1x128x256 .bf16) (e0 e1 e2 e3 : Vec Ideal S256x256 .bf16) (pw : Vec Ideal S1x256x256 .bf16) (y : Fin 512) (x : Fin 256) :
    k0_pay16 n v26 (k0_pay14 b e0) (k0_pay15 b) e1 b e2 b e3 pw (ix2 y x) = grp 512 8 n v26 (stack (band b e0) (band b e1) (band b e2) (band b e3)) pw (by norm_num) y x := by
  have e : k0_pay16 n v26 (k0_pay14 b e0) (k0_pay15 b) e1 b e2 b e3 pw
      = matmul (F := Ideal) dot_S512x256_S256x256_S512x256_1_0_0_1_n_n none (truncf .bf16 (subf (divf (stack (band b e0) (band b e1) (band b e2) (band b e3)) (broadcastTo S512x256 (sitofp .f32 (minsi (addi v26 (broadcast S512x1 1#32)) (broadcast S512x1 8#32))) broadcasts_S512x1_S512x256)) (extractStridedSlice S512x256 ![0, 512] n slices_S512x1024_o0_512_S512x256)) bitsLt_bf16_f32)
          (shapeCast S256x256 pw shapeCasts_S1x256x256_S256x256 : FVec Ideal S256x256 .bf16) (constant S512x256 .f32 0x00000000#32) := rfl
  rw [e]
  unfold grp
  generalize stack (band b e0) (band b e1) (band b e2) (band b e3) = W
  pointwise

/-- The last group's mixed columns, as a block. -/
def last (n : FVec Ideal S512x1024 .f32) (v26 : IVec S512x1 32) (W : FVec Ideal S512x256 .f32) (pw : Vec Ideal S1x256x256 .bf16) : FVec Ideal S512x256 .f32 :=
  matmul (F := Ideal) dot_S512x256_S256x256_S512x256_1_0_0_1_n_n none (truncf .bf16 (subf (divf W (broadcastTo S512x256 (sitofp .f32 (minsi (addi v26 (broadcast S512x1 1#32)) (broadcast S512x1 16#32))) broadcasts_S512x1_S512x256)) (extractStridedSlice S512x256 ![0, 768] n slices_S512x1024_o0_768_S512x256)) bitsLt_bf16_f32)
          (shapeCast S256x256 pw shapeCasts_S1x256x256_S256x256 : FVec Ideal S256x256 .bf16) (constant S512x256 .f32 0x00000000#32)

theorem last_at (n : FVec Ideal S512x1024 .f32) (v26 : IVec S512x1 32) (W : FVec Ideal S512x256 .f32) (pw : Vec Ideal S1x256x256 .bf16) (y : Fin 512) (x : Fin 256) :
    last n v26 W pw (ix2 y x) = grp 768 16 n v26 W pw (by norm_num) y x := by
  unfold last grp
  pointwise

/-- Four groups of columns, one beside another. -/
def beside (p0 p1 p2 p3 : FVec Ideal S512x256 .f32) : FVec Ideal S512x1024 .f32 :=
  concatenate S512x1024 1 [⟨S512x256, p0⟩, ⟨S512x256, p1⟩, ⟨S512x256, p2⟩, ⟨S512x256, p3⟩] concatenates_S512x256_S512x256_S512x256_S512x256_S512x1024_d1

theorem beside_at (p0 p1 p2 p3 : FVec Ideal S512x256 .f32) (y : Fin 512) (g : Fin 4) (x : Fin 256) :
    beside p0 p1 p2 p3 (ix2 y (⟨256 * g.val + x.val, by omega⟩ : Fin 1024)) = (![p0 (ix2 y x), p1 (ix2 y x), p2 (ix2 y x), p3 (ix2 y x)] : Fin 4 → EReal) g := by
  unfold beside
  pointwise
  obtain ⟨k, hk⟩ := g
  have hx := x.isLt
  interval_cases k
  · rw [dif_pos (by simp only []; omega)]
    refine congrArg _ (congrArg (ix2 _ ·) (Fin.ext ?_))
    simp only []; omega
  · rw [dif_neg (by simp only []; omega), dif_pos (by simp only []; omega)]
    refine congrArg _ (congrArg (ix2 _ ·) (Fin.ext ?_))
    simp only []; omega
  · rw [dif_neg (by simp only []; omega), dif_neg (by simp only []; omega), dif_pos (by simp only []; omega)]
    refine congrArg _ (congrArg (ix2 _ ·) (Fin.ext ?_))
    simp only []; omega
  · rw [dif_neg (by simp only []; omega), dif_neg (by simp only []; omega), dif_neg (by simp only []; omega)]
    refine congrArg _ (congrArg (ix2 _ ·) (Fin.ext ?_))
    simp only []; omega

theorem pay20_at (v4 n : FVec Ideal S512x1024 .f32) (v26 : IVec S512x1 32) (p0 p1 p2 : FVec Ideal S512x256 .f32) (b : Vec Ideal S1x128x256 .bf16) (e0 e1 e2 e3 : Vec Ideal S256x256 .bf16) (pw : Vec Ideal S1x256x256 .bf16) (ps : Vec Ideal S1x1024 .f32) (y : Fin 512) (d : Fin 1024) :
    k0_pay20 v4 n v26 p0 p1 p2 (k0_pay17 b e0) (k0_pay18 b) e1 b e2 b e3 pw ps (ix2 y d)
      = (v4 (ix2 y d) : EReal) + (beside p0 p1 p2 (last n v26 (stack (band b e0) (band b e1) (band b e2) (band b e3)) pw) (ix2 y d) : EReal) * ps (ix2 0 d) := by
  have e : k0_pay20 v4 n v26 p0 p1 p2 (k0_pay17 b e0) (k0_pay18 b) e1 b e2 b e3 pw ps
      = addf v4 (mulf (beside p0 p1 p2 (last n v26 (stack (band b e0) (band b e1) (band b e2) (band b e3)) pw)) (broadcastTo S512x1024 (shapeCast S1x1024 ps shapeCasts_S1x1024_S1x1024) broadcasts_S1x1024_S512x1024)) := rfl
  rw [e]
  generalize beside p0 p1 p2 (last n v26 (stack (band b e0) (band b e1) (band b e2) (band b e3)) pw) = W
  pointwise

theorem pay21_at (h : FVec Ideal S512x1024 .f32) (g : Vec Ideal S1x1024 .f32) (y : Fin 512) (d : Fin 1024) :
    k0_pay21 h g (ix2 y d) = Rows.nrm (fun x => h (ix2 y x)) (fun x => g (ix2 0 x)) d := by
  unfold k0_pay21 Rows.nrm
  pointwise

/-- The squared rectified product of two blocks. -/
def sq (n : Vec Ideal S512x1024 .bf16) (w : Vec Ideal S1024x512 .f32) (y e : Fin 512) : EReal :=
  max (∑ x : Fin 1024, (n (ix2 y x) : EReal) * w (ix2 x e)) 0 * max (∑ x : Fin 1024, (n (ix2 y x) : EReal) * w (ix2 x e)) 0

theorem pay22_at (h : FVec Ideal S512x1024 .f32) (g : Vec Ideal S1x1024 .f32) (w : Vec Ideal S1024x512 .f32) (y e : Fin 512) : k0_pay22 h g w (ix2 y e) = sq (k0_pay21 h g) w y e := by
  unfold k0_pay22 sq
  generalize k0_pay21 h g = n
  pointwise

theorem pay23_at (h : FVec Ideal S512x1024 .f32) (g : Vec Ideal S1x1024 .f32) (w : Vec Ideal S1024x512 .f32) (y e : Fin 512) : k0_pay23 h g w (ix2 y e) = sq (k0_pay21 h g) w y e := by
  unfold k0_pay23 sq
  generalize k0_pay21 h g = n
  pointwise

theorem pay24_at (h : FVec Ideal S512x1024 .f32) (g : Vec Ideal S1x1024 .f32) (w : Vec Ideal S1024x512 .f32) (y e : Fin 512) : k0_pay25 (k0_pay24 h g w) (Scalar.ofBits .f32 0x00000000#32) (ix2 y e) = sq (k0_pay21 h g) w y e := by
  unfold k0_pay25 k0_pay24 sq
  generalize k0_pay21 h g = n
  pointwise

theorem pay26_at (n : FVec Ideal S512x1024 .bf16) (w : Vec Ideal S1024x512 .f32) (y e : Fin 512) : k0_pay26 n w (ix2 y e) = sq n w y e := by
  unfold k0_pay26 sq
  pointwise

theorem pay27_at (n : FVec Ideal S512x1024 .bf16) (w : Vec Ideal S1024x512 .f32) (y e : Fin 512) : k0_pay27 n w (ix2 y e) = sq n w y e := by
  unfold k0_pay27 sq
  pointwise

theorem pay28_at (n : FVec Ideal S512x1024 .bf16) (w : Vec Ideal S1024x512 .f32) (y e : Fin 512) : k0_pay28 n w (ix2 y e) = sq n w y e := by
  unfold k0_pay28 sq
  pointwise

theorem pay29_at (n : FVec Ideal S512x1024 .bf16) (w : Vec Ideal S1024x512 .f32) (y e : Fin 512) : k0_pay29 n w (ix2 y e) = sq n w y e := by
  unfold k0_pay29 sq
  pointwise

theorem pay30_at (n : FVec Ideal S512x1024 .bf16) (w : Vec Ideal S1024x512 .f32) (y e : Fin 512) : k0_pay30 n w (ix2 y e) = sq n w y e := by
  unfold k0_pay30 sq
  pointwise

theorem pay31_at (h : FVec Ideal S512x1024 .f32) (q : Vec Ideal S512x4096 .bf16) (dn : Vec Ideal S4096x1024 .bf16) (y : Fin 512) (d : Fin 1024) :
    k0_pay31 h q dn (ix2 y d) = (h (ix2 y d) : EReal) + ∑ e : Fin 4096, (q (ix2 y e) : EReal) * dn (ix2 e d) := by
  unfold k0_pay31
  pointwise

theorem pay1_at (h : FVec Ideal S512x1024 .f32) (q : Vec Ideal S512x4096 .bf16) (dn : Vec Ideal S4096x1024 .bf16) (g : Vec Ideal S1x1024 .f32) (y : Fin 512) (d : Fin 1024) :
    k0_pay1 (k0_pay31 h q dn) (k0_pay32 g) (k0_pay33 h q dn) (ix3 0 y d) = Rows.nrm (fun x => k0_pay31 h q dn (ix2 y x)) (fun x => g (ix2 0 x)) d := by
  unfold k0_pay1 k0_pay32 k0_pay33 Rows.nrm
  generalize k0_pay31 h q dn = n
  pointwise

theorem pay7_at (i : grid0.Coords) (y : Fin 512) : k0_pay7 i (ix2 y 0) = IntOp.addi (IntOp.muli (BitVec.ofNat 32 (i 1).val) 512#32) (BitVec.ofNat 32 y.val) := by
  unfold k0_pay7
  pointwise
  rfl

end Cert.Kernel3Ideal.Pool

end
-- ==== Proof.Pool.Ker.lean ====
/- What a grid point of the second layer's call leaves in the result's block and in the carried rows. -/
module

public import proofs.«01_k».proof.Proof.Pool.At
public import proofs.«01_k».proof.Proof.Gen.Kernel3Ideal.Value
public import Idealize.ShloMosaic.Lib.Pipeline.ValueKit
public import Idealize.ShloMosaic.Lib.Pipeline.ReadBack
public import Idealize.ShloMosaic.Lib.WritesUnit

@[expose] public section

set_option maxRecDepth 16384
set_option maxHeartbeats 1000000

noncomputable section

namespace Cert.Kernel3Ideal.Pool

open Idealize.ShloMosaic Idealize.ShloMosaic.TcCoe Idealize.ShloMosaic.Tactic
open Cert.Kernel3Ideal Cert.Kernel3Ideal.Gen

variable (m : (ℓ : Loc nD τ sig) → Buf (Elt Ideal) ℓ) (c : Dev nD)

/-- The block's own rows below the rows the block before left. -/
def ext (P : Fin 128 → Fin 1024 → EReal) (N : FVec Ideal S512x1024 .f32) : Vec Ideal S640x1024 .bf16 := fun i =>
  if h : (i 0).val < 128 then P ⟨(i 0).val, h⟩ (i 1) else N (ix2 (⟨(i 0).val - 128, by have : (i 0).val < 640 := (i 0).isLt; omega⟩ : Fin 512) (i 1 : Fin 1024))

/-- The block before the feed-forward part, given the rows the windows reach. -/
def hmE (t : Fin cfg0.N) (E : Vec Ideal S640x1024 .bf16) : FVec Ideal S512x1024 .f32 :=
  k0_pay20 (k0_pay3 (iblk m c 0 t)) (k0_pay4 (iblk m c 0 t) (iblk m c 1 t)) (k0_pay7 (grid0.coords t))
    (k0_pay10 (k0_pay4 (iblk m c 0 t) (iblk m c 1 t)) (k0_pay7 (grid0.coords t)) (k0_pay8 (View.ld (iblk m c 2 t) (Rect.unit (s := S4x128x256) ![0, 0, 0] ![1, 128, 256] inb_S4x128x256_S1x128x256_0_0_0)) (View.ld E (Rect.unit (s := S640x1024) ![0, 0] ![256, 256] inb_S640x1024_S256x256_0_0))) (k0_pay9 (View.ld (iblk m c 2 t) (Rect.unit (s := S4x128x256) ![0, 0, 0] ![1, 128, 256] inb_S4x128x256_S1x128x256_0_0_0)))
      (View.ld E (Rect.unit (s := S640x1024) ![128, 0] ![256, 256] inb_S640x1024_S256x256_128_0)) (View.ld (iblk m c 2 t) (Rect.unit (s := S4x128x256) ![0, 0, 0] ![1, 128, 256] inb_S4x128x256_S1x128x256_0_0_0)) (View.ld E (Rect.unit (s := S640x1024) ![256, 0] ![256, 256] inb_S640x1024_S256x256_256_0)) (View.ld (iblk m c 2 t) (Rect.unit (s := S4x128x256) ![0, 0, 0] ![1, 128, 256] inb_S4x128x256_S1x128x256_0_0_0)) (View.ld E (Rect.unit (s := S640x1024) ![384, 0] ![256, 256] inb_S640x1024_S256x256_384_0)) (View.ld (iblk m c 3 t) (Rect.unit (s := S4x256x256) ![0, 0, 0] ![1, 256, 256] inb_S4x256x256_S1x256x256_0_0_0)))
    (k0_pay13 (k0_pay4 (iblk m c 0 t) (iblk m c 1 t)) (k0_pay7 (grid0.coords t)) (k0_pay11 (View.ld (iblk m c 2 t) (Rect.unit (s := S4x128x256) ![1, 0, 0] ![1, 128, 256] inb_S4x128x256_S1x128x256_1_0_0)) (View.ld E (Rect.unit (s := S640x1024) ![0, 256] ![256, 256] inb_S640x1024_S256x256_0_256))) (k0_pay12 (View.ld (iblk m c 2 t) (Rect.unit (s := S4x128x256) ![1, 0, 0] ![1, 128, 256] inb_S4x128x256_S1x128x256_1_0_0)))
      (View.ld E (Rect.unit (s := S640x1024) ![128, 256] ![256, 256] inb_S640x1024_S256x256_128_256)) (View.ld (iblk m c 2 t) (Rect.unit (s := S4x128x256) ![1, 0, 0] ![1, 128, 256] inb_S4x128x256_S1x128x256_1_0_0)) (View.ld E (Rect.unit (s := S640x1024) ![256, 256] ![256, 256] inb_S640x1024_S256x256_256_256)) (View.ld (iblk m c 2 t) (Rect.unit (s := S4x128x256) ![1, 0, 0] ![1, 128, 256] inb_S4x128x256_S1x128x256_1_0_0)) (View.ld E (Rect.unit (s := S640x1024) ![384, 256] ![256, 256] inb_S640x1024_S256x256_384_256)) (View.ld (iblk m c 3 t) (Rect.unit (s := S4x256x256) ![1, 0, 0] ![1, 256, 256] inb_S4x256x256_S1x256x256_1_0_0)))
    (k0_pay16 (k0_pay4 (iblk m c 0 t) (iblk m c 1 t)) (k0_pay7 (grid0.coords t)) (k0_pay14 (View.ld (iblk m c 2 t) (Rect.unit (s := S4x128x256) ![2, 0, 0] ![1, 128, 256] inb_S4x128x256_S1x128x256_2_0_0)) (View.ld E (Rect.unit (s := S640x1024) ![0, 512] ![256, 256] inb_S640x1024_S256x256_0_512))) (k0_pay15 (View.ld (iblk m c 2 t) (Rect.unit (s := S4x128x256) ![2, 0, 0] ![1, 128, 256] inb_S4x128x256_S1x128x256_2_0_0)))
      (View.ld E (Rect.unit (s := S640x1024) ![128, 512] ![256, 256] inb_S640x1024_S256x256_128_512)) (View.ld (iblk m c 2 t) (Rect.unit (s := S4x128x256) ![2, 0, 0] ![1, 128, 256] inb_S4x128x256_S1x128x256_2_0_0)) (View.ld E (Rect.unit (s := S640x1024) ![256, 512] ![256, 256] inb_S640x1024_S256x256_256_512)) (View.ld (iblk m c 2 t) (Rect.unit (s := S4x128x256) ![2, 0, 0] ![1, 128, 256] inb_S4x128x256_S1x128x256_2_0_0)) (View.ld E (Rect.unit (s := S640x1024) ![384, 512] ![256, 256] inb_S640x1024_S256x256_384_512)) (View.ld (iblk m c 3 t) (Rect.unit (s := S4x256x256) ![2, 0, 0] ![1, 256, 256] inb_S4x256x256_S1x256x256_2_0_0)))
    (k0_pay17 (View.ld (iblk m c 2 t) (Rect.unit (s := S4x128x256) ![3, 0, 0] ![1, 128, 256] inb_S4x128x256_S1x128x256_3_0_0)) (View.ld E (Rect.unit (s := S640x1024) ![0, 768] ![256, 256] inb_S640x1024_S256x256_0_768))) (k0_pay18 (View.ld (iblk m c 2 t) (Rect.unit (s := S4x128x256) ![3, 0, 0] ![1, 128, 256] inb_S4x128x256_S1x128x256_3_0_0)))
      (View.ld E (Rect.unit (s := S640x1024) ![128, 768] ![256, 256] inb_S640x1024_S256x256_128_768)) (View.ld (iblk m c 2 t) (Rect.unit (s := S4x128x256) ![3, 0, 0] ![1, 128, 256] inb_S4x128x256_S1x128x256_3_0_0)) (View.ld E (Rect.unit (s := S640x1024) ![256, 768] ![256, 256] inb_S640x1024_S256x256_256_768)) (View.ld (iblk m c 2 t) (Rect.unit (s := S4x128x256) ![3, 0, 0] ![1, 128, 256] inb_S4x128x256_S1x128x256_3_0_0)) (View.ld E (Rect.unit (s := S640x1024) ![384, 768] ![256, 256] inb_S640x1024_S256x256_384_768)) (View.ld (iblk m c 3 t) (Rect.unit (s := S4x256x256) ![3, 0, 0] ![1, 256, 256] inb_S4x256x256_S1x256x256_3_0_0)) (iblk m c 4 t)

/-- The block's four groups of mixed columns, given the rows the windows reach. -/
def gr (t : Fin cfg0.N) (E : Vec Ideal S640x1024 .bf16) (y : Fin 512) (x : Fin 256) : Fin 4 → EReal :=
  ![grp 0 2 (k0_pay4 (iblk m c 0 t) (iblk m c 1 t)) (k0_pay7 (grid0.coords t)) (stack (band (View.ld (iblk m c 2 t) (Rect.unit (s := S4x128x256) ![0, 0, 0] ![1, 128, 256] inb_S4x128x256_S1x128x256_0_0_0)) (View.ld E (Rect.unit (s := S640x1024) ![0, 0] ![256, 256] inb_S640x1024_S256x256_0_0))) (band (View.ld (iblk m c 2 t) (Rect.unit (s := S4x128x256) ![0, 0, 0] ![1, 128, 256] inb_S4x128x256_S1x128x256_0_0_0)) (View.ld E (Rect.unit (s := S640x1024) ![128, 0] ![256, 256] inb_S640x1024_S256x256_128_0))) (band (View.ld (iblk m c 2 t) (Rect.unit (s := S4x128x256) ![0, 0, 0] ![1, 128, 256] inb_S4x128x256_S1x128x256_0_0_0)) (View.ld E (Rect.unit (s := S640x1024) ![256, 0] ![256, 256] inb_S640x1024_S256x256_256_0))) (band (View.ld (iblk m c 2 t) (Rect.unit (s := S4x128x256) ![0, 0, 0] ![1, 128, 256] inb_S4x128x256_S1x128x256_0_0_0)) (View.ld E (Rect.unit (s := S640x1024) ![384, 0] ![256, 256] inb_S640x1024_S256x256_384_0)))) (View.ld (iblk m c 3 t) (Rect.unit (s := S4x256x256) ![0, 0, 0] ![1, 256, 256] inb_S4x256x256_S1x256x256_0_0_0)) (by norm_num) y x,
    grp 256 4 (k0_pay4 (iblk m c 0 t) (iblk m c 1 t)) (k0_pay7 (grid0.coords t)) (stack (band (View.ld (iblk m c 2 t) (Rect.unit (s := S4x128x256) ![1, 0, 0] ![1, 128, 256] inb_S4x128x256_S1x128x256_1_0_0)) (View.ld E (Rect.unit (s := S640x1024) ![0, 256] ![256, 256] inb_S640x1024_S256x256_0_256))) (band (View.ld (iblk m c 2 t) (Rect.unit (s := S4x128x256) ![1, 0, 0] ![1, 128, 256] inb_S4x128x256_S1x128x256_1_0_0)) (View.ld E (Rect.unit (s := S640x1024) ![128, 256] ![256, 256] inb_S640x1024_S256x256_128_256))) (band (View.ld (iblk m c 2 t) (Rect.unit (s := S4x128x256) ![1, 0, 0] ![1, 128, 256] inb_S4x128x256_S1x128x256_1_0_0)) (View.ld E (Rect.unit (s := S640x1024) ![256, 256] ![256, 256] inb_S640x1024_S256x256_256_256))) (band (View.ld (iblk m c 2 t) (Rect.unit (s := S4x128x256) ![1, 0, 0] ![1, 128, 256] inb_S4x128x256_S1x128x256_1_0_0)) (View.ld E (Rect.unit (s := S640x1024) ![384, 256] ![256, 256] inb_S640x1024_S256x256_384_256)))) (View.ld (iblk m c 3 t) (Rect.unit (s := S4x256x256) ![1, 0, 0] ![1, 256, 256] inb_S4x256x256_S1x256x256_1_0_0)) (by norm_num) y x,
    grp 512 8 (k0_pay4 (iblk m c 0 t) (iblk m c 1 t)) (k0_pay7 (grid0.coords t)) (stack (band (View.ld (iblk m c 2 t) (Rect.unit (s := S4x128x256) ![2, 0, 0] ![1, 128, 256] inb_S4x128x256_S1x128x256_2_0_0)) (View.ld E (Rect.unit (s := S640x1024) ![0, 512] ![256, 256] inb_S640x1024_S256x256_0_512))) (band (View.ld (iblk m c 2 t) (Rect.unit (s := S4x128x256) ![2, 0, 0] ![1, 128, 256] inb_S4x128x256_S1x128x256_2_0_0)) (View.ld E (Rect.unit (s := S640x1024) ![128, 512] ![256, 256] inb_S640x1024_S256x256_128_512))) (band (View.ld (iblk m c 2 t) (Rect.unit (s := S4x128x256) ![2, 0, 0] ![1, 128, 256] inb_S4x128x256_S1x128x256_2_0_0)) (View.ld E (Rect.unit (s := S640x1024) ![256, 512] ![256, 256] inb_S640x1024_S256x256_256_512))) (band (View.ld (iblk m c 2 t) (Rect.unit (s := S4x128x256) ![2, 0, 0] ![1, 128, 256] inb_S4x128x256_S1x128x256_2_0_0)) (View.ld E (Rect.unit (s := S640x1024) ![384, 512] ![256, 256] inb_S640x1024_S256x256_384_512)))) (View.ld (iblk m c 3 t) (Rect.unit (s := S4x256x256) ![2, 0, 0] ![1, 256, 256] inb_S4x256x256_S1x256x256_2_0_0)) (by norm_num) y x,
    grp 768 16 (k0_pay4 (iblk m c 0 t) (iblk m c 1 t)) (k0_pay7 (grid0.coords t)) (stack (band (View.ld (iblk m c 2 t) (Rect.unit (s := S4x128x256) ![3, 0, 0] ![1, 128, 256] inb_S4x128x256_S1x128x256_3_0_0)) (View.ld E (Rect.unit (s := S640x1024) ![0, 768] ![256, 256] inb_S640x1024_S256x256_0_768))) (band (View.ld (iblk m c 2 t) (Rect.unit (s := S4x128x256) ![3, 0, 0] ![1, 128, 256] inb_S4x128x256_S1x128x256_3_0_0)) (View.ld E (Rect.unit (s := S640x1024) ![128, 768] ![256, 256] inb_S640x1024_S256x256_128_768))) (band (View.ld (iblk m c 2 t) (Rect.unit (s := S4x128x256) ![3, 0, 0] ![1, 128, 256] inb_S4x128x256_S1x128x256_3_0_0)) (View.ld E (Rect.unit (s := S640x1024) ![256, 768] ![256, 256] inb_S640x1024_S256x256_256_768))) (band (View.ld (iblk m c 2 t) (Rect.unit (s := S4x128x256) ![3, 0, 0] ![1, 128, 256] inb_S4x128x256_S1x128x256_3_0_0)) (View.ld E (Rect.unit (s := S640x1024) ![384, 768] ![256, 256] inb_S640x1024_S256x256_384_768)))) (View.ld (iblk m c 3 t) (Rect.unit (s := S4x256x256) ![3, 0, 0] ![1, 256, 256] inb_S4x256x256_S1x256x256_3_0_0)) (by norm_num) y x]

/-- A stored chunk of the squared rectified product, at the column it fills. -/
theorem sq_chunk (n : Vec Ideal S512x1024 .bf16) (u : Vec Ideal S1024x4096 .f32) (o : ℕ) (hin) (x : S512x512.Idx) (y : Fin 512) (e : Fin 4096)
    (h0 : y.val = (x 0).val) (h1 : e.val = o + (x 1).val) :
    sq n (View.ld u (Rect.unit (s := S1024x4096) ![0, o] ![1024, 512] hin)) (x 0) (x 1) = Rows.act (fun x => n (ix2 y x)) (fun x e => u (ix2 x e)) e := by
  have hy : (x 0 : Fin 512) = y := Fin.ext h0.symm
  have hu : ∀ x' : Fin 1024, View.ld u (Rect.unit (s := S1024x4096) ![0, o] ![1024, 512] hin) (ix2 x' (x 1)) = u (ix2 x' e) := fun x' => by
    rw [View.ld_apply]
    refine congrArg u (funext fun a => Fin.ext ?_)
    fin_cases a
    · simp [Rect.idx_unit_val]
    · simp [Rect.idx_unit_val, h1]
  unfold sq Rows.act
  simp only [hu]
  rw [hy]

theorem hmE_at (t : Fin cfg0.N) (E : Vec Ideal S640x1024 .bf16) (y : Fin 512) (g : Fin 4) (x : Fin 256) :
    hmE m c t E (ix2 y (⟨256 * g.val + x.val, by omega⟩ : Fin 1024))
      = (k0_pay3 (iblk m c 0 t) (ix2 y (⟨256 * g.val + x.val, by omega⟩ : Fin 1024)) : EReal) + gr m c t E y x g * (iblk m c 4 t : Vec Ideal S1x1024 .f32) (ix2 0 (⟨256 * g.val + x.val, by omega⟩ : Fin 1024)) := by
  unfold hmE
  rw [pay20_at, beside_at, pay10_at, pay13_at, pay16_at, last_at]
  rfl

theorem pay64 (v3 : Vec Ideal S1x512x1024 .f32) (v5 : Vec Ideal S1x1024 .f32) (x : S512x1024.Idx) : (k0_pay6 v3 v5 x : EReal) = k0_pay4 v3 v5 x :=
  have e : x = ix2 (x 0 : Fin 512) (x 1 : Fin 1024) := by funext a; fin_cases a <;> rfl
  (congrArg (k0_pay6 v3 v5) e).trans ((pay6_at v3 v5 (x 0) (x 1)).trans ((pay4_at v3 v5 (x 0) (x 1)).symm.trans (congrArg (k0_pay4 v3 v5) e.symm)))

theorem ext_lo (P : Fin 128 → Fin 1024 → EReal) (N : FVec Ideal S512x1024 .f32) (i : S640x1024.Idx) (h : (i 0).val < 128) : ext P N i = P ⟨(i 0).val, h⟩ (i 1) := dif_pos h

theorem ext_hi (P : Fin 128 → Fin 1024 → EReal) (N : FVec Ideal S512x1024 .f32) (i : S640x1024.Idx) (x : S512x1024.Idx) (h0 : (i 0).val = 128 + (x 0).val) (h1 : (i 1).val = (x 1).val) : ext P N i = N x := by
  unfold ext
  rw [dif_neg (by omega)]
  refine congrArg N (funext fun a => ?_)
  fin_cases a
  · exact Fin.ext (show (i 0).val - 128 = (x 0).val by omega)
  · exact Fin.ext h1

theorem ext_congr {P P' : Fin 128 → Fin 1024 → EReal} {N N' : FVec Ideal S512x1024 .f32} (hP : ∀ r d, P r d = P' r d) (hN : ∀ x, N x = N' x) : ext P N = ext P' N' := by
  rw [show P = P' from funext fun r => funext fun d => hP r d, show N = N' from funext hN]

/-- The rectangle of the block's own rows. -/
abbrev R1 : Rect S640x1024 := Rect.unit (s := S640x1024) ![128, 0] ![512, 1024] inb_S640x1024_S512x1024_128_0
/-- The rectangle of the rows of the block before. -/
abbrev R0 : Rect S640x1024 := Rect.unit (s := S640x1024) ![0, 0] ![128, 1024] inb_S640x1024_S128x1024_0_0

theorem R1_emb (x : S512x1024.Idx) (i : S640x1024.Idx) (h0 : (i 0).val = 128 + (x 0).val) (h1 : (i 1).val = (x 1).val) : R1.emb x = i := by
  funext a
  refine Fin.ext ?_
  fin_cases a
  · show 128 + 1 * (x 0).val = (i 0).val
    omega
  · show 0 + 1 * (x 1).val = (i 1).val
    omega

theorem R0_emb (x : S128x1024.Idx) (i : S640x1024.Idx) (h0 : (i 0).val = (x 0).val) (h1 : (i 1).val = (x 1).val) : R0.emb x = i := by
  funext a
  refine Fin.ext ?_
  fin_cases a
  · show 0 + 1 * (x 0).val = (i 0).val
    omega
  · show 0 + 1 * (x 1).val = (i 1).val
    omega

theorem R1_off (i : S640x1024.Idx) (h : (i 0).val < 128) : i ∉ R1.set := fun hm => by
  have := ((Rect.mem_set_unit.mp hm) 0).1
  exact absurd (show 128 ≤ (i 0).val from this) (by omega)

theorem R0_off (i : S640x1024.Idx) (h : ¬ (i 0).val < 128) : i ∉ R0.set := fun hm => by
  have := ((Rect.mem_set_unit.mp hm) 0).2
  exact h this

theorem canon2 (w1 : Vec Ideal S512x1024 .bf16) (w0 : Vec Ideal S128x1024 .bf16) :
    View.canon [(⟨R1, w1⟩ : View.Piece (Elt Ideal) S640x1024 .bf16), ⟨R0, w0⟩] = ext (fun r d => w0 (ix2 r d)) w1 := by
  funext i
  have h5 : (i 0).val < 640 := (i 0).isLt
  by_cases h : (i 0).val < 128
  · have e1 := View.canon_cons_emb R0 w0 [] (ix2 (⟨(i 0).val, h⟩ : Fin 128) (i 1 : Fin 1024))
    rw [R0_emb (ix2 (⟨(i 0).val, h⟩ : Fin 128) (i 1 : Fin 1024)) i rfl rfl] at e1
    have e2 := View.canon_cons_of_not_mem (⟨R1, w1⟩ : View.Piece (Elt Ideal) S640x1024 .bf16) [⟨R0, w0⟩] (R1_off i h)
    have e3 := ext_lo (fun r d => w0 (ix2 r d)) w1 i h
    exact e2.trans (e1.trans e3.symm)
  · have hx : (i 0).val = 128 + ((i 0).val - 128) := by omega
    have e1 := View.canon_cons_emb R1 w1 [⟨R0, w0⟩] (ix2 (⟨(i 0).val - 128, by omega⟩ : Fin 512) (i 1 : Fin 1024))
    rw [R1_emb (ix2 (⟨(i 0).val - 128, by omega⟩ : Fin 512) (i 1 : Fin 1024)) i hx rfl] at e1
    have e3 := ext_hi (fun r d => w0 (ix2 r d)) w1 i (ix2 (⟨(i 0).val - 128, by omega⟩ : Fin 512) (i 1 : Fin 1024)) hx rfl
    exact e1.trans e3.symm

theorem writes1 (w1 : Vec Ideal S512x1024 .bf16) (prev : Vec Ideal S640x1024 .bf16) :
    View.read (Elt Ideal) (View.whole cc0_scratch1) ((View.whole cc0_scratch1).writes (Elt Ideal) ((Memref.isWhole_whole cc0_scratch1).unread prev) [⟨R1, w1⟩])
      = ext (fun r d => prev (ix2 (⟨r.val, by omega⟩ : Fin 640) d)) w1 := by
  refine funext fun (i : S640x1024.Idx) => ?_
  refine (View.read_writes_cons_rows (d := ![640, 1024]) (off := ![128, 0]) (size := ![512, 1024]) (o := 128) (W := 512) (View.whole cc0_scratch1) ((Memref.isWhole_whole cc0_scratch1).unread prev) inb_S640x1024_S512x1024_128_0 w1 [] i rfl rfl rfl).trans ?_
  by_cases h : (i 0).val < 128
  · rw [dif_neg (by omega), View.writes_nil, ext_lo _ _ _ h]
    refine (congrFun (Memref.IsWhole.read_unread (Memref.isWhole_whole cc0_scratch1) prev) i).trans (congrArg prev (funext fun a => ?_))
    fin_cases a <;> rfl
  · have h5 : (i 0).val < 640 := (i 0).isLt
    rw [dif_pos ⟨by omega, by omega⟩]
    refine Eq.symm (ext_hi _ w1 i _ ?_ ?_)
    · rw [Rect.unitLocal_val]
      show (i 0).val = 128 + ((i 0).val - 128)
      omega
    · rw [Rect.unitLocal_val]
      rfl

theorem ext_B (t : Fin cfg0.N) (prev : Vec Ideal S640x1024 .bf16) :
    View.read (Elt Ideal) (View.whole cc0_scratch1) ((View.whole cc0_scratch1).writes (Elt Ideal) ((Memref.isWhole_whole cc0_scratch1).unread prev) [⟨R1, k0_pay6 (iblk m c 0 t) (iblk m c 1 t)⟩])
      = ext (fun r d => prev (ix2 (⟨r.val, by omega⟩ : Fin 640) d)) (k0_pay4 (iblk m c 0 t) (iblk m c 1 t)) :=
  (writes1 _ prev).trans (ext_congr (fun _ _ => rfl) (pay64 _ _))

theorem ext_A (t : Fin cfg0.N) :
    View.canon [(⟨R1, k0_pay6 (iblk m c 0 t) (iblk m c 1 t)⟩ : View.Piece (Elt Ideal) S640x1024 .bf16), ⟨R0, (k0_pay2 : FVec Ideal S128x1024 .bf16)⟩]
      = ext (fun _ _ => 0) (k0_pay4 (iblk m c 0 t) (iblk m c 1 t)) :=
  (canon2 _ _).trans (ext_congr pay2_at (pay64 _ _))

/-- What the point before left in the carried rows. -/
def prev (t : Fin cfg0.N) : Vec Ideal S640x1024 .bf16 := (outsAt0 m c (t.val - 1) (lt_of_le_of_lt (Nat.sub_le _ _) t.isLt)).2

/-- The rows the windows of a block not the first of its batch reach. -/
def extB (t : Fin cfg0.N) : Vec Ideal S640x1024 .bf16 := ext (fun r d => prev m c t (ix2 (⟨r.val, by omega⟩ : Fin 640) d)) (k0_pay4 (iblk m c 0 t) (iblk m c 1 t))

/-- The rows the windows of the first block of a batch reach. -/
def extA (t : Fin cfg0.N) : Vec Ideal S640x1024 .bf16 := ext (fun _ _ => 0) (k0_pay4 (iblk m c 0 t) (iblk m c 1 t))

/-- A load of the block's own rows reads no row of the block before. -/
theorem cov_ld (t : Fin cfg0.N) (o0 o1 : ℕ) (hin : ∀ a, ![o0, o1] a + ![256, 256] a ≤ S640x1024.size a) (ho : 128 ≤ o0) :
    (View.whole cc0_scratch1).readCov [(⟨R1, k0_pay6 (iblk m c 0 t) (iblk m c 1 t)⟩ : View.Piece (Elt Ideal) S640x1024 .bf16)] (Rect.unit (s := S640x1024) ![o0, o1] ![256, 256] hin).toLoadRect
      = View.ld (extB m c t) (Rect.unit (s := S640x1024) ![o0, o1] ![256, 256] hin) := by
  rw [View.readCov_eq_canon']
  funext x
  have hx : (((Rect.unit (s := S640x1024) ![o0, o1] ![256, 256] hin).toLoadRect.idx x) 0).val = o0 + (x 0).val := Rect.idx_unit_val _ _ _ x 0
  show View.canon [(⟨R1, k0_pay6 (iblk m c 0 t) (iblk m c 1 t)⟩ : View.Piece (Elt Ideal) S640x1024 .bf16)] ((Rect.unit (s := S640x1024) ![o0, o1] ![256, 256] hin).toLoadRect.idx x) = extB m c t ((Rect.unit (s := S640x1024) ![o0, o1] ![256, 256] hin).toLoadRect.idx x)
  generalize (Rect.unit (s := S640x1024) ![o0, o1] ![256, 256] hin).toLoadRect.idx x = i at hx
  have h5 : (i 0).val < 640 := (i 0).isLt
  have hi : (i 0).val = 128 + ((i 0).val - 128) := by omega
  have e1 := View.canon_cons_emb (Val := Elt Ideal) (e := .bf16) R1 (k0_pay6 (iblk m c 0 t) (iblk m c 1 t)) [] (ix2 (⟨(i 0).val - 128, by omega⟩ : Fin 512) (i 1 : Fin 1024))
  rw [R1_emb (ix2 (⟨(i 0).val - 128, by omega⟩ : Fin 512) (i 1 : Fin 1024)) i hi rfl] at e1
  have e3 := ext_hi (fun r d => prev m c t (ix2 (⟨r.val, by omega⟩ : Fin 640) d)) (k0_pay4 (iblk m c 0 t) (iblk m c 1 t)) i (ix2 (⟨(i 0).val - 128, by omega⟩ : Fin 512) (i 1 : Fin 1024)) hi rfl
  exact e1.trans ((pay64 _ _ _).trans e3.symm)

theorem prev_ld (t : Fin cfg0.N) :
    View.read (Elt Ideal) (View.whole cc0_scratch1) ((View.whole cc0_scratch1).writes (Elt Ideal) ((Memref.isWhole_whole cc0_scratch1).unread (outsAt0 m c (t.val - 1) (lt_of_le_of_lt (Nat.sub_le _ _) t.isLt)).2) [⟨R1, k0_pay6 (iblk m c 0 t) (iblk m c 1 t)⟩])
      = extB m c t := ext_B m c t (prev m c t)

theorem hmE_A (t : Fin cfg0.N) :
    hmE m c t (View.canon [(⟨R1, k0_pay6 (iblk m c 0 t) (iblk m c 1 t)⟩ : View.Piece (Elt Ideal) S640x1024 .bf16), ⟨R0, (k0_pay2 : FVec Ideal S128x1024 .bf16)⟩])
      = hmE m c t (extA m c t) := congrArg (hmE m c t) (ext_A m c t)

theorem out_A (t : Fin cfg0.N) (h0 : t.val % 16 = 0) (y : Fin 512) (d : Fin 1024) :
    (outsAt0 m c t.val t.isLt).1 (ix3 0 y d)
      = Rows.nrm (Rows.mlp (fun x => hmE m c t (extA m c t) (ix2 y x)) (fun x => iblk m c 5 t (ix2 0 x)) (fun x e => iblk m c 6 t (ix2 x e)) (fun e d => iblk m c 7 t (ix2 e d))) (fun x => iblk m c 8 t (ix2 0 x)) d := by
  rw [outsAt0_A m c t h0]
  dsimp only
  frame_out
  generalize hHM : k0_pay20 (F := Ideal) _ _ _ _ _ _ _ _ _ _ _ _ _ _ _ = HM
  have e0 : HM = hmE m c t (extA m c t) := by
    refine Eq.trans ?_ (hmE_A m c t)
    rw [← hHM]
    unfold hmE
    simp only [View.readCov_eq_canon']
    rfl
  rw [← e0, pay1_at]
  refine congrArg (fun h => Rows.nrm h _ d) (funext fun d => ?_)
  rw [pay31_at]
  unfold Rows.mlp
  refine congrArg₂ (· + ·) rfl (Finset.sum_congr rfl fun e _ => congrArg₂ (· * ·) ?_ rfl)
  clear hHM e0
  have en : (fun x => k0_pay21 HM (iblk m c 5 t) (ix2 y x)) = Rows.nrm (fun x => HM (ix2 y x)) (fun x => iblk m c 5 t (ix2 0 x)) := funext fun x => pay21_at _ _ y x
  rw [View.readCov_eq_canon', ← en]
  have ei : ∀ x : S512x512.Idx, x = ix2 (x 0) (x 1) := fun x => by funext a; fin_cases a <;> rfl
  canon_tiles x h
  · exact (congrArg _ (ei x)).trans ((pay30_at _ _ (x 0) (x 1)).trans (sq_chunk _ _ _ _ x y e (by simpa [Rect.idx_unit_val] using h0) (by simpa [Rect.idx_unit_val] using h1)))
  · exact (congrArg _ (ei x)).trans ((pay29_at _ _ (x 0) (x 1)).trans (sq_chunk _ _ _ _ x y e (by simpa [Rect.idx_unit_val] using h0) (by simpa [Rect.idx_unit_val] using h1)))
  · exact (congrArg _ (ei x)).trans ((pay28_at _ _ (x 0) (x 1)).trans (sq_chunk _ _ _ _ x y e (by simpa [Rect.idx_unit_val] using h0) (by simpa [Rect.idx_unit_val] using h1)))
  · exact (congrArg _ (ei x)).trans ((pay27_at _ _ (x 0) (x 1)).trans (sq_chunk _ _ _ _ x y e (by simpa [Rect.idx_unit_val] using h0) (by simpa [Rect.idx_unit_val] using h1)))
  · exact (congrArg _ (ei x)).trans ((pay26_at _ _ (x 0) (x 1)).trans (sq_chunk _ _ _ _ x y e (by simpa [Rect.idx_unit_val] using h0) (by simpa [Rect.idx_unit_val] using h1)))
  · exact (congrArg _ (ei x)).trans ((pay24_at _ _ _ (x 0) (x 1)).trans (sq_chunk _ _ _ _ x y e (by simpa [Rect.idx_unit_val] using h0) (by simpa [Rect.idx_unit_val] using h1)))
  · exact (congrArg _ (ei x)).trans ((pay23_at _ _ _ (x 0) (x 1)).trans (sq_chunk _ _ _ _ x y e (by simpa [Rect.idx_unit_val] using h0) (by simpa [Rect.idx_unit_val] using h1)))
  · exact (congrArg _ (ei x)).trans ((pay22_at _ _ _ (x 0) (x 1)).trans (sq_chunk _ _ _ _ x y e (by simpa [Rect.idx_unit_val] using h0) (by simpa [Rect.idx_unit_val] using h1)))

theorem out_B (t : Fin cfg0.N) (h0 : ¬ t.val % 16 = 0) (y : Fin 512) (d : Fin 1024) :
    (outsAt0 m c t.val t.isLt).1 (ix3 0 y d)
      = Rows.nrm (Rows.mlp (fun x => hmE m c t (extB m c t) (ix2 y x)) (fun x => iblk m c 5 t (ix2 0 x)) (fun x e => iblk m c 6 t (ix2 x e)) (fun e d => iblk m c 7 t (ix2 e d))) (fun x => iblk m c 8 t (ix2 0 x)) d := by
  rw [outsAt0_B m c t h0]
  dsimp only
  frame_out
  generalize hHM : k0_pay20 (F := Ideal) _ _ _ _ _ _ _ _ _ _ _ _ _ _ _ = HM
  have e0 : HM = hmE m c t (extB m c t) := by
    rw [← hHM, prev_ld m c t]
    rw [cov_ld m c t 128 0 inb_S640x1024_S256x256_128_0 (by norm_num)]
    rw [cov_ld m c t 256 0 inb_S640x1024_S256x256_256_0 (by norm_num)]
    rw [cov_ld m c t 384 0 inb_S640x1024_S256x256_384_0 (by norm_num)]
    rw [cov_ld m c t 128 256 inb_S640x1024_S256x256_128_256 (by norm_num)]
    rw [cov_ld m c t 256 256 inb_S640x1024_S256x256_256_256 (by norm_num)]
    rw [cov_ld m c t 384 256 inb_S640x1024_S256x256_384_256 (by norm_num)]
    rw [cov_ld m c t 128 512 inb_S640x1024_S256x256_128_512 (by norm_num)]
    rw [cov_ld m c t 256 512 inb_S640x1024_S256x256_256_512 (by norm_num)]
    rw [cov_ld m c t 384 512 inb_S640x1024_S256x256_384_512 (by norm_num)]
    rw [cov_ld m c t 128 768 inb_S640x1024_S256x256_128_768 (by norm_num)]
    rw [cov_ld m c t 256 768 inb_S640x1024_S256x256_256_768 (by norm_num)]
    rw [cov_ld m c t 384 768 inb_S640x1024_S256x256_384_768 (by norm_num)]
    unfold hmE
    rfl
  rw [← e0, pay1_at]
  refine congrArg (fun h => Rows.nrm h _ d) (funext fun d => ?_)
  rw [pay31_at]
  unfold Rows.mlp
  refine congrArg₂ (· + ·) rfl (Finset.sum_congr rfl fun e _ => congrArg₂ (· * ·) ?_ rfl)
  clear hHM e0
  have en : (fun x => k0_pay21 HM (iblk m c 5 t) (ix2 y x)) = Rows.nrm (fun x => HM (ix2 y x)) (fun x => iblk m c 5 t (ix2 0 x)) := funext fun x => pay21_at _ _ y x
  rw [View.readCov_eq_canon', ← en]
  have ei : ∀ x : S512x512.Idx, x = ix2 (x 0) (x 1) := fun x => by funext a; fin_cases a <;> rfl
  canon_tiles x h
  · exact (congrArg _ (ei x)).trans ((pay30_at _ _ (x 0) (x 1)).trans (sq_chunk _ _ _ _ x y e (by simpa [Rect.idx_unit_val] using h0) (by simpa [Rect.idx_unit_val] using h1)))
  · exact (congrArg _ (ei x)).trans ((pay29_at _ _ (x 0) (x 1)).trans (sq_chunk _ _ _ _ x y e (by simpa [Rect.idx_unit_val] using h0) (by simpa [Rect.idx_unit_val] using h1)))
  · exact (congrArg _ (ei x)).trans ((pay28_at _ _ (x 0) (x 1)).trans (sq_chunk _ _ _ _ x y e (by simpa [Rect.idx_unit_val] using h0) (by simpa [Rect.idx_unit_val] using h1)))
  · exact (congrArg _ (ei x)).trans ((pay27_at _ _ (x 0) (x 1)).trans (sq_chunk _ _ _ _ x y e (by simpa [Rect.idx_unit_val] using h0) (by simpa [Rect.idx_unit_val] using h1)))
  · exact (congrArg _ (ei x)).trans ((pay26_at _ _ (x 0) (x 1)).trans (sq_chunk _ _ _ _ x y e (by simpa [Rect.idx_unit_val] using h0) (by simpa [Rect.idx_unit_val] using h1)))
  · exact (congrArg _ (ei x)).trans ((pay24_at _ _ _ (x 0) (x 1)).trans (sq_chunk _ _ _ _ x y e (by simpa [Rect.idx_unit_val] using h0) (by simpa [Rect.idx_unit_val] using h1)))
  · exact (congrArg _ (ei x)).trans ((pay23_at _ _ _ (x 0) (x 1)).trans (sq_chunk _ _ _ _ x y e (by simpa [Rect.idx_unit_val] using h0) (by simpa [Rect.idx_unit_val] using h1)))
  · exact (congrArg _ (ei x)).trans ((pay22_at _ _ _ (x 0) (x 1)).trans (sq_chunk _ _ _ _ x y e (by simpa [Rect.idx_unit_val] using h0) (by simpa [Rect.idx_unit_val] using h1)))

/-- A point leaves its block's last rows for the point after it. -/
theorem carried_at (t : Fin cfg0.N) (r : Fin 128) (d : Fin 1024) :
    (outsAt0 m c t.val t.isLt).2 (ix2 (⟨r.val, by omega⟩ : Fin 640) d) = (k0_pay19 (k0_pay5 (iblk m c 0 t) (iblk m c 1 t)) (ix2 r d) : EReal) := by
  by_cases h0 : t.val % 16 = 0
  · rw [outsAt0_A m c t h0]
    dsimp only
    frame_out
    refine (congrArg _ (R0_emb (ix2 r d) (ix2 (⟨r.val, by omega⟩ : Fin 640) d) rfl rfl).symm).trans ?_
    exact View.canon_cons_emb R0 _ _ _
  · rw [outsAt0_B m c t h0]
    dsimp only
    frame_out
    refine (congrArg _ (R0_emb (ix2 r d) (ix2 (⟨r.val, by omega⟩ : Fin 640) d) rfl rfl).symm).trans ?_
    exact View.canon_cons_emb R0 _ _ _

end Cert.Kernel3Ideal.Pool

end
-- ==== Proof.Pool.Win.lean ====
/- The second layer's call: its blocks read at an index. -/
module

public import proofs.«01_k».proof.Proof.Pool.Lit
public import proofs.«01_k».proof.Proof.Pool.Ker

@[expose] public section

set_option maxRecDepth 16384

noncomputable section

namespace Cert.Kernel3Ideal.Pool

open Idealize.ShloMosaic Idealize.ShloMosaic.TcCoe
open Idealize.ShloMosaic.Pipeline (Dat Cfg Window)
open Cert.Kernel3Ideal Cert.Kernel3Ideal.Gen

local instance : Facts := Gen.facts

/-- The batch of a grid point and its block of rows. -/
def bt (t : Fin cfg0.N) : Fin 4 := grid0.coords t 0
def br (t : Fin cfg0.N) : Fin 16 := grid0.coords t 1

theorem ind0 : ∀ t : Fin cfg0.N, win0_0.index t = ![(bt t).val, (br t).val, 0] := by decide +kernel
theorem ind1 : ∀ t : Fin cfg0.N, win0_1.index t = ![0, 0] := by decide +kernel
theorem ind2 : ∀ t : Fin cfg0.N, win0_2.index t = ![0, 0, 0] := by decide +kernel
theorem ind3 : ∀ t : Fin cfg0.N, win0_3.index t = ![0, 0, 0] := by decide +kernel
theorem ind4 : ∀ t : Fin cfg0.N, win0_4.index t = ![0, 0] := by decide +kernel
theorem ind5 : ∀ t : Fin cfg0.N, win0_5.index t = ![0, 0] := by decide +kernel
theorem ind6 : ∀ t : Fin cfg0.N, win0_6.index t = ![0, 0] := by decide +kernel
theorem ind7 : ∀ t : Fin cfg0.N, win0_7.index t = ![0, 0] := by decide +kernel
theorem ind8 : ∀ t : Fin cfg0.N, win0_8.index t = ![0, 0] := by decide +kernel
theorem ind9 : ∀ t : Fin cfg0.N, win0_9.index t = ![(bt t).val, (br t).val, 0] := by decide +kernel
theorem cov9 : (cfg0.win 9).Covers := by decide +kernel
theorem bt_val : ∀ t : Fin cfg0.N, (bt t).val = t.val / 16 := by decide +kernel
theorem br_val : ∀ t : Fin cfg0.N, (br t).val = t.val % 16 := by decide +kernel

variable (m : (ℓ : Loc nD τ sig) → Buf (Elt Ideal) ℓ) (c : Dev nD)

/-- The arguments, as functions of an index. -/
abbrev aX : S4x8192x1024.Idx → EReal := m ((c.tc : Thread nD τ).loc main_arg0)
abbrev aM : S1024.Idx → EReal := m ((c.tc : Thread nD τ).loc main_arg1)
abbrev aW : S4x256x256.Idx → EReal := m ((c.tc : Thread nD τ).loc main_arg2)
abbrev aS : S1024.Idx → EReal := m ((c.tc : Thread nD τ).loc main_arg3)
abbrev aG : S1024.Idx → EReal := m ((c.tc : Thread nD τ).loc main_arg4)
abbrev aU : S1024x4096.Idx → EReal := m ((c.tc : Thread nD τ).loc main_arg5)
abbrev aD : S4096x1024.Idx → EReal := m ((c.tc : Thread nD τ).loc main_arg6)
abbrev aF : S1024.Idx → EReal := m ((c.tc : Thread nD τ).loc main_arg7)

theorem row_lt (t : Fin cfg0.N) (y : Fin 512) : (br t).val * 512 + y.val < 8192 := by
  have := (br t).isLt; have := y.isLt; omega

/-- The row of the whole array a block's row is. -/
def row (t : Fin cfg0.N) (y : Fin 512) : Fin 8192 := ⟨(br t).val * 512 + y.val, row_lt t y⟩

theorem v0_at (d : Fin 1024) : (V m c main_v0 : S1x1024.Idx → EReal) (ix2 0 d) = aM m c (ix1 d) := by
  have h : (V m c main_v0 : S1x1024.Idx → EReal) = shapeCast S1x1024 (aM m c) shapeCasts_S1024_S1x1024 := by
    unfold V hostOps0
    after_results
    rfl
  rw [h]
  generalize aM m c = w
  pointwise

theorem v2_at (d : Fin 1024) : (V m c main_v2 : S1x1024.Idx → EReal) (ix2 0 d) = aS m c (ix1 d) := by
  have h : (V m c main_v2 : S1x1024.Idx → EReal) = shapeCast S1x1024 (aS m c) shapeCasts_S1024_S1x1024 := by
    unfold V hostOps0
    after_results
    rfl
  rw [h]
  generalize aS m c = w
  pointwise

theorem v3_at (d : Fin 1024) : (V m c main_v3 : S1x1024.Idx → EReal) (ix2 0 d) = aG m c (ix1 d) := by
  have h : (V m c main_v3 : S1x1024.Idx → EReal) = shapeCast S1x1024 (aG m c) shapeCasts_S1024_S1x1024 := by
    unfold V hostOps0
    after_results
    rfl
  rw [h]
  generalize aG m c = w
  pointwise

theorem v5_at (d : Fin 1024) : (V m c main_v5 : S1x1024.Idx → EReal) (ix2 0 d) = aF m c (ix1 d) := by
  have h : (V m c main_v5 : S1x1024.Idx → EReal) = shapeCast S1x1024 (aF m c) shapeCasts_S1024_S1x1024 := by
    unfold V hostOps0
    after_results
    rfl
  rw [h]
  generalize aF m c = w
  pointwise

theorem v1_at (g : Fin 4) (e d : Fin 256) : (V m c main_v1 : S4x256x256.Idx → EReal) (ix3 g e d) = aW m c (ix3 g e d) := by
  have h : (V m c main_v1 : S4x256x256.Idx → EReal) = truncf (F := Ideal) .bf16 (aW m c : FVec Ideal S4x256x256 .f32) bitsLt_bf16_f32 := by
    unfold V hostOps0
    after_results
  rw [h]
  generalize aW m c = w
  pointwise

theorem v4_at (e : Fin 4096) (d : Fin 1024) : (V m c main_v4 : S4096x1024.Idx → EReal) (ix2 e d) = aD m c (ix2 e d) := by
  have h : (V m c main_v4 : S4096x1024.Idx → EReal) = truncf (F := Ideal) .bf16 (aD m c : FVec Ideal S4096x1024 .f32) bitsLt_bf16_f32 := by
    unfold V hostOps0
    after_results
  rw [h]
  generalize aD m c = w
  pointwise

theorem cst_at (g : Fin 4) (r : Fin 128) (k : Fin 256) :
    (V m c main_cst : S4x128x256.Idx → EReal) (ix3 g r k) = if k.val ≤ 128 + r.val ∧ 128 + r.val < k.val + 2 ^ (g.val + 1) then (1 : EReal) else 0 := by
  have h : (V m c main_cst : S4x128x256.Idx → EReal) = fun i => FloatOps.ofBits (F := Ideal) .bf16 (lit0 (S4x128x256.rowMajor i)) := by
    unfold V hostOps0
    after_results
    rfl
  exact (congrFun h _).trans (lit_at g r k)

theorem blk0 (t : Fin cfg0.N) (y : Fin 512) (d : Fin 1024) : iblk m c 0 t (ix3 (0 : Fin 1) y d) = aX m c (ix3 (bt t) (row t y) d) := by
  unfold iblk
  rw [View.read]
  refine (congrFun (V_main_arg0 m c) _).trans (congrArg (aX m c) (funext fun a => Fin.ext ?_))
  fin_cases a <;> (blk_simp [ind0]; simp [row])

theorem blk1 (t : Fin cfg0.N) (d : Fin 1024) : iblk m c 1 t (ix2 (0 : Fin 1) d) = aM m c (ix1 d) := by
  unfold iblk
  rw [View.read]
  refine (congrArg (V m c main_v0 : S1x1024.Idx → EReal) (funext fun a => Fin.ext ?_)).trans (v0_at m c d)
  fin_cases a <;> blk_simp [ind1]

theorem blk4 (t : Fin cfg0.N) (d : Fin 1024) : iblk m c 4 t (ix2 (0 : Fin 1) d) = aS m c (ix1 d) := by
  unfold iblk
  rw [View.read]
  refine (congrArg (V m c main_v2 : S1x1024.Idx → EReal) (funext fun a => Fin.ext ?_)).trans (v2_at m c d)
  fin_cases a <;> blk_simp [ind4]

theorem blk5 (t : Fin cfg0.N) (d : Fin 1024) : iblk m c 5 t (ix2 (0 : Fin 1) d) = aG m c (ix1 d) := by
  unfold iblk
  rw [View.read]
  refine (congrArg (V m c main_v3 : S1x1024.Idx → EReal) (funext fun a => Fin.ext ?_)).trans (v3_at m c d)
  fin_cases a <;> blk_simp [ind5]

theorem blk8 (t : Fin cfg0.N) (d : Fin 1024) : iblk m c 8 t (ix2 (0 : Fin 1) d) = aF m c (ix1 d) := by
  unfold iblk
  rw [View.read]
  refine (congrArg (V m c main_v5 : S1x1024.Idx → EReal) (funext fun a => Fin.ext ?_)).trans (v5_at m c d)
  fin_cases a <;> blk_simp [ind8]

theorem blk2 (t : Fin cfg0.N) (g : Fin 4) (r : Fin 128) (k : Fin 256) :
    iblk m c 2 t (ix3 g r k) = if k.val ≤ 128 + r.val ∧ 128 + r.val < k.val + 2 ^ (g.val + 1) then (1 : EReal) else 0 := by
  unfold iblk
  rw [View.read]
  refine (congrArg (V m c main_cst : S4x128x256.Idx → EReal) (funext fun a => Fin.ext ?_)).trans (cst_at m c g r k)
  fin_cases a <;> blk_simp [ind2]

theorem blk3 (t : Fin cfg0.N) (g : Fin 4) (e d : Fin 256) : iblk m c 3 t (ix3 g e d) = aW m c (ix3 g e d) := by
  unfold iblk
  rw [View.read]
  refine (congrArg (V m c main_v1 : S4x256x256.Idx → EReal) (funext fun a => Fin.ext ?_)).trans (v1_at m c g e d)
  fin_cases a <;> blk_simp [ind3]

theorem blk6 (t : Fin cfg0.N) (e : Fin 1024) (d : Fin 4096) : iblk m c 6 t (ix2 e d) = aU m c (ix2 e d) := by
  unfold iblk
  rw [View.read]
  refine (congrFun (V_main_arg5 m c) _).trans (congrArg (aU m c) (funext fun a => Fin.ext ?_))
  fin_cases a <;> blk_simp [ind6]

theorem blk7 (t : Fin cfg0.N) (e : Fin 4096) (d : Fin 1024) : iblk m c 7 t (ix2 e d) = aD m c (ix2 e d) := by
  unfold iblk
  rw [View.read]
  refine (congrArg (V m c main_v4 : S4096x1024.Idx → EReal) (funext fun a => Fin.ext ?_)).trans (v4_at m c e d)
  fin_cases a <;> blk_simp [ind7]

end Cert.Kernel3Ideal.Pool

end
-- ==== Proof.Pool.Mix.lean ====
/- The second layer's call: its result, index by index. -/
module

public import proofs.«01_k».proof.Proof.Pool.Win

@[expose] public section

set_option maxRecDepth 16384

noncomputable section

namespace Cert.Kernel3Ideal.Pool

open Idealize.ShloMosaic Idealize.ShloMosaic.TcCoe
open Idealize.ShloMosaic.Pipeline (Dat Cfg Window)
open Cert.Kernel3Ideal Cert.Kernel3Ideal.Gen

local instance : Facts := Gen.facts

variable (m : (ℓ : Loc nD τ sig) → Buf (Elt Ideal) ℓ) (c : Dev nD)

/-- The normed stream. -/
def nK (b : Fin 4) (y : Fin 8192) (d : Fin 1024) : EReal := Rows.nrm (fun x => aX m c (ix3 b y x)) (fun x => aM m c (ix1 x)) d

theorem pay4_row (t : Fin cfg0.N) (y : Fin 512) (d : Fin 1024) : k0_pay4 (iblk m c 0 t) (iblk m c 1 t) (ix2 y d) = nK m c (bt t) (row t y) d := by
  rw [pay4_at]
  simp only [blk0, blk1]
  rfl

/-- The rows a window reaches are the whole stream's rows before the row, zero before the first. -/
def Good (t : Fin cfg0.N) (E : Vec Ideal S640x1024 .bf16) : Prop :=
  ∀ (y : Fin 512) (l : ℕ) (_ : l < 128) (d : Fin 1024), (E (ix2 (⟨128 + y.val - l, by omega⟩ : Fin 640) d) : EReal) = Rows.lagged (fun y' => nK m c (bt t) y' d) (row t y) l

theorem hi_row (t : Fin cfg0.N) (P : Fin 128 → Fin 1024 → EReal) (y : Fin 512) (l : ℕ) (d : Fin 1024) (h : l ≤ y.val) :
    ext P (k0_pay4 (iblk m c 0 t) (iblk m c 1 t)) (ix2 (⟨128 + y.val - l, by omega⟩ : Fin 640) d) = Rows.lagged (fun y' => nK m c (bt t) y' d) (row t y) l := by
  have hl : l ≤ (row t y).val := by
    show l ≤ (br t).val * 512 + y.val
    omega
  rw [ext_hi P _ (ix2 (⟨128 + y.val - l, by omega⟩ : Fin 640) d) (ix2 (⟨y.val - l, by omega⟩ : Fin 512) d) (show 128 + y.val - l = 128 + (y.val - l) by omega) rfl, pay4_row]
  unfold Rows.lagged
  rw [dif_pos hl]
  refine congrArg (fun y' => nK m c (bt t) y' d) (Fin.ext ?_)
  show (br t).val * 512 + (y.val - l) = (br t).val * 512 + y.val - l
  omega

theorem good_A (t : Fin cfg0.N) (h0 : t.val % 16 = 0) : Good m c t (extA m c t) := fun y l hl d => by
  by_cases h : l ≤ y.val
  · exact hi_row m c t _ y l d h
  · have hb := br_val t
    have hn : ¬ l ≤ (row t y).val := by
      show ¬ l ≤ (br t).val * 512 + y.val
      omega
    unfold extA
    rw [ext_lo _ _ (ix2 (⟨128 + y.val - l, by omega⟩ : Fin 640) d) (show 128 + y.val - l < 128 by omega)]
    unfold Rows.lagged
    rw [dif_neg hn]

theorem good_B (t : Fin cfg0.N) (h0 : ¬ t.val % 16 = 0) : Good m c t (extB m c t) := fun y l hl d => by
  by_cases h : l ≤ y.val
  · exact hi_row m c t _ y l d h
  · have hb := br_val t
    have hlt : t.val - 1 < cfg0.N := lt_of_le_of_lt (Nat.sub_le _ _) t.isLt
    have hb' := br_val ⟨t.val - 1, hlt⟩
    have hc := bt_val t
    have hc' := bt_val ⟨t.val - 1, hlt⟩
    simp only [] at hb' hc'
    have hn : l ≤ (row t y).val := by
      show l ≤ (br t).val * 512 + y.val
      omega
    unfold extB
    rw [ext_lo _ _ (ix2 (⟨128 + y.val - l, by omega⟩ : Fin 640) d) (show 128 + y.val - l < 128 by omega)]
    refine (carried_at m c ⟨t.val - 1, hlt⟩ (⟨128 + y.val - l, by omega⟩ : Fin 128) d).trans ?_
    rw [pay19_at]
    simp only [blk0, blk1]
    unfold Rows.lagged
    rw [dif_pos hn]
    have e1 : bt ⟨t.val - 1, hlt⟩ = bt t := Fin.ext (by omega)
    have e2 : row ⟨t.val - 1, hlt⟩ (⟨384 + (128 + y.val - l), by omega⟩ : Fin 512) = ⟨(row t y).val - l, by omega⟩ := Fin.ext (by
      show (br ⟨t.val - 1, hlt⟩).val * 512 + (384 + (128 + y.val - l)) = (br t).val * 512 + y.val - l
      omega)
    rw [e1, e2]
    rfl

theorem ld2 (E : Vec Ideal S640x1024 .bf16) (o0 o1 : ℕ) (hin : ∀ a, ![o0, o1] a + ![256, 256] a ≤ S640x1024.size a) (h0 : o0 + 256 ≤ 640) (h1 : o1 + 256 ≤ 1024) (j x : Fin 256) :
    View.ld E (Rect.unit (s := S640x1024) ![o0, o1] ![256, 256] hin) (ix2 j x) = E (ix2 (⟨o0 + j.val, by omega⟩ : Fin 640) (⟨o1 + x.val, by omega⟩ : Fin 1024)) := by
  rw [View.ld_apply]
  refine congrArg E (funext fun a => Fin.ext ?_)
  fin_cases a <;> simp [Rect.idx_unit_val]

theorem ld3 (B : Vec Ideal S4x128x256 .bf16) (g : ℕ) (hg : g < 4) (hin : ∀ a, ![g, 0, 0] a + ![1, 128, 256] a ≤ S4x128x256.size a) (r : Fin 128) (k : Fin 256) :
    View.ld B (Rect.unit (s := S4x128x256) ![g, 0, 0] ![1, 128, 256] hin) (ix3 0 r k) = B (ix3 (⟨g, hg⟩ : Fin 4) r k) := by
  rw [View.ld_apply]
  refine congrArg B (funext fun a => Fin.ext ?_)
  fin_cases a <;> simp [Rect.idx_unit_val]

theorem ld3w (B : Vec Ideal S4x256x256 .bf16) (g : ℕ) (hg : g < 4) (hin : ∀ a, ![g, 0, 0] a + ![1, 256, 256] a ≤ S4x256x256.size a) (r k : Fin 256) :
    View.ld B (Rect.unit (s := S4x256x256) ![g, 0, 0] ![1, 256, 256] hin) (ix3 0 r k) = B (ix3 (⟨g, hg⟩ : Fin 4) r k) := by
  rw [View.ld_apply]
  refine congrArg B (funext fun a => Fin.ext ?_)
  fin_cases a <;> simp [Rect.idx_unit_val]

/-- The windows' sums of a block. -/
theorem win_at (t : Fin cfg0.N) (E : Vec Ideal S640x1024 .bf16) (hE : Good m c t E) (g : Fin 4) (b : Vec Ideal S1x128x256 .bf16)
    (hb : ∀ (r : Fin 128) (k : Fin 256), (b (ix3 0 r k) : EReal) = if k.val ≤ 128 + r.val ∧ 128 + r.val < k.val + 2 ^ (g.val + 1) then (1 : EReal) else 0)
    (e0 e1 e2 e3 : Vec Ideal S256x256 .bf16)
    (h0 : ∀ j x : Fin 256, (e0 (ix2 j x) : EReal) = E (ix2 (⟨0 + j.val, by omega⟩ : Fin 640) (⟨256 * g.val + x.val, by omega⟩ : Fin 1024)))
    (h1 : ∀ j x : Fin 256, (e1 (ix2 j x) : EReal) = E (ix2 (⟨128 + j.val, by omega⟩ : Fin 640) (⟨256 * g.val + x.val, by omega⟩ : Fin 1024)))
    (h2 : ∀ j x : Fin 256, (e2 (ix2 j x) : EReal) = E (ix2 (⟨256 + j.val, by omega⟩ : Fin 640) (⟨256 * g.val + x.val, by omega⟩ : Fin 1024)))
    (h3 : ∀ j x : Fin 256, (e3 (ix2 j x) : EReal) = E (ix2 (⟨384 + j.val, by omega⟩ : Fin 640) (⟨256 * g.val + x.val, by omega⟩ : Fin 1024)))
    (y : Fin 512) (x : Fin 256) :
    stack (band b e0) (band b e1) (band b e2) (band b e3) (ix2 y x)
      = ∑ l ∈ Finset.range (2 ^ (g.val + 1)), Rows.lagged (fun y' => nK m c (bt t) y' (⟨256 * g.val + x.val, by omega⟩ : Fin 1024)) (row t y) l := by
  have hw : 2 ^ (g.val + 1) ≤ 16 := by fin_cases g <;> norm_num
  obtain ⟨k, hk⟩ : ∃ k : Fin 4, k.val = y.val / 128 := ⟨⟨y.val / 128, by omega⟩, rfl⟩
  obtain ⟨r, hr⟩ : ∃ r : Fin 128, r.val = y.val % 128 := ⟨⟨y.val % 128, by omega⟩, rfl⟩
  have ey : y = (⟨128 * k.val + r.val, by omega⟩ : Fin 512) := Fin.ext (by show y.val = 128 * k.val + r.val; omega)
  let f : Fin 4 → ℕ → EReal := fun k j => if h : 128 * k.val + j < 640 then E (ix2 (⟨128 * k.val + j, h⟩ : Fin 640) (⟨256 * g.val + x.val, by omega⟩ : Fin 1024)) else 0
  have hfv : ∀ (k : Fin 4) (j : ℕ) (h : 128 * k.val + j < 640), f k j = E (ix2 (⟨128 * k.val + j, h⟩ : Fin 640) (⟨256 * g.val + x.val, by omega⟩ : Fin 1024)) := fun k j h => dif_pos h
  have hf : ∀ k : Fin 4, (![band b e0 (ix2 r x), band b e1 (ix2 r x), band b e2 (ix2 r x), band b e3 (ix2 r x)] : Fin 4 → EReal) k
      = ∑ j : Fin 256, (if j.val ≤ 128 + r.val ∧ 128 + r.val < j.val + 2 ^ (g.val + 1) then (1 : EReal) else 0) * f k j.val := by
    intro k
    fin_cases k
    · exact (band_at b e0 r x).trans (Finset.sum_congr rfl fun j _ => congrArg₂ (· * ·) (hb r j) ((h0 j x).trans (hfv 0 j.val (show 128 * 0 + j.val < 640 by omega)).symm))
    · exact (band_at b e1 r x).trans (Finset.sum_congr rfl fun j _ => congrArg₂ (· * ·) (hb r j) ((h1 j x).trans (hfv 1 j.val (show 128 * 1 + j.val < 640 by omega)).symm))
    · exact (band_at b e2 r x).trans (Finset.sum_congr rfl fun j _ => congrArg₂ (· * ·) (hb r j) ((h2 j x).trans (hfv 2 j.val (show 128 * 2 + j.val < 640 by omega)).symm))
    · exact (band_at b e3 r x).trans (Finset.sum_congr rfl fun j _ => congrArg₂ (· * ·) (hb r j) ((h3 j x).trans (hfv 3 j.val (show 128 * 3 + j.val < 640 by omega)).symm))
  have e := stack_at (band b e0) (band b e1) (band b e2) (band b e3) k r x
  rw [← ey, hf k, Rows.band_sum (f k) r.val (2 ^ (g.val + 1)) r.isLt (by omega)] at e
  rw [e]
  refine Finset.sum_congr rfl fun l hl => ?_
  have hl' := Finset.mem_range.mp hl
  rw [← hE y l (by omega)]
  show (if h : 128 * k.val + (128 + r.val - l) < 640 then E (ix2 (⟨128 * k.val + (128 + r.val - l), h⟩ : Fin 640) (⟨256 * g.val + x.val, by omega⟩ : Fin 1024)) else 0) = _
  rw [dif_pos (by omega)]
  exact congrArg (fun q : Fin 640 => E (ix2 q (⟨256 * g.val + x.val, by omega⟩ : Fin 1024))) (Fin.ext (by show 128 * k.val + (128 + r.val - l) = 128 + y.val - l; omega))

/-- One group's mixed columns are the trailing windows' means through the group's matrix. -/
theorem grp_mix (t : Fin cfg0.N) (g : Fin 4) (o w : ℕ) (eo : o = 256 * g.val) (ew : w = 2 ^ (g.val + 1)) (W : FVec Ideal S512x256 .f32)
    (hW : ∀ (y : Fin 512) (x : Fin 256), (W (ix2 y x) : EReal) = ∑ l ∈ Finset.range (2 ^ (g.val + 1)), Rows.lagged (fun y' => nK m c (bt t) y' (⟨256 * g.val + x.val, by omega⟩ : Fin 1024)) (row t y) l)
    (pw : Vec Ideal S1x256x256 .bf16) (hpw : ∀ e d : Fin 256, (pw (ix3 0 e d) : EReal) = aW m c (ix3 g e d)) (ho : o + 256 ≤ 1024) (y : Fin 512) (x : Fin 256) :
    grp o w (k0_pay4 (iblk m c 0 t) (iblk m c 1 t)) (k0_pay7 (grid0.coords t)) W pw ho y x
      = Rows.mix (nK m c (bt t)) (fun g e d => aW m c (ix3 g e d)) (row t y) g x := by
  subst eo ew
  have hw : 2 ^ (g.val + 1) ≤ 16 := by fin_cases g <;> norm_num
  unfold grp Rows.mix Rows.pooled
  refine Finset.sum_congr rfl fun e _ => ?_
  rw [hW, hpw, pay7_at, pay4_row]
  rw [Rows.minsi_row (grid0.coords t 1).val y.val _ (grid0.coords t 1).isLt y.isLt (by omega)]
  rfl

theorem gr_at (t : Fin cfg0.N) (E : Vec Ideal S640x1024 .bf16) (hE : Good m c t E) (y : Fin 512) (x : Fin 256) (g : Fin 4) :
    gr m c t E y x g = Rows.mix (nK m c (bt t)) (fun g e d => aW m c (ix3 g e d)) (row t y) g x := by
  unfold gr
  fin_cases g
  · exact grp_mix m c t 0 0 2 rfl rfl _ (fun y x => win_at m c t E hE 0 _ (fun r k => (ld3 _ 0 (by omega) _ r k).trans (blk2 m c t 0 r k)) _ _ _ _
      (fun j x => ld2 E 0 0 _ (by omega) (by omega) j x) (fun j x => ld2 E 128 0 _ (by omega) (by omega) j x)
      (fun j x => ld2 E 256 0 _ (by omega) (by omega) j x) (fun j x => ld2 E 384 0 _ (by omega) (by omega) j x) y x) _
      (fun e d => (ld3w _ 0 (by omega) _ e d).trans (blk3 m c t 0 e d)) (by norm_num) y x
  · exact grp_mix m c t 1 256 4 rfl rfl _ (fun y x => win_at m c t E hE 1 _ (fun r k => (ld3 _ 1 (by omega) _ r k).trans (blk2 m c t 1 r k)) _ _ _ _
      (fun j x => ld2 E 0 256 _ (by omega) (by omega) j x) (fun j x => ld2 E 128 256 _ (by omega) (by omega) j x)
      (fun j x => ld2 E 256 256 _ (by omega) (by omega) j x) (fun j x => ld2 E 384 256 _ (by omega) (by omega) j x) y x) _
      (fun e d => (ld3w _ 1 (by omega) _ e d).trans (blk3 m c t 1 e d)) (by norm_num) y x
  · exact grp_mix m c t 2 512 8 rfl rfl _ (fun y x => win_at m c t E hE 2 _ (fun r k => (ld3 _ 2 (by omega) _ r k).trans (blk2 m c t 2 r k)) _ _ _ _
      (fun j x => ld2 E 0 512 _ (by omega) (by omega) j x) (fun j x => ld2 E 128 512 _ (by omega) (by omega) j x)
      (fun j x => ld2 E 256 512 _ (by omega) (by omega) j x) (fun j x => ld2 E 384 512 _ (by omega) (by omega) j x) y x) _
      (fun e d => (ld3w _ 2 (by omega) _ e d).trans (blk3 m c t 2 e d)) (by norm_num) y x
  · exact grp_mix m c t 3 768 16 rfl rfl _ (fun y x => win_at m c t E hE 3 _ (fun r k => (ld3 _ 3 (by omega) _ r k).trans (blk2 m c t 3 r k)) _ _ _ _
      (fun j x => ld2 E 0 768 _ (by omega) (by omega) j x) (fun j x => ld2 E 128 768 _ (by omega) (by omega) j x)
      (fun j x => ld2 E 256 768 _ (by omega) (by omega) j x) (fun j x => ld2 E 384 768 _ (by omega) (by omega) j x) y x) _
      (fun e d => (ld3w _ 3 (by omega) _ e d).trans (blk3 m c t 3 e d)) (by norm_num) y x

/-- The stream after the pooling part. -/
def hK (b : Fin 4) (y : Fin 8192) (d : Fin 1024) : EReal :=
  aX m c (ix3 b y d) + Rows.mix (nK m c b) (fun g e d => aW m c (ix3 g e d)) y (⟨d.val / 256, by omega⟩ : Fin 4) (⟨d.val % 256, by omega⟩ : Fin 256) * aS m c (ix1 d)

theorem hmE_row (t : Fin cfg0.N) (E : Vec Ideal S640x1024 .bf16) (hE : Good m c t E) (y : Fin 512) (d : Fin 1024) : hmE m c t E (ix2 y d) = hK m c (bt t) (row t y) d := by
  have ed : d = (⟨256 * (⟨d.val / 256, by omega⟩ : Fin 4).val + (⟨d.val % 256, by omega⟩ : Fin 256).val, by simp only []; omega⟩ : Fin 1024) := Fin.ext (by show d.val = 256 * (d.val / 256) + d.val % 256; omega)
  have e := hmE_at m c t E y (⟨d.val / 256, by omega⟩ : Fin 4) (⟨d.val % 256, by omega⟩ : Fin 256)
  rw [← ed, gr_at m c t E hE, pay3_at, blk0, blk4] at e
  exact e

/-- The call's result, index by index. -/
def G : S4x8192x1024.Idx → EReal := fun i =>
  Rows.nrm (Rows.mlp (hK m c (i 0) (i 1)) (fun x => aG m c (ix1 x)) (fun x e => aU m c (ix2 x e)) (fun e d => aD m c (ix2 e d))) (fun x => aF m c (ix1 x)) (i 2)

theorem out_eq (t : Fin cfg0.N) (y : Fin 512) (d : Fin 1024) : (outsAt0 m c t.val t.isLt).1 (ix3 (0 : Fin 1) y d) = G m c (ix3 (bt t) (row t y) d) := by
  by_cases h0 : t.val % 16 = 0
  · rw [out_A m c t h0]
    simp only [hmE_row m c t _ (good_A m c t h0), blk5, blk6, blk7, blk8]
    rfl
  · rw [out_B m c t h0]
    simp only [hmE_row m c t _ (good_B m c t h0), blk5, blk6, blk7, blk8]
    rfl

theorem arr9_eq : (dats m 0 c).arrAt 9 cfg0.N = G m c := by
  refine (dats m 0 c).arrAt_eq_of_covers 9 _ cov9 fun t hf y => ?_
  blk_simp
  rw [after0_9]
  have e : (fun a => y a : S1x512x1024.Idx) = ix3 (0 : Fin 1) (y 1) (y 2) := by
    funext a
    fin_cases a
    · exact Subsingleton.elim (α := Fin 1) _ _
    · rfl
    · rfl
  refine (congrArg (outsAt0 m c t.val t.isLt).1 e).trans ((out_eq m c t (y 1) (y 2)).trans (congrArg (G m c) (funext fun a => Fin.ext ?_)))
  fin_cases a
  · blk_simp [ind9]; have h : (y 0).val < 1 := (y 0).isLt; simpa using h
  · blk_simp [ind9]; simp [row]
  · blk_simp [ind9]; simp

end Cert.Kernel3Ideal.Pool

end
-- ==== Proof.Pool.RefAt.lean ====
/- The reference's second layer, read at an index. -/
module

public import proofs.«01_k».proof.Proof.Gen.Reference3Ideal.Run
public import proofs.«01_k».proof.Proof.Rows
public import Idealize.ShloMosaic.Lib.Pointwise
public import Idealize.ShloMosaic.Lib.IdealHost
public import Idealize.ShloMosaic.Lib.WordCmp
public import Idealize.ShloMosaic.Lib.Tactic.CleanTypes

@[expose] public section

set_option maxRecDepth 16384

noncomputable section

namespace Cert.Reference3Ideal.Value

open Idealize.ShloMosaic Idealize.ShloMosaic.TcCoe Idealize.ShloMosaic.StableHlo
open Cert.Reference3Ideal Cert.Reference3Ideal.Gen

/-- The rows moved down by 1. -/
def lag1 (u : FVec Ideal S4x8192x256 .f32) : FVec Ideal S4x8192x256 .f32 :=
  extractStridedSlice S4x8192x256 ![0, 0, 0] (pad S4x8193x256 ![0, 1, 0] ![0, 0, 0] ![0, 0, 0] u (sitofp .f32 (constantI S_ 32 0#32)) pads_S4x8192x256_S4x8193x256_000_100_000 h_S_) slices_S4x8193x256_S4x8192x256_0_0_0

theorem lag1_at (u : FVec Ideal S4x8192x256 .f32) (b : Fin 4) (y : Fin 8192) (d : Fin 256) : lag1 u (ix3 b y d) = Rows.lagged (fun y => u (ix3 b y d)) y 1 := by
  unfold lag1 Rows.lagged
  pointwise
  by_cases h : 1 ≤ y.val
  · rw [dif_pos ⟨h, by omega⟩, dif_pos h]
  · rw [dif_neg (fun hh => h hh.1), dif_neg h]
    exact Rows.toFloat_zero

/-- The rows moved down by 2. -/
def lag2 (u : FVec Ideal S4x8192x256 .f32) : FVec Ideal S4x8192x256 .f32 :=
  extractStridedSlice S4x8192x256 ![0, 0, 0] (pad S4x8194x256 ![0, 2, 0] ![0, 0, 0] ![0, 0, 0] u (sitofp .f32 (constantI S_ 32 0#32)) pads_S4x8192x256_S4x8194x256_000_200_000 h_S_) slices_S4x8194x256_S4x8192x256_0_0_0

theorem lag2_at (u : FVec Ideal S4x8192x256 .f32) (b : Fin 4) (y : Fin 8192) (d : Fin 256) : lag2 u (ix3 b y d) = Rows.lagged (fun y => u (ix3 b y d)) y 2 := by
  unfold lag2 Rows.lagged
  pointwise
  by_cases h : 2 ≤ y.val
  · rw [dif_pos ⟨h, by omega⟩, dif_pos h]
  · rw [dif_neg (fun hh => h hh.1), dif_neg h]
    exact Rows.toFloat_zero

/-- The rows moved down by 3. -/
def lag3 (u : FVec Ideal S4x8192x256 .f32) : FVec Ideal S4x8192x256 .f32 :=
  extractStridedSlice S4x8192x256 ![0, 0, 0] (pad S4x8195x256 ![0, 3, 0] ![0, 0, 0] ![0, 0, 0] u (sitofp .f32 (constantI S_ 32 0#32)) pads_S4x8192x256_S4x8195x256_000_300_000 h_S_) slices_S4x8195x256_S4x8192x256_0_0_0

theorem lag3_at (u : FVec Ideal S4x8192x256 .f32) (b : Fin 4) (y : Fin 8192) (d : Fin 256) : lag3 u (ix3 b y d) = Rows.lagged (fun y => u (ix3 b y d)) y 3 := by
  unfold lag3 Rows.lagged
  pointwise
  by_cases h : 3 ≤ y.val
  · rw [dif_pos ⟨h, by omega⟩, dif_pos h]
  · rw [dif_neg (fun hh => h hh.1), dif_neg h]
    exact Rows.toFloat_zero

/-- The rows moved down by 4. -/
def lag4 (u : FVec Ideal S4x8192x256 .f32) : FVec Ideal S4x8192x256 .f32 :=
  extractStridedSlice S4x8192x256 ![0, 0, 0] (pad S4x8196x256 ![0, 4, 0] ![0, 0, 0] ![0, 0, 0] u (sitofp .f32 (constantI S_ 32 0#32)) pads_S4x8192x256_S4x8196x256_000_400_000 h_S_) slices_S4x8196x256_S4x8192x256_0_0_0

theorem lag4_at (u : FVec Ideal S4x8192x256 .f32) (b : Fin 4) (y : Fin 8192) (d : Fin 256) : lag4 u (ix3 b y d) = Rows.lagged (fun y => u (ix3 b y d)) y 4 := by
  unfold lag4 Rows.lagged
  pointwise
  by_cases h : 4 ≤ y.val
  · rw [dif_pos ⟨h, by omega⟩, dif_pos h]
  · rw [dif_neg (fun hh => h hh.1), dif_neg h]
    exact Rows.toFloat_zero

/-- The rows moved down by 5. -/
def lag5 (u : FVec Ideal S4x8192x256 .f32) : FVec Ideal S4x8192x256 .f32 :=
  extractStridedSlice S4x8192x256 ![0, 0, 0] (pad S4x8197x256 ![0, 5, 0] ![0, 0, 0] ![0, 0, 0] u (sitofp .f32 (constantI S_ 32 0#32)) pads_S4x8192x256_S4x8197x256_000_500_000 h_S_) slices_S4x8197x256_S4x8192x256_0_0_0

theorem lag5_at (u : FVec Ideal S4x8192x256 .f32) (b : Fin 4) (y : Fin 8192) (d : Fin 256) : lag5 u (ix3 b y d) = Rows.lagged (fun y => u (ix3 b y d)) y 5 := by
  unfold lag5 Rows.lagged
  pointwise
  by_cases h : 5 ≤ y.val
  · rw [dif_pos ⟨h, by omega⟩, dif_pos h]
  · rw [dif_neg (fun hh => h hh.1), dif_neg h]
    exact Rows.toFloat_zero

/-- The rows moved down by 6. -/
def lag6 (u : FVec Ideal S4x8192x256 .f32) : FVec Ideal S4x8192x256 .f32 :=
  extractStridedSlice S4x8192x256 ![0, 0, 0] (pad S4x8198x256 ![0, 6, 0] ![0, 0, 0] ![0, 0, 0] u (sitofp .f32 (constantI S_ 32 0#32)) pads_S4x8192x256_S4x8198x256_000_600_000 h_S_) slices_S4x8198x256_S4x8192x256_0_0_0

theorem lag6_at (u : FVec Ideal S4x8192x256 .f32) (b : Fin 4) (y : Fin 8192) (d : Fin 256) : lag6 u (ix3 b y d) = Rows.lagged (fun y => u (ix3 b y d)) y 6 := by
  unfold lag6 Rows.lagged
  pointwise
  by_cases h : 6 ≤ y.val
  · rw [dif_pos ⟨h, by omega⟩, dif_pos h]
  · rw [dif_neg (fun hh => h hh.1), dif_neg h]
    exact Rows.toFloat_zero

/-- The rows moved down by 7. -/
def lag7 (u : FVec Ideal S4x8192x256 .f32) : FVec Ideal S4x8192x256 .f32 :=
  extractStridedSlice S4x8192x256 ![0, 0, 0] (pad S4x8199x256 ![0, 7, 0] ![0, 0, 0] ![0, 0, 0] u (sitofp .f32 (constantI S_ 32 0#32)) pads_S4x8192x256_S4x8199x256_000_700_000 h_S_) slices_S4x8199x256_S4x8192x256_0_0_0

theorem lag7_at (u : FVec Ideal S4x8192x256 .f32) (b : Fin 4) (y : Fin 8192) (d : Fin 256) : lag7 u (ix3 b y d) = Rows.lagged (fun y => u (ix3 b y d)) y 7 := by
  unfold lag7 Rows.lagged
  pointwise
  by_cases h : 7 ≤ y.val
  · rw [dif_pos ⟨h, by omega⟩, dif_pos h]
  · rw [dif_neg (fun hh => h hh.1), dif_neg h]
    exact Rows.toFloat_zero

/-- The rows moved down by 8. -/
def lag8 (u : FVec Ideal S4x8192x256 .f32) : FVec Ideal S4x8192x256 .f32 :=
  extractStridedSlice S4x8192x256 ![0, 0, 0] (pad S4x8200x256 ![0, 8, 0] ![0, 0, 0] ![0, 0, 0] u (sitofp .f32 (constantI S_ 32 0#32)) pads_S4x8192x256_S4x8200x256_000_800_000 h_S_) slices_S4x8200x256_S4x8192x256_0_0_0

theorem lag8_at (u : FVec Ideal S4x8192x256 .f32) (b : Fin 4) (y : Fin 8192) (d : Fin 256) : lag8 u (ix3 b y d) = Rows.lagged (fun y => u (ix3 b y d)) y 8 := by
  unfold lag8 Rows.lagged
  pointwise
  by_cases h : 8 ≤ y.val
  · rw [dif_pos ⟨h, by omega⟩, dif_pos h]
  · rw [dif_neg (fun hh => h hh.1), dif_neg h]
    exact Rows.toFloat_zero

/-- The rows moved down by 9. -/
def lag9 (u : FVec Ideal S4x8192x256 .f32) : FVec Ideal S4x8192x256 .f32 :=
  extractStridedSlice S4x8192x256 ![0, 0, 0] (pad S4x8201x256 ![0, 9, 0] ![0, 0, 0] ![0, 0, 0] u (sitofp .f32 (constantI S_ 32 0#32)) pads_S4x8192x256_S4x8201x256_000_900_000 h_S_) slices_S4x8201x256_S4x8192x256_0_0_0

theorem lag9_at (u : FVec Ideal S4x8192x256 .f32) (b : Fin 4) (y : Fin 8192) (d : Fin 256) : lag9 u (ix3 b y d) = Rows.lagged (fun y => u (ix3 b y d)) y 9 := by
  unfold lag9 Rows.lagged
  pointwise
  by_cases h : 9 ≤ y.val
  · rw [dif_pos ⟨h, by omega⟩, dif_pos h]
  · rw [dif_neg (fun hh => h hh.1), dif_neg h]
    exact Rows.toFloat_zero

/-- The rows moved down by 10. -/
def lag10 (u : FVec Ideal S4x8192x256 .f32) : FVec Ideal S4x8192x256 .f32 :=
  extractStridedSlice S4x8192x256 ![0, 0, 0] (pad S4x8202x256 ![0, 10, 0] ![0, 0, 0] ![0, 0, 0] u (sitofp .f32 (constantI S_ 32 0#32)) pads_S4x8192x256_S4x8202x256_000_1000_000 h_S_) slices_S4x8202x256_S4x8192x256_0_0_0

theorem lag10_at (u : FVec Ideal S4x8192x256 .f32) (b : Fin 4) (y : Fin 8192) (d : Fin 256) : lag10 u (ix3 b y d) = Rows.lagged (fun y => u (ix3 b y d)) y 10 := by
  unfold lag10 Rows.lagged
  pointwise
  by_cases h : 10 ≤ y.val
  · rw [dif_pos ⟨h, by omega⟩, dif_pos h]
  · rw [dif_neg (fun hh => h hh.1), dif_neg h]
    exact Rows.toFloat_zero

/-- The rows moved down by 11. -/
def lag11 (u : FVec Ideal S4x8192x256 .f32) : FVec Ideal S4x8192x256 .f32 :=
  extractStridedSlice S4x8192x256 ![0, 0, 0] (pad S4x8203x256 ![0, 11, 0] ![0, 0, 0] ![0, 0, 0] u (sitofp .f32 (constantI S_ 32 0#32)) pads_S4x8192x256_S4x8203x256_000_1100_000 h_S_) slices_S4x8203x256_S4x8192x256_0_0_0

theorem lag11_at (u : FVec Ideal S4x8192x256 .f32) (b : Fin 4) (y : Fin 8192) (d : Fin 256) : lag11 u (ix3 b y d) = Rows.lagged (fun y => u (ix3 b y d)) y 11 := by
  unfold lag11 Rows.lagged
  pointwise
  by_cases h : 11 ≤ y.val
  · rw [dif_pos ⟨h, by omega⟩, dif_pos h]
  · rw [dif_neg (fun hh => h hh.1), dif_neg h]
    exact Rows.toFloat_zero

/-- The rows moved down by 12. -/
def lag12 (u : FVec Ideal S4x8192x256 .f32) : FVec Ideal S4x8192x256 .f32 :=
  extractStridedSlice S4x8192x256 ![0, 0, 0] (pad S4x8204x256 ![0, 12, 0] ![0, 0, 0] ![0, 0, 0] u (sitofp .f32 (constantI S_ 32 0#32)) pads_S4x8192x256_S4x8204x256_000_1200_000 h_S_) slices_S4x8204x256_S4x8192x256_0_0_0

theorem lag12_at (u : FVec Ideal S4x8192x256 .f32) (b : Fin 4) (y : Fin 8192) (d : Fin 256) : lag12 u (ix3 b y d) = Rows.lagged (fun y => u (ix3 b y d)) y 12 := by
  unfold lag12 Rows.lagged
  pointwise
  by_cases h : 12 ≤ y.val
  · rw [dif_pos ⟨h, by omega⟩, dif_pos h]
  · rw [dif_neg (fun hh => h hh.1), dif_neg h]
    exact Rows.toFloat_zero

/-- The rows moved down by 13. -/
def lag13 (u : FVec Ideal S4x8192x256 .f32) : FVec Ideal S4x8192x256 .f32 :=
  extractStridedSlice S4x8192x256 ![0, 0, 0] (pad S4x8205x256 ![0, 13, 0] ![0, 0, 0] ![0, 0, 0] u (sitofp .f32 (constantI S_ 32 0#32)) pads_S4x8192x256_S4x8205x256_000_1300_000 h_S_) slices_S4x8205x256_S4x8192x256_0_0_0

theorem lag13_at (u : FVec Ideal S4x8192x256 .f32) (b : Fin 4) (y : Fin 8192) (d : Fin 256) : lag13 u (ix3 b y d) = Rows.lagged (fun y => u (ix3 b y d)) y 13 := by
  unfold lag13 Rows.lagged
  pointwise
  by_cases h : 13 ≤ y.val
  · rw [dif_pos ⟨h, by omega⟩, dif_pos h]
  · rw [dif_neg (fun hh => h hh.1), dif_neg h]
    exact Rows.toFloat_zero

/-- The rows moved down by 14. -/
def lag14 (u : FVec Ideal S4x8192x256 .f32) : FVec Ideal S4x8192x256 .f32 :=
  extractStridedSlice S4x8192x256 ![0, 0, 0] (pad S4x8206x256 ![0, 14, 0] ![0, 0, 0] ![0, 0, 0] u (sitofp .f32 (constantI S_ 32 0#32)) pads_S4x8192x256_S4x8206x256_000_1400_000 h_S_) slices_S4x8206x256_S4x8192x256_0_0_0

theorem lag14_at (u : FVec Ideal S4x8192x256 .f32) (b : Fin 4) (y : Fin 8192) (d : Fin 256) : lag14 u (ix3 b y d) = Rows.lagged (fun y => u (ix3 b y d)) y 14 := by
  unfold lag14 Rows.lagged
  pointwise
  by_cases h : 14 ≤ y.val
  · rw [dif_pos ⟨h, by omega⟩, dif_pos h]
  · rw [dif_neg (fun hh => h hh.1), dif_neg h]
    exact Rows.toFloat_zero

/-- The rows moved down by 15. -/
def lag15 (u : FVec Ideal S4x8192x256 .f32) : FVec Ideal S4x8192x256 .f32 :=
  extractStridedSlice S4x8192x256 ![0, 0, 0] (pad S4x8207x256 ![0, 15, 0] ![0, 0, 0] ![0, 0, 0] u (sitofp .f32 (constantI S_ 32 0#32)) pads_S4x8192x256_S4x8207x256_000_1500_000 h_S_) slices_S4x8207x256_S4x8192x256_0_0_0

theorem lag15_at (u : FVec Ideal S4x8192x256 .f32) (b : Fin 4) (y : Fin 8192) (d : Fin 256) : lag15 u (ix3 b y d) = Rows.lagged (fun y => u (ix3 b y d)) y 15 := by
  unfold lag15 Rows.lagged
  pointwise
  by_cases h : 15 ≤ y.val
  · rw [dif_pos ⟨h, by omega⟩, dif_pos h]
  · rw [dif_neg (fun hh => h hh.1), dif_neg h]
    exact Rows.toFloat_zero

def cnt2 : FVec Ideal S4x8192x256 .f32 :=
  broadcastInDim S4x8192x256 ![0, 1, 2] bcast_S1x8192x1_S4x8192x256_0_1_2 (broadcastInDim S1x8192x1 ![1] bcast_S8192_S1x8192x1_1 (sitofp .f32 (minsi (addi (broadcastInDim S8192 ![] bcast_S_S8192 (constantI S_ 32 1#32)) (iotaInDim S8192 32 0)) (broadcastInDim S8192 ![] bcast_S_S8192 (constantI S_ 32 2#32)))))

/-- The mean of the trailing window of 2 rows less the row itself. -/
def pool2 (u : FVec Ideal S4x8192x256 .f32) : FVec Ideal S4x8192x256 .f32 :=
  subf (Host.divf (addf u (lag1 u)) cnt2) u

theorem cnt2_at (b : Fin 4) (y : Fin 8192) (d : Fin 256) : cnt2 (ix3 b y d) = Rows.cnt 2 y := by
  unfold cnt2 Rows.cnt
  pointwise
  exact congrArg _ (Rows.minsi_one y.val 2 y.isLt (by norm_num))

theorem pool2_at (u : FVec Ideal S4x8192x256 .f32) (b : Fin 4) (y : Fin 8192) (d : Fin 256) : pool2 u (ix3 b y d) = Rows.pooled 2 (fun y => u (ix3 b y d)) y := by
  unfold pool2 Rows.pooled
  have e0 : Rows.lagged (fun y => u (ix3 b y d)) y 0 = u (ix3 b y d) := by simp [Rows.lagged]
  simp only [Finset.sum_range_succ, Finset.sum_range_zero, zero_add, e0]
  simp only [← lag1_at, ← cnt2_at b y d]
  rfl

def cnt4 : FVec Ideal S4x8192x256 .f32 :=
  broadcastInDim S4x8192x256 ![0, 1, 2] bcast_S1x8192x1_S4x8192x256_0_1_2 (broadcastInDim S1x8192x1 ![1] bcast_S8192_S1x8192x1_1 (sitofp .f32 (minsi (addi (broadcastInDim S8192 ![] bcast_S_S8192 (constantI S_ 32 1#32)) (iotaInDim S8192 32 0)) (broadcastInDim S8192 ![] bcast_S_S8192 (constantI S_ 32 4#32)))))

/-- The mean of the trailing window of 4 rows less the row itself. -/
def pool4 (u : FVec Ideal S4x8192x256 .f32) : FVec Ideal S4x8192x256 .f32 :=
  subf (Host.divf (addf (addf (addf u (lag1 u)) (lag2 u)) (lag3 u)) cnt4) u

theorem cnt4_at (b : Fin 4) (y : Fin 8192) (d : Fin 256) : cnt4 (ix3 b y d) = Rows.cnt 4 y := by
  unfold cnt4 Rows.cnt
  pointwise
  exact congrArg _ (Rows.minsi_one y.val 4 y.isLt (by norm_num))

theorem pool4_at (u : FVec Ideal S4x8192x256 .f32) (b : Fin 4) (y : Fin 8192) (d : Fin 256) : pool4 u (ix3 b y d) = Rows.pooled 4 (fun y => u (ix3 b y d)) y := by
  unfold pool4 Rows.pooled
  have e0 : Rows.lagged (fun y => u (ix3 b y d)) y 0 = u (ix3 b y d) := by simp [Rows.lagged]
  simp only [Finset.sum_range_succ, Finset.sum_range_zero, zero_add, e0]
  simp only [← lag1_at, ← lag2_at, ← lag3_at, ← cnt4_at b y d]
  rfl

def cnt8 : FVec Ideal S4x8192x256 .f32 :=
  broadcastInDim S4x8192x256 ![0, 1, 2] bcast_S1x8192x1_S4x8192x256_0_1_2 (broadcastInDim S1x8192x1 ![1] bcast_S8192_S1x8192x1_1 (sitofp .f32 (minsi (addi (broadcastInDim S8192 ![] bcast_S_S8192 (constantI S_ 32 1#32)) (iotaInDim S8192 32 0)) (broadcastInDim S8192 ![] bcast_S_S8192 (constantI S_ 32 8#32)))))

/-- The mean of the trailing window of 8 rows less the row itself. -/
def pool8 (u : FVec Ideal S4x8192x256 .f32) : FVec Ideal S4x8192x256 .f32 :=
  subf (Host.divf (addf (addf (addf (addf (addf (addf (addf u (lag1 u)) (lag2 u)) (lag3 u)) (lag4 u)) (lag5 u)) (lag6 u)) (lag7 u)) cnt8) u

theorem cnt8_at (b : Fin 4) (y : Fin 8192) (d : Fin 256) : cnt8 (ix3 b y d) = Rows.cnt 8 y := by
  unfold cnt8 Rows.cnt
  pointwise
  exact congrArg _ (Rows.minsi_one y.val 8 y.isLt (by norm_num))

theorem pool8_at (u : FVec Ideal S4x8192x256 .f32) (b : Fin 4) (y : Fin 8192) (d : Fin 256) : pool8 u (ix3 b y d) = Rows.pooled 8 (fun y => u (ix3 b y d)) y := by
  unfold pool8 Rows.pooled
  have e0 : Rows.lagged (fun y => u (ix3 b y d)) y 0 = u (ix3 b y d) := by simp [Rows.lagged]
  simp only [Finset.sum_range_succ, Finset.sum_range_zero, zero_add, e0]
  simp only [← lag1_at, ← lag2_at, ← lag3_at, ← lag4_at, ← lag5_at, ← lag6_at, ← lag7_at, ← cnt8_at b y d]
  rfl

def cnt16 : FVec Ideal S4x8192x256 .f32 :=
  broadcastInDim S4x8192x256 ![0, 1, 2] bcast_S1x8192x1_S4x8192x256_0_1_2 (broadcastInDim S1x8192x1 ![1] bcast_S8192_S1x8192x1_1 (sitofp .f32 (minsi (addi (broadcastInDim S8192 ![] bcast_S_S8192 (constantI S_ 32 1#32)) (iotaInDim S8192 32 0)) (broadcastInDim S8192 ![] bcast_S_S8192 (constantI S_ 32 16#32)))))

/-- The mean of the trailing window of 16 rows less the row itself. -/
def pool16 (u : FVec Ideal S4x8192x256 .f32) : FVec Ideal S4x8192x256 .f32 :=
  subf (Host.divf (addf (addf (addf (addf (addf (addf (addf (addf (addf (addf (addf (addf (addf (addf (addf u (lag1 u)) (lag2 u)) (lag3 u)) (lag4 u)) (lag5 u)) (lag6 u)) (lag7 u)) (lag8 u)) (lag9 u)) (lag10 u)) (lag11 u)) (lag12 u)) (lag13 u)) (lag14 u)) (lag15 u)) cnt16) u

theorem cnt16_at (b : Fin 4) (y : Fin 8192) (d : Fin 256) : cnt16 (ix3 b y d) = Rows.cnt 16 y := by
  unfold cnt16 Rows.cnt
  pointwise
  exact congrArg _ (Rows.minsi_one y.val 16 y.isLt (by norm_num))

theorem pool16_at (u : FVec Ideal S4x8192x256 .f32) (b : Fin 4) (y : Fin 8192) (d : Fin 256) : pool16 u (ix3 b y d) = Rows.pooled 16 (fun y => u (ix3 b y d)) y := by
  unfold pool16 Rows.pooled
  have e0 : Rows.lagged (fun y => u (ix3 b y d)) y 0 = u (ix3 b y d) := by simp [Rows.lagged]
  simp only [Finset.sum_range_succ, Finset.sum_range_zero, zero_add, e0]
  simp only [← lag1_at, ← lag2_at, ← lag3_at, ← lag4_at, ← lag5_at, ← lag6_at, ← lag7_at, ← lag8_at, ← lag9_at, ← lag10_at, ← lag11_at, ← lag12_at, ← lag13_at, ← lag14_at, ← lag15_at, ← cnt16_at b y d]
  rfl

/-- The four groups' pooled columns, one beside another. -/
def cat (p0 p1 p2 p3 : FVec Ideal S4x8192x256 .f32) : FVec Ideal S4x8192x4x256 .f32 :=
  concatenate S4x8192x4x256 2 [⟨S4x8192x1x256, broadcastInDim S4x8192x1x256 ![0, 1, 3] bcast_S4x8192x256_S4x8192x1x256_0_1_3 p0⟩, ⟨S4x8192x1x256, broadcastInDim S4x8192x1x256 ![0, 1, 3] bcast_S4x8192x256_S4x8192x1x256_0_1_3 p1⟩, ⟨S4x8192x1x256, broadcastInDim S4x8192x1x256 ![0, 1, 3] bcast_S4x8192x256_S4x8192x1x256_0_1_3 p2⟩, ⟨S4x8192x1x256, broadcastInDim S4x8192x1x256 ![0, 1, 3] bcast_S4x8192x256_S4x8192x1x256_0_1_3 p3⟩] concatenates_S4x8192x1x256_S4x8192x1x256_S4x8192x1x256_S4x8192x1x256_S4x8192x4x256_d2

theorem cat_at0 (p0 p1 p2 p3 : FVec Ideal S4x8192x256 .f32) (b : Fin 4) (y : Fin 8192) (g : Fin 4) (x : Fin 256) :
    cat p0 p1 p2 p3 (ix4 b y g x) = (![p0 (ix3 b y x), p1 (ix3 b y x), p2 (ix3 b y x), p3 (ix3 b y x)] : Fin 4 → EReal) g := by
  unfold cat
  pointwise
  fin_cases g <;> rfl

def nR (h : FVec Ideal S4x8192x1024 .f32) (g : FVec Ideal S1024 .f32) : FVec Ideal S4x8192x1024 .f32 :=
  mulf (mulf h (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf h h) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

/-- The rectified product. -/
def uR (n : FVec Ideal S4x8192x1024 .f32) (u : FVec Ideal S1024x4096 .f32) : FVec Ideal S4x8192x4096 .f32 :=
  maximumf (Host.dotGeneral dot_S4x8192x1024_S1024x4096_S4x8192x4096_2_0_01_1_n_n none n u) (broadcastInDim S4x8192x4096 ![] bcast_S_S4x8192x4096 (constant S_ .f32 0x00000000#32))

def oR (h : FVec Ideal S4x8192x1024 .f32) (q : FVec Ideal S4x8192x4096 .f32) (dn : FVec Ideal S4096x1024 .f32) : FVec Ideal S4x8192x1024 .f32 :=
  addf h (Host.dotGeneral dot_S4x8192x4096_S4096x1024_S4x8192x1024_2_0_01_1_n_n none (mulf q q) dn)

/-- The stream after the pooling mixer. -/
def mR (X : FVec Ideal S4x8192x1024 .f32) (q : FVec Ideal S4x8192x4x256 .f32) (w : FVec Ideal S4x256x256 .f32) (s : FVec Ideal S1024 .f32) : FVec Ideal S4x8192x1024 .f32 :=
  addf X (mulf (shapeCast _ (transpose S4x8192x4x256 [2, 3, 0, 1] (Host.dotGeneral dot_S4x256x256_S4x8192x4x256_S4x256x4x8192_1_3_2_01_0_2 none w q) transposes_S4x256x4x8192_S4x8192x4x256_2_3_0_1) shapeCasts_S4x8192x4x256_S4x8192x1024) (broadcastInDim S4x8192x1024 ![0, 1, 2] bcast_S1x1x1024_S4x8192x1024_0_1_2 (broadcastInDim S1x1x1024 ![2] bcast_S1024_S1x1x1024_2 s)))

theorem nR_at (h : FVec Ideal S4x8192x1024 .f32) (g : FVec Ideal S1024 .f32) (b : Fin 4) (y : Fin 8192) (d : Fin 1024) :
    nR h g (ix3 b y d) = Rows.nrm (fun x => h (ix3 b y x)) (fun x => g (ix1 x)) d := by
  unfold nR Rows.nrm
  pointwise

theorem uR_at (n : FVec Ideal S4x8192x1024 .f32) (u : FVec Ideal S1024x4096 .f32) (b : Fin 4) (y : Fin 8192) (e : Fin 4096) :
    uR n u (ix3 b y e) = max (∑ x : Fin 1024, (n (ix3 b y x) : EReal) * u (ix2 x e)) 0 := by
  unfold uR
  pointwise

theorem oR_at (h : FVec Ideal S4x8192x1024 .f32) (q : FVec Ideal S4x8192x4096 .f32) (dn : FVec Ideal S4096x1024 .f32) (b : Fin 4) (y : Fin 8192) (d : Fin 1024) :
    oR h q dn (ix3 b y d) = (h (ix3 b y d) : EReal) + ∑ e : Fin 4096, (q (ix3 b y e) * q (ix3 b y e) : EReal) * dn (ix2 e d) := by
  unfold oR
  pointwise

theorem mR_at (X : FVec Ideal S4x8192x1024 .f32) (q : FVec Ideal S4x8192x4x256 .f32) (w : FVec Ideal S4x256x256 .f32) (s : FVec Ideal S1024 .f32) (b : Fin 4) (y : Fin 8192) (d : Fin 1024) :
    mR X q w s (ix3 b y d) = (X (ix3 b y d) : EReal) + (∑ x : Fin 256, (w (ix3 (⟨d.val / 256, by omega⟩ : Fin 4) x (⟨d.val % 256, by omega⟩ : Fin 256)) : EReal) * q (ix4 b y (⟨d.val / 256, by omega⟩ : Fin 4) x)) * s (ix1 d) := by
  unfold mR
  pointwise

theorem v12_eq (V0 : Valuation τ sig (Elt Ideal)) : res_main_v12 V0 = nR (V0 (Proc.devRef .tc main_arg0)) (V0 (Proc.devRef .tc main_arg1)) := by
  unfold res_main_v12 nR
  rfl

theorem v139_eq (V0 : Valuation τ sig (Elt Ideal)) : res_main_v139 V0 = cat (pool2 (res_main_v13 V0)) (pool4 (res_main_v14 V0)) (pool8 (res_main_v15 V0)) (pool16 (res_main_v16 V0)) := by
  unfold res_main_v139 res_main_v138 cat pool2 pool4 pool8 pool16
  rfl

theorem v146_eq (V0 : Valuation τ sig (Elt Ideal)) : res_main_v146 V0 = mR (V0 (Proc.devRef .tc main_arg0)) (res_main_v139 V0) (V0 (Proc.devRef .tc main_arg2)) (V0 (Proc.devRef .tc main_arg3)) := by
  unfold res_main_v146 mR
  rfl

theorem v164_eq (V0 : Valuation τ sig (Elt Ideal)) : res_main_v164 V0 = oR (res_main_v146 V0) (uR (nR (res_main_v146 V0) (V0 (Proc.devRef .tc main_arg4))) (V0 (Proc.devRef .tc main_arg5))) (V0 (Proc.devRef .tc main_arg6)) := by
  unfold res_main_v164 res_main_v161 oR uR nR
  rfl

end Cert.Reference3Ideal.Value

end
-- ==== Proof.Pool.Eq.lean ====
/- The second layer's call and its reference: the same function of the arguments. -/
module

public import proofs.«01_k».proof.Proof.Pool.Mix
public import proofs.«01_k».proof.Proof.Pool.RefAt

@[expose] public section

set_option maxRecDepth 16384

noncomputable section

namespace Cert.Reference3Ideal.Value

open Idealize.ShloMosaic Idealize.ShloMosaic.TcCoe Idealize.ShloMosaic.StableHlo
open Cert.Reference3Ideal Cert.Reference3Ideal.Gen

local instance : Facts := Gen.facts

/-- A group of the normed stream's columns. -/
def sl0 (n : FVec Ideal S4x8192x1024 .f32) : FVec Ideal S4x8192x256 .f32 := extractStridedSlice S4x8192x256 ![0, 0, 0] n slices_S4x8192x1024_S4x8192x256_0_0_0
def sl1 (n : FVec Ideal S4x8192x1024 .f32) : FVec Ideal S4x8192x256 .f32 := extractStridedSlice S4x8192x256 ![0, 0, 256] n slices_S4x8192x1024_S4x8192x256_0_0_256
def sl2 (n : FVec Ideal S4x8192x1024 .f32) : FVec Ideal S4x8192x256 .f32 := extractStridedSlice S4x8192x256 ![0, 0, 512] n slices_S4x8192x1024_S4x8192x256_0_0_512
def sl3 (n : FVec Ideal S4x8192x1024 .f32) : FVec Ideal S4x8192x256 .f32 := extractStridedSlice S4x8192x256 ![0, 0, 768] n slices_S4x8192x1024_S4x8192x256_0_0_768

theorem sl0_at (n : FVec Ideal S4x8192x1024 .f32) (b : Fin 4) (y : Fin 8192) (x : Fin 256) : sl0 n (ix3 b y x) = (n (ix3 b y (⟨256 * 0 + x.val, by omega⟩ : Fin 1024)) : EReal) := by
  unfold sl0
  pointwise

theorem sl1_at (n : FVec Ideal S4x8192x1024 .f32) (b : Fin 4) (y : Fin 8192) (x : Fin 256) : sl1 n (ix3 b y x) = (n (ix3 b y (⟨256 * 1 + x.val, by omega⟩ : Fin 1024)) : EReal) := by
  unfold sl1
  pointwise

theorem sl2_at (n : FVec Ideal S4x8192x1024 .f32) (b : Fin 4) (y : Fin 8192) (x : Fin 256) : sl2 n (ix3 b y x) = (n (ix3 b y (⟨256 * 2 + x.val, by omega⟩ : Fin 1024)) : EReal) := by
  unfold sl2
  pointwise

theorem sl3_at (n : FVec Ideal S4x8192x1024 .f32) (b : Fin 4) (y : Fin 8192) (x : Fin 256) : sl3 n (ix3 b y x) = (n (ix3 b y (⟨256 * 3 + x.val, by omega⟩ : Fin 1024)) : EReal) := by
  unfold sl3
  pointwise

/-- The four groups' pooled columns. -/
def qR (n : FVec Ideal S4x8192x1024 .f32) : FVec Ideal S4x8192x4x256 .f32 := cat (pool2 (sl0 n)) (pool4 (sl1 n)) (pool8 (sl2 n)) (pool16 (sl3 n))

theorem qR_at (n : FVec Ideal S4x8192x1024 .f32) (b : Fin 4) (y : Fin 8192) (g : Fin 4) (x : Fin 256) :
    qR n (ix4 b y g x) = Rows.pooled (2 ^ (g.val + 1)) (fun y' => n (ix3 b y' (⟨256 * g.val + x.val, by omega⟩ : Fin 1024))) y := by
  unfold qR
  rw [cat_at0, pool2_at, pool4_at, pool8_at, pool16_at]
  simp only [sl0_at, sl1_at, sl2_at, sl3_at]
  fin_cases g <;> rfl

/-- The stream after the pooling part, of the arguments. -/
def hR (X : FVec Ideal S4x8192x1024 .f32) (M : FVec Ideal S1024 .f32) (W : FVec Ideal S4x256x256 .f32) (S : FVec Ideal S1024 .f32) : FVec Ideal S4x8192x1024 .f32 := mR X (qR (nR X M)) W S

theorem hR_at (X : FVec Ideal S4x8192x1024 .f32) (M : FVec Ideal S1024 .f32) (W : FVec Ideal S4x256x256 .f32) (S : FVec Ideal S1024 .f32) (b : Fin 4) (y : Fin 8192) (d : Fin 1024) :
    hR X M W S (ix3 b y d) = (X (ix3 b y d) : EReal) + Rows.mix (fun y d => Rows.nrm (fun x => X (ix3 b y x)) (fun x => M (ix1 x)) d) (fun g e d => W (ix3 g e d)) y (⟨d.val / 256, by omega⟩ : Fin 4) (⟨d.val % 256, by omega⟩ : Fin 256) * S (ix1 d) := by
  unfold hR
  rw [mR_at]
  refine congrArg₂ (· + ·) rfl (congrArg₂ (· * ·) (Finset.sum_congr rfl fun x _ => ?_) rfl)
  rw [qR_at, mul_comm]
  simp only [nR_at]

theorem res_eq (m : (ℓ : Loc nD τ sig) → Buf (Elt Ideal) ℓ) (c : Dev nD) :
    nR (res_main_v164 (launchContents m c)) ((launchContents m c) (Proc.devRef .tc main_arg7))
      = nR (oR (hR (m ((c.tc : Thread nD τ).loc main_arg0)) (m ((c.tc : Thread nD τ).loc main_arg1)) (m ((c.tc : Thread nD τ).loc main_arg2)) (m ((c.tc : Thread nD τ).loc main_arg3)))
          (uR (nR (hR (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5)))
          (m ((c.tc : Thread nD τ).loc main_arg6))) (m ((c.tc : Thread nD τ).loc main_arg7)) := by
  have e : res_main_v146 (launchContents m c) = hR (m ((c.tc : Thread nD τ).loc main_arg0)) (m ((c.tc : Thread nD τ).loc main_arg1)) (m ((c.tc : Thread nD τ).loc main_arg2)) (m ((c.tc : Thread nD τ).loc main_arg3)) := by
    rw [v146_eq, v139_eq]
    unfold res_main_v13 res_main_v14 res_main_v15 res_main_v16
    rw [v12_eq]
    rfl
  rw [v164_eq, e]

end Cert.Reference3Ideal.Value

namespace Cert.Kernel3Ideal.Pool

open Idealize.ShloMosaic Idealize.ShloMosaic.TcCoe

open Cert.Reference3Ideal.Value in
theorem G_ref (m : (ℓ : Loc Cert.Kernel3Ideal.nD Cert.Kernel3Ideal.τ Cert.Kernel3Ideal.sig) → Buf (Elt Ideal) ℓ) (c : Dev Cert.Kernel3Ideal.nD) :
    (nR (oR (hR (aX m c) (aM m c) (aW m c) (aS m c)) (uR (nR (hR (aX m c) (aM m c) (aW m c) (aS m c)) (aG m c)) (aU m c)) (aD m c)) (aF m c) : Cert.Reference3Ideal.S4x8192x1024.Idx → EReal) = G m c := by
  funext i
  have ei : i = ix3 (i 0) (i 1) (i 2) := by funext a; fin_cases a <;> rfl
  have hh : (fun x : Fin 1024 => (hR (aX m c) (aM m c) (aW m c) (aS m c) (ix3 (i 0) (i 1) x) : EReal)) = hK m c (i 0) (i 1) := by
    funext x
    exact hR_at _ _ _ _ (i 0) (i 1) x
  refine (congrArg _ ei).trans ((nR_at _ _ (i 0) (i 1) (i 2)).trans ?_)
  unfold G
  refine congrArg (fun h => Rows.nrm h (fun x => aF m c (ix1 x)) (i 2)) (funext fun d => ?_)
  refine (oR_at _ _ _ (i 0) (i 1) d).trans ?_
  unfold Rows.mlp
  refine congrArg₂ (· + ·) (congrFun hh d) (Finset.sum_congr rfl fun e _ => congrArg₂ (· * ·) ?_ rfl)
  have eu : ∀ n : Fin 1024 → EReal, n = Rows.nrm (hK m c (i 0) (i 1)) (fun x => aG m c (ix1 x)) →
      max (∑ x : Fin 1024, n x * aU m c (ix2 x e)) 0 * max (∑ x : Fin 1024, n x * aU m c (ix2 x e)) 0 = Rows.act (Rows.nrm (hK m c (i 0) (i 1)) (fun x => aG m c (ix1 x))) (fun x e => aU m c (ix2 x e)) e := fun n hn => by
    rw [hn]
    rfl
  rw [uR_at _ _ (i 0) (i 1) e]
  refine eu _ (funext fun x => ?_)
  refine (nR_at _ _ (i 0) (i 1) x).trans ?_
  rw [hh]

end Cert.Kernel3Ideal.Pool

end
-- ==== Proof.Pool.Value.lean ====
/- The claims of the second layer's call. -/
module

public import proofs.«01_k».proof.Defs
public import proofs.«01_k».proof.Proof.Pool.Eq
public import Idealize.ShloMosaic.Lib.Quiescent

@[expose] public section

set_option maxRecDepth 16384

noncomputable section

namespace Cert.Kernel3Ideal.Pool

open Idealize.ShloMosaic Idealize.ShloMosaic.TcCoe Idealize.SL.Sem

local instance : Cert.Kernel3Ideal.Facts := Cert.Kernel3Ideal.Gen.facts
local instance : Cert.Reference3Ideal.Facts := Cert.Reference3Ideal.Gen.facts

/-- The reference's frame: it has no counters. -/
theorem refFrame : Cert.quiescent_Reference3Ideal := fun m g _ =>
  (θ_run _ _ _).mono (fun r h => ⟨fun c => (h c).2, sem_eq_zero_of_no_sems rfl r.2⟩) (Cert.Reference3Ideal.Value.run (F := Ideal) m g)

theorem value : Cert.algebraic_Kernel3Ideal_Reference3Ideal := by
  intro m g m' g' _ hag
  refine ⟨fun c => (Cert.Kernel3Ideal.Gen.dats m 0 c).arrAt 9 Cert.Kernel3Ideal.cfg0.N,
    Cert.Kernel3Ideal.Value.run_blocks (F := Ideal) m g,
    (θ_run _ _ _).mono (fun r h c => ⟨(h c).1.trans ?_, (h c).2⟩) (Cert.Reference3Ideal.Value.run (F := Ideal) m' g')⟩
  obtain ⟨h0, h1, h2, h3, h4, h5, h6, h7⟩ := hag c
  refine (Cert.Reference3Ideal.Value.res_eq m' c).trans ?_
  rw [h0, h1, h2, h3, h4, h5, h6, h7]
  exact (G_ref m c).trans (arr9_eq m c).symm

end Cert.Kernel3Ideal.Pool

end
-- ==== Proof.lean ====
module

public import proofs.«01_k».proof.Defs
public import proofs.«01_k».proof.Proof.Flash.Word
public import proofs.«01_k».proof.Proof.Flash.Value
public import proofs.«01_k».proof.Proof.Flash.Finite
public import proofs.«01_k».proof.Proof.Gen.Kernel2.Frame
public import proofs.«01_k».proof.Proof.Out.Value
public import proofs.«01_k».proof.Proof.Gen.Kernel3.Frame
public import proofs.«01_k».proof.Proof.Pool.Value
public import Idealize.ShloMosaic.Lib.Quiescent

@[expose] public section

set_option maxRecDepth 16384

noncomputable section

namespace Cert.Proof

open Idealize.ShloMosaic Idealize.ShloMosaic.TcCoe Idealize.SL.Sem Cert.Kernel

/-- The reference's frame: it has no counters. -/
theorem refFrame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems rfl r.2⟩) (Cert.ReferenceIdeal.Value.run (F := Ideal) m g)

theorem value : Cert.algebraic_KernelIdeal_ReferenceIdeal_pre_finite_scores := by
  intro m g m' g' hpre hag
  refine ⟨fun c => (Cert.KernelIdeal.Flash.dats m 0 c).arrAt 3 Cert.KernelIdeal.cfg0.N,
    (θ_run _ _ _).mono (fun r h c => ⟨(h.1 c).2.2.2, (h.1 c).1, (h.1 c).2.1, (h.1 c).2.2.1⟩) (Cert.KernelIdeal.Flash.run_value (F := Ideal) m g),
    (θ_run _ _ _).mono (fun r h c => ⟨(h c).1.trans ?_, (h c).2⟩) (Cert.ReferenceIdeal.Value.run (F := Ideal) m' g')⟩
  obtain ⟨hQ, hK⟩ := Cert.Pre_finite_scores.fn_real _ _ _ (hpre c)
  rw [Cert.ReferenceIdeal.Value.res_eq]
  refine Eq.trans ?_ (Cert.KernelIdeal.Flash.arr3_ref m c hQ hK).symm
  rw [show Cert.ReferenceIdeal.Value.argQ m' c = Cert.KernelIdeal.Flash.aQ m c from (hag c).1,
    show Cert.ReferenceIdeal.Value.argK m' c = Cert.KernelIdeal.Flash.aK m c from (hag c).2.1,
    show Cert.ReferenceIdeal.Value.argV m' c = Cert.KernelIdeal.Flash.aV m c from (hag c).2.2]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite_scores.Gen.facts,
    fun m g _ => Cert.Kernel.Flash.frame (F := Bits) m g,
    fun m g _ => Cert.KernelIdeal.Flash.frame (F := Ideal) m g,
    fun m g _ => Cert.KernelIdeal.Flash.frame (F := Ideal) m g,
    fun m g _ => refFrame m g,
    fun m g _ => refFrame m g,
    fun m g _ => Cert.Kernel2.Gen.frame (F := Bits) m g,
    fun m g _ => Cert.Kernel2Ideal.Gen.frame (F := Ideal) m g,
    Cert.Kernel2Ideal.Out.refFrame,
    fun m g _ => Cert.Kernel3.Gen.frame (F := Bits) m g,
    fun m g _ => Cert.Kernel3Ideal.Gen.frame (F := Ideal) m g,
    Cert.Kernel3Ideal.Pool.refFrame,
    IdealRules.named_const.statement _ _ _ _ _ rfl,
    value,
    trivial,
    Cert.Kernel2Ideal.Out.value,
    trivial,
    Cert.Kernel3Ideal.Pool.value⟩

end Cert.Proof

end
